-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite18 [hPre_finite18 : Cert.Pre_finite18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite18 [hPre_finite18 : Cert.Pre_finite18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite19 [hPre_finite19 : Cert.Pre_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite19 [hPre_finite19 : Cert.Pre_finite19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4))) = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Kernel18Ideal_pre_finite18 [hKernel18Ideal : Cert.Kernel18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Reference18Ideal_pre_finite18 [hReference18Ideal : Cert.Reference18Ideal.Facts] [hPre_finite18 : Cert.Pre_finite18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Kernel19Ideal_pre_finite19 [hKernel19Ideal : Cert.Kernel19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Reference19Ideal_pre_finite19 [hReference19Ideal : Cert.Reference19Ideal.Facts] [hPre_finite19 : Cert.Pre_finite19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def preserves_Kernel_KernelIdeal : Prop :=
  IdealRules.named_const.Statement Cert.KernelIdeal.κ "gelu_c" .f32 0x3D372713#32 ((8943 / 200000 : ℝ) : EReal)
  ∧ IdealRules.named_const.Statement Cert.KernelIdeal.κ "gelu_3c" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v127) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_v80) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v2) = v1 c
          ∧ r.2.mem ((c.tc : Thread Cert.Reference7Ideal.nD Cert.Reference7Ideal.τ).loc Cert.Reference7Ideal.main_v5) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v6)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v6) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal_pre_finite18 [hKernel18Ideal : Cert.Kernel18Ideal.Facts] [hReference18Ideal : Cert.Reference18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_v8) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal_pre_finite19 [hKernel19Ideal : Cert.Kernel19Ideal.Facts] [hReference19Ideal : Cert.Reference19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v41) = v0 c
          ∧ r.2.mem ((c.tc : Thread Cert.Reference19Ideal.nD Cert.Reference19Ideal.τ).loc Cert.Reference19Ideal.main_v21) = v1 c
          ∧ r.2.mem ((c.tc : Thread Cert.Reference19Ideal.nD Cert.Reference19Ideal.τ).loc Cert.Reference19Ideal.main_v24) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v49) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v27) = v2 c
          ∧ r.2.mem ((c.tc : Thread Cert.Reference20Ideal.nD Cert.Reference20Ideal.τ).loc Cert.Reference20Ideal.main_v32) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v4)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v4) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v18) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v14) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v14) = v0 c
          ∧ r.2.mem ((c.tc : Thread Cert.Reference27Ideal.nD Cert.Reference27Ideal.τ).loc Cert.Reference27Ideal.main_v33) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6))

def preserves_Kernel28_Kernel28Ideal : Prop :=
  IdealRules.named_const.Statement Cert.Kernel28Ideal.κ "gelu_c" .f32 0x3D372713#32 ((8943 / 200000 : ℝ) : EReal)

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)) →
    ∃ (v0 : (c : Dev Cert.Kernel28Ideal.nD) → Buf (Elt Ideal) ((c.tc : Thread Cert.Kernel28Ideal.nD Cert.Kernel28Ideal.τ).loc Cert.Kernel28Ideal.main_v7)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v7) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v53) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v20) = v0 c
          ∧ r.2.mem ((c.tc : Thread Cert.Reference29Ideal.nD Cert.Reference29Ideal.τ).loc Cert.Reference29Ideal.main_v21) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v1_0)) (v1 : (c : Dev Cert.Kernel30Ideal.nD) → Buf (Elt Ideal) ((c.tc : Thread Cert.Kernel30Ideal.nD Cert.Kernel30Ideal.τ).loc Cert.Kernel30Ideal.main_v1_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1_0) = v0 c
          ∧ r.2.mem ((c.tc : Thread Cert.Kernel30Ideal.nD Cert.Kernel30Ideal.τ).loc Cert.Kernel30Ideal.main_v1_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v4) = v0 c
          ∧ r.2.mem ((c.tc : Thread Cert.Reference30Ideal.nD Cert.Reference30Ideal.τ).loc Cert.Reference30Ideal.main_v8) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hPre_finite : Cert.Pre_finite.Facts) (hPre_finite2 : Cert.Pre_finite2.Facts) (hPre_finite18 : Cert.Pre_finite18.Facts) (hPre_finite19 : Cert.Pre_finite19.Facts) (hPre_finite20 : Cert.Pre_finite20.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite18 (hKernel18Ideal := hKernel18Ideal) (hPre_finite18 := hPre_finite18)
    ∧ quiescent_Reference18Ideal (hReference18Ideal := hReference18Ideal)
    ∧ quiescent_Reference18Ideal_pre_finite18 (hReference18Ideal := hReference18Ideal) (hPre_finite18 := hPre_finite18)
    ∧ quiescent_Kernel19 (hKernel19 := hKernel19)
    ∧ quiescent_Kernel19Ideal (hKernel19Ideal := hKernel19Ideal)
    ∧ quiescent_Kernel19Ideal_pre_finite19 (hKernel19Ideal := hKernel19Ideal) (hPre_finite19 := hPre_finite19)
    ∧ quiescent_Reference19Ideal (hReference19Ideal := hReference19Ideal)
    ∧ quiescent_Reference19Ideal_pre_finite19 (hReference19Ideal := hReference19Ideal) (hPre_finite19 := hPre_finite19)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite18 (hKernel18Ideal := hKernel18Ideal) (hReference18Ideal := hReference18Ideal) (hPre_finite18 := hPre_finite18)
    ∧ preserves_Kernel19_Kernel19Ideal
    ∧ algebraic_Kernel19Ideal_Reference19Ideal_pre_finite19 (hKernel19Ideal := hKernel19Ideal) (hReference19Ideal := hReference19Ideal) (hPre_finite19 := hPre_finite19)
    ∧ preserves_Kernel20_Kernel20Ideal
    ∧ algebraic_Kernel20Ideal_Reference20Ideal_pre_finite20 (hKernel20Ideal := hKernel20Ideal) (hReference20Ideal := hReference20Ideal) (hPre_finite20 := hPre_finite20)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
-- ==== Pre_finite.lean ====
abbrev S8192x2048 : Shape := ⟨2, ![8192, 2048]⟩
abbrev S8192x4096 : Shape := ⟨2, ![8192, 4096]⟩
abbrev S1x2048 : Shape := ⟨2, ![1, 2048]⟩
abbrev S16x128x128 : Shape := ⟨3, ![16, 128, 128]⟩
abbrev S16x128 : Shape := ⟨2, ![16, 128]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S1x2048 : S_.BroadcastsInDim S1x2048 (![] : Fin 0 → Fin S1x2048.rank)
  reducesTo_S1x2048_S_d0_1 : S1x2048.ReducesTo [0, 1] S_
  bcast_S_S16x128x128 : S_.BroadcastsInDim S16x128x128 (![] : Fin 0 → Fin S16x128x128.rank)
  reducesTo_S16x128x128_S_d0_1_2 : S16x128x128.ReducesTo [0, 1, 2] S_
  bcast_S_S16x128 : S_.BroadcastsInDim S16x128 (![] : Fin 0 → Fin S16x128.rank)
  reducesTo_S16x128_S_d0_1 : S16x128.ReducesTo [0, 1] S_

variable [Facts]

def fn_part1 {F : FTy → Type} [FloatOps F] (main_arg4 : FVec F S16x128x128 .f32) (main_arg5 : FVec F S16x128 .f32) (main_v3 : IVec S_ 1) (main_v7 : IVec S_ 1) (main_v11 : IVec S_ 1) (main_v15 : IVec S_ 1) : IVec S_ 1 :=
  let main_v16 : FVec F S16x128x128 .f32 := Host.absf main_arg4
  let main_cst_6 : FVec F S_ .f32 := constant S_ .f32 0x7F800000#32
  let main_v17 : FVec F S16x128x128 .f32 := broadcastInDim S16x128x128 ![] bcast_S_S16x128x128 main_cst_6
  let main_v18 : IVec S16x128x128 1 := cmpf .olt main_v16 main_v17
  let main_c_7 : IVec S_ 1 := constantI S_ 1 1#1
  let main_v19 : IVec S_ 1 := (fun x v => Host.reduce IntOp.andi x v reducesTo_S16x128x128_S_d0_1_2 h_S_) main_v18 main_c_7
  let main_v20 : FVec F S16x128 .f32 := Host.absf main_arg5
  let main_cst_8 : FVec F S_ .f32 := constant S_ .f32 0x7F800000#32
  let main_v21 : FVec F S16x128 .f32 := broadcastInDim S16x128 ![] bcast_S_S16x128 main_cst_8
  let main_v22 : IVec S16x128 1 := cmpf .olt main_v20 main_v21
  let main_c_9 : IVec S_ 1 := constantI S_ 1 1#1
  let main_v23 : IVec S_ 1 := (fun x v => Host.reduce IntOp.andi x v reducesTo_S16x128_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x2048 .f32) (main_arg1 : FVec F S8192x4096 .f32) (main_arg2 : FVec F S1x2048 .f32) (main_arg3 : FVec F S1x2048 .f32) (main_arg4 : FVec F S16x128x128 .f32) (main_arg5 : FVec F S16x128 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : FVec F S1x2048 .f32 := Host.absf main_arg2
  let main_cst_2 : FVec F S_ .f32 := constant S_ .f32 0x7F800000#32
  let main_v9 : FVec F S1x2048 .f32 := broadcastInDim S1x2048 ![] bcast_S_S1x2048 main_cst_2
  let main_v10 : IVec S1x2048 1 := cmpf .olt main_v8 main_v9
  let main_c_3 : IVec S_ 1 := constantI S_ 1 1#1
  let main_v11 : IVec S_ 1 := (fun x v => Host.reduce IntOp.andi x v reducesTo_S1x2048_S_d0_1 h_S_) main_v10 main_c_3
  let main_v12 : FVec F S1x2048 .f32 := Host.absf main_arg3
  let main_cst_4 : FVec F S_ .f32 := constant S_ .f32 0x7F800000#32
  let main_v13 : FVec F S1x2048 .f32 := broadcastInDim S1x2048 ![] bcast_S_S1x2048 main_cst_4
  let main_v14 : IVec S1x2048 1 := cmpf .olt main_v12 main_v13
  let main_c_5 : IVec S_ 1 := constantI S_ 1 1#1
  let main_v15 : IVec S_ 1 := (fun x v => Host.reduce IntOp.andi x v reducesTo_S1x2048_S_d0_1 h_S_) main_v14 main_c_5
  fn_part1 (F := F) main_arg4 main_arg5 main_v3 main_v7 main_v11 main_v15
-- ==== Pre_finite18.lean ====
abbrev S8192x128 : Shape := ⟨2, ![8192, 128]⟩
abbrev S1x16 : Shape := ⟨2, ![1, 16]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) (main_arg2 : FVec F S1x16 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Pre_finite19.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x2048 .f32) (main_arg1 : FVec F S8192x2048 .f32) (main_arg2 : FVec F S1x2048 .f32) (main_arg3 : FVec F S1x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : FVec F S1x2048 .f32 := Host.absf main_arg2
  let main_cst_2 : FVec F S_ .f32 := constant S_ .f32 0x7F800000#32
  let main_v9 : FVec F S1x2048 .f32 := broadcastInDim S1x2048 ![] bcast_S_S1x2048 main_cst_2
  let main_v10 : IVec S1x2048 1 := cmpf .olt main_v8 main_v9
  let main_c_3 : IVec S_ 1 := constantI S_ 1 1#1
  let main_v11 : IVec S_ 1 := (fun x v => Host.reduce IntOp.andi x v reducesTo_S1x2048_S_d0_1 h_S_) main_v10 main_c_3
  let main_v12 : FVec F S1x2048 .f32 := Host.absf main_arg3
  let main_cst_4 : FVec F S_ .f32 := constant S_ .f32 0x7F800000#32
  let main_v13 : FVec F S1x2048 .f32 := broadcastInDim S1x2048 ![] bcast_S_S1x2048 main_cst_4
  let main_v14 : IVec S1x2048 1 := cmpf .olt main_v12 main_v13
  let main_c_5 : IVec S_ 1 := constantI S_ 1 1#1
  let main_v15 : IVec S_ 1 := (fun x v => Host.reduce IntOp.andi x v reducesTo_S1x2048_S_d0_1 h_S_) main_v14 main_c_5
  fn_part1 (F := F) main_v3 main_v7 main_v11 main_v15
-- ==== Pre_finite2.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x2048 .f32) (main_arg1 : FVec F S5632x2048 .f32) (main_arg2 : FVec F S8192x5632 .f32) (main_arg3 : FVec F S8192x5632 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : FVec F S8192x5632 .f32 := Host.absf main_arg2
  let main_cst_2 : FVec F S_ .f32 := constant S_ .f32 0x7F800000#32
  let main_v9 : FVec F S8192x5632 .f32 := broadcastInDim S8192x5632 ![] bcast_S_S8192x5632 main_cst_2
  let main_v10 : IVec S8192x5632 1 := cmpf .olt main_v8 main_v9
  let main_c_3 : IVec S_ 1 := constantI S_ 1 1#1
  let main_v11 : IVec S_ 1 := (fun x v => Host.reduce IntOp.andi x v reducesTo_S8192x5632_S_d0_1 h_S_) main_v10 main_c_3
  let main_v12 : FVec F S8192x5632 .f32 := Host.absf main_arg3
  let main_cst_4 : FVec F S_ .f32 := constant S_ .f32 0x7F800000#32
  let main_v13 : FVec F S8192x5632 .f32 := broadcastInDim S8192x5632 ![] bcast_S_S8192x5632 main_cst_4
  let main_v14 : IVec S8192x5632 1 := cmpf .olt main_v12 main_v13
  let main_c_5 : IVec S_ 1 := constantI S_ 1 1#1
  let main_v15 : IVec S_ 1 := (fun x v => Host.reduce IntOp.andi x v reducesTo_S8192x5632_S_d0_1 h_S_) main_v14 main_c_5
  fn_part1 (F := F) main_v3 main_v7 main_v11 main_v15
-- ==== Pre_finite20.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x2048 .f32) (main_arg1 : FVec F S8192x2048 .f32) (main_arg2 : FVec F S1x2048 .f32) (main_arg3 : FVec F S1x2048 .f32) (main_arg4 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : FVec F S1x2048 .f32 := Host.absf main_arg2
  let main_cst_2 : FVec F S_ .f32 := constant S_ .f32 0x7F800000#32
  let main_v9 : FVec F S1x2048 .f32 := broadcastInDim S1x2048 ![] bcast_S_S1x2048 main_cst_2
  let main_v10 : IVec S1x2048 1 := cmpf .olt main_v8 main_v9
  let main_c_3 : IVec S_ 1 := constantI S_ 1 1#1
  let main_v11 : IVec S_ 1 := (fun x v => Host.reduce IntOp.andi x v reducesTo_S1x2048_S_d0_1 h_S_) main_v10 main_c_3
  let main_v12 : FVec F S1x2048 .f32 := Host.absf main_arg3
  let main_cst_4 : FVec F S_ .f32 := constant S_ .f32 0x7F800000#32
  let main_v13 : FVec F S1x2048 .f32 := broadcastInDim S1x2048 ![] bcast_S_S1x2048 main_cst_4
  let main_v14 : IVec S1x2048 1 := cmpf .olt main_v12 main_v13
  let main_c_5 : IVec S_ 1 := constantI S_ 1 1#1
  let main_v15 : IVec S_ 1 := (fun x v => Host.reduce IntOp.andi x v reducesTo_S1x2048_S_d0_1 h_S_) main_v14 main_c_5
  fn_part1 (F := F) main_v3 main_v7 main_v11 main_v15
-- ==== Kernel.lean ====
abbrev S8192x2048 : Shape := ⟨2, ![8192, 2048]⟩
abbrev S8192x4096 : Shape := ⟨2, ![8192, 4096]⟩
abbrev S1x2048 : Shape := ⟨2, ![1, 2048]⟩
abbrev S16x128x128 : Shape := ⟨3, ![16, 128, 128]⟩
abbrev S16x128 : Shape := ⟨2, ![16, 128]⟩
abbrev S_ : Shape := ⟨0, ![]⟩
abbrev S128x128 : Shape := ⟨2, ![128, 128]⟩
abbrev S1x128x128 : Shape := ⟨3, ![1, 128, 128]⟩
abbrev S16x128x1 : Shape := ⟨3, ![16, 128, 1]⟩
abbrev S128x2048 : Shape := ⟨2, ![128, 2048]⟩
abbrev S128x4096 : Shape := ⟨2, ![128, 4096]⟩
abbrev S128 : Shape := ⟨1, ![128]⟩
abbrev S128x1 : Shape := ⟨2, ![128, 1]⟩
abbrev S2048 : Shape := ⟨1, ![2048]⟩

abbrev nBuf : Space → Nat
  | .hbm => 32
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S1x2048, .f32⟩
  | .hbm, ⟨3, _⟩ => ⟨S1x2048, .f32⟩
  | .hbm, ⟨4, _⟩ => ⟨S16x128x128, .f32⟩
  | .hbm, ⟨5, _⟩ => ⟨S16x128, .f32⟩
  | .hbm, ⟨6, _⟩ => ⟨S_, .i1⟩
  | .hbm, ⟨7, _⟩ => ⟨S128x128, .i1⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .i1⟩
  | .hbm, ⟨15, _⟩ => ⟨S128x128, .i1⟩
  | .hbm, ⟨16, _⟩ => ⟨S128x128, .i1⟩
  | .hbm, ⟨17, _⟩ => ⟨S1x128x128, .i1⟩
  | .hbm, ⟨18, _⟩ => ⟨S_, .f32⟩
  | .hbm, ⟨19, _⟩ => ⟨S_, .f32⟩
  | .hbm, ⟨20, _⟩ => ⟨S16x128x128, .i1⟩
  | .hbm, ⟨21, _⟩ => ⟨S16x128x128, .f32⟩
  | .hbm, ⟨22, _⟩ => ⟨S16x128x128, .f32⟩
  | .hbm, ⟨23, _⟩ => ⟨S16x128x128, .bf16⟩
  | .hbm, ⟨24, _⟩ => ⟨S16x128x1, .f32⟩
  | .hbm, ⟨25, _⟩ => ⟨S16x128x128, .f32⟩
  | .hbm, ⟨26, _⟩ => ⟨S16x128x128, .bf16⟩
  | .hbm, ⟨27, _⟩ => ⟨S8192x4096, .bf16⟩
  | .hbm, ⟨28, _⟩ => ⟨S16x128x128, .f32⟩
  | .hbm, ⟨29, _⟩ => ⟨S16x128x128, .f32⟩
  | .hbm, ⟨30, _⟩ => ⟨S1x2048, .f32⟩
  | .hbm, ⟨31, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x4096, .f32⟩
  | .local _ .vmem, ⟨3, _⟩ => ⟨S128x4096, .f32⟩
  | .local _ .vmem, ⟨4, _⟩ => ⟨S1x2048, .f32⟩
  | .local _ .vmem, ⟨5, _⟩ => ⟨S1x2048, .f32⟩
  | .local _ .vmem, ⟨6, _⟩ => ⟨S16x128x128, .bf16⟩
  | .local _ .vmem, ⟨7, _⟩ => ⟨S16x128x128, .bf16⟩
  | .local _ .vmem, ⟨8, _⟩ => ⟨S16x128x128, .f32⟩
  | .local _ .vmem, ⟨9, _⟩ => ⟨S128x4096, .bf16⟩
  | .local _ .vmem, ⟨10, _⟩ => ⟨S128x4096, .bf16⟩
  | .local _ .vmem, ⟨11, _⟩ => ⟨S16x128x128, .f32⟩
  | .local _ .vmem, ⟨12, _⟩ => ⟨S16x128x128, .f32⟩
  | .local _ .vmem, ⟨13, _⟩ => ⟨S1x2048, .f32⟩
  | .local _ .vmem, ⟨14, _⟩ => ⟨S1x2048, .f32⟩
  | .local _ .vmem, ⟨15, _⟩ => ⟨S128x2048, .f32⟩
  | .local _ .vmem, ⟨16, _⟩ => ⟨S128x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8_0 : Ref sig .tc := ⟨.hbm, 27, rfl⟩
abbrev main_v8_1 : Ref sig .tc := ⟨.hbm, 28, rfl⟩
abbrev main_v8_2 : Ref sig .tc := ⟨.hbm, 29, rfl⟩
abbrev main_v8_3 : Ref sig .tc := ⟨.hbm, 30, rfl⟩
abbrev main_v8_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== ReferenceIdeal.lean ====
abbrev S8192x2048 : Shape := ⟨2, ![8192, 2048]⟩
abbrev S8192x4096 : Shape := ⟨2, ![8192, 4096]⟩
abbrev S1x2048 : Shape := ⟨2, ![1, 2048]⟩
abbrev S16x128x128 : Shape := ⟨3, ![16, 128, 128]⟩
abbrev S16x128 : Shape := ⟨2, ![16, 128]⟩
abbrev S_ : Shape := ⟨0, ![]⟩
abbrev S8192 : Shape := ⟨1, ![8192]⟩
abbrev S8192x1 : Shape := ⟨2, ![8192, 1]⟩
abbrev S64x128x16x128 : Shape := ⟨4, ![64, 128, 16, 128]⟩
abbrev S128x128 : Shape := ⟨2, ![128, 128]⟩
abbrev S1x128x128 : Shape := ⟨3, ![1, 128, 128]⟩
abbrev S16x64x128x128 : Shape := ⟨4, ![16, 64, 128, 128]⟩
abbrev S128x16 : Shape := ⟨2, ![128, 16]⟩
abbrev S1x128x16x1 : Shape := ⟨4, ![1, 128, 16, 1]⟩
abbrev S2048 : Shape := ⟨1, ![2048]⟩
abbrev S16x128x1 : Shape := ⟨3, ![16, 128, 1]⟩

abbrev nBuf : Space → Nat
  | .hbm => 179
  | .vmem => 0
  | .smem => 0
  | _ => 0

abbrev hbmTy0_0 (i : Nat) : BufTy := match i % 128 with
  | 0 => ⟨S8192x2048, .f32⟩
  | 1 => ⟨S8192x4096, .f32⟩
  | 2 => ⟨S1x2048, .f32⟩
  | 3 => ⟨S1x2048, .f32⟩
  | 4 => ⟨S16x128x128, .f32⟩
  | 5 => ⟨S16x128, .f32⟩
  | 6 => ⟨S_, .f32⟩
  | 7 => ⟨S8192x4096, .f32⟩
  | 8 => ⟨S8192x4096, .f32⟩
  | 9 => ⟨S8192x4096, .f32⟩
  | 10 => ⟨S8192x4096, .f32⟩
  | 11 => ⟨S8192x4096, .f32⟩
  | 12 => ⟨S_, .f32⟩
  | 13 => ⟨S8192x4096, .f32⟩
  | 14 => ⟨S8192x4096, .f32⟩
  | 15 => ⟨S_, .f32⟩
  | 16 => ⟨S8192x4096, .f32⟩
  | 17 => ⟨S8192x4096, .f32⟩
  | 18 => ⟨S_, .f32⟩
  | 19 => ⟨S8192x4096, .f32⟩
  | 20 => ⟨S8192x4096, .f32⟩
  | 21 => ⟨S8192x4096, .f32⟩
  | 22 => ⟨S_, .f32⟩
  | 23 => ⟨S8192x4096, .f32⟩
  | 24 => ⟨S8192x4096, .f32⟩
  | 25 => ⟨S8192x4096, .f32⟩
  | 26 => ⟨S_, .f32⟩
  | 27 => ⟨S8192x4096, .f32⟩
  | 28 => ⟨S8192x4096, .f32⟩
  | 29 => ⟨S_, .f32⟩
  | 30 => ⟨S8192x4096, .f32⟩
  | 31 => ⟨S8192x4096, .f32⟩
  | 32 => ⟨S8192x4096, .f32⟩
  | 33 => ⟨S_, .f32⟩
  | 34 => ⟨S8192x4096, .f32⟩
  | 35 => ⟨S8192x4096, .f32⟩
  | 36 => ⟨S8192x4096, .f32⟩
  | 37 => ⟨S8192x2048, .f32⟩
  | 38 => ⟨S8192x2048, .f32⟩
  | 39 => ⟨S_, .f32⟩
  | 40 => ⟨S8192, .f32⟩
  | 41 => ⟨S8192x1, .f32⟩
  | 42 => ⟨S_, .f32⟩
  | 43 => ⟨S8192x1, .f32⟩
  | 44 => ⟨S8192x1, .f32⟩
  | 45 => ⟨S8192x2048, .f32⟩
  | 46 => ⟨S8192x2048, .f32⟩
  | 47 => ⟨S8192x2048, .f32⟩
  | 48 => ⟨S_, .f32⟩
  | 49 => ⟨S8192x2048, .f32⟩
  | 50 => ⟨S8192x2048, .f32⟩
  | 51 => ⟨S_, .f32⟩
  | 52 => ⟨S8192, .f32⟩
  | 53 => ⟨S8192x1, .f32⟩
  | 54 => ⟨S_, .f32⟩
  | 55 => ⟨S8192x1, .f32⟩
  | 56 => ⟨S8192x1, .f32⟩
  | 57 => ⟨S8192x2048, .f32⟩
  | 58 => ⟨S8192x2048, .f32⟩
  | 59 => ⟨S_, .f32⟩
  | 60 => ⟨S8192x1, .f32⟩
  | 61 => ⟨S8192x1, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x2048, .f32⟩
  | 68 => ⟨S8192x2048, .f32⟩
  | 69 => ⟨S8192x2048, .f32⟩
  | 70 => ⟨S8192x2048, .f32⟩
  | 71 => ⟨S8192x2048, .f32⟩
  | 72 => ⟨S8192x2048, .f32⟩
  | 73 => ⟨S64x128x16x128, .f32⟩
  | 74 => ⟨S_, .i1⟩
  | 75 => ⟨S128x128, .i1⟩
  | 76 => ⟨S128x128, .i32⟩
  | 77 => ⟨S_, .i32⟩
  | 78 => ⟨S128x128, .i32⟩
  | 79 => ⟨S128x128, .i32⟩
  | 80 => ⟨S128x128, .i32⟩
  | 81 => ⟨S128x128, .i1⟩
  | 82 => ⟨S_, .i1⟩
  | 83 => ⟨S128x128, .i1⟩
  | 84 => ⟨S128x128, .i1⟩
  | 85 => ⟨S1x128x128, .i1⟩
  | 86 => ⟨S_, .f32⟩
  | 87 => ⟨S16x128x128, .f32⟩
  | 88 => ⟨S16x128x128, .i1⟩
  | 89 => ⟨S16x128x128, .f32⟩
  | 90 => ⟨S_, .f32⟩
  | 91 => ⟨S16x128x128, .f32⟩
  | 92 => ⟨S16x64x128x128, .f32⟩
  | 93 => ⟨S64x128x16x128, .f32⟩
  | 94 => ⟨S128x16, .f32⟩
  | 95 => ⟨S1x128x16x1, .f32⟩
  | 96 => ⟨S64x128x16x128, .f32⟩
  | 97 => ⟨S64x128x16x128, .f32⟩
  | 98 => ⟨S8192x2048, .f32⟩
  | 99 => ⟨S8192x2048, .f32⟩
  | 100 => ⟨S8192x2048, .f32⟩
  | 101 => ⟨S8192x2048, .f32⟩
  | 102 => ⟨S64x128x16x128, .f32⟩
  | 103 => ⟨S_, .f32⟩
  | 104 => ⟨S128x16, .f32⟩
  | 105 => ⟨S1x128x16x1, .f32⟩
  | 106 => ⟨S_, .f32⟩
  | 107 => ⟨S128x16, .f32⟩
  | 108 => ⟨S16x128, .f32⟩
  | 109 => ⟨S16x64x128x128, .f32⟩
  | 110 => ⟨S16x128x128, .f32⟩
  | 111 => ⟨S16x64x128x128, .f32⟩
  | 112 => ⟨S64x128x16x128, .f32⟩
  | 113 => ⟨S_, .f32⟩
  | 114 => ⟨S16x128x128, .f32⟩
  | 115 => ⟨S16x128x128, .f32⟩
  | 116 => ⟨S8192x2048, .f32⟩
  | 117 => ⟨S_, .f32⟩
  | 118 => ⟨S2048, .f32⟩
  | 119 => ⟨S1x2048, .f32⟩
  | 120 => ⟨S8192x2048, .f32⟩
  | 121 => ⟨S_, .f32⟩
  | 122 => ⟨S2048, .f32⟩
  | 123 => ⟨S1x2048, .f32⟩
  | 124 => ⟨S8192x2048, .f32⟩
  | 125 => ⟨S8192x2048, .f32⟩
  | 126 => ⟨S8192x2048, .f32⟩
  | 127 => ⟨S_, .f32⟩
  | _ => ⟨S8192x2048, .f32⟩

abbrev hbmTy0_1 (i : Nat) : BufTy := match i % 128 with
  | 0 => ⟨S8192, .f32⟩
  | 1 => ⟨S8192x1, .f32⟩
  | 2 => ⟨S8192x2048, .f32⟩
  | 3 => ⟨S8192x2048, .f32⟩
  | 4 => ⟨S8192x1, .f32⟩
  | 5 => ⟨S8192x2048, .f32⟩
  | 6 => ⟨S_, .f32⟩
  | 7 => ⟨S8192, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192, .f32⟩
  | 14 => ⟨S8192x2048, .f32⟩
  | 15 => ⟨S8192x2048, .f32⟩
  | 16 => ⟨S8192x2048, .f32⟩
  | 17 => ⟨S_, .f32⟩
  | 18 => ⟨S8192, .f32⟩
  | 19 => ⟨S8192x1, .f32⟩
  | 20 => ⟨S8192x2048, .f32⟩
  | 21 => ⟨S8192x1, .f32⟩
  | 22 => ⟨S_, .f32⟩
  | 23 => ⟨S8192x1, .f32⟩
  | 24 => ⟨S8192x1, .f32⟩
  | 25 => ⟨S_, .f32⟩
  | 26 => ⟨S8192, .f32⟩
  | 27 => ⟨S8192x2048, .f32⟩
  | 28 => ⟨S8192x2048, .f32⟩
  | 29 => ⟨S8192x4096, .f32⟩
  | 30 => ⟨S8192x4096, .f32⟩
  | 31 => ⟨S8192x4096, .f32⟩
  | 32 => ⟨S8192x4096, .f32⟩
  | 33 => ⟨S_, .f32⟩
  | 34 => ⟨S8192x4096, .f32⟩
  | 35 => ⟨S8192x4096, .f32⟩
  | 36 => ⟨S_, .f32⟩
  | 37 => ⟨S8192x4096, .f32⟩
  | 38 => ⟨S8192x4096, .f32⟩
  | 39 => ⟨S_, .f32⟩
  | 40 => ⟨S8192x4096, .f32⟩
  | 41 => ⟨S8192x4096, .f32⟩
  | 42 => ⟨S8192x4096, .f32⟩
  | 43 => ⟨S8192x4096, .f32⟩
  | 44 => ⟨S_, .f32⟩
  | 45 => ⟨S8192x4096, .f32⟩
  | 46 => ⟨S8192x4096, .f32⟩
  | 47 => ⟨S8192x4096, .f32⟩
  | 48 => ⟨S8192x4096, .bf16⟩
  | 49 => ⟨S16x128x1, .f32⟩
  | 50 => ⟨S16x128x128, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_cst_11 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_12 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_13 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c : Ref sig .tc := ⟨.hbm, 74, rfl⟩
abbrev main_v53 : Ref sig .tc := ⟨.hbm, 75, rfl⟩
abbrev main_call0_v0 : Ref sig .tc := ⟨.hbm, 76, rfl⟩
abbrev main_call0_c : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_c_0 : Ref sig .tc := ⟨.hbm, 82, rfl⟩
abbrev main_call0_v5 : Ref sig .tc := ⟨.hbm, 83, rfl⟩
abbrev main_v54 : Ref sig .tc := ⟨.hbm, 84, rfl⟩
abbrev main_v55 : Ref sig .tc := ⟨.hbm, 85, rfl⟩
abbrev main_cst_14 : Ref sig .tc := ⟨.hbm, 86, rfl⟩
abbrev main_v56 : Ref sig .tc := ⟨.hbm, 87, rfl⟩
abbrev main_v57_1 : Ref sig .tc := ⟨.hbm, 88, rfl⟩
abbrev main_v57_0 : Ref sig .tc := ⟨.hbm, 89, rfl⟩
abbrev main_call1_cst : Ref sig .tc := ⟨.hbm, 90, rfl⟩
abbrev main_v57_2 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_15 : Ref sig .tc := ⟨.hbm, 103, rfl⟩
abbrev main_v69 : Ref sig .tc := ⟨.hbm, 104, rfl⟩
abbrev main_v70 : Ref sig .tc := ⟨.hbm, 105, rfl⟩
abbrev main_cst_16 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_call2_cst : Ref sig .tc := ⟨.hbm, 113, rfl⟩
abbrev main_call2_v0 : Ref sig .tc := ⟨.hbm, 114, rfl⟩
abbrev main_v77 : Ref sig .tc := ⟨.hbm, 115, rfl⟩
abbrev main_v78 : Ref sig .tc := ⟨.hbm, 116, rfl⟩
abbrev main_cst_17 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_18 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_19 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_20 : Ref sig .tc := ⟨.hbm, 134, rfl⟩
abbrev main_v93 : Ref sig .tc := ⟨.hbm, 135, rfl⟩
abbrev main_v94 : Ref sig .tc := ⟨.hbm, 136, rfl⟩
abbrev main_cst_21 : Ref sig .tc := ⟨.hbm, 137, rfl⟩
abbrev main_v95 : Ref sig .tc := ⟨.hbm, 138, rfl⟩
abbrev main_v96 : Ref sig .tc := ⟨.hbm, 139, rfl⟩
abbrev main_cst_22 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_23 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_24 : Ref sig .tc := ⟨.hbm, 150, rfl⟩
abbrev main_v105 : Ref sig .tc := ⟨.hbm, 151, rfl⟩
abbrev main_v106 : Ref sig .tc := ⟨.hbm, 152, rfl⟩
abbrev main_cst_25 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_26 : Ref sig .tc := ⟨.hbm, 161, rfl⟩
abbrev main_v114 : Ref sig .tc := ⟨.hbm, 162, rfl⟩
abbrev main_v115 : Ref sig .tc := ⟨.hbm, 163, rfl⟩
abbrev main_cst_27 : Ref sig .tc := ⟨.hbm, 164, rfl⟩
abbrev main_v116 : Ref sig .tc := ⟨.hbm, 165, rfl⟩
abbrev main_v117 : Ref sig .tc := ⟨.hbm, 166, rfl⟩
abbrev main_cst_28 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_29 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩

abbrev nD : Nat := 1
abbrev τ : Topo := Topo.v7x

variable {F : FTy → Type} [FloatOps F]
-- ==== Kernel2.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩
abbrev S256x2048 : Shape := ⟨2, ![256, 2048]⟩
abbrev S1024x256 : Shape := ⟨2, ![1024, 256]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S8192x5632, .f32⟩
  | .hbm, ⟨3, _⟩ => ⟨S8192x5632, .f32⟩
  | .hbm, ⟨4, _⟩ => ⟨S8192x2048, .bf16⟩
  | .hbm, ⟨5, _⟩ => ⟨S5632x2048, .bf16⟩
  | .hbm, ⟨6, _⟩ => ⟨S8192x5632, .bf16⟩
  | .hbm, ⟨7, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S8192x5632, .f32⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x2048, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .bf16⟩
  | .hbm, ⟨27, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Kernel3.lean ====
abbrev S8192x5632 : Shape := ⟨2, ![8192, 5632]⟩
abbrev S8192x2048 : Shape := ⟨2, ![8192, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S8192x5632, .bf16⟩
  | .hbm, ⟨3, _⟩ => ⟨S8192x2048, .bf16⟩
  | .hbm, ⟨4, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S_, .f32⟩
  | .hbm, ⟨3, _⟩ => ⟨S5632x2048, .f32⟩
  | .hbm, ⟨4, _⟩ => ⟨S8192x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x5632 : Shape := ⟨2, ![8192, 5632]⟩
abbrev S2048x11264 : Shape := ⟨2, ![2048, 11264]⟩
abbrev S8192x2048 : Shape := ⟨2, ![8192, 2048]⟩
abbrev S512x5632 : Shape := ⟨2, ![512, 5632]⟩
abbrev S256x5632 : Shape := ⟨2, ![256, 5632]⟩
abbrev S512x256 : Shape := ⟨2, ![512, 256]⟩

abbrev nBuf : Space → Nat
  | .hbm => 7
  | .vmem => 10
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S2048x11264, .f32⟩
  | .hbm, ⟨3, _⟩ => ⟨S8192x5632, .bf16⟩
  | .hbm, ⟨4, _⟩ => ⟨S8192x5632, .bf16⟩
  | .hbm, ⟨5, _⟩ => ⟨S2048x11264, .bf16⟩
  | .hbm, ⟨6, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S256x5632, .bf16⟩
  | .local _ .vmem, ⟨3, _⟩ => ⟨S256x5632, .bf16⟩
  | .local _ .vmem, ⟨4, _⟩ => ⟨S512x5632, .bf16⟩
  | .local _ .vmem, ⟨5, _⟩ => ⟨S512x5632, .bf16⟩
  | .local _ .vmem, ⟨6, _⟩ => ⟨S256x5632, .bf16⟩
  | .local _ .vmem, ⟨7, _⟩ => ⟨S256x5632, .bf16⟩
  | .local _ .vmem, ⟨8, _⟩ => ⟨S512x256, .f32⟩
  | .local _ .vmem, ⟨9, _⟩ => ⟨S512x256, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.addi arg2 c1_i32
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S8192x5632 : Shape := ⟨2, ![8192, 5632]⟩
abbrev S2048x11264 : Shape := ⟨2, ![2048, 11264]⟩
abbrev S_ : Shape := ⟨0, ![]⟩
abbrev S8192x2048 : Shape := ⟨2, ![8192, 2048]⟩
abbrev S8192x11264 : Shape := ⟨2, ![8192, 11264]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S2048x11264, .f32⟩
  | .hbm, ⟨3, _⟩ => ⟨S_, .f32⟩
  | .hbm, ⟨4, _⟩ => ⟨S8192x2048, .f32⟩
  | .hbm, ⟨5, _⟩ => ⟨S8192x11264, .f32⟩
  | .hbm, ⟨6, _⟩ => ⟨S8192x5632, .f32⟩
  | .hbm, ⟨7, _⟩ => ⟨S8192x5632, .f32⟩
  | .hbm, ⟨8, _⟩ => ⟨S8192x11264, .f32⟩
  | .hbm, ⟨9, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel5.lean ====
abbrev S8192x2048 : Shape := ⟨2, ![8192, 2048]⟩
abbrev S8192x5632 : Shape := ⟨2, ![8192, 5632]⟩
abbrev S8x2048x1408 : Shape := ⟨3, ![8, 2048, 1408]⟩
abbrev S2048x512 : Shape := ⟨2, ![2048, 512]⟩
abbrev S2048x1408 : Shape := ⟨2, ![2048, 1408]⟩
abbrev S1x512x1408 : Shape := ⟨3, ![1, 512, 1408]⟩
abbrev S512x1408 : Shape := ⟨2, ![512, 1408]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8x2048x1408, .bf16⟩
  | .hbm, ⟨3, _⟩ => ⟨S8192x2048, .bf16⟩
  | .hbm, ⟨4, _⟩ => ⟨S8192x5632, .bf16⟩
  | .hbm, ⟨5, _⟩ => ⟨S8x2048x1408, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S512x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![v0.toNat, arg0.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S8192x5632 : Shape := ⟨2, ![8192, 5632]⟩
abbrev S8x2048x1408 : Shape := ⟨3, ![8, 2048, 1408]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8x2048x1408, .bf16⟩
  | .hbm, ⟨3, _⟩ => ⟨S_, .f32⟩
  | .hbm, ⟨4, _⟩ => ⟨S2048x5632, .f32⟩
  | .hbm, ⟨5, _⟩ => ⟨S8192x5632, .f32⟩
  | .hbm, ⟨6, _⟩ => ⟨S5632x2048, .f32⟩
  | .hbm, ⟨7, _⟩ => ⟨S2048x5632, .f32⟩
  | .hbm, ⟨8, _⟩ => ⟨S2048x4x1408, .f32⟩
  | .hbm, ⟨9, _⟩ => ⟨S4x2048x1408, .f32⟩
  | .hbm, ⟨10, _⟩ => ⟨S4x2048x1408, .bf16⟩
  | .hbm, ⟨11, _⟩ => ⟨S4x2048x1408, .bf16⟩
  | .hbm, ⟨12, _⟩ => ⟨S8x2048x1408, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel6.lean ====
abbrev S8192x5632 : Shape := ⟨2, ![8192, 5632]⟩
abbrev S5632x2048 : Shape := ⟨2, ![5632, 2048]⟩
abbrev S8192x2048 : Shape := ⟨2, ![8192, 2048]⟩
abbrev S1024x5632 : Shape := ⟨2, ![1024, 5632]⟩
abbrev S5632x256 : Shape := ⟨2, ![5632, 256]⟩
abbrev S1024x256 : Shape := ⟨2, ![1024, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x5632, .bf16⟩
  | .hbm, ⟨3, _⟩ => ⟨S5632x2048, .bf16⟩
  | .hbm, ⟨4, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x256, .bf16⟩
  | .local _ .vmem, ⟨3, _⟩ => ⟨S5632x256, .bf16⟩
  | .local _ .vmem, ⟨4, _⟩ => ⟨S1024x256, .f32⟩
  | .local _ .vmem, ⟨5, _⟩ => ⟨S1024x256, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel7.lean ====
abbrev S8192x2048 : Shape := ⟨2, ![8192, 2048]⟩
abbrev S2048x11264 : Shape := ⟨2, ![2048, 11264]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x2048, .bf16⟩
  | .hbm, ⟨3, _⟩ => ⟨S2048x11264, .bf16⟩
  | .hbm, ⟨4, _⟩ => ⟨S8192x5632, .f32⟩
  | .hbm, ⟨5, _⟩ => ⟨S8192x5632, .f32⟩
  | .hbm, ⟨6, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S8192x2048 : Shape := ⟨2, ![8192, 2048]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S8192x2048 : Shape := ⟨2, ![8192, 2048]⟩
abbrev S2048x6160 : Shape := ⟨2, ![2048, 6160]⟩
abbrev S2048x6144 : Shape := ⟨2, ![2048, 6144]⟩
abbrev S8192x6144 : Shape := ⟨2, ![8192, 6144]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x6160, .f32⟩
  | .hbm, ⟨2, _⟩ => ⟨S2048x6160, .bf16⟩
  | .hbm, ⟨3, _⟩ => ⟨S2048x6144, .bf16⟩
  | .hbm, ⟨4, _⟩ => ⟨S8192x2048, .bf16⟩
  | .hbm, ⟨5, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S2048x6160 : Shape := ⟨2, ![2048, 6160]⟩
abbrev S8192x6160 : Shape := ⟨2, ![8192, 6160]⟩
abbrev S8192x6144 : Shape := ⟨2, ![8192, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6160, .f32⟩
  | .hbm, ⟨2, _⟩ => ⟨S8192x6160, .f32⟩
  | .hbm, ⟨3, _⟩ => ⟨S8192x6144, .f32⟩
  | .hbm, ⟨4, _⟩ => ⟨S8192x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x2048, .bf16⟩
  | .hbm, ⟨3, _⟩ => ⟨S2048x4096, .bf16⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S8192x2048 : Shape := ⟨2, ![8192, 2048]⟩
abbrev S8192x5632 : Shape := ⟨2, ![8192, 5632]⟩
abbrev S8x2048x1408 : Shape := ⟨3, ![8, 2048, 1408]⟩
abbrev S2048x512 : Shape := ⟨2, ![2048, 512]⟩
abbrev S2048x1408 : Shape := ⟨2, ![2048, 1408]⟩
abbrev S1x512x1408 : Shape := ⟨3, ![1, 512, 1408]⟩
abbrev S512x1408 : Shape := ⟨2, ![512, 1408]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8x2048x1408, .bf16⟩
  | .hbm, ⟨3, _⟩ => ⟨S8192x2048, .bf16⟩
  | .hbm, ⟨4, _⟩ => ⟨S8192x5632, .bf16⟩
  | .hbm, ⟨5, _⟩ => ⟨S8x2048x1408, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S512x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  let c0_i32_0 : BitVec 32 := 0#32
  ![v0.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S8192x5632 : Shape := ⟨2, ![8192, 5632]⟩
abbrev S8x2048x1408 : Shape := ⟨3, ![8, 2048, 1408]⟩
abbrev S_ : Shape := ⟨0, ![]⟩
abbrev S2048x5632 : Shape := ⟨2, ![2048, 5632]⟩
abbrev S5632x2048 : Shape := ⟨2, ![5632, 2048]⟩
abbrev S4x2048x1408 : Shape := ⟨3, ![4, 2048, 1408]⟩
abbrev S2048x4x1408 : Shape := ⟨3, ![2048, 4, 1408]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8x2048x1408, .bf16⟩
  | .hbm, ⟨3, _⟩ => ⟨S_, .f32⟩
  | .hbm, ⟨4, _⟩ => ⟨S2048x5632, .f32⟩
  | .hbm, ⟨5, _⟩ => ⟨S8192x5632, .f32⟩
  | .hbm, ⟨6, _⟩ => ⟨S5632x2048, .f32⟩
  | .hbm, ⟨7, _⟩ => ⟨S2048x5632, .f32⟩
  | .hbm, ⟨8, _⟩ => ⟨S4x2048x1408, .bf16⟩
  | .hbm, ⟨9, _⟩ => ⟨S2048x4x1408, .f32⟩
  | .hbm, ⟨10, _⟩ => ⟨S4x2048x1408, .f32⟩
  | .hbm, ⟨11, _⟩ => ⟨S4x2048x1408, .bf16⟩
  | .hbm, ⟨12, _⟩ => ⟨S8x2048x1408, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x2048 : Shape := ⟨2, ![8192, 2048]⟩
abbrev S8192x6272 : Shape := ⟨2, ![8192, 6272]⟩
abbrev S2048x6272 : Shape := ⟨2, ![2048, 6272]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x6272, .f32⟩
  | .hbm, ⟨2, _⟩ => ⟨S8192x2048, .bf16⟩
  | .hbm, ⟨3, _⟩ => ⟨S8192x6272, .bf16⟩
  | .hbm, ⟨4, _⟩ => ⟨S2048x6272, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S8192x6272 : Shape := ⟨2, ![8192, 6272]⟩
abbrev S_ : Shape := ⟨0, ![]⟩
abbrev S2048x6272 : Shape := ⟨2, ![2048, 6272]⟩
abbrev S6272x2048 : Shape := ⟨2, ![6272, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x6272, .f32⟩
  | .hbm, ⟨2, _⟩ => ⟨S_, .f32⟩
  | .hbm, ⟨3, _⟩ => ⟨S2048x6272, .f32⟩
  | .hbm, ⟨4, _⟩ => ⟨S8192x6272, .f32⟩
  | .hbm, ⟨5, _⟩ => ⟨S6272x2048, .f32⟩
  | .hbm, ⟨6, _⟩ => ⟨S2048x6272, .f32⟩
  | .hbm, ⟨7, _⟩ => ⟨S2048x6272, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x2048 : Shape := ⟨2, ![8192, 2048]⟩
abbrev S8192x4096 : Shape := ⟨2, ![8192, 4096]⟩
abbrev S2048x4096 : Shape := ⟨2, ![2048, 4096]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x2048, .bf16⟩
  | .hbm, ⟨3, _⟩ => ⟨S8192x4096, .bf16⟩
  | .hbm, ⟨4, _⟩ => ⟨S2048x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S_, .f32⟩
  | .hbm, ⟨3, _⟩ => ⟨S2048x4096, .f32⟩
  | .hbm, ⟨4, _⟩ => ⟨S8192x4096, .f32⟩
  | .hbm, ⟨5, _⟩ => ⟨S4096x2048, .f32⟩
  | .hbm, ⟨6, _⟩ => ⟨S2048x4096, .f32⟩
  | .hbm, ⟨7, _⟩ => ⟨S2048x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel16.lean ====
abbrev S8192x6272 : Shape := ⟨2, ![8192, 6272]⟩
abbrev S2048x6160 : Shape := ⟨2, ![2048, 6160]⟩
abbrev S2048x16 : Shape := ⟨2, ![2048, 16]⟩
abbrev S_ : Shape := ⟨0, ![]⟩
abbrev S2048x128 : Shape := ⟨2, ![2048, 128]⟩
abbrev S2048x6144 : Shape := ⟨2, ![2048, 6144]⟩
abbrev S2048x6272 : Shape := ⟨2, ![2048, 6272]⟩
abbrev S8192x2048 : Shape := ⟨2, ![8192, 2048]⟩
abbrev S1024x6272 : Shape := ⟨2, ![1024, 6272]⟩
abbrev S256x6272 : Shape := ⟨2, ![256, 6272]⟩
abbrev S1024x256 : Shape := ⟨2, ![1024, 256]⟩

abbrev nBuf : Space → Nat
  | .hbm => 11
  | .vmem => 6
  | .smem => 0
  | _ => 0

abbrev bufTy : (tb : Table) → Fin (tcTables nBuf tb) → BufTy
  | .hbm, ⟨0, _⟩ => ⟨S8192x6272, .f32⟩
  | .hbm, ⟨1, _⟩ => ⟨S2048x6160, .f32⟩
  | .hbm, ⟨2, _⟩ => ⟨S2048x6160, .bf16⟩
  | .hbm, ⟨3, _⟩ => ⟨S2048x16, .bf16⟩
  | .hbm, ⟨4, _⟩ => ⟨S_, .i32⟩
  | .hbm, ⟨5, _⟩ => ⟨S_, .bf16⟩
  | .hbm, ⟨6, _⟩ => ⟨S2048x128, .bf16⟩
  | .hbm, ⟨7, _⟩ => ⟨S2048x6144, .bf16⟩
  | .hbm, ⟨8, _⟩ => ⟨S2048x6272, .bf16⟩
  | .hbm, ⟨9, _⟩ => ⟨S8192x6272, .bf16⟩
  | .hbm, ⟨10, _⟩ => ⟨S8192x2048, .f32⟩
  | .local _ .vmem, ⟨0, _⟩ => ⟨S1024x6272, .bf16⟩
  | .local _ .vmem, ⟨1, _⟩ => ⟨S1024x6272, .bf16⟩
  | .local _ .vmem, ⟨2, _⟩ => ⟨S256x6272, .bf16⟩
  | .local _ .vmem, ⟨3, _⟩ => ⟨S256x6272, .bf16⟩
  | .local _ .vmem, ⟨4, _⟩ => ⟨S1024x256, .f32⟩
  | .local _ .vmem, ⟨5, _⟩ => ⟨S1024x256, .f32⟩
  | _, _ => ⟨S8192x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x6272 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x6272 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x6272 : Shape := ⟨2, ![8192, 6272]⟩
abbrev S2048x6160 : Shape := ⟨2, ![2048, 6160]⟩
abbrev S_ : Shape := ⟨0, ![]⟩
abbrev S8192x2048 : Shape := ⟨2, ![8192, 2048]⟩
abbrev S8192x6160 : Shape := ⟨2, ![8192, 6160]⟩

abbrev nBuf : Space → Nat
  | .hbm => 7
  | .vmem => 0
  | .smem => 0
  | _ => 0

abbrev bufTy : (tb : Table) → Fin (tcTables nBuf tb) → BufTy
  | .hbm, ⟨0, _⟩ => ⟨S8192x6272, .f32⟩
  | .hbm, ⟨1, _⟩ => ⟨S2048x6160, .f32⟩
  | .hbm, ⟨2, _⟩ => ⟨S_, .f32⟩
  | .hbm, ⟨3, _⟩ => ⟨S8192x2048, .f32⟩
  | .hbm, ⟨4, _⟩ => ⟨S8192x6160, .f32⟩
  | .hbm, ⟨5, _⟩ => ⟨S8192x6160, .f32⟩
  | .hbm, ⟨6, _⟩ => ⟨S8192x2048, .f32⟩
  | _, _ => ⟨S8192x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S8192x4096 : Shape := ⟨2, ![8192, 4096]⟩
abbrev S2048x4096 : Shape := ⟨2, ![2048, 4096]⟩
abbrev S8192x2048 : Shape := ⟨2, ![8192, 2048]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S2048x4096, .f32⟩
  | .hbm, ⟨2, _⟩ => ⟨S8192x4096, .bf16⟩
  | .hbm, ⟨3, _⟩ => ⟨S2048x4096, .bf16⟩
  | .hbm, ⟨4, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x4096 : Shape := ⟨2, ![8192, 4096]⟩
abbrev S2048x4096 : Shape := ⟨2, ![2048, 4096]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2048x4096, .f32⟩
  | .hbm, ⟨2, _⟩ => ⟨S_, .f32⟩
  | .hbm, ⟨3, _⟩ => ⟨S8192x2048, .f32⟩
  | .hbm, ⟨4, _⟩ => ⟨S8192x4096, .f32⟩
  | .hbm, ⟨5, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel18.lean ====
abbrev S8192x128 : Shape := ⟨2, ![8192, 128]⟩
abbrev S1x16 : Shape := ⟨2, ![1, 16]⟩
abbrev S_ : Shape := ⟨0, ![]⟩
abbrev S1x128 : Shape := ⟨2, ![1, 128]⟩
abbrev S512x128 : Shape := ⟨2, ![512, 128]⟩
abbrev S512x512 : Shape := ⟨2, ![512, 512]⟩
abbrev S128 : Shape := ⟨1, ![128]⟩

abbrev nBuf : Space → Nat
  | .hbm => 8
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x16, .f32⟩
  | .hbm, ⟨3, _⟩ => ⟨S_, .i32⟩
  | .hbm, ⟨4, _⟩ => ⟨S_, .f32⟩
  | .hbm, ⟨5, _⟩ => ⟨S1x128, .f32⟩
  | .hbm, ⟨6, _⟩ => ⟨S8192x128, .f32⟩
  | .hbm, ⟨7, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S1x128, .f32⟩
  | .local _ .vmem, ⟨8, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference18Ideal.lean ====
abbrev S8192x128 : Shape := ⟨2, ![8192, 128]⟩
abbrev S1x16 : Shape := ⟨2, ![1, 16]⟩
abbrev S_ : Shape := ⟨0, ![]⟩
abbrev S1x128 : Shape := ⟨2, ![1, 128]⟩
abbrev S128 : Shape := ⟨1, ![128]⟩

abbrev nBuf : Space → Nat
  | .hbm => 68
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x16, .f32⟩
  | .hbm, ⟨3, _⟩ => ⟨S_, .i32⟩
  | .hbm, ⟨4, _⟩ => ⟨S_, .f32⟩
  | .hbm, ⟨5, _⟩ => ⟨S1x128, .f32⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S_, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .i1⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S_, .f32⟩
  | .hbm, ⟨24, _⟩ => ⟨S8192x128, .f32⟩
  | .hbm, ⟨25, _⟩ => ⟨S8192x128, .i1⟩
  | .hbm, ⟨26, _⟩ => ⟨S_, .f32⟩
  | .hbm, ⟨27, _⟩ => ⟨S8192x128, .f32⟩
  | .hbm, ⟨28, _⟩ => ⟨S8192x128, .f32⟩
  | .hbm, ⟨29, _⟩ => ⟨S_, .f32⟩
  | .hbm, ⟨30, _⟩ => ⟨S8192x128, .f32⟩
  | .hbm, ⟨31, _⟩ => ⟨S8192x128, .i1⟩
  | .hbm, ⟨32, _⟩ => ⟨S_, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S_, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192x128, .f32⟩
  | .hbm, ⟨45, _⟩ => ⟨S8192x128, .i1⟩
  | .hbm, ⟨46, _⟩ => ⟨S_, .f32⟩
  | .hbm, ⟨47, _⟩ => ⟨S8192x128, .f32⟩
  | .hbm, ⟨48, _⟩ => ⟨S8192x128, .f32⟩
  | .hbm, ⟨49, _⟩ => ⟨S8192x128, .f32⟩
  | .hbm, ⟨50, _⟩ => ⟨S8192x128, .f32⟩
  | .hbm, ⟨51, _⟩ => ⟨S8192x128, .f32⟩
  | .hbm, ⟨52, _⟩ => ⟨S_, .f32⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S_, .f32⟩
  | .hbm, ⟨57, _⟩ => ⟨S_, .f32⟩
  | .hbm, ⟨58, _⟩ => ⟨S8192x128, .f32⟩
  | .hbm, ⟨59, _⟩ => ⟨S_, .f32⟩
  | .hbm, ⟨60, _⟩ => ⟨S_, .f32⟩
  | .hbm, ⟨61, _⟩ => ⟨S8192x128, .f32⟩
  | .hbm, ⟨62, _⟩ => ⟨S8192x128, .f32⟩
  | .hbm, ⟨63, _⟩ => ⟨S8192x128, .f32⟩
  | .hbm, ⟨64, _⟩ => ⟨S8192x128, .f32⟩
  | .hbm, ⟨65, _⟩ => ⟨S_, .f32⟩
  | .hbm, ⟨66, _⟩ => ⟨S128, .f32⟩
  | .hbm, ⟨67, _⟩ => ⟨S1x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call1_v0 : Ref sig .tc := ⟨.hbm, 8, rfl⟩
abbrev main_call1_call0_cst : Ref sig .tc := ⟨.hbm, 9, rfl⟩
abbrev main_call1_call0_v0 : Ref sig .tc := ⟨.hbm, 10, rfl⟩
abbrev main_call1_call0_v1 : Ref sig .tc := ⟨.hbm, 11, rfl⟩
abbrev main_call1_call0_v2 : Ref sig .tc := ⟨.hbm, 12, rfl⟩
abbrev main_call1_call0_v3 : Ref sig .tc := ⟨.hbm, 13, rfl⟩
abbrev main_call1_call0_v4 : Ref sig .tc := ⟨.hbm, 14, rfl⟩
abbrev main_call1_call0_v5 : Ref sig .tc := ⟨.hbm, 15, rfl⟩
abbrev main_call1_call0_v6 : Ref sig .tc := ⟨.hbm, 16, rfl⟩
abbrev main_call1_call0_v7 : Ref sig .tc := ⟨.hbm, 17, rfl⟩
abbrev main_call1_call0_v8 : Ref sig .tc := ⟨.hbm, 18, rfl⟩
abbrev main_call1_call0_v9 : Ref sig .tc := ⟨.hbm, 19, rfl⟩
abbrev main_call1_call0_v10 : Ref sig .tc := ⟨.hbm, 20, rfl⟩
abbrev main_call1_call0_v11 : Ref sig .tc := ⟨.hbm, 21, rfl⟩
abbrev main_call1_v1_0 : Ref sig .tc := ⟨.hbm, 22, rfl⟩
abbrev main_call1_call0_cst_0 : Ref sig .tc := ⟨.hbm, 23, rfl⟩
abbrev main_call1_call0_v13 : Ref sig .tc := ⟨.hbm, 24, rfl⟩
abbrev main_call1_call0_v14 : Ref sig .tc := ⟨.hbm, 25, rfl⟩
abbrev main_call1_call0_cst_1 : Ref sig .tc := ⟨.hbm, 26, rfl⟩
abbrev main_call1_call0_v15 : Ref sig .tc := ⟨.hbm, 27, rfl⟩
abbrev main_call1_call0_v16 : Ref sig .tc := ⟨.hbm, 28, rfl⟩
abbrev main_call1_call0_cst_2 : Ref sig .tc := ⟨.hbm, 29, rfl⟩
abbrev main_call1_call0_v17 : Ref sig .tc := ⟨.hbm, 30, rfl⟩
abbrev main_call1_call0_v18 : Ref sig .tc := ⟨.hbm, 31, rfl⟩
abbrev main_call1_call0_cst_3 : Ref sig .tc := ⟨.hbm, 32, rfl⟩
abbrev main_call1_call0_v19 : Ref sig .tc := ⟨.hbm, 33, rfl⟩
abbrev main_call1_call0_v20 : Ref sig .tc := ⟨.hbm, 34, rfl⟩
abbrev main_call1_call0_v21 : Ref sig .tc := ⟨.hbm, 35, rfl⟩
abbrev main_v3_1 : Ref sig .tc := ⟨.hbm, 36, rfl⟩
abbrev main_call1_call0_cst_4 : Ref sig .tc := ⟨.hbm, 37, rfl⟩
abbrev main_call1_call0_cst_5 : Ref sig .tc := ⟨.hbm, 38, rfl⟩
abbrev main_call1_call0_v23 : Ref sig .tc := ⟨.hbm, 39, rfl⟩
abbrev main_call1_call0_cst_6 : Ref sig .tc := ⟨.hbm, 40, rfl⟩
abbrev main_call1_call0_cst_7 : Ref sig .tc := ⟨.hbm, 41, rfl⟩
abbrev main_call1_call0_v24 : Ref sig .tc := ⟨.hbm, 42, rfl⟩
abbrev main_call1_call0_cst_8 : Ref sig .tc := ⟨.hbm, 43, rfl⟩
abbrev main_call1_call0_v25 : Ref sig .tc := ⟨.hbm, 44, rfl⟩
abbrev main_call1_call0_v26 : Ref sig .tc := ⟨.hbm, 45, rfl⟩
abbrev main_call1_call0_cst_9 : Ref sig .tc := ⟨.hbm, 46, rfl⟩
abbrev main_call1_call0_v27 : Ref sig .tc := ⟨.hbm, 47, rfl⟩
abbrev main_call1_call0_v28 : Ref sig .tc := ⟨.hbm, 48, rfl⟩
abbrev main_call1_call0_v29 : Ref sig .tc := ⟨.hbm, 49, rfl⟩
abbrev main_call1_call0_v30 : Ref sig .tc := ⟨.hbm, 50, rfl⟩
abbrev main_call1_call0_v31 : Ref sig .tc := ⟨.hbm, 51, rfl⟩
abbrev main_call1_call0_cst_10 : Ref sig .tc := ⟨.hbm, 52, rfl⟩
abbrev main_call1_call0_v32 : Ref sig .tc := ⟨.hbm, 53, rfl⟩
abbrev main_v3_2 : Ref sig .tc := ⟨.hbm, 54, rfl⟩
abbrev main_v3_0 : Ref sig .tc := ⟨.hbm, 55, rfl⟩
abbrev main_call2_cst : Ref sig .tc := ⟨.hbm, 56, rfl⟩
abbrev main_call2_v0 : Ref sig .tc := ⟨.hbm, 57, rfl⟩
abbrev main_v4 : Ref sig .tc := ⟨.hbm, 58, rfl⟩
abbrev main_call3_cst : Ref sig .tc := ⟨.hbm, 59, rfl⟩
abbrev main_call3_v0 : Ref sig .tc := ⟨.hbm, 60, rfl⟩
abbrev main_v5 : Ref sig .tc := ⟨.hbm, 61, rfl⟩
abbrev main_call4_v0 : Ref sig .tc := ⟨.hbm, 62, rfl⟩
abbrev main_call4_v1 : Ref sig .tc := ⟨.hbm, 63, rfl⟩
abbrev main_v6 : Ref sig .tc := ⟨.hbm, 64, rfl⟩
abbrev main_cst : Ref sig .tc := ⟨.hbm, 65, rfl⟩
abbrev main_v7 : Ref sig .tc := ⟨.hbm, 66, rfl⟩
abbrev main_v8 : Ref sig .tc := ⟨.hbm, 67, rfl⟩

abbrev nD : Nat := 1
abbrev τ : Topo := Topo.v7x

variable {F : FTy → Type} [FloatOps F]
-- ==== Kernel19.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .bf16⟩
  | .hbm, ⟨5, _⟩ => ⟨S1x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference19Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel20.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference20Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S1x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel21.lean ====
abbrev S8192x2048 : Shape := ⟨2, ![8192, 2048]⟩
abbrev S2048x3072 : Shape := ⟨2, ![2048, 3072]⟩
abbrev S8192x3072 : Shape := ⟨2, ![8192, 3072]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x3072, .f32⟩
  | .hbm, ⟨2, _⟩ => ⟨S8192x2048, .bf16⟩
  | .hbm, ⟨3, _⟩ => ⟨S2048x3072, .bf16⟩
  | .hbm, ⟨4, _⟩ => ⟨S8192x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x2048 : Shape := ⟨2, ![8192, 2048]⟩
abbrev S2048x3072 : Shape := ⟨2, ![2048, 3072]⟩
abbrev S8192x3072 : Shape := ⟨2, ![8192, 3072]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x3072, .f32⟩
  | .hbm, ⟨2, _⟩ => ⟨S8192x3072, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel22.lean ====
abbrev S8192x2048 : Shape := ⟨2, ![8192, 2048]⟩
abbrev S8192x3072 : Shape := ⟨2, ![8192, 3072]⟩
abbrev S2048x3072 : Shape := ⟨2, ![2048, 3072]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x3072, .f32⟩
  | .hbm, ⟨2, _⟩ => ⟨S8192x2048, .bf16⟩
  | .hbm, ⟨3, _⟩ => ⟨S8192x3072, .bf16⟩
  | .hbm, ⟨4, _⟩ => ⟨S2048x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x2048 : Shape := ⟨2, ![8192, 2048]⟩
abbrev S8192x3072 : Shape := ⟨2, ![8192, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x3072, .f32⟩
  | .hbm, ⟨2, _⟩ => ⟨S_, .f32⟩
  | .hbm, ⟨3, _⟩ => ⟨S2048x3072, .f32⟩
  | .hbm, ⟨4, _⟩ => ⟨S8192x3072, .f32⟩
  | .hbm, ⟨5, _⟩ => ⟨S3072x2048, .f32⟩
  | .hbm, ⟨6, _⟩ => ⟨S2048x3072, .f32⟩
  | .hbm, ⟨7, _⟩ => ⟨S2048x3072, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S8192x3072 : Shape := ⟨2, ![8192, 3072]⟩
abbrev S2048x3072 : Shape := ⟨2, ![2048, 3072]⟩
abbrev S8192x2048 : Shape := ⟨2, ![8192, 2048]⟩
abbrev S1024x3072 : Shape := ⟨2, ![1024, 3072]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x3072, .f32⟩
  | .hbm, ⟨1, _⟩ => ⟨S2048x3072, .f32⟩
  | .hbm, ⟨2, _⟩ => ⟨S8192x3072, .bf16⟩
  | .hbm, ⟨3, _⟩ => ⟨S2048x3072, .bf16⟩
  | .hbm, ⟨4, _⟩ => ⟨S8192x2048, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .f32⟩
  | .local _ .vmem, ⟨5, _⟩ => ⟨S1024x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x3072 : Shape := ⟨2, ![8192, 3072]⟩
abbrev S2048x3072 : Shape := ⟨2, ![2048, 3072]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S2048x3072, .f32⟩
  | .hbm, ⟨2, _⟩ => ⟨S_, .f32⟩
  | .hbm, ⟨3, _⟩ => ⟨S8192x2048, .f32⟩
  | .hbm, ⟨4, _⟩ => ⟨S8192x3072, .f32⟩
  | .hbm, ⟨5, _⟩ => ⟨S8192x2048, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel24.lean ====
abbrev S8192x2048 : Shape := ⟨2, ![8192, 2048]⟩
abbrev S2048x6160 : Shape := ⟨2, ![2048, 6160]⟩
abbrev S2048x16 : Shape := ⟨2, ![2048, 16]⟩
abbrev S_ : Shape := ⟨0, ![]⟩
abbrev S2048x128 : Shape := ⟨2, ![2048, 128]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 9
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x6160, .f32⟩
  | .hbm, ⟨2, _⟩ => ⟨S2048x6160, .bf16⟩
  | .hbm, ⟨3, _⟩ => ⟨S2048x16, .bf16⟩
  | .hbm, ⟨4, _⟩ => ⟨S_, .i32⟩
  | .hbm, ⟨5, _⟩ => ⟨S_, .bf16⟩
  | .hbm, ⟨6, _⟩ => ⟨S2048x128, .bf16⟩
  | .hbm, ⟨7, _⟩ => ⟨S8192x2048, .bf16⟩
  | .hbm, ⟨8, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8192x2048 : Shape := ⟨2, ![8192, 2048]⟩
abbrev S2048x6160 : Shape := ⟨2, ![2048, 6160]⟩
abbrev S8192x6160 : Shape := ⟨2, ![8192, 6160]⟩
abbrev S8192x16 : Shape := ⟨2, ![8192, 16]⟩
abbrev S_ : Shape := ⟨0, ![]⟩
abbrev S8192x128 : Shape := ⟨2, ![8192, 128]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6160, .f32⟩
  | .hbm, ⟨2, _⟩ => ⟨S8192x6160, .f32⟩
  | .hbm, ⟨3, _⟩ => ⟨S8192x16, .f32⟩
  | .hbm, ⟨4, _⟩ => ⟨S_, .i32⟩
  | .hbm, ⟨5, _⟩ => ⟨S_, .f32⟩
  | .hbm, ⟨6, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel25.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference25Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel26.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference26Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel27.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference27Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S1x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel28.lean ====
abbrev S8192x4096 : Shape := ⟨2, ![8192, 4096]⟩
abbrev S1x2048 : Shape := ⟨2, ![1, 2048]⟩
abbrev S16x128x128 : Shape := ⟨3, ![16, 128, 128]⟩
abbrev S16x128 : Shape := ⟨2, ![16, 128]⟩
abbrev S_ : Shape := ⟨0, ![]⟩
abbrev S128x128 : Shape := ⟨2, ![128, 128]⟩
abbrev S1x128x128 : Shape := ⟨3, ![1, 128, 128]⟩
abbrev S16x128x1 : Shape := ⟨3, ![16, 128, 1]⟩
abbrev S8192x2048 : Shape := ⟨2, ![8192, 2048]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩

abbrev nBuf : Space → Nat
  | .hbm => 26
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S1x2048, .f32⟩
  | .hbm, ⟨2, _⟩ => ⟨S1x2048, .f32⟩
  | .hbm, ⟨3, _⟩ => ⟨S16x128x128, .f32⟩
  | .hbm, ⟨4, _⟩ => ⟨S16x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S1x128x128, .i1⟩
  | .hbm, ⟨17, _⟩ => ⟨S_, .f32⟩
  | .hbm, ⟨18, _⟩ => ⟨S_, .f32⟩
  | .hbm, ⟨19, _⟩ => ⟨S16x128x128, .i1⟩
  | .hbm, ⟨20, _⟩ => ⟨S16x128x128, .f32⟩
  | .hbm, ⟨21, _⟩ => ⟨S16x128x128, .f32⟩
  | .hbm, ⟨22, _⟩ => ⟨S16x128x128, .bf16⟩
  | .hbm, ⟨23, _⟩ => ⟨S16x128x1, .f32⟩
  | .hbm, ⟨24, _⟩ => ⟨S16x128x128, .f32⟩
  | .hbm, ⟨25, _⟩ => ⟨S8192x2048, .bf16⟩
  | .local _ .vmem, ⟨0, _⟩ => ⟨S256x4096, .f32⟩
  | .local _ .vmem, ⟨1, _⟩ => ⟨S256x4096, .f32⟩
  | .local _ .vmem, ⟨2, _⟩ => ⟨S1x2048, .f32⟩
  | .local _ .vmem, ⟨3, _⟩ => ⟨S1x2048, .f32⟩
  | .local _ .vmem, ⟨4, _⟩ => ⟨S16x128x128, .bf16⟩
  | .local _ .vmem, ⟨5, _⟩ => ⟨S16x128x128, .f32⟩
  | .local _ .vmem, ⟨6, _⟩ => ⟨S256x2048, .bf16⟩
  | .local _ .vmem, ⟨7, _⟩ => ⟨S256x2048, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel28Ideal.lean ====
variable {F : FTy → Type} [FloatOps F] [Named F]
def κ : String → Option EReal := fun
  | "gelu_c" => some ((8943 / 200000 : ℝ) : EReal)
  | _ => none
-- ==== Reference28Ideal.lean ====
abbrev S8192x4096 : Shape := ⟨2, ![8192, 4096]⟩
abbrev S1x2048 : Shape := ⟨2, ![1, 2048]⟩
abbrev S16x128x128 : Shape := ⟨3, ![16, 128, 128]⟩
abbrev S16x128 : Shape := ⟨2, ![16, 128]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S64x128x16x128 : Shape := ⟨4, ![64, 128, 16, 128]⟩
abbrev S128x128 : Shape := ⟨2, ![128, 128]⟩
abbrev S1x128x128 : Shape := ⟨3, ![1, 128, 128]⟩
abbrev S16x64x128x128 : Shape := ⟨4, ![16, 64, 128, 128]⟩
abbrev S128x16 : Shape := ⟨2, ![128, 16]⟩
abbrev S1x128x16x1 : Shape := ⟨4, ![1, 128, 16, 1]⟩

abbrev nBuf : Space → Nat
  | .hbm => 80
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x2048, .f32⟩
  | .hbm, ⟨2, _⟩ => ⟨S1x2048, .f32⟩
  | .hbm, ⟨3, _⟩ => ⟨S16x128x128, .f32⟩
  | .hbm, ⟨4, _⟩ => ⟨S16x128, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S64x128x16x128, .f32⟩
  | .hbm, ⟨55, _⟩ => ⟨S_, .i1⟩
  | .hbm, ⟨56, _⟩ => ⟨S128x128, .i1⟩
  | .hbm, ⟨57, _⟩ => ⟨S128x128, .i32⟩
  | .hbm, ⟨58, _⟩ => ⟨S_, .i32⟩
  | .hbm, ⟨59, _⟩ => ⟨S128x128, .i32⟩
  | .hbm, ⟨60, _⟩ => ⟨S128x128, .i32⟩
  | .hbm, ⟨61, _⟩ => ⟨S128x128, .i32⟩
  | .hbm, ⟨62, _⟩ => ⟨S128x128, .i1⟩
  | .hbm, ⟨63, _⟩ => ⟨S_, .i1⟩
  | .hbm, ⟨64, _⟩ => ⟨S128x128, .i1⟩
  | .hbm, ⟨65, _⟩ => ⟨S128x128, .i1⟩
  | .hbm, ⟨66, _⟩ => ⟨S1x128x128, .i1⟩
  | .hbm, ⟨67, _⟩ => ⟨S_, .f32⟩
  | .hbm, ⟨68, _⟩ => ⟨S16x128x128, .f32⟩
  | .hbm, ⟨69, _⟩ => ⟨S16x128x128, .i1⟩
  | .hbm, ⟨70, _⟩ => ⟨S16x128x128, .f32⟩
  | .hbm, ⟨71, _⟩ => ⟨S16x64x128x128, .f32⟩
  | .hbm, ⟨72, _⟩ => ⟨S64x128x16x128, .f32⟩
  | .hbm, ⟨73, _⟩ => ⟨S128x16, .f32⟩
  | .hbm, ⟨74, _⟩ => ⟨S1x128x16x1, .f32⟩
  | .hbm, ⟨75, _⟩ => ⟨S64x128x16x128, .f32⟩
  | .hbm, ⟨76, _⟩ => ⟨S64x128x16x128, .f32⟩
  | .hbm, ⟨77, _⟩ => ⟨S8192x2048, .f32⟩
  | .hbm, ⟨78, _⟩ => ⟨S8192x2048, .f32⟩
  | .hbm, ⟨79, _⟩ => ⟨S8192x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c : Ref sig .tc := ⟨.hbm, 55, rfl⟩
abbrev main_v40 : Ref sig .tc := ⟨.hbm, 56, rfl⟩
abbrev main_call0_v0 : Ref sig .tc := ⟨.hbm, 57, rfl⟩
abbrev main_call0_c : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_c_0 : Ref sig .tc := ⟨.hbm, 63, rfl⟩
abbrev main_call0_v5 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_call1_v0 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]
-- ==== Kernel29.lean ====
abbrev S8192x2048 : Shape := ⟨2, ![8192, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference29Ideal.lean ====
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1 : Shape := ⟨1, ![1]⟩
abbrev S1x1 : Shape := ⟨2, ![1, 1]⟩
abbrev S1x128 : Shape := ⟨2, ![1, 128]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S1, .f32⟩
  | .hbm, ⟨9, _⟩ => ⟨S1x1, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x2048, .f32⟩
  | .hbm, ⟨32, _⟩ => ⟨S8192x2048, .f32⟩
  | .hbm, ⟨33, _⟩ => ⟨S1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_cst_6 : Ref sig .tc := ⟨.hbm, 24, rfl⟩
abbrev main_cst_7 : Ref sig .tc := ⟨.hbm, 25, rfl⟩
abbrev main_v15 : Ref sig .tc := ⟨.hbm, 26, rfl⟩
abbrev main_v16 : Ref sig .tc := ⟨.hbm, 27, rfl⟩
abbrev main_cst_8 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Kernel30.lean ====
abbrev S8192x128 : Shape := ⟨2, ![8192, 128]⟩
abbrev S1x16 : Shape := ⟨2, ![1, 16]⟩
abbrev S_ : Shape := ⟨0, ![]⟩
abbrev S1x128 : Shape := ⟨2, ![1, 128]⟩
abbrev S16x8192x128 : Shape := ⟨3, ![16, 8192, 128]⟩
abbrev S512x128 : Shape := ⟨2, ![512, 128]⟩
abbrev S16x512x128 : Shape := ⟨3, ![16, 512, 128]⟩
abbrev S512x512 : Shape := ⟨2, ![512, 512]⟩
abbrev S512 : Shape := ⟨1, ![512]⟩
abbrev S512x1 : Shape := ⟨2, ![512, 1]⟩
abbrev S1x512x128 : Shape := ⟨3, ![1, 512, 128]⟩

abbrev nBuf : Space → Nat
  | .hbm => 7
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S1x16, .f32⟩
  | .hbm, ⟨2, _⟩ => ⟨S_, .i32⟩
  | .hbm, ⟨3, _⟩ => ⟨S_, .f32⟩
  | .hbm, ⟨4, _⟩ => ⟨S1x128, .f32⟩
  | .hbm, ⟨5, _⟩ => ⟨S8192x128, .f32⟩
  | .hbm, ⟨6, _⟩ => ⟨S16x8192x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S16x512x128, .f32⟩
  | .local _ .vmem, ⟨6, _⟩ => ⟨S16x512x128, .f32⟩
  | .local _ .vmem, ⟨7, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference30Ideal.lean ====
abbrev S8192x128 : Shape := ⟨2, ![8192, 128]⟩
abbrev S1x16 : Shape := ⟨2, ![1, 16]⟩
abbrev S_ : Shape := ⟨0, ![]⟩
abbrev S1x128 : Shape := ⟨2, ![1, 128]⟩
abbrev S8192x16 : Shape := ⟨2, ![8192, 16]⟩
abbrev S16x8192 : Shape := ⟨2, ![16, 8192]⟩
abbrev S16x8192x1 : Shape := ⟨3, ![16, 8192, 1]⟩
abbrev S16x8192x128 : Shape := ⟨3, ![16, 8192, 128]⟩

abbrev nBuf : Space → Nat
  | .hbm => 30
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1x16, .f32⟩
  | .hbm, ⟨2, _⟩ => ⟨S_, .i32⟩
  | .hbm, ⟨3, _⟩ => ⟨S_, .f32⟩
  | .hbm, ⟨4, _⟩ => ⟨S1x128, .f32⟩
  | .hbm, ⟨5, _⟩ => ⟨S8192x128, .f32⟩
  | .hbm, ⟨6, _⟩ => ⟨S8192x128, .f32⟩
  | .hbm, ⟨7, _⟩ => ⟨S8192x128, .f32⟩
  | .hbm, ⟨8, _⟩ => ⟨S_, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S8192x128, .i1⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S_, .f32⟩
  | .hbm, ⟨24, _⟩ => ⟨S_, .f32⟩
  | .hbm, ⟨25, _⟩ => ⟨S8192x128, .f32⟩
  | .hbm, ⟨26, _⟩ => ⟨S8192x16, .f32⟩
  | .hbm, ⟨27, _⟩ => ⟨S16x8192, .f32⟩
  | .hbm, ⟨28, _⟩ => ⟨S16x8192x1, .f32⟩
  | .hbm, ⟨29, _⟩ => ⟨S16x8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call1_v0 : Ref sig .tc := ⟨.hbm, 7, rfl⟩
abbrev main_call1_call0_cst : Ref sig .tc := ⟨.hbm, 8, rfl⟩
abbrev main_call1_call0_v0 : Ref sig .tc := ⟨.hbm, 9, rfl⟩
abbrev main_call1_call0_v1 : Ref sig .tc := ⟨.hbm, 10, rfl⟩
abbrev main_call1_call0_v2 : Ref sig .tc := ⟨.hbm, 11, rfl⟩
abbrev main_call1_call0_v3 : Ref sig .tc := ⟨.hbm, 12, rfl⟩
abbrev main_call1_call0_v4 : Ref sig .tc := ⟨.hbm, 13, rfl⟩
abbrev main_call1_call0_v5 : Ref sig .tc := ⟨.hbm, 14, rfl⟩
abbrev main_call1_call0_v6 : Ref sig .tc := ⟨.hbm, 15, rfl⟩
abbrev main_call1_call0_v7 : Ref sig .tc := ⟨.hbm, 16, rfl⟩
abbrev main_call1_call0_v8 : Ref sig .tc := ⟨.hbm, 17, rfl⟩
abbrev main_call1_call0_v9 : Ref sig .tc := ⟨.hbm, 18, rfl⟩
abbrev main_call1_call0_v10 : Ref sig .tc := ⟨.hbm, 19, rfl⟩
abbrev main_call1_call0_v11 : Ref sig .tc := ⟨.hbm, 20, rfl⟩
abbrev main_call1_v1 : Ref sig .tc := ⟨.hbm, 21, rfl⟩
abbrev main_v3 : Ref sig .tc := ⟨.hbm, 22, rfl⟩
abbrev main_call2_cst : Ref sig .tc := ⟨.hbm, 23, rfl⟩
abbrev main_call2_v0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩

abbrev nD : Nat := 1
abbrev τ : Topo := Topo.v7x

variable {F : FTy → Type} [FloatOps F]
-- ==== Proof.Products.lean ====
/- The mathematics the products of the step share: matrices over the extended reals, their three products
   (`a · b`, `a · bᵀ`, `aᵀ · b`), and an index of a matrix named by its row and its column. -/
module

public import Idealize.ShloMosaic.Lib.Pointwise

@[expose] public section

noncomputable section

namespace Cert.Products

open Idealize.ShloMosaic

/-- The shape of an `A` by `B` matrix. -/
abbrev M (A B : Nat) : Shape := ⟨2, ![A, B]⟩

/-- An `A` by `B` matrix of extended reals. -/
abbrev Mat (A B : Nat) : Type := (M A B).Idx → EReal

variable {A B K : Nat}

/-- `a · b`. -/
def nn (a : Mat A K) (b : Mat K B) : Mat A B := fun i => ∑ k : Fin K, a (ix2 (i 0) k) * b (ix2 k (i 1))

/-- `a · bᵀ`. -/
def nt (a : Mat A K) (b : Mat B K) : Mat A B := fun i => ∑ k : Fin K, a (ix2 (i 0) k) * b (ix2 (i 1) k)

/-- `aᵀ · b`. -/
def tn (a : Mat K A) (b : Mat K B) : Mat A B := fun i => ∑ k : Fin K, a (ix2 k (i 0)) * b (ix2 k (i 1))

/-- An index is its row and its column. -/
theorem at_eq (i : (M A B).Idx) (r : Fin A) (l : Fin B) (h0 : (i 0).val = r.val) (h1 : (i 1).val = l.val) : i = ix2 r l := by
  funext a
  apply Fin.ext
  match a with
  | ⟨0, _⟩ => exact h0
  | ⟨1, _⟩ => exact h1

/-- The logistic function, as the operations of the programs compute it. -/
def sigm (x : EReal) : EReal := Ideal.div 1 (1 + Ideal.exp (-x))

/-- Column `k` of the first half of a weight's 11264 columns, and of the second half. -/
abbrev lo (k : Fin 5632) : Fin 11264 := ⟨k.val, by omega⟩
abbrev hi (k : Fin 5632) : Fin 11264 := ⟨5632 + k.val, by omega⟩

/-- A sum over `n · b` is the sum over its `n` runs of `b`. -/
theorem sum_runs (n b : Nat) (f : Fin (n * b) → EReal) :
    ∑ k : Fin (n * b), f k = ∑ s : Fin n, ∑ k : Fin b, f ⟨b * s.val + k.val, by
      calc b * s.val + k.val < b * s.val + b := by omega
        _ = (s.val + 1) * b := by ring
        _ ≤ n * b := Nat.mul_le_mul_right b s.isLt⟩ := by
  rw [← finProdFinEquiv.sum_comp, Fintype.sum_prod_type]
  exact Finset.sum_congr rfl fun s _ => Finset.sum_congr rfl fun k _ => congrArg f (Fin.ext (Nat.add_comm _ _))

end Cert.Products

end
-- ==== Proof.Reals.lean ====
/- Extended reals that are real: what the preconditions say of the arguments, and what sums, products, the logistic
   function make of them. -/
module

public import proofs.«01_k».proof.Proof.Products
public import Idealize.ShloMosaic.Lib.ReduceAll

@[expose] public section

noncomputable section

namespace Cert.Reals

open Idealize.ShloMosaic Cert.Products

/-- `x` is a real number. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self ..)).add (ih fun i hi => h i (Finset.mem_insert_of_mem hi))

theorem IsReal.nt {A B K : Nat} {a : Mat A K} {b : Mat B K} (ha : ∀ i, IsReal (a i)) (hb : ∀ i, IsReal (b i)) (i : (M A B).Idx) :
    IsReal (nt a b i) := IsReal.sum _ fun _ _ => (ha _).mul (hb _)

theorem sigm_coe (r : ℝ) : sigm (r : EReal) = ((1 / (1 + Real.exp (-r)) : ℝ) : EReal) := by
  unfold sigm
  rw [← EReal.coe_neg, Ideal.exp_coe, ← EReal.coe_one, ← EReal.coe_add, Ideal.div_coe (by positivity), ← EReal.coe_mul, one_mul]

theorem IsReal.sigm {x : EReal} (hx : IsReal x) : IsReal (sigm x) := by
  obtain ⟨a, rfl⟩ := hx; exact ⟨_, sigm_coe a⟩

/-- `|x| < ∞` says that `x` is real. -/
theorem isReal_of_abs {x c : EReal} (hc : c = ⊤) (h : Ideal.cmp .olt (max x (-x)) c = 1#1) : IsReal x := by
  subst hc
  induction x with
  | bot => simp [Ideal.cmp] at h
  | top => simp [Ideal.cmp] at h
  | coe r => exact ⟨r, rfl⟩

theorem inf_eq : Ideal.ofBits .f32 0x7F800000#32 = ⊤ := by simp [Ideal.ofBits, Ideal.ieee]

/-- The preconditions' test, that every element of an array is below infinity in magnitude, says that they are all real. -/
theorem isReal_of_all {s t u w : Shape} [Subsingleton t.Idx] {axes : List (Fin s.rank)} (x : FVec Ideal s .f32) (dims : Fin w.rank → Fin s.rank)
    (hb : w.BroadcastsInDim s dims) (init : IVec u 1) (h : s.ReducesTo axes t) (hu : 0 < u.numel) (j : t.Idx)
    (e : Host.reduce IntOp.andi (cmpf .olt (Host.absf x) (broadcastInDim s dims hb (constant w .f32 0x7F800000#32))) init h hu j = 1#1) (i : s.Idx) :
    IsReal (x i) :=
  isReal_of_abs inf_eq (Host.reduce_andi_all _ init h hu j e i)

/-- The f32 patterns the gated unit's programs hold, as the numbers they are. -/
theorem one_eq : Ideal.ofBits .f32 0x3F800000#32 = ((1 : ℝ) : EReal) := by
  simp [Ideal.ofBits, Ideal.ieee]; rw [← EReal.coe_mul]; norm_num

theorem half_eq : Ideal.ofBits .f32 0x3F000000#32 = ((1 / 2 : ℝ) : EReal) := by
  simp [Ideal.ofBits, Ideal.ieee]; rw [← EReal.coe_mul]; norm_num

theorem two_eq : Ideal.ofBits .f32 0x40000000#32 = ((2 : ℝ) : EReal) := by
  simp [Ideal.ofBits, Ideal.ieee]; rw [← EReal.coe_mul]; norm_num

theorem three_eq : Ideal.ofBits .f32 0x40400000#32 = ((3 : ℝ) : EReal) := by
  simp [Ideal.ofBits, Ideal.ieee]; rw [← EReal.coe_mul]; norm_num

theorem neg_half_eq : Ideal.ofBits .f32 0xBF000000#32 = ((-(1 / 2) : ℝ) : EReal) := by
  simp [Ideal.ofBits, Ideal.ieee]; rw [← EReal.coe_mul]; norm_num

theorem width_eq : Ideal.ofBits .f32 0x45000000#32 = ((2048 : ℝ) : EReal) := by
  simp [Ideal.ofBits, Ideal.ieee]; rw [← EReal.coe_mul]; norm_num

theorem num_eq : Ideal.ofBits .f32 0x472EAB00#32 = ((44715 : ℝ) : EReal) := by
  simp [Ideal.ofBits, Ideal.ieee]; rw [← EReal.coe_mul]; norm_num

theorem den_eq : Ideal.ofBits .f32 0x49742400#32 = ((1000000 : ℝ) : EReal) := by
  simp [Ideal.ofBits, Ideal.ieee]; rw [← EReal.coe_mul]; norm_num

theorem slope_real : IsReal (Ideal.ofBits .f32 0x3F4C422A#32) := by
  simp [Ideal.ofBits, Ideal.ieee]; rw [← EReal.coe_mul]; exact ⟨_, rfl⟩

theorem eps_real : ∃ r : ℝ, 0 < r ∧ Ideal.ofBits .f32 0x358637BD#32 = (r : EReal) := by
  simp [Ideal.ofBits, Ideal.ieee]; rw [← EReal.coe_mul]; exact ⟨_, by positivity, rfl⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of reals is the inclusion of a family of real numbers. -/
theorem reals_of {ι : Type} {f : ι → EReal} (h : ∀ i, IsReal (f i)) : ∃ r : ι → ℝ, f = fun i => (r i : EReal) :=
  ⟨fun i => (h i).choose, funext fun i => (h i).choose_spec⟩

end Cert.Reals

end
-- ==== Proof.Dact.lean ====
/- The gradients of the feed-forward block's two products, through `silu g ⬝ u` and the down projection: with
   `da = dy · wdᵀ`, the gradient of `u` is `da ⬝ (g ⬝ σ g)` and that of `g` is `da ⬝ u ⬝ σ' g`: what the kernel leaves in its two
   result arrays, and what the reference does. The two write the derivative of `silu` differently; they agree where every
   argument is real. -/
module

public import proofs.«01_k».proof.Defs
public import proofs.«01_k».proof.Proof.Reals
public import proofs.«01_k».proof.Proof.Gen.Kernel2Ideal.Value
public import proofs.«01_k».proof.Proof.Gen.Reference2Ideal.Read
public import proofs.«01_k».proof.Proof.Gen.Pre_finite2

@[expose] public section

set_option maxRecDepth 16384

noncomputable section

namespace Cert.Products

open Idealize.ShloMosaic Cert.Reals

variable {A B K : Nat}

/-- The gradient of `g`, its factor `σ g ⬝ (1 + g ⬝ (1 - σ g))` gathered as the kernel does. -/
def gateGrad (dy : Mat A K) (wd : Mat B K) (g u : Mat A B) : Mat A B := fun i =>
  nt dy wd i * u i * (sigm (g i) * (1 + g i * (1 - sigm (g i))))

/-- The gradient of `u`. -/
def upGrad (dy : Mat A K) (wd : Mat B K) (g : Mat A B) : Mat A B := fun i => nt dy wd i * (g i * sigm (g i))

/-- Both are computed element by element from the product and the saved values. -/
theorem gateGrad_at {A' B' : Nat} {dy : Mat A K} {wd : Mat B K} {g u : Mat A B} {dy' : Mat A' K} {wd' : Mat B' K} {g' u' : Mat A' B'} {i : (M A B).Idx}
    {j : (M A' B').Idx} (h : nt dy wd i = nt dy' wd' j) (hg : g i = g' j) (hu : u i = u' j) : gateGrad dy wd g u i = gateGrad dy' wd' g' u' j := by
  unfold gateGrad; rw [h, hg, hu]

theorem upGrad_at {A' B' : Nat} {dy : Mat A K} {wd : Mat B K} {g : Mat A B} {dy' : Mat A' K} {wd' : Mat B' K} {g' : Mat A' B'} {i : (M A B).Idx}
    {j : (M A' B').Idx} (h : nt dy wd i = nt dy' wd' j) (hg : g i = g' j) : upGrad dy wd g i = upGrad dy' wd' g' j := by
  unfold upGrad; rw [h, hg]

/-- The two forms of the gradient of `g` agree at reals. -/
theorem gate_forms {p g s : EReal} (hp : IsReal p) (hg : IsReal g) (hs : IsReal s) :
    p * s + g * p * (s * (1 - s)) = p * (s * (1 + g * (1 - s))) := by
  obtain ⟨p, rfl⟩ := hp; obtain ⟨g, rfl⟩ := hg; obtain ⟨s, rfl⟩ := hs
  rw [← EReal.coe_one]
  norm_cast
  ring

end Cert.Products

namespace Cert.Kernel2Ideal.Dact

open Cert.Kernel2Ideal Cert.Kernel2Ideal.Gen Idealize.ShloMosaic Idealize.ShloMosaic.TcCoe Idealize.SL.Sem Idealize.ShloMosaic.StableHlo
open Idealize.ShloMosaic.Pipeline (Dat)
open Cert.Products Cert.Reals

variable (m : (ℓ : Loc nD τ sig) → Buf (Elt Ideal) ℓ)

theorem hz : (![0, 0] : Fin 2 → Nat) = fun _ => 0 := funext fun a => by fin_cases a <;> rfl

/-- A half of the tile of the two gradients: the payloads of the first half's stores, and of the second's. -/
theorem gate_first (x0 : Vec Ideal S1024x2048 .bf16) (x1 : Vec Ideal S256x2048 .bf16) (x2 x3 : Vec Ideal S1024x256 .f32) (r : Fin 1024) (l : Fin 256) :
    k0_pay7 x0 x1 x2 x3 (ix2 r l) = gateGrad (K := 2048) x0 x1 x2 x3 (ix2 r l) := by
  unfold gateGrad sigm nt
  pointwise [k0_pay7, k0_pay6, k0_pay5, k0_pay4]
  simp only [zero_sub]

theorem gate_second (x0 : Vec Ideal S1024x2048 .bf16) (x1 : Vec Ideal S256x2048 .bf16) (x2 x3 : Vec Ideal S1024x256 .f32) (r : Fin 1024) (l : Fin 256) :
    k0_pay2 (k0_pay9 x0 x1) x2 (Scalar.ofBits .f32 0x00000000#32) x3 (ix2 r l) = gateGrad (K := 2048) x0 x1 x2 x3 (ix2 r l) := by
  unfold gateGrad sigm nt
  pointwise [k0_pay2, k0_pay1, k0_pay9, k0_pay4]
  simp only [zero_sub]

theorem up_first (x0 : Vec Ideal S1024x2048 .bf16) (x1 : Vec Ideal S256x2048 .bf16) (x2 : Vec Ideal S1024x256 .f32) (r : Fin 1024) (l : Fin 256) :
    k0_pay8 x0 x1 x2 (ix2 r l) = upGrad (K := 2048) x0 x1 x2 (ix2 r l) := by
  unfold upGrad sigm nt
  pointwise [k0_pay8, k0_pay6, k0_pay5, k0_pay4]
  simp only [zero_sub]

theorem up_second (x0 : Vec Ideal S1024x2048 .bf16) (x1 : Vec Ideal S256x2048 .bf16) (x2 : Vec Ideal S1024x256 .f32) (r : Fin 1024) (l : Fin 256) :
    k0_pay3 (k0_pay9 x0 x1) x2 (Scalar.ofBits .f32 0x00000000#32) (ix2 r l) = upGrad (K := 2048) x0 x1 x2 (ix2 r l) := by
  unfold upGrad sigm nt
  pointwise [k0_pay3, k0_pay1, k0_pay9, k0_pay4]
  simp only [zero_sub]

variable (x0 : Vec Ideal S1024x2048 .bf16) (x1 : Vec Ideal S512x2048 .bf16) (x2 x3 : Vec Ideal S1024x512 .f32)

/-- Column `l` of the tile's second half. -/
abbrev late (l : Fin 256) : Fin 512 := ⟨256 + l.val, by omega⟩
abbrev early (l : Fin 256) : Fin 512 := ⟨l.val, by omega⟩

/-- The two halves of what the tile's loads read. -/
theorem ld_early {Val : EltTy → Type} {e : EltTy} (x : S1024x512.Idx → Val e) (r : Fin 1024) (l : Fin 256) : View.ld x r0_2 (ix2 r l) = x (ix2 r (early l)) :=
  congrArg x (at_eq _ _ _ (by show 0 + 1 * r.val = r.val; omega) (by show 0 + 1 * l.val = l.val; omega))

theorem ld_late {Val : EltTy → Type} {e : EltTy} (x : S1024x512.Idx → Val e) (r : Fin 1024) (l : Fin 256) : View.ld x r0_4 (ix2 r l) = x (ix2 r (late l)) :=
  congrArg x (at_eq _ _ _ (by show 0 + 1 * r.val = r.val; omega) (by show 256 + 1 * l.val = 256 + l.val; omega))

theorem ldw_early {Val : EltTy → Type} {e : EltTy} (x : S512x2048.Idx → Val e) (l : Fin 256) (k : Fin 2048) : View.ld x r0_1 (ix2 l k) = x (ix2 (early l) k) :=
  congrArg x (at_eq _ _ _ (by show 0 + 1 * l.val = l.val; omega) (by show 0 + 1 * k.val = k.val; omega))

theorem ldw_late {Val : EltTy → Type} {e : EltTy} (x : S512x2048.Idx → Val e) (l : Fin 256) (k : Fin 2048) : View.ld x r0_3 (ix2 l k) = x (ix2 (late l) k) :=
  congrArg x (at_eq _ _ _ (by show 256 + 1 * l.val = 256 + l.val; omega) (by show 0 + 1 * k.val = k.val; omega))

theorem da_early (r : Fin 1024) (l : Fin 256) :
    nt (A := 1024) (B := 256) (K := 2048) x0 (View.ld (Val := Elt Ideal) (e' := .bf16) x1 r0_1) (ix2 r l) = nt (A := 1024) (B := 512) (K := 2048) x0 x1 (ix2 r (early l)) :=
  Finset.sum_congr rfl fun k _ => congrArg (x0 (ix2 r k) * ·) (ldw_early (Val := Elt Ideal) (e := .bf16) x1 l k)

theorem da_late (r : Fin 1024) (l : Fin 256) :
    nt (A := 1024) (B := 256) (K := 2048) x0 (View.ld (Val := Elt Ideal) (e' := .bf16) x1 r0_3) (ix2 r l) = nt (A := 1024) (B := 512) (K := 2048) x0 x1 (ix2 r (late l)) :=
  Finset.sum_congr rfl fun k _ => congrArg (x0 (ix2 r k) * ·) (ldw_late (Val := Elt Ideal) (e := .bf16) x1 l k)

theorem emb_early (r : Fin 1024) (l : Fin 256) : r0_2.emb (ix2 r l) = (ix2 r (early l) : S1024x512.Idx) :=
  at_eq _ _ _ (by show 0 + 1 * r.val = r.val; omega) (by show 0 + 1 * l.val = l.val; omega)

theorem emb_late (r : Fin 1024) (l : Fin 256) : r0_4.emb (ix2 r l) = (ix2 r (late l) : S1024x512.Idx) :=
  at_eq _ _ _ (by show 0 + 1 * r.val = r.val; omega) (by show 256 + 1 * l.val = 256 + l.val; omega)

/-- One tile of the gradient of `g`. -/
theorem gate_tile : out0_4 x0 x1 x2 x3 = gateGrad (K := 2048) x0 x1 x2 x3 := by
  funext i
  unfold out0_4 k0_pay10
  refine View.canon_apply_of_pieces (Val := Elt Ideal) (S := S1024x512) (e := .bf16) (gateGrad (K := 2048) x0 x1 x2 x3) _ ?_ i (cover0_4 _ _ i)
  simp only [List.mem_cons, List.not_mem_nil, or_false, forall_eq_or_imp, forall_eq, View.ld_unit_zero (S := S1024x2048) hz]
  constructor
  · intro (x : S1024x256.Idx)
    obtain ⟨r, l, rfl⟩ : ∃ (r : Fin 1024) (l : Fin 256), x = ix2 r l := ⟨x 0, x 1, eq_ix2 x⟩
    refine (gate_second _ _ _ _ r l).trans ?_
    rw [emb_late]
    exact gateGrad_at (da_late x0 x1 r l) (ld_late (Val := Elt Ideal) (e := .f32) x2 r l) (ld_late (Val := Elt Ideal) (e := .f32) x3 r l)
  · intro (x : S1024x256.Idx)
    obtain ⟨r, l, rfl⟩ : ∃ (r : Fin 1024) (l : Fin 256), x = ix2 r l := ⟨x 0, x 1, eq_ix2 x⟩
    refine (gate_first _ _ _ _ r l).trans ?_
    rw [emb_early]
    exact gateGrad_at (da_early x0 x1 r l) (ld_early (Val := Elt Ideal) (e := .f32) x2 r l) (ld_early (Val := Elt Ideal) (e := .f32) x3 r l)

/-- One tile of the gradient of `u`. -/
theorem up_tile : out0_5 x0 x1 x2 x3 = upGrad (K := 2048) x0 x1 x2 := by
  funext i
  unfold out0_5 k0_pay10
  refine View.canon_apply_of_pieces (Val := Elt Ideal) (S := S1024x512) (e := .bf16) (upGrad (K := 2048) x0 x1 x2) _ ?_ i (cover0_5 _ _ i)
  simp only [List.mem_cons, List.not_mem_nil, or_false, forall_eq_or_imp, forall_eq, View.ld_unit_zero (S := S1024x2048) hz]
  constructor
  · intro (x : S1024x256.Idx)
    obtain ⟨r, l, rfl⟩ : ∃ (r : Fin 1024) (l : Fin 256), x = ix2 r l := ⟨x 0, x 1, eq_ix2 x⟩
    refine (up_second _ _ _ r l).trans ?_
    rw [emb_late]
    exact upGrad_at (da_late x0 x1 r l) (ld_late (Val := Elt Ideal) (e := .f32) x2 r l)
  · intro (x : S1024x256.Idx)
    obtain ⟨r, l, rfl⟩ : ∃ (r : Fin 1024) (l : Fin 256), x = ix2 r l := ⟨x 0, x 1, eq_ix2 x⟩
    refine (up_first _ _ _ r l).trans ?_
    rw [emb_early]
    exact upGrad_at (da_early x0 x1 r l) (ld_early (Val := Elt Ideal) (e := .f32) x2 r l)

/-- The output's gradient, the weight, and the two saved products as the program is given them. -/
abbrev dy (c : Dev nD) : Mat 8192 2048 := m ((c : Thread nD τ).loc main_arg0)
abbrev wd (c : Dev nD) : Mat 5632 2048 := m ((c : Thread nD τ).loc main_arg1)
abbrev g (c : Dev nD) : Mat 8192 5632 := m ((c : Thread nD τ).loc main_arg2)
abbrev u (c : Dev nD) : Mat 8192 5632 := m ((c : Thread nD τ).loc main_arg3)

theorem V_v0 (c : Dev nD) : V m c main_v0 = dy m c := by
  unfold_abbrev_sides
  after_results
  rfl

theorem V_v1 (c : Dev nD) : V m c main_v1 = wd m c := by
  unfold_abbrev_sides
  after_results
  rfl

/-- Which block each window takes at a point: rows of `dy`, rows of the weight, and the tile of the four others. -/
theorem idx0 : ∀ t : Fin cfg0.N, win0_0.index t 0 = t.val / 11 ∧ win0_0.index t 1 = 0 :=
  (by decide +kernel : ∀ t : Fin grid0.N, win0_0.index t 0 = t.val / 11 ∧ win0_0.index t 1 = 0)

theorem idx1 : ∀ t : Fin cfg0.N, win0_1.index t 0 = t.val % 11 ∧ win0_1.index t 1 = 0 :=
  (by decide +kernel : ∀ t : Fin grid0.N, win0_1.index t 0 = t.val % 11 ∧ win0_1.index t 1 = 0)

theorem idx4 : ∀ t : Fin cfg0.N, win0_4.index t 0 = t.val / 11 ∧ win0_4.index t 1 = t.val % 11 :=
  (by decide +kernel : ∀ t : Fin grid0.N, win0_4.index t 0 = t.val / 11 ∧ win0_4.index t 1 = t.val % 11)

theorem t_lt (t : Fin cfg0.N) : t.val < 88 := lt_of_lt_of_eq t.isLt (by decide)

abbrev row (t : Fin cfg0.N) (r : Fin 1024) : Fin 8192 := ⟨1024 * (t.val / 11) + r.val, by have := t_lt t; omega⟩
abbrev col (t : Fin cfg0.N) (l : Fin 512) : Fin 5632 := ⟨512 * (t.val % 11) + l.val, by omega⟩

/-- The four tiled windows take the same tile. -/
theorem emb_eq (t : Fin cfg0.N) (r : Fin 1024) (l : Fin 512) : ((cfg0.win 4).blk t).view.emb (ix2 r l) = (ix2 (row t r) (col t l) : S8192x5632.Idx) := by
  refine at_eq _ _ _ ?_ ?_
  · show win0_4.index t 0 * 1024 + 1 * r.val = 1024 * (t.val / 11) + r.val
    rw [(idx4 t).1]; omega
  · show win0_4.index t 1 * 512 + 1 * l.val = 512 * (t.val % 11) + l.val
    rw [(idx4 t).2]; omega

theorem dy_apply (c : Dev nD) (t : Fin cfg0.N) (r : Fin 1024) (k : Fin 2048) : iblk m c 0 t (ix2 r k) = dy m c (ix2 (row t r) k) := by
  unfold iblk
  rw [View.read_apply]
  refine (congrFun (V_v0 m c) _).trans (congrArg (dy m c) (at_eq _ _ _ ?_ ?_))
  · show win0_0.index t 0 * 1024 + 1 * r.val = 1024 * (t.val / 11) + r.val
    rw [(idx0 t).1]; omega
  · show win0_0.index t 1 * 2048 + 1 * k.val = k.val
    rw [(idx0 t).2]; omega

theorem wd_apply (c : Dev nD) (t : Fin cfg0.N) (l : Fin 512) (k : Fin 2048) : iblk m c 1 t (ix2 l k) = wd m c (ix2 (col t l) k) := by
  unfold iblk
  rw [View.read_apply]
  refine (congrFun (V_v1 m c) _).trans (congrArg (wd m c) (at_eq _ _ _ ?_ ?_))
  · show win0_1.index t 0 * 512 + 1 * l.val = 512 * (t.val % 11) + l.val
    rw [(idx1 t).1]; omega
  · show win0_1.index t 1 * 2048 + 1 * k.val = k.val
    rw [(idx1 t).2]; omega

theorem g_apply (c : Dev nD) (t : Fin cfg0.N) (r : Fin 1024) (l : Fin 512) : iblk m c 2 t (ix2 r l) = g m c (ix2 (row t r) (col t l)) := by
  unfold iblk
  rw [View.read_apply]
  exact (congrFun (V_main_arg2 m c) _).trans (congrArg (g m c) (emb_eq t r l))

theorem u_apply (c : Dev nD) (t : Fin cfg0.N) (r : Fin 1024) (l : Fin 512) : iblk m c 3 t (ix2 r l) = u m c (ix2 (row t r) (col t l)) := by
  unfold iblk
  rw [View.read_apply]
  exact (congrFun (V_main_arg3 m c) _).trans (congrArg (u m c) (emb_eq t r l))

/-- The gradient of the activations at a point. -/
theorem da_eq (c : Dev nD) (t : Fin cfg0.N) (r : Fin 1024) (l : Fin 512) :
    nt (K := 2048) (iblk m c 0 t) (iblk m c 1 t) (ix2 r l) = nt (dy m c) (wd m c) (ix2 (row t r) (col t l)) := by
  unfold nt
  exact Finset.sum_congr rfl fun k _ => congrArg₂ (· * ·) (dy_apply m c t r k) (wd_apply m c t l k)

abbrev dg (c : Dev nD) : Buf (Elt Ideal) ((c : Thread nD τ).loc main_v2_0) := gateGrad (dy m c) (wd m c) (g m c) (u m c)
abbrev du (c : Dev nD) : Buf (Elt Ideal) ((c : Thread nD τ).loc main_v2_1) := upGrad (dy m c) (wd m c) (g m c)

/-- What a grid point writes back to the first result is its tile of it. -/
theorem flushed_gate (c : Dev nD) (t : Fin cfg0.N) : (dats m 0 c).flushed 4 t = ((cfg0.win 4).blk t).view.read (Elt Ideal) (dg m c) := by
  rw [Value.flushed4]
  funext j
  rw [View.read_apply]
  obtain ⟨r, l, rfl⟩ : ∃ (r : Fin 1024) (l : Fin 512), j = ix2 r l := ⟨j 0, j 1, eq_ix2 j⟩
  show out0_4 (iblk m c 0 t) (iblk m c 1 t) (iblk m c 2 t) (iblk m c 3 t) (ix2 r l) = dg m c (((cfg0.win 4).blk t).view.emb (ix2 r l))
  rw [show ((cfg0.win 4).blk t).view.emb (ix2 r l) = (ix2 (row t r) (col t l) : S8192x5632.Idx) from emb_eq t r l, gate_tile]
  unfold dg gateGrad
  rw [da_eq, g_apply, u_apply]

/-- What a grid point writes back to the second result is its tile of it. -/
theorem flushed_up (c : Dev nD) (t : Fin cfg0.N) : (dats m 0 c).flushed 5 t = ((cfg0.win 5).blk t).view.read (Elt Ideal) (du m c) := by
  rw [Value.flushed5]
  funext j
  rw [View.read_apply]
  obtain ⟨r, l, rfl⟩ : ∃ (r : Fin 1024) (l : Fin 512), j = ix2 r l := ⟨j 0, j 1, eq_ix2 j⟩
  show out0_5 (iblk m c 0 t) (iblk m c 1 t) (iblk m c 2 t) (iblk m c 3 t) (ix2 r l) = du m c (((cfg0.win 5).blk t).view.emb (ix2 r l))
  rw [show ((cfg0.win 5).blk t).view.emb (ix2 r l) = (ix2 (row t r) (col t l) : S8192x5632.Idx) from emb_eq t r l, up_tile]
  unfold du upGrad
  rw [da_eq, g_apply]

/-- The tiles cover the results. -/
theorem covered (i : S8192x5632.Idx) : ∃ t : Fin cfg0.N, i ∈ (win0_4.rect t).set := by
  have h0 : (i 0).val < 8192 := (i 0).isLt
  have h1 : (i 1).val < 5632 := (i 1).isLt
  let t : Fin cfg0.N := ⟨11 * ((i 0).val / 1024) + (i 1).val / 512, lt_of_lt_of_eq (b := 88) (by omega) (by decide)⟩
  have ht : t.val = 11 * ((i 0).val / 1024) + (i 1).val / 512 := rfl
  refine ⟨t, ?_⟩
  rw [Rect.mem_set_unit]
  intro a
  match a with
  | ⟨0, _⟩ =>
    show win0_4.index t 0 * 1024 ≤ (i 0).val ∧ (i 0).val < win0_4.index t 0 * 1024 + 1024
    rw [(idx4 t).1]; omega
  | ⟨1, _⟩ =>
    show win0_4.index t 1 * 512 ≤ (i 1).val ∧ (i 1).val < win0_4.index t 1 * 512 + 512
    rw [(idx4 t).2]; omega

/-- The kernel's results are the two gradients. -/
theorem final_gate (c : Dev nD) : (dats m 0 c).arrAt 4 cfg0.N = dg m c :=
  (dats m 0 c).arrAt_eq_of_cover 4 (dg m c) (fun t _ => flushed_gate m c t) fun i => by
    obtain ⟨t, ht⟩ := covered i
    refine ⟨t, flush0_4 t, ?_⟩
    show (show S8192x5632.Idx from i) ∈ ((View.whole main_v2_0).slice (win0_4.rect t)).set
    rw [View.set_slice_whole]
    exact ht

theorem final_up (c : Dev nD) : (dats m 0 c).arrAt 5 cfg0.N = du m c :=
  (dats m 0 c).arrAt_eq_of_cover 5 (du m c) (fun t _ => flushed_up m c t) fun i => by
    obtain ⟨t, ht⟩ := covered i
    refine ⟨t, flush0_5 t, ?_⟩
    show (show S8192x5632.Idx from i) ∈ ((View.whole main_v2_1).slice (win0_5.rect t)).set
    rw [View.set_slice_whole]
    exact ht

end Cert.Kernel2Ideal.Dact

namespace Cert.Pre_finite2

open Cert.Pre_finite2 Cert.Pre_finite2.Gen Idealize.ShloMosaic Cert.Products Cert.Reals

/-- The precondition says that every element of the four arguments is real. -/
theorem reals (x0 : Mat 8192 2048) (x1 : Mat 5632 2048) (x2 x3 : Mat 8192 5632) (h : fn (F := Ideal) x0 x1 x2 x3 = fun _ => 1#1) :
    (∀ i, IsReal (x0 i)) ∧ (∀ i, IsReal (x1 i)) ∧ (∀ i, IsReal (x2 i)) ∧ ∀ i, IsReal (x3 i) := by
  haveI : Subsingleton S_.Idx := ⟨fun a b => funext fun k => k.elim0⟩
  have e := congrFun h (fun a => a.elim0)
  unfold fn fn_part1 at e
  dsimp only at e
  obtain ⟨e, e3⟩ := IntOp.andi_eq_one.1 e
  obtain ⟨e, e2⟩ := IntOp.andi_eq_one.1 e
  obtain ⟨e0, e1⟩ := IntOp.andi_eq_one.1 e
  exact ⟨isReal_of_all x0 _ _ _ _ _ _ e0, isReal_of_all x1 _ _ _ _ _ _ e1, isReal_of_all x2 _ _ _ _ _ _ e2, isReal_of_all x3 _ _ _ _ _ _ e3⟩

end Cert.Pre_finite2

namespace Cert.Reference2Ideal.Read

open Cert.Reference2Ideal Cert.Reference2Ideal.Gen Idealize.ShloMosaic Cert.Products Cert.Reals

variable (x0 : Mat 8192 2048) (x1 : Mat 5632 2048) (x2 x3 : Mat 8192 5632)

theorem da_eq (i : S8192x5632.Idx) : val_main_v3 (F := Ideal) x0 x1 i = nt x0 x1 i := by
  rw [val_main_v3_apply]
  exact Finset.sum_congr rfl fun k _ => congrArg₂ (· * ·) (congrArg x0 (at_eq _ _ _ rfl rfl)) (congrArg x1 (at_eq _ _ _ rfl rfl))

/-- The reference's logistic function of `g`, and its derivative. -/
theorem sigm_eq (i : S8192x5632.Idx) : val_main_v0_2 (F := Ideal) x2 i = sigm (x2 i) := by
  obtain ⟨r, l, rfl⟩ : ∃ (r : Fin 8192) (l : Fin 5632), i = ix2 r l := ⟨i 0, i 1, eq_ix2 i⟩
  unfold sigm
  pointwise [val_main_v0_2, val_main_call0_v4, val_main_call0_cst_0, val_main_call0_v3, val_main_call0_v2, val_main_call0_cst, val_main_call0_v1, val_main_call0_v0]

theorem slope_eq (i : S8192x5632.Idx) : val_main_v0_1 (F := Ideal) x2 i = sigm (x2 i) * (1 - sigm (x2 i)) := by
  rw [← sigm_eq]
  obtain ⟨r, l, rfl⟩ : ∃ (r : Fin 8192) (l : Fin 5632), i = ix2 r l := ⟨i 0, i 1, eq_ix2 i⟩
  generalize hs : val_main_v0_2 (F := Ideal) x2 = s
  unfold val_main_v0_1 val_main_call0_v7
  rw [hs]
  pointwise [val_main_call0_v6, val_main_call0_cst_1]

/-- The reference's two results. -/
theorem upGrad_eq : val_main_v8 (F := Ideal) x0 x1 x2 = upGrad x0 x1 x2 := by
  funext i
  show x2 i * val_main_v0_2 (F := Ideal) x2 i * val_main_v3 (F := Ideal) x0 x1 i = _
  rw [sigm_eq, da_eq, mul_comm]
  rfl

theorem gateGrad_eq (h0 : ∀ i, IsReal (x0 i)) (h1 : ∀ i, IsReal (x1 i)) (h2 : ∀ i, IsReal (x2 i)) (h3 : ∀ i, IsReal (x3 i)) :
    val_main_v7 (F := Ideal) x0 x1 x2 x3 = gateGrad x0 x1 x2 x3 := by
  funext i
  show val_main_v3 (F := Ideal) x0 x1 i * x3 i * val_main_v0_2 (F := Ideal) x2 i
    + x2 i * (val_main_v3 (F := Ideal) x0 x1 i * x3 i) * val_main_v0_1 (F := Ideal) x2 i = _
  rw [sigm_eq, slope_eq, da_eq, gate_forms ((IsReal.nt h0 h1 i).mul (h3 i)) (h2 i) (h2 i).sigm]
  rfl

end Cert.Reference2Ideal.Read

end
-- ==== Proof.Dwd.lean ====
/- The gradient of the down projection's weight, `aᵀ · dy`, summed over the 8192 rows in four runs of 2048 into a scratch
   buffer: what the kernel leaves in its result array, and what the reference does. -/
module

public import proofs.«01_k».proof.Defs
public import proofs.«01_k».proof.Proof.Products
public import proofs.«01_k».proof.Proof.Gen.Kernel3Ideal.Value
public import proofs.«01_k».proof.Proof.Gen.Reference3Ideal.Read

@[expose] public section

set_option maxRecDepth 16384

noncomputable section

namespace Cert.Kernel3Ideal.Dwd

open Cert.Kernel3Ideal Cert.Kernel3Ideal.Gen Idealize.ShloMosaic Idealize.ShloMosaic.TcCoe Idealize.SL.Sem Idealize.ShloMosaic.StableHlo
open Idealize.ShloMosaic.Pipeline (Dat)
open Cert.Products

variable (m : (ℓ : Loc nD τ sig) → Buf (Elt Ideal) ℓ)

theorem hz : (![0, 0] : Fin 2 → Nat) = fun _ => 0 := funext fun a => by fin_cases a <;> rfl

/-- One point's product of its two blocks. -/
def tile (x0 : Vec Ideal S2048x512 .bf16) (x1 : Vec Ideal S2048x1024 .bf16) : Mat 512 1024 := tn (K := 2048) x0 x1

theorem pay_apply (x0 : Vec Ideal S2048x512 .bf16) (x1 : Vec Ideal S2048x1024 .bf16) : k0_pay1 x0 x1 = tile x0 x1 := by
  funext j
  obtain ⟨r, l, rfl⟩ : ∃ (r : Fin 512) (l : Fin 1024), j = ix2 r l := ⟨j 0, j 1, eq_ix2 j⟩
  unfold tile tn
  pointwise [k0_pay1]

section
variable (c : Dev nD) (i : grid0.Coords) (arg3 : Memref sig .tc .vmem S2048x512 .bf16) (harg3 : arg3.IsWhole) (arg4 : Memref sig .tc .vmem S2048x1024 .bf16) (harg4 : arg4.IsWhole)
  (arg5 : Memref sig .tc .vmem S512x1024 .bf16) (harg5 : arg5.IsWhole) (arg6 : Memref sig .tc .vmem S512x1024 .f32) (harg6 : arg6.IsWhole)

/-- The first point of a run stores its product. -/
theorem scratch_A (hc0 : cond0_0 i) (hc1 : ¬cond0_1 i) (hc2 : ¬cond0_2 i) (x0 : Vec Ideal S2048x512 .bf16) (x1 : Vec Ideal S2048x1024 .bf16) :
    sout0_A_0 c i arg3 harg3 arg4 harg4 arg5 harg5 arg6 harg6 hc0 hc1 hc2 x0 x1 = tile x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  unfold k0_pay2
  simp only [View.readAt_eq_ld, harg3.read_unread, harg4.read_unread, View.ld_unit_zero (S := S2048x512) hz, View.ld_unit_zero (S := S2048x1024) hz, shapeCast_self]
  exact pay_apply x0 x1

/-- A later point adds its product to what the scratch held. -/
theorem scratch_B (hc0 : ¬cond0_0 i) (hc1 : cond0_1 i) (hc2 : ¬cond0_2 i) (x0 : Vec Ideal S2048x512 .bf16) (x1 : Vec Ideal S2048x1024 .bf16) (acc : Vec Ideal S512x1024 .f32)
    (j : S512x1024.Idx) :
    sout0_B_0 c i arg3 harg3 arg4 harg4 arg5 harg5 arg6 harg6 hc0 hc1 hc2 x0 x1 acc j = acc j + tile x0 x1 j := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  rw [View.canon_unit_zero hz]
  unfold k0_pay3
  simp only [View.readAt_eq_ld, harg3.read_unread, harg4.read_unread, harg6.read_unread, View.ld_unit_zero (S := S2048x512) hz, View.ld_unit_zero (S := S2048x1024) hz,
    View.ld_unit_zero (S := S512x1024) hz, shapeCast_self, pay_apply]
  rfl

theorem scratch_C (hc0 : ¬cond0_0 i) (hc1 : cond0_1 i) (hc2 : cond0_2 i) (x0 : Vec Ideal S2048x512 .bf16) (x1 : Vec Ideal S2048x1024 .bf16) (acc : Vec Ideal S512x1024 .f32)
    (j : S512x1024.Idx) :
    sout0_C_0 c i arg3 harg3 arg4 harg4 arg5 harg5 arg6 harg6 hc0 hc1 hc2 x0 x1 acc j = acc j + tile x0 x1 j := by
  unfold sout0_C_0
  rw [View.read_writes_eq_canon _ _ _ (scover0_C_0 c i arg3 harg3 arg4 harg4 arg5 harg5 arg6 harg6 hc0 hc1 hc2 x0 x1 acc)]
  unfold kernelRun0_C
  dsimp only
  sl_unfold_words
  rw [View.canon_unit_zero hz]
  unfold k0_pay3
  simp only [View.readAt_eq_ld, harg3.read_unread, harg4.read_unread, harg6.read_unread, View.ld_unit_zero (S := S2048x512) hz, View.ld_unit_zero (S := S2048x1024) hz,
    View.ld_unit_zero (S := S512x1024) hz, shapeCast_self, pay_apply]
  rfl

/-- The last point of a run writes the scratch back. -/
theorem out_C (hc0 : ¬cond0_0 i) (hc1 : cond0_1 i) (hc2 : cond0_2 i) (x0 : Vec Ideal S2048x512 .bf16) (x1 : Vec Ideal S2048x1024 .bf16) (acc : Vec Ideal S512x1024 .f32)
    (j : S512x1024.Idx) :
    out0_C_2 c i arg3 harg3 arg4 harg4 arg5 harg5 arg6 harg6 hc0 hc1 hc2 x0 x1 acc j = acc j + tile x0 x1 j := by
  unfold out0_C_2
  rw [View.read_writes_eq_canon _ _ _ (cover0_C_2 c i arg3 harg3 arg4 harg4 arg5 harg5 arg6 harg6 hc0 hc1 hc2 x0 x1 acc)]
  unfold kernelRun0_C
  dsimp only
  sl_unfold_words
  rw [View.canon_unit_zero hz]
  unfold k0_pay4 k0_pay3
  simp only [View.readCov_unit_zero (S := S512x1024) _ hz, View.readAt_eq_ld, harg3.read_unread, harg4.read_unread, harg6.read_unread, View.ld_unit_zero (S := S2048x512) hz, View.ld_unit_zero (S := S2048x1024) hz,
    View.ld_unit_zero (S := S512x1024) hz, shapeCast_self, pay_apply]
  rfl

end

/-- The product point `n` adds. -/
def step (c : Dev nD) (n : ℕ) : Mat 512 1024 := if h : n < cfg0.N then tile (iblk m c 0 ⟨n, h⟩) (iblk m c 1 ⟨n, h⟩) else fun _ => 0

theorem step_eq (c : Dev nD) (t : Fin cfg0.N) : step m c t.val = tile (iblk m c 0 t) (iblk m c 1 t) := dif_pos t.isLt

/-- After the point `t` the scratch holds the products of `t`'s run so far. -/
theorem scratch_eq (c : Dev nD) (t : Fin cfg0.N) (j : S512x1024.Idx) :
    (outsAt0 m c t.val t.isLt).2 j = ∑ s ∈ Finset.range (t.val % 4 + 1), step m c (4 * (t.val / 4) + s) j := by
  rw [Value.soutsAt0_0_eq, Pipeline.accAt_add_apply _ _ (fun _ => (0 : EReal)) (step m c) (4 * (t.val / 4)) 3 ?_ ?_ (t.val % 4) (by omega), zero_add]
  · intro h i
    have h0 : (4 * (t.val / 4)) % 4 = 0 := by omega
    unfold Value.scAt0_0
    rw [dif_pos h0, dif_neg (by omega), dif_neg (by omega), scratch_A, zero_add]
    exact congrFun (step_eq m c ⟨_, h⟩).symm i
  · intro n h acc i hlo hhi
    have h0 : ¬n % 4 = 0 := by omega
    unfold Value.scAt0_0
    rw [dif_neg h0, dif_pos (by omega)]
    by_cases h2 : n % 4 = 3
    · rw [dif_pos h2, scratch_C]
      exact congrArg (acc i + ·) (congrFun (step_eq m c ⟨_, h⟩).symm i)
    · rw [dif_neg h2, scratch_B]
      exact congrArg (acc i + ·) (congrFun (step_eq m c ⟨_, h⟩).symm i)

/-- At the last point of a run the output tile is the scratch. -/
theorem out_eq (c : Dev nD) (t : Fin cfg0.N) (h : t.val % 4 = 3) (j : S512x1024.Idx) :
    (outsAt0 m c t.val t.isLt).1 j = (outsAt0 m c t.val t.isLt).2 j := by
  rw [outsAt0_C m c t (by omega) (by omega) h]
  dsimp only
  rw [out_C, scratch_C]

/-- The activations and the output's gradient as the program is given them. -/
abbrev a (c : Dev nD) : Mat 8192 5632 := m ((c : Thread nD τ).loc main_arg0)
abbrev dy (c : Dev nD) : Mat 8192 2048 := m ((c : Thread nD τ).loc main_arg1)

theorem V_v0 (c : Dev nD) : V m c main_v0 = a m c := by
  unfold_abbrev_sides
  after_results
  rfl

theorem V_v1 (c : Dev nD) : V m c main_v1 = dy m c := by
  unfold_abbrev_sides
  after_results
  rfl

theorem idx0 : ∀ t : Fin cfg0.N, win0_0.index t 0 = t.val % 4 ∧ win0_0.index t 1 = t.val / 8 :=
  (by decide +kernel : ∀ t : Fin grid0.N, win0_0.index t 0 = t.val % 4 ∧ win0_0.index t 1 = t.val / 8)

theorem idx1 : ∀ t : Fin cfg0.N, win0_1.index t 0 = t.val % 4 ∧ win0_1.index t 1 = t.val / 4 % 2 :=
  (by decide +kernel : ∀ t : Fin grid0.N, win0_1.index t 0 = t.val % 4 ∧ win0_1.index t 1 = t.val / 4 % 2)

theorem t_lt (t : Fin cfg0.N) : t.val < 88 := lt_of_lt_of_eq t.isLt (by decide)

/-- Row `k` of run `s`'s operands, and the row and column of the result. -/
abbrev deep (s : Fin 4) (k : Fin 2048) : Fin 8192 := ⟨2048 * s.val + k.val, by omega⟩

theorem a_apply (c : Dev nD) (t : Fin cfg0.N) (k : Fin 2048) (r : Fin 512) (s : Fin 4) (hs : t.val % 4 = s.val) (x : Fin 5632) (hx : x.val = 512 * (t.val / 8) + r.val) :
    iblk m c 0 t (ix2 k r) = a m c (ix2 (deep s k) x) := by
  unfold iblk
  rw [View.read_apply]
  refine (congrFun (V_v0 m c) _).trans (congrArg (a m c) (at_eq _ _ _ ?_ ?_))
  · show win0_0.index t 0 * 2048 + 1 * k.val = 2048 * s.val + k.val
    rw [(idx0 t).1]; omega
  · show win0_0.index t 1 * 512 + 1 * r.val = x.val
    rw [(idx0 t).2]; omega

theorem dy_apply (c : Dev nD) (t : Fin cfg0.N) (k : Fin 2048) (l : Fin 1024) (s : Fin 4) (hs : t.val % 4 = s.val) (x : Fin 2048) (hx : x.val = 1024 * (t.val / 4 % 2) + l.val) :
    iblk m c 1 t (ix2 k l) = dy m c (ix2 (deep s k) x) := by
  unfold iblk
  rw [View.read_apply]
  refine (congrFun (V_v1 m c) _).trans (congrArg (dy m c) (at_eq _ _ _ ?_ ?_))
  · show win0_1.index t 0 * 2048 + 1 * k.val = 2048 * s.val + k.val
    rw [(idx1 t).1]; omega
  · show win0_1.index t 1 * 1024 + 1 * l.val = x.val
    rw [(idx1 t).2]; omega

/-- The four products of a run add up to the tile of the whole product. -/
theorem run_sum (c : Dev nD) (q : ℕ) (hq : q < 22) (r : Fin 512) (l : Fin 1024) (x : Fin 5632) (y : Fin 2048)
    (hx : x.val = 512 * (q / 2) + r.val) (hy : y.val = 1024 * (q % 2) + l.val) :
    ∑ s ∈ Finset.range 4, step m c (4 * q + s) (ix2 r l) = tn (a m c) (dy m c) (ix2 x y) := by
  rw [Finset.sum_range]
  unfold tn
  rw [sum_runs 4 2048]
  refine Finset.sum_congr rfl fun s _ => ?_
  have ht : 4 * q + s.val < cfg0.N := lt_of_lt_of_eq (b := 88) (by omega) (by decide)
  rw [show step m c (4 * q + s.val) = _ from step_eq m c ⟨4 * q + s.val, ht⟩]
  unfold tile tn
  refine Finset.sum_congr rfl fun k _ => ?_
  exact congrArg₂ (· * ·) (a_apply m c ⟨4 * q + s.val, ht⟩ k r s (by show (4 * q + s.val) % 4 = s.val; omega) x (by show x.val = 512 * ((4 * q + s.val) / 8) + r.val; omega))
    (dy_apply m c ⟨4 * q + s.val, ht⟩ k l s (by show (4 * q + s.val) % 4 = s.val; omega) y (by show y.val = 1024 * ((4 * q + s.val) / 4 % 2) + l.val; omega))

abbrev result (c : Dev nD) : Buf (Elt Ideal) ((c : Thread nD τ).loc main_v2) := tn (a m c) (dy m c)

/-- The kernel's result is the weight's gradient. -/
theorem final (c : Dev nD) : Value.G2 m c = result m c := by
  funext i
  have hi0 : (i 0).val < 5632 := (i 0).isLt
  have hi1 : (i 1).val < 2048 := (i 1).isLt
  have hp : Value.pt2Of i < cfg0.N := lt_of_lt_of_eq (b := 88) (by show 4 * (2 * ((i 0).val / 512 - 0) + 1 * ((i 1).val / 1024 - 0)) + 3 < 88; omega) (by decide)
  unfold Value.G2
  rw [dif_pos hp, ← Value.outsAt0_sweep m c _ hp]
  have e1 := out_eq m c ⟨Value.pt2Of i, hp⟩ (by show (4 * Value.run2Of i + 3) % 4 = 3; omega) (Value.loc2Of i)
  have e2 := scratch_eq m c ⟨Value.pt2Of i, hp⟩ (Value.loc2Of i)
  refine e1.trans (e2.trans ?_)
  have hq : (4 * Value.run2Of i + 3) / 4 = Value.run2Of i := by omega
  have hr : (4 * Value.run2Of i + 3) % 4 = 3 := by omega
  show ∑ s ∈ Finset.range ((4 * Value.run2Of i + 3) % 4 + 1), step m c (4 * ((4 * Value.run2Of i + 3) / 4) + s) _ = _
  rw [hq, hr]
  have hrun : Value.run2Of i = 2 * ((i 0).val / 512) + (i 1).val / 1024 := by show 2 * ((i 0).val / 512 - 0) + 1 * ((i 1).val / 1024 - 0) = _; omega
  have hloc : Value.loc2Of i = ix2 (⟨(i 0).val % 512, by omega⟩ : Fin 512) (⟨(i 1).val % 1024, by omega⟩ : Fin 1024) := at_eq _ _ _ rfl rfl
  rw [hloc, run_sum m c (Value.run2Of i) (by omega) _ _ ⟨(i 0).val, hi0⟩ ⟨(i 1).val, hi1⟩ (by show (i 0).val = 512 * (Value.run2Of i / 2) + (i 0).val % 512; omega)
    (by show (i 1).val = 1024 * (Value.run2Of i % 2) + (i 1).val % 1024; omega)]
  exact congrArg (tn (a m c) (dy m c)) (at_eq i _ _ rfl rfl).symm

end Cert.Kernel3Ideal.Dwd

namespace Cert.Reference3Ideal.Read

open Cert.Reference3Ideal Cert.Reference3Ideal.Gen Idealize.ShloMosaic Cert.Products

/-- The reference's result is the weight's gradient. -/
theorem weightGrad_eq (x0 : Mat 8192 5632) (x1 : Mat 8192 2048) : val_main_v4 (F := Ideal) x0 x1 = tn x0 x1 := by
  funext i
  rw [val_main_v4_apply, val_main_v3_apply, val_main_v2_apply]
  refine Finset.sum_congr rfl fun k _ => ?_
  rw [mul_comm]
  exact congrArg₂ (· * ·) (congrArg x0 (at_eq _ _ _ rfl rfl)) (congrArg x1 (at_eq _ _ _ rfl rfl))

end Cert.Reference3Ideal.Read

end
-- ==== Proof.Dh.lean ====
/- The gradient of the feed-forward block's input, `dg · wgᵀ + du · wuᵀ` where `wg` and `wu` are the two halves of the
   columns of one weight: what the kernel leaves in its result array, and what the reference does. -/
module

public import proofs.«01_k».proof.Defs
public import proofs.«01_k».proof.Proof.Gen.Kernel4Ideal.Value
public import proofs.«01_k».proof.Proof.Gen.Reference4Ideal.Read
public import proofs.«01_k».proof.Proof.Products

@[expose] public section

set_option maxRecDepth 16384

noncomputable section

namespace Cert.Products

open Idealize.ShloMosaic

/-- The input's gradient from the gradients of the two products. -/
def inputGrad (dg du : Mat 8192 5632) (w : Mat 2048 11264) : Mat 8192 2048 := fun i =>
  (∑ k : Fin 5632, dg (ix2 (i 0) k) * w (ix2 (i 1) (lo k))) + ∑ k : Fin 5632, du (ix2 (i 0) k) * w (ix2 (i 1) (hi k))

end Cert.Products

namespace Cert.Kernel4Ideal.Dh

open Cert.Kernel4Ideal Cert.Kernel4Ideal.Gen Idealize.ShloMosaic Idealize.ShloMosaic.TcCoe Idealize.SL.Sem Idealize.ShloMosaic.StableHlo
open Idealize.ShloMosaic.Pipeline (Dat)
open Cert.Products

variable (m : (ℓ : Loc nD τ sig) → Buf (Elt Ideal) ℓ)

theorem hz : (![0, 0] : Fin 2 → Nat) = fun _ => 0 := funext fun a => by fin_cases a <;> rfl

/-- One tile: two products with the whole inner extent, added. -/
theorem tile_apply (x0 : Vec Ideal S512x5632 .bf16) (x1 : Vec Ideal S256x5632 .bf16) (x2 : Vec Ideal S512x5632 .bf16) (x3 : Vec Ideal S256x5632 .bf16)
    (r : Fin 512) (l : Fin 256) :
    out0_4 x0 x1 x2 x3 (ix2 r l) = (∑ k : Fin 5632, x0 (ix2 r k) * x1 (ix2 l k)) + ∑ k : Fin 5632, x2 (ix2 r k) * x3 (ix2 l k) := by
  unfold out0_4
  rw [View.canon_unit_zero hz]
  simp only [View.ld_unit_zero (S := S512x5632) hz, View.ld_unit_zero (S := S256x5632) hz]
  pointwise [k0_pay1]

/-- The two gradients and the weight as the program is given them. -/
abbrev dg (c : Dev nD) : Mat 8192 5632 := m ((c : Thread nD τ).loc main_arg0)
abbrev du (c : Dev nD) : Mat 8192 5632 := m ((c : Thread nD τ).loc main_arg1)
abbrev w (c : Dev nD) : Mat 2048 11264 := m ((c : Thread nD τ).loc main_arg2)

theorem V_v0 (c : Dev nD) : V m c main_v0 = dg m c := by
  unfold_abbrev_sides
  after_results
  rfl

theorem V_v1 (c : Dev nD) : V m c main_v1 = du m c := by
  unfold_abbrev_sides
  after_results
  rfl

theorem V_v2 (c : Dev nD) : V m c main_v2 = w m c := by
  unfold_abbrev_sides
  after_results
  rfl

/-- Which block each window takes at a point: the gradients' row block, the weight's row block and half, the result's tile. -/
theorem idx0 : ∀ t : Fin cfg0.N, win0_0.index t 0 = t.val / 8 ∧ win0_0.index t 1 = 0 :=
  (by decide +kernel : ∀ t : Fin grid0.N, win0_0.index t 0 = t.val / 8 ∧ win0_0.index t 1 = 0)

theorem idx1 : ∀ t : Fin cfg0.N, win0_1.index t 0 = t.val % 8 ∧ win0_1.index t 1 = 0 :=
  (by decide +kernel : ∀ t : Fin grid0.N, win0_1.index t 0 = t.val % 8 ∧ win0_1.index t 1 = 0)

theorem idx2 : ∀ t : Fin cfg0.N, win0_2.index t 0 = t.val / 8 ∧ win0_2.index t 1 = 0 :=
  (by decide +kernel : ∀ t : Fin grid0.N, win0_2.index t 0 = t.val / 8 ∧ win0_2.index t 1 = 0)

theorem idx3 : ∀ t : Fin cfg0.N, win0_3.index t 0 = t.val % 8 ∧ win0_3.index t 1 = 1 :=
  (by decide +kernel : ∀ t : Fin grid0.N, win0_3.index t 0 = t.val % 8 ∧ win0_3.index t 1 = 1)

theorem idx4 : ∀ t : Fin cfg0.N, win0_4.index t 0 = t.val / 8 ∧ win0_4.index t 1 = t.val % 8 :=
  (by decide +kernel : ∀ t : Fin grid0.N, win0_4.index t 0 = t.val / 8 ∧ win0_4.index t 1 = t.val % 8)

theorem t_lt (t : Fin cfg0.N) : t.val < 128 := lt_of_lt_of_eq t.isLt (by decide)

abbrev row (t : Fin cfg0.N) (r : Fin 512) : Fin 8192 := ⟨512 * (t.val / 8) + r.val, by have := t_lt t; omega⟩
abbrev col (t : Fin cfg0.N) (l : Fin 256) : Fin 2048 := ⟨256 * (t.val % 8) + l.val, by omega⟩

theorem dg_apply (c : Dev nD) (t : Fin cfg0.N) (r : Fin 512) (k : Fin 5632) :
    iblk m c 0 t (ix2 r k) = dg m c (ix2 (row t r) k) := by
  unfold iblk
  rw [View.read_apply]
  refine (congrFun (V_v0 m c) _).trans (congrArg (dg m c) (at_eq _ _ _ ?_ ?_))
  · show win0_0.index t 0 * 512 + 1 * r.val = 512 * (t.val / 8) + r.val
    rw [(idx0 t).1]; omega
  · show win0_0.index t 1 * 5632 + 1 * k.val = k.val
    rw [(idx0 t).2]; omega

theorem wg_apply (c : Dev nD) (t : Fin cfg0.N) (l : Fin 256) (k : Fin 5632) :
    iblk m c 1 t (ix2 l k) = w m c (ix2 (col t l) (lo k)) := by
  unfold iblk
  rw [View.read_apply]
  refine (congrFun (V_v2 m c) _).trans (congrArg (w m c) (at_eq _ _ _ ?_ ?_))
  · show win0_1.index t 0 * 256 + 1 * l.val = 256 * (t.val % 8) + l.val
    rw [(idx1 t).1]; omega
  · show win0_1.index t 1 * 5632 + 1 * k.val = k.val
    rw [(idx1 t).2]; omega

theorem du_apply (c : Dev nD) (t : Fin cfg0.N) (r : Fin 512) (k : Fin 5632) :
    iblk m c 2 t (ix2 r k) = du m c (ix2 (row t r) k) := by
  unfold iblk
  rw [View.read_apply]
  refine (congrFun (V_v1 m c) _).trans (congrArg (du m c) (at_eq _ _ _ ?_ ?_))
  · show win0_2.index t 0 * 512 + 1 * r.val = 512 * (t.val / 8) + r.val
    rw [(idx2 t).1]; omega
  · show win0_2.index t 1 * 5632 + 1 * k.val = k.val
    rw [(idx2 t).2]; omega

theorem wu_apply (c : Dev nD) (t : Fin cfg0.N) (l : Fin 256) (k : Fin 5632) :
    iblk m c 3 t (ix2 l k) = w m c (ix2 (col t l) (hi k)) := by
  unfold iblk
  rw [View.read_apply]
  refine (congrFun (V_v2 m c) _).trans (congrArg (w m c) (at_eq _ _ _ ?_ ?_))
  · show win0_3.index t 0 * 256 + 1 * l.val = 256 * (t.val % 8) + l.val
    rw [(idx3 t).1]; omega
  · show win0_3.index t 1 * 5632 + 1 * k.val = 5632 + k.val
    rw [(idx3 t).2]; omega

abbrev result (c : Dev nD) : Buf (Elt Ideal) ((c : Thread nD τ).loc main_v3) := inputGrad (dg m c) (du m c) (w m c)

/-- What a grid point writes back is its tile of the gradient. -/
theorem flushed_eq (c : Dev nD) (t : Fin cfg0.N) :
    (dats m 0 c).flushed 4 t = ((cfg0.win 4).blk t).view.read (Elt Ideal) (result m c) := by
  rw [Value.flushed4]
  funext j
  rw [View.read_apply]
  obtain ⟨r, l, rfl⟩ : ∃ (r : Fin 512) (l : Fin 256), j = ix2 r l := ⟨j 0, j 1, eq_ix2 j⟩
  have hemb : ((cfg0.win 4).blk t).view.emb (ix2 r l) = (ix2 (row t r) (col t l) : S8192x2048.Idx) := by
    refine at_eq _ _ _ ?_ ?_
    · show win0_4.index t 0 * 512 + 1 * r.val = 512 * (t.val / 8) + r.val
      rw [(idx4 t).1]; omega
    · show win0_4.index t 1 * 256 + 1 * l.val = 256 * (t.val % 8) + l.val
      rw [(idx4 t).2]; omega
  show out0_4 (iblk m c 0 t) (iblk m c 1 t) (iblk m c 2 t) (iblk m c 3 t) (ix2 r l) = result m c (((cfg0.win 4).blk t).view.emb (ix2 r l))
  rw [hemb, tile_apply]
  exact congrArg₂ (· + ·) (Finset.sum_congr rfl fun k _ => by rw [dg_apply, wg_apply]; rfl)
    (Finset.sum_congr rfl fun k _ => by rw [du_apply, wu_apply]; rfl)

/-- The tiles cover the result. -/
theorem covered (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  let t : Fin cfg0.N := ⟨8 * ((i 0).val / 512) + (i 1).val / 256, lt_of_lt_of_eq (b := 128) (by omega) (by decide)⟩
  have ht : t.val = 8 * ((i 0).val / 512) + (i 1).val / 256 := rfl
  refine ⟨t, flush0_4 _, ?_⟩
  show (show S8192x2048.Idx from i) ∈ ((View.whole main_v3).slice (win0_4.rect t)).set
  rw [View.set_slice_whole, Rect.mem_set_unit]
  intro a
  match a with
  | ⟨0, _⟩ =>
    show win0_4.index t 0 * 512 ≤ (i 0).val ∧ (i 0).val < win0_4.index t 0 * 512 + 512
    rw [(idx4 t).1]; omega
  | ⟨1, _⟩ =>
    show win0_4.index t 1 * 256 ≤ (i 1).val ∧ (i 1).val < win0_4.index t 1 * 256 + 256
    rw [(idx4 t).2]; omega

/-- The kernel's result is the input's gradient. -/
theorem final (c : Dev nD) : (dats m 0 c).arrAt 4 cfg0.N = result m c :=
  (dats m 0 c).arrAt_eq_of_cover 4 (result m c) (fun t _ => flushed_eq m c t) covered

end Cert.Kernel4Ideal.Dh

namespace Cert.Reference4Ideal.Read

open Cert.Reference4Ideal Cert.Reference4Ideal.Gen Idealize.ShloMosaic Cert.Products

/-- The two gradients side by side. -/
theorem beside_lo (x0 x1 : Mat 8192 5632) (r : Fin 8192) (k : Fin 5632) : val_main_v4 (F := Ideal) x0 x1 (ix2 r (lo k)) = x0 (ix2 r k) := by
  pointwise [val_main_v4]

theorem beside_hi (x0 x1 : Mat 8192 5632) (r : Fin 8192) (k : Fin 5632) : val_main_v4 (F := Ideal) x0 x1 (ix2 r (hi k)) = x1 (ix2 r k) := by
  pointwise [val_main_v4]

/-- The reference's result is the input's gradient. -/
theorem inputGrad_eq (x0 x1 : Mat 8192 5632) (x2 : Mat 2048 11264) : val_main_v5 (F := Ideal) x0 x1 x2 = inputGrad x0 x1 x2 := by
  funext i
  rw [val_main_v5_apply, Fin.sum_univ_add (a := 5632) (b := 5632)]
  refine congrArg₂ (· + ·) (Finset.sum_congr rfl fun k _ => congrArg₂ (· * ·) ?_ ?_) (Finset.sum_congr rfl fun k _ => congrArg₂ (· * ·) ?_ ?_)
  · exact (congrArg (val_main_v4 (F := Ideal) x0 x1) (at_eq (lidx_main_v5 i _) (i 0) (lo k) rfl rfl)).trans (beside_lo x0 x1 (i 0) k)
  · exact congrArg x2 (at_eq _ (i 1) (lo k) rfl rfl)
  · exact (congrArg (val_main_v4 (F := Ideal) x0 x1) (at_eq (lidx_main_v5 i _) (i 0) (hi k) rfl rfl)).trans (beside_hi x0 x1 (i 0) k)
  · exact congrArg x2 (at_eq _ (i 1) (hi k) rfl rfl)

end Cert.Reference4Ideal.Read

end
-- ==== Proof.Down.lean ====
/- The product `a · wd` of the feed-forward block's down projection: what the kernel leaves in its result array. -/
module

public import proofs.«01_k».proof.Defs
public import proofs.«01_k».proof.Proof.Gen.Kernel6Ideal.Value
public import proofs.«01_k».proof.Proof.Gen.Reference6Ideal.Read
public import proofs.«01_k».proof.Proof.Products

@[expose] public section

set_option maxRecDepth 16384

noncomputable section

namespace Cert.Kernel6Ideal.Down

open Cert.Kernel6Ideal Cert.Kernel6Ideal.Gen Idealize.ShloMosaic Idealize.ShloMosaic.TcCoe Idealize.SL.Sem Idealize.ShloMosaic.StableHlo
open Idealize.ShloMosaic.Pipeline (Dat)
open Cert.Products

variable (m : (ℓ : Loc nD τ sig) → Buf (Elt Ideal) ℓ)

theorem hz : (![0, 0] : Fin 2 → Nat) = fun _ => 0 := funext fun a => by fin_cases a <;> rfl

/-- One tile: the whole inner extent is contracted at once. -/
theorem tile_apply (x0 : Vec Ideal S1024x5632 .bf16) (x1 : Vec Ideal S5632x256 .bf16) (r : Fin 1024) (l : Fin 256) :
    out0_2 x0 x1 (ix2 r l) = ∑ k : Fin 5632, x0 (ix2 r k) * x1 (ix2 k l) := by
  unfold out0_2
  rw [View.canon_unit_zero hz]
  simp only [View.ld_unit_zero (S := S1024x5632) hz, View.ld_unit_zero (S := S5632x256) hz]
  pointwise [k0_pay1]

/-- The activations `a` and the weight `wd` as the program is given them. -/
abbrev a (c : Dev nD) : Mat 8192 5632 := m ((c : Thread nD τ).loc main_arg0)
abbrev wd (c : Dev nD) : Mat 5632 2048 := m ((c : Thread nD τ).loc main_arg1)

/-- Over the extended reals the host's casts change nothing. -/
theorem V_v0 (c : Dev nD) : V m c main_v0 = a m c := by
  unfold_abbrev_sides
  after_results
  rfl

theorem V_v1 (c : Dev nD) : V m c main_v1 = wd m c := by
  unfold_abbrev_sides
  after_results
  rfl

theorem idx0 : ∀ t : Fin cfg0.N, win0_0.index t 0 = t.val / 8 ∧ win0_0.index t 1 = 0 :=
  (by decide +kernel : ∀ t : Fin grid0.N, win0_0.index t 0 = t.val / 8 ∧ win0_0.index t 1 = 0)

theorem idx1 : ∀ t : Fin cfg0.N, win0_1.index t 0 = 0 ∧ win0_1.index t 1 = t.val % 8 :=
  (by decide +kernel : ∀ t : Fin grid0.N, win0_1.index t 0 = 0 ∧ win0_1.index t 1 = t.val % 8)

theorem idx2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)

theorem t_lt (t : Fin cfg0.N) : t.val < 64 := lt_of_lt_of_eq t.isLt (by decide)

/-- Row `r` of the row block of point `t`, and column `l` of its column block. -/
abbrev row (t : Fin cfg0.N) (r : Fin 1024) : Fin 8192 := ⟨1024 * (t.val / 8) + r.val, by have := t_lt t; omega⟩
abbrev col (t : Fin cfg0.N) (l : Fin 256) : Fin 2048 := ⟨256 * (t.val % 8) + l.val, by omega⟩

/-- The rows of `a` a grid point reads. -/
theorem rows_apply (c : Dev nD) (t : Fin cfg0.N) (r : Fin 1024) (k : Fin 5632) :
    iblk m c 0 t (ix2 r k) = a m c (ix2 (row t r) k) := by
  unfold iblk
  rw [View.read_apply]
  refine (congrFun (V_v0 m c) _).trans (congrArg (a m c) (at_eq _ _ _ ?_ ?_))
  · show win0_0.index t 0 * 1024 + 1 * r.val = 1024 * (t.val / 8) + r.val
    rw [(idx0 t).1]; omega
  · show win0_0.index t 1 * 5632 + 1 * k.val = k.val
    rw [(idx0 t).2]; omega

/-- The columns of `wd` a grid point reads. -/
theorem cols_apply (c : Dev nD) (t : Fin cfg0.N) (k : Fin 5632) (l : Fin 256) :
    iblk m c 1 t (ix2 k l) = wd m c (ix2 k (col t l)) := by
  unfold iblk
  rw [View.read_apply]
  refine (congrFun (V_v1 m c) _).trans (congrArg (wd m c) (at_eq _ _ _ ?_ ?_))
  · show win0_1.index t 0 * 5632 + 1 * k.val = k.val
    rw [(idx1 t).1]; omega
  · show win0_1.index t 1 * 256 + 1 * l.val = 256 * (t.val % 8) + l.val
    rw [(idx1 t).2]; omega

/-- The product of the two argument arrays. -/
abbrev product (c : Dev nD) : Buf (Elt Ideal) ((c : Thread nD τ).loc main_v2) := nn (a m c) (wd m c)

/-- What a grid point writes back is its tile of the product. -/
theorem flushed_eq (c : Dev nD) (t : Fin cfg0.N) :
    (dats m 0 c).flushed 2 t = ((cfg0.win 2).blk t).view.read (Elt Ideal) (product m c) := by
  rw [Value.flushed2]
  funext j
  rw [View.read_apply]
  obtain ⟨r, l, rfl⟩ : ∃ (r : Fin 1024) (l : Fin 256), j = ix2 r l := ⟨j 0, j 1, eq_ix2 j⟩
  have hemb : ((cfg0.win 2).blk t).view.emb (ix2 r l) = (ix2 (row t r) (col t l) : S8192x2048.Idx) := by
    refine at_eq _ _ _ ?_ ?_
    · show win0_2.index t 0 * 1024 + 1 * r.val = 1024 * (t.val / 8) + r.val
      rw [(idx2 t).1]; omega
    · show win0_2.index t 1 * 256 + 1 * l.val = 256 * (t.val % 8) + l.val
      rw [(idx2 t).2]; omega
  show out0_2 (iblk m c 0 t) (iblk m c 1 t) (ix2 r l) = product m c (((cfg0.win 2).blk t).view.emb (ix2 r l))
  rw [hemb, tile_apply]
  exact Finset.sum_congr rfl fun k _ => by rw [rows_apply, cols_apply]; rfl

/-- The tiles cover the result. -/
theorem covered (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  let t : Fin cfg0.N := ⟨8 * ((i 0).val / 1024) + (i 1).val / 256, lt_of_lt_of_eq (b := 64) (by omega) (by decide)⟩
  have ht : t.val = 8 * ((i 0).val / 1024) + (i 1).val / 256 := rfl
  refine ⟨t, flush0_2 _, ?_⟩
  show (show S8192x2048.Idx from i) ∈ ((View.whole main_v2).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [(idx2 t).1]; omega
  | ⟨1, _⟩ =>
    show win0_2.index t 1 * 256 ≤ (i 1).val ∧ (i 1).val < win0_2.index t 1 * 256 + 256
    rw [(idx2 t).2]; omega

/-- The kernel's result is the product. -/
theorem final (c : Dev nD) : (dats m 0 c).arrAt 2 cfg0.N = product m c :=
  (dats m 0 c).arrAt_eq_of_cover 2 (product m c) (fun t _ => flushed_eq m c t) covered

end Cert.Kernel6Ideal.Down

namespace Cert.Reference6Ideal.Read

open Cert.Reference6Ideal Cert.Reference6Ideal.Gen Idealize.ShloMosaic Cert.Products

/-- The reference's result is the product. -/
theorem product (x0 : Mat 8192 5632) (x1 : Mat 5632 2048) : val_main_v0 (F := Ideal) x0 x1 = nn x0 x1 := by
  funext i
  rw [val_main_v0_apply]
  exact Finset.sum_congr rfl fun k _ => congrArg₂ (· * ·) (congrArg x0 (at_eq _ _ _ rfl rfl)) (congrArg x1 (at_eq _ _ _ rfl rfl))

end Cert.Reference6Ideal.Read

end
-- ==== Proof.Up.lean ====
/- The feed-forward block's up projection: `g` and `u`, the two halves of `h · wgu`, and `silu g ⬝ u`: what the kernel leaves
   in its three result arrays, and what the reference does. -/
module

public import proofs.«01_k».proof.Defs
public import proofs.«01_k».proof.Proof.Products
public import proofs.«01_k».proof.Proof.Gen.Kernel7Ideal.Value
public import proofs.«01_k».proof.Proof.Gen.Reference7Ideal.Read

@[expose] public section

set_option maxRecDepth 16384

noncomputable section

namespace Cert.Products

open Idealize.ShloMosaic

def half (f : Fin 5632 → Fin 11264) (h : Mat 8192 2048) (w : Mat 2048 11264) : Mat 8192 5632 := fun i =>
  ∑ k : Fin 2048, h (ix2 (i 0) k) * w (ix2 k (f (i 1)))

def swiglu (h : Mat 8192 2048) (w : Mat 2048 11264) : Mat 8192 5632 := fun i =>
  half lo h w i * sigm (half lo h w i) * half hi h w i

end Cert.Products

namespace Cert.Kernel7Ideal.Up

open Cert.Kernel7Ideal Cert.Kernel7Ideal.Gen Idealize.ShloMosaic Idealize.ShloMosaic.TcCoe Idealize.SL.Sem Idealize.ShloMosaic.StableHlo
open Idealize.ShloMosaic.Pipeline (Dat)
open Cert.Products

variable (m : (ℓ : Loc nD τ sig) → Buf (Elt Ideal) ℓ)

theorem hz : (![0, 0] : Fin 2 → Nat) = fun _ => 0 := funext fun a => by fin_cases a <;> rfl

theorem g_apply (x0 : Vec Ideal S1024x2048 .bf16) (x1 x2 : Vec Ideal S2048x512 .bf16) (r : Fin 1024) (l : Fin 512) :
    out0_3 x0 x1 x2 (ix2 r l) = ∑ k : Fin 2048, x0 (ix2 r k) * x1 (ix2 k l) := by
  unfold out0_3
  rw [View.canon_unit_zero hz]
  simp only [View.ld_unit_zero (S := S1024x2048) hz, View.ld_unit_zero (S := S2048x512) hz]
  pointwise [k0_pay1, k0_pay2]

theorem u_apply (x0 : Vec Ideal S1024x2048 .bf16) (x1 x2 : Vec Ideal S2048x512 .bf16) (r : Fin 1024) (l : Fin 512) :
    out0_4 x0 x1 x2 (ix2 r l) = ∑ k : Fin 2048, x0 (ix2 r k) * x2 (ix2 k l) := by
  unfold out0_4
  rw [View.canon_unit_zero hz]
  simp only [View.ld_unit_zero (S := S1024x2048) hz, View.ld_unit_zero (S := S2048x512) hz]
  pointwise [k0_pay1, k0_pay3]

theorem a_apply (x0 : Vec Ideal S1024x2048 .bf16) (x1 x2 : Vec Ideal S2048x512 .bf16) (r : Fin 1024) (l : Fin 512) :
    out0_5 x0 x1 x2 (ix2 r l) = out0_3 x0 x1 x2 (ix2 r l) * sigm (out0_3 x0 x1 x2 (ix2 r l)) * out0_4 x0 x1 x2 (ix2 r l) := by
  rw [g_apply, u_apply]
  unfold out0_5 sigm
  rw [View.canon_unit_zero hz]
  simp only [View.ld_unit_zero (S := S1024x2048) hz, View.ld_unit_zero (S := S2048x512) hz]
  pointwise [k0_pay1, k0_pay2, k0_pay3, k0_pay4]
  simp only [zero_sub]

/-- The input and the weight as the program is given them. -/
abbrev h (c : Dev nD) : Mat 8192 2048 := m ((c : Thread nD τ).loc main_arg0)
abbrev w (c : Dev nD) : Mat 2048 11264 := m ((c : Thread nD τ).loc main_arg1)

theorem V_v0 (c : Dev nD) : V m c main_v0 = h m c := by
  unfold_abbrev_sides
  after_results
  rfl

theorem V_v1 (c : Dev nD) : V m c main_v1 = w m c := by
  unfold_abbrev_sides
  after_results
  rfl

/-- Which block each window takes at a point: the input's row block, the weight's column block in each half, the
    results' tile. -/
theorem idx0 : ∀ t : Fin cfg0.N, win0_0.index t 0 = t.val / 11 ∧ win0_0.index t 1 = 0 :=
  (by decide +kernel : ∀ t : Fin grid0.N, win0_0.index t 0 = t.val / 11 ∧ win0_0.index t 1 = 0)

theorem idx1 : ∀ t : Fin cfg0.N, win0_1.index t 0 = 0 ∧ win0_1.index t 1 = t.val % 11 :=
  (by decide +kernel : ∀ t : Fin grid0.N, win0_1.index t 0 = 0 ∧ win0_1.index t 1 = t.val % 11)

theorem idx2 : ∀ t : Fin cfg0.N, win0_2.index t 0 = 0 ∧ win0_2.index t 1 = t.val % 11 + 11 :=
  (by decide +kernel : ∀ t : Fin grid0.N, win0_2.index t 0 = 0 ∧ win0_2.index t 1 = t.val % 11 + 11)

theorem idx3 : ∀ t : Fin cfg0.N, win0_3.index t 0 = t.val / 11 ∧ win0_3.index t 1 = t.val % 11 :=
  (by decide +kernel : ∀ t : Fin grid0.N, win0_3.index t 0 = t.val / 11 ∧ win0_3.index t 1 = t.val % 11)

theorem t_lt (t : Fin cfg0.N) : t.val < 88 := lt_of_lt_of_eq t.isLt (by decide)

abbrev row (t : Fin cfg0.N) (r : Fin 1024) : Fin 8192 := ⟨1024 * (t.val / 11) + r.val, by have := t_lt t; omega⟩
abbrev col (t : Fin cfg0.N) (l : Fin 512) : Fin 5632 := ⟨512 * (t.val % 11) + l.val, by omega⟩

theorem h_apply (c : Dev nD) (t : Fin cfg0.N) (r : Fin 1024) (k : Fin 2048) :
    iblk m c 0 t (ix2 r k) = h m c (ix2 (row t r) k) := by
  unfold iblk
  rw [View.read_apply]
  refine (congrFun (V_v0 m c) _).trans (congrArg (h m c) (at_eq _ _ _ ?_ ?_))
  · show win0_0.index t 0 * 1024 + 1 * r.val = 1024 * (t.val / 11) + r.val
    rw [(idx0 t).1]; omega
  · show win0_0.index t 1 * 2048 + 1 * k.val = k.val
    rw [(idx0 t).2]; omega

theorem wg_apply (c : Dev nD) (t : Fin cfg0.N) (k : Fin 2048) (l : Fin 512) :
    iblk m c 1 t (ix2 k l) = w m c (ix2 k (lo (col t l))) := by
  unfold iblk
  rw [View.read_apply]
  refine (congrFun (V_v1 m c) _).trans (congrArg (w m c) (at_eq _ _ _ ?_ ?_))
  · show win0_1.index t 0 * 2048 + 1 * k.val = k.val
    rw [(idx1 t).1]; omega
  · show win0_1.index t 1 * 512 + 1 * l.val = 512 * (t.val % 11) + l.val
    rw [(idx1 t).2]; omega

theorem wu_apply (c : Dev nD) (t : Fin cfg0.N) (k : Fin 2048) (l : Fin 512) :
    iblk m c 2 t (ix2 k l) = w m c (ix2 k (hi (col t l))) := by
  unfold iblk
  rw [View.read_apply]
  refine (congrFun (V_v1 m c) _).trans (congrArg (w m c) (at_eq _ _ _ ?_ ?_))
  · show win0_2.index t 0 * 2048 + 1 * k.val = k.val
    rw [(idx2 t).1]; omega
  · show win0_2.index t 1 * 512 + 1 * l.val = 5632 + (512 * (t.val % 11) + l.val)
    rw [(idx2 t).2]; omega

/-- The tile of `g` at a point, and of `u`. -/
theorem g_tile (c : Dev nD) (t : Fin cfg0.N) (r : Fin 1024) (l : Fin 512) :
    out0_3 (iblk m c 0 t) (iblk m c 1 t) (iblk m c 2 t) (ix2 r l) = half lo (h m c) (w m c) (ix2 (row t r) (col t l)) := by
  rw [g_apply]
  exact Finset.sum_congr rfl fun k _ => by rw [h_apply, wg_apply]; rfl

theorem u_tile (c : Dev nD) (t : Fin cfg0.N) (r : Fin 1024) (l : Fin 512) :
    out0_4 (iblk m c 0 t) (iblk m c 1 t) (iblk m c 2 t) (ix2 r l) = half hi (h m c) (w m c) (ix2 (row t r) (col t l)) := by
  rw [u_apply]
  exact Finset.sum_congr rfl fun k _ => by rw [h_apply, wu_apply]; rfl

theorem a_tile (c : Dev nD) (t : Fin cfg0.N) (r : Fin 1024) (l : Fin 512) :
    out0_5 (iblk m c 0 t) (iblk m c 1 t) (iblk m c 2 t) (ix2 r l) = swiglu (h m c) (w m c) (ix2 (row t r) (col t l)) := by
  rw [a_apply, g_tile, u_tile]
  rfl

abbrev gate (c : Dev nD) : Buf (Elt Ideal) ((c : Thread nD τ).loc main_v2_0) := half lo (h m c) (w m c)
abbrev up (c : Dev nD) : Buf (Elt Ideal) ((c : Thread nD τ).loc main_v2_1) := half hi (h m c) (w m c)
abbrev act (c : Dev nD) : Buf (Elt Ideal) ((c : Thread nD τ).loc main_v2_2) := swiglu (h m c) (w m c)

/-- The three result windows take the same tile. -/
theorem emb_eq (t : Fin cfg0.N) (r : Fin 1024) (l : Fin 512) : ((cfg0.win 3).blk t).view.emb (ix2 r l) = (ix2 (row t r) (col t l) : S8192x5632.Idx) := by
  refine at_eq _ _ _ ?_ ?_
  · show win0_3.index t 0 * 1024 + 1 * r.val = 1024 * (t.val / 11) + r.val
    rw [(idx3 t).1]; omega
  · show win0_3.index t 1 * 512 + 1 * l.val = 512 * (t.val % 11) + l.val
    rw [(idx3 t).2]; omega

/-- What a grid point writes back to the first result is its tile of it. -/
theorem flushed_gate (c : Dev nD) (t : Fin cfg0.N) :
    (dats m 0 c).flushed 3 t = ((cfg0.win 3).blk t).view.read (Elt Ideal) (gate m c) := by
  rw [Value.flushed3]
  funext j
  rw [View.read_apply]
  obtain ⟨r, l, rfl⟩ : ∃ (r : Fin 1024) (l : Fin 512), j = ix2 r l := ⟨j 0, j 1, eq_ix2 j⟩
  have hemb : ((cfg0.win 3).blk t).view.emb (ix2 r l) = (ix2 (row t r) (col t l) : S8192x5632.Idx) := emb_eq t r l
  show out0_3 (iblk m c 0 t) (iblk m c 1 t) (iblk m c 2 t) (ix2 r l) = gate m c (((cfg0.win 3).blk t).view.emb (ix2 r l))
  rw [hemb, g_tile]

/-- What a grid point writes back to the second result is its tile of it. -/
theorem flushed_up (c : Dev nD) (t : Fin cfg0.N) :
    (dats m 0 c).flushed 4 t = ((cfg0.win 4).blk t).view.read (Elt Ideal) (up m c) := by
  rw [Value.flushed4]
  funext j
  rw [View.read_apply]
  obtain ⟨r, l, rfl⟩ : ∃ (r : Fin 1024) (l : Fin 512), j = ix2 r l := ⟨j 0, j 1, eq_ix2 j⟩
  have hemb : ((cfg0.win 4).blk t).view.emb (ix2 r l) = (ix2 (row t r) (col t l) : S8192x5632.Idx) := emb_eq t r l
  show out0_4 (iblk m c 0 t) (iblk m c 1 t) (iblk m c 2 t) (ix2 r l) = up m c (((cfg0.win 4).blk t).view.emb (ix2 r l))
  rw [hemb, u_tile]

/-- What a grid point writes back to the third result is its tile of it. -/
theorem flushed_act (c : Dev nD) (t : Fin cfg0.N) :
    (dats m 0 c).flushed 5 t = ((cfg0.win 5).blk t).view.read (Elt Ideal) (act m c) := by
  rw [Value.flushed5]
  funext j
  rw [View.read_apply]
  obtain ⟨r, l, rfl⟩ : ∃ (r : Fin 1024) (l : Fin 512), j = ix2 r l := ⟨j 0, j 1, eq_ix2 j⟩
  have hemb : ((cfg0.win 5).blk t).view.emb (ix2 r l) = (ix2 (row t r) (col t l) : S8192x5632.Idx) := emb_eq t r l
  show out0_5 (iblk m c 0 t) (iblk m c 1 t) (iblk m c 2 t) (ix2 r l) = act m c (((cfg0.win 5).blk t).view.emb (ix2 r l))
  rw [hemb, a_tile]

/-- The tiles cover each result. -/
theorem covered (i : S8192x5632.Idx) : ∃ t : Fin cfg0.N, i ∈ (win0_3.rect t).set := by
  have h0 : (i 0).val < 8192 := (i 0).isLt
  have h1 : (i 1).val < 5632 := (i 1).isLt
  let t : Fin cfg0.N := ⟨11 * ((i 0).val / 1024) + (i 1).val / 512, lt_of_lt_of_eq (b := 88) (by omega) (by decide)⟩
  have ht : t.val = 11 * ((i 0).val / 1024) + (i 1).val / 512 := rfl
  refine ⟨t, ?_⟩
  rw [Rect.mem_set_unit]
  intro a
  match a with
  | ⟨0, _⟩ =>
    show win0_3.index t 0 * 1024 ≤ (i 0).val ∧ (i 0).val < win0_3.index t 0 * 1024 + 1024
    rw [(idx3 t).1]; omega
  | ⟨1, _⟩ =>
    show win0_3.index t 1 * 512 ≤ (i 1).val ∧ (i 1).val < win0_3.index t 1 * 512 + 512
    rw [(idx3 t).2]; omega

theorem final_gate (c : Dev nD) : (dats m 0 c).arrAt 3 cfg0.N = gate m c :=
  (dats m 0 c).arrAt_eq_of_cover 3 (gate m c) (fun t _ => flushed_gate m c t) fun i => by
    obtain ⟨t, ht⟩ := covered i
    refine ⟨t, flush0_3 t, ?_⟩
    show (show S8192x5632.Idx from i) ∈ ((View.whole main_v2_0).slice (win0_3.rect t)).set
    rw [View.set_slice_whole]
    exact ht

theorem final_up (c : Dev nD) : (dats m 0 c).arrAt 4 cfg0.N = up m c :=
  (dats m 0 c).arrAt_eq_of_cover 4 (up m c) (fun t _ => flushed_up m c t) fun i => by
    obtain ⟨t, ht⟩ := covered i
    refine ⟨t, flush0_4 t, ?_⟩
    show (show S8192x5632.Idx from i) ∈ ((View.whole main_v2_1).slice (win0_4.rect t)).set
    rw [View.set_slice_whole]
    exact ht

theorem final_act (c : Dev nD) : (dats m 0 c).arrAt 5 cfg0.N = act m c :=
  (dats m 0 c).arrAt_eq_of_cover 5 (act m c) (fun t _ => flushed_act m c t) fun i => by
    obtain ⟨t, ht⟩ := covered i
    refine ⟨t, flush0_5 t, ?_⟩
    show (show S8192x5632.Idx from i) ∈ ((View.whole main_v2_2).slice (win0_5.rect t)).set
    rw [View.set_slice_whole]
    exact ht

end Cert.Kernel7Ideal.Up

namespace Cert.Reference7Ideal.Read

open Cert.Reference7Ideal Cert.Reference7Ideal.Gen Idealize.ShloMosaic Cert.Products

theorem gate_eq (x0 : Mat 8192 2048) (x1 : Mat 2048 11264) : val_main_v1 (F := Ideal) x0 x1 = half lo x0 x1 := by
  funext i
  rw [val_main_v1_apply, val_main_v0_apply]
  exact Finset.sum_congr rfl fun k _ => congrArg₂ (· * ·) (congrArg x0 (at_eq _ _ _ rfl rfl)) (congrArg x1 (at_eq _ _ _ rfl rfl))

theorem up_eq (x0 : Mat 8192 2048) (x1 : Mat 2048 11264) : val_main_v2 (F := Ideal) x0 x1 = half hi x0 x1 := by
  funext i
  rw [val_main_v2_apply, val_main_v0_apply]
  exact Finset.sum_congr rfl fun k _ => congrArg₂ (· * ·) (congrArg x0 (at_eq _ _ _ rfl rfl)) (congrArg x1 (at_eq _ _ _ rfl rfl))

theorem act_eq (x0 : Mat 8192 2048) (x1 : Mat 2048 11264) : val_main_v5 (F := Ideal) x0 x1 = swiglu x0 x1 := by
  funext i
  pointwise [val_main_v5, val_main_v4, val_main_v3, val_main_call0_v5, val_main_call0_v4, val_main_call0_cst_0, val_main_call0_v3, val_main_call0_v2,
    val_main_call0_cst, val_main_call0_v1, val_main_call0_v0]
  rw [gate_eq, up_eq]
  rfl

end Cert.Reference7Ideal.Read

end
-- ==== Proof.Tiles.lean ====
/- What every tiled product of the step uses: the entries a block of a matrix holds, an equality of matrices checked tile by
   tile, and a product over 8192 rows summed in four runs of 2048. -/
module

public import proofs.«01_k».proof.Proof.Products
public import Idealize.ShloMosaic.Lib.KernelVsHost

@[expose] public section

noncomputable section

namespace Cert.Products

open Idealize.ShloMosaic

variable {A B K tm tl : Nat}

theorem hz : (![0, 0] : Fin 2 → Nat) = fun _ => 0 := funext fun a => by fin_cases a <;> rfl

/-- The entry `(r, l)` of block `(a, b)` of a matrix cut into blocks of `tm` by `tl`. -/
theorem block_at (e : (M A B).Idx) {a b a' b' r l : ℕ} (h0 : (e 0).val = a * tm + 1 * r) (h1 : (e 1).val = b * tl + 1 * l) (ha : a = a') (hb : b = b')
    {x : Fin A} {y : Fin B} (hx : x.val = tm * a' + r) (hy : y.val = tl * b' + l) : e = ix2 x y :=
  at_eq e x y (by rw [h0, hx, ha]; ring) (by rw [h1, hy, hb]; ring)

/-- The first block starts at zero. -/
theorem first (b n : ℕ) : n = b * 0 + n := by rw [Nat.mul_zero, Nat.zero_add]

/-- A matrix of 6160 columns with 112 columns of zeros after them. -/
def padded (w : Mat A 6160) : Mat A 6272 := fun i => if hi : (i 1).val < 6160 then w (ix2 (i 0) ⟨(i 1).val, hi⟩) else 0

theorem padded_own (w : Mat A 6160) (r : Fin A) (k : Fin 6272) (hk : k.val < 6160) : padded w (ix2 r k) = w (ix2 r ⟨k.val, hk⟩) := dif_pos hk

theorem padded_zero (w : Mat A 6160) (r : Fin A) (k : Fin 6272) (hk : ¬k.val < 6160) : padded w (ix2 r k) = 0 := dif_neg hk

/-- Two matrices of `ni` by `nj` tiles are equal when they are on every tile. -/
theorem eq_of_tiles {ni nj : ℕ} {F G : Mat A B} (hA : A = ni * tm) (hB : B = nj * tl)
    (h : ∀ t, t < ni * nj → ∀ (r : Fin tm) (l : Fin tl) (x : Fin A) (y : Fin B), x.val = tm * (t / nj) + r.val → y.val = tl * (t % nj) + l.val →
      F (ix2 x y) = G (ix2 x y)) : F = G := by
  funext i
  obtain ⟨x, y, rfl⟩ : ∃ (x : Fin A) (y : Fin B), i = ix2 x y := ⟨i 0, i 1, eq_ix2 i⟩
  have hx : x.val < tm * ni := by rw [Nat.mul_comm, ← hA]; exact x.isLt
  have hy : y.val < tl * nj := by rw [Nat.mul_comm, ← hB]; exact y.isLt
  have hm : 0 < tm := Nat.pos_of_ne_zero fun h => by simp [h] at hx
  have hl : 0 < tl := Nat.pos_of_ne_zero fun h => by simp [h] at hy
  have hi : x.val / tm < ni := Nat.div_lt_of_lt_mul hx
  have hj : y.val / tl < nj := Nat.div_lt_of_lt_mul hy
  have hd : (nj * (x.val / tm) + y.val / tl) / nj = x.val / tm := by
    rw [Nat.mul_add_div (Nat.zero_lt_of_lt hj), Nat.div_eq_of_lt hj, Nat.add_zero]
  have hr : (nj * (x.val / tm) + y.val / tl) % nj = y.val / tl := by
    rw [Nat.mul_add_mod, Nat.mod_eq_of_lt hj]
  refine h (nj * (x.val / tm) + y.val / tl) ?_ ⟨x.val % tm, Nat.mod_lt _ hm⟩ ⟨y.val % tl, Nat.mod_lt _ hl⟩ x y ?_ ?_
  · calc nj * (x.val / tm) + y.val / tl < nj * (x.val / tm) + nj := by omega
      _ = (x.val / tm + 1) * nj := by ring
      _ ≤ ni * nj := Nat.mul_le_mul_right _ hi
  · rw [hd]; exact (Nat.div_add_mod _ _).symm
  · rw [hr]; exact (Nat.div_add_mod _ _).symm

/-- Row `k` of run `s`. -/
abbrev deep (s : Fin 4) (k : Fin 2048) : Fin 8192 := ⟨2048 * s.val + k.val, by omega⟩

/-- A scratch that the first point of every run of four sets, and each later point adds to, holds the sum of its run so far. -/
theorem run_so_far {J : Type} {P : ℕ} (sc step : ∀ n, n < P → J → EReal) (hset : ∀ n h j, n % 4 = 0 → sc n h j = step n h j)
    (hadd : ∀ n h j, (n + 1) % 4 ≠ 0 → sc (n + 1) h j = sc n (Nat.lt_of_succ_lt h) j + step (n + 1) h j) (q : ℕ) (s : ℕ) (hs : s < 4) (h : 4 * q + s < P) (j : J) :
    sc (4 * q + s) h j = ∑ p : Fin (s + 1), step (4 * q + p.val) (by omega) j := by
  induction s with
  | zero => rw [Fin.sum_univ_one]; exact hset _ h j (by omega)
  | succ s ih =>
    rw [Fin.sum_univ_castSucc]
    exact (hadd (4 * q + s) h j (by omega)).trans (congrArg (· + step (4 * q + (s + 1)) h j) (ih (by omega) (by omega)))

/-- The last point of a run holds its tile of `aᵀ · b`: each of the four points adds the product of its 2048 rows. -/
theorem tn_of_runs {P : ℕ} (a : Mat 8192 A) (b : Mat 8192 B) (sc : ∀ n, n < P → Mat tm tl) (x0 : ∀ n, n < P → Mat 2048 tm) (x1 : ∀ n, n < P → Mat 2048 tl)
    (hset : ∀ n h j, n % 4 = 0 → sc n h j = tn (x0 n h) (x1 n h) j)
    (hadd : ∀ n h j, (n + 1) % 4 ≠ 0 → sc (n + 1) h j = sc n (Nat.lt_of_succ_lt h) j + tn (x0 (n + 1) h) (x1 (n + 1) h) j)
    (q : ℕ) (h : 4 * q + 3 < P) (r : Fin tm) (l : Fin tl) (x : Fin A) (y : Fin B)
    (ha : ∀ (s : Fin 4) (k : Fin 2048) (hn : 4 * q + s.val < P), x0 (4 * q + s.val) hn (ix2 k r) = a (ix2 (deep s k) x))
    (hb : ∀ (s : Fin 4) (k : Fin 2048) (hn : 4 * q + s.val < P), x1 (4 * q + s.val) hn (ix2 k l) = b (ix2 (deep s k) y)) :
    sc (4 * q + 3) h (ix2 r l) = tn a b (ix2 x y) := by
  rw [run_so_far sc (fun n h => tn (x0 n h) (x1 n h)) hset hadd q 3 (by omega) h]
  unfold tn
  rw [sum_runs 4 2048]
  exact Finset.sum_congr rfl fun s _ => Finset.sum_congr rfl fun k _ => congrArg₂ (· * ·) (ha s k _) (hb s k _)

end Cert.Products

end
-- ==== Proof.Slots.lean ====
/- Eight slots of 2048 by 1408, four of them the column blocks of a weight's gradient. -/
module

public import proofs.«01_k».proof.Proof.Tiles

@[expose] public section

noncomputable section

namespace Cert.Products

open Idealize.ShloMosaic

theorem hz3 : (![0, 0, 0] : Fin 3 → Nat) = fun _ => 0 := funext fun a => by fin_cases a <;> rfl

/-- The eight slots. -/
abbrev Slots : Type := (⟨3, ![8, 2048, 1408]⟩ : Shape).Idx → EReal

/-- An index of a stack of matrices is its matrix, its row and its column. -/
theorem at_eq3 {A B C : ℕ} (i : (⟨3, ![A, B, C]⟩ : Shape).Idx) (s : Fin A) (r : Fin B) (l : Fin C) (h0 : (i 0).val = s.val) (h1 : (i 1).val = r.val) (h2 : (i 2).val = l.val) :
    i = ix3 s r l := by
  funext a
  apply Fin.ext
  match a with
  | ⟨0, _⟩ => exact h0
  | ⟨1, _⟩ => exact h1
  | ⟨2, _⟩ => exact h2

/-- Slots `base` to `base + 3` hold the four column blocks of `w`, the others what `e` holds. -/
def inSlots (base : ℕ) (w : Mat 2048 5632) (e : Slots) : Slots := fun i =>
  if hs : base ≤ (i 0).val ∧ (i 0).val < base + 4 then
    w (ix2 (i 1) ⟨1408 * ((i 0).val - base) + (i 2).val, by have h2 : (i 2).val < 1408 := (i 2).isLt; omega⟩)
  else e i

theorem inSlots_own (base : ℕ) (w : Mat 2048 5632) (e : Slots) (s : Fin 8) (p : Fin 2048) (l : Fin 1408) (n : ℕ) (q : Fin 5632) (hn : n < 4) (hs : s.val = base + n)
    (hq : q.val = 1408 * n + l.val) : inSlots base w e (ix3 s p l) = w (ix2 p q) := by
  have h : base ≤ s.val ∧ s.val < base + 4 := by omega
  refine (dif_pos h).trans (congrArg w (congrArg (ix2 p) (Fin.ext ?_)))
  show 1408 * (s.val - base) + l.val = q.val
  rw [hs, hq, Nat.add_sub_cancel_left]

theorem inSlots_other (base : ℕ) (w : Mat 2048 5632) (e : Slots) (i : (⟨3, ![8, 2048, 1408]⟩ : Shape).Idx) (hs : ¬(base ≤ (i 0).val ∧ (i 0).val < base + 4)) :
    inSlots base w e i = e i := dif_neg hs

end Cert.Products

end
-- ==== Proof.Dwg.lean ====
/- The gradient of the gate's weight, `hᵀ · dg`, written as the first four of the eight slots its exchange sends, the other four
   left as they were: what the kernel leaves in its result array, and what the reference does. -/
module

public import proofs.«01_k».proof.Defs
public import proofs.«01_k».proof.Proof.Slots
public import proofs.«01_k».proof.Proof.Gen.Kernel5Ideal.Value
public import proofs.«01_k».proof.Proof.Gen.Reference5Ideal.Read

@[expose] public section

set_option maxRecDepth 16384

noncomputable section

namespace Cert.Kernel5Ideal.Dwg

open Cert.Kernel5Ideal Cert.Kernel5Ideal.Gen Idealize.ShloMosaic Idealize.ShloMosaic.TcCoe Idealize.SL.Sem Idealize.ShloMosaic.StableHlo
open Idealize.ShloMosaic.Pipeline (Dat)
open Cert.Products

variable (m : (ℓ : Loc nD τ sig) → Buf (Elt Ideal) ℓ)

theorem pay_apply (x0 : Vec Ideal S2048x512 .bf16) (x1 : Vec Ideal S2048x1408 .bf16) : k0_pay1 x0 x1 = tn (K := 2048) x0 x1 := by
  funext j
  obtain ⟨r, l, rfl⟩ : ∃ (r : Fin 512) (l : Fin 1408), j = ix2 r l := ⟨j 0, j 1, eq_ix2 j⟩
  unfold tn
  pointwise [k0_pay1]

section
variable (c : Dev nD) (i : grid0.Coords) (arg3 : Memref sig .tc .vmem S2048x512 .bf16) (harg3 : arg3.IsWhole) (arg4 : Memref sig .tc .vmem S2048x1408 .bf16) (harg4 : arg4.IsWhole)
  (arg6 : Memref sig .tc .vmem S1x512x1408 .bf16) (harg6 : arg6.IsWhole) (arg7 : Memref sig .tc .vmem S512x1408 .f32) (harg7 : arg7.IsWhole)

/-- The first point of a run stores its product; the later ones add theirs to what the scratch held. -/
theorem scratch_A (hc0 : cond0_0 i) (hc1 : ¬cond0_1 i) (hc2 : ¬cond0_2 i) (x0 : Vec Ideal S2048x512 .bf16) (x1 : Vec Ideal S2048x1408 .bf16) :
    sout0_A_0 c i arg3 harg3 arg4 harg4 arg6 harg6 arg7 harg7 hc0 hc1 hc2 x0 x1 = tn (K := 2048) x0 x1 := by
  unfold sout0_A_0
  rw [View.read_writes_eq_canon _ _ _ (scover0_A_0 c i arg3 harg3 arg4 harg4 arg6 harg6 arg7 harg7 hc0 hc1 hc2 x0 x1)]
  unfold kernelRun0_A
  dsimp only
  sl_unfold_words
  rw [View.canon_unit_zero hz]
  unfold k0_pay2
  simp only [View.readAt_eq_ld, harg3.read_unread, harg4.read_unread, View.ld_unit_zero (S := S2048x512) hz, View.ld_unit_zero (S := S2048x1408) hz, shapeCast_self]
  exact pay_apply x0 x1

theorem scratch_B (hc0 : ¬cond0_0 i) (hc1 : cond0_1 i) (hc2 : ¬cond0_2 i) (x0 : Vec Ideal S2048x512 .bf16) (x1 : Vec Ideal S2048x1408 .bf16) (acc : Vec Ideal S512x1408 .f32) (j : S512x1408.Idx) :
    sout0_B_0 c i arg3 harg3 arg4 harg4 arg6 harg6 arg7 harg7 hc0 hc1 hc2 x0 x1 acc j = acc j + tn (K := 2048) x0 x1 j := by
  unfold sout0_B_0
  rw [View.read_writes_eq_canon _ _ _ (scover0_B_0 c i arg3 harg3 arg4 harg4 arg6 harg6 arg7 harg7 hc0 hc1 hc2 x0 x1 acc)]
  unfold kernelRun0_B
  dsimp only
  sl_unfold_words
  rw [View.canon_unit_zero hz]
  unfold k0_pay3
  simp only [View.readAt_eq_ld, harg3.read_unread, harg4.read_unread, harg7.read_unread, View.ld_unit_zero (S := S2048x512) hz, View.ld_unit_zero (S := S2048x1408) hz,
    View.ld_unit_zero (S := S512x1408) hz, shapeCast_self, pay_apply]
  rfl

theorem scratch_C (hc0 : ¬cond0_0 i) (hc1 : cond0_1 i) (hc2 : cond0_2 i) (x0 : Vec Ideal S2048x512 .bf16) (x1 : Vec Ideal S2048x1408 .bf16) (acc : Vec Ideal S512x1408 .f32) (j : S512x1408.Idx) :
    sout0_C_0 c i arg3 harg3 arg4 harg4 arg6 harg6 arg7 harg7 hc0 hc1 hc2 x0 x1 acc j = acc j + tn (K := 2048) x0 x1 j := by
  unfold sout0_C_0
  rw [View.read_writes_eq_canon _ _ _ (scover0_C_0 c i arg3 harg3 arg4 harg4 arg6 harg6 arg7 harg7 hc0 hc1 hc2 x0 x1 acc)]
  unfold kernelRun0_C
  dsimp only
  sl_unfold_words
  rw [View.canon_unit_zero hz]
  unfold k0_pay3
  simp only [View.readAt_eq_ld, harg3.read_unread, harg4.read_unread, harg7.read_unread, View.ld_unit_zero (S := S2048x512) hz, View.ld_unit_zero (S := S2048x1408) hz,
    View.ld_unit_zero (S := S512x1408) hz, shapeCast_self, pay_apply]
  rfl

/-- The last point of a run writes the scratch back. -/
theorem out_C (hc0 : ¬cond0_0 i) (hc1 : cond0_1 i) (hc2 : cond0_2 i) (x0 : Vec Ideal S2048x512 .bf16) (x1 : Vec Ideal S2048x1408 .bf16) (acc : Vec Ideal S512x1408 .f32) (r : Fin 512) (l : Fin 1408) :
    out0_C_2 c i arg3 harg3 arg4 harg4 arg6 harg6 arg7 harg7 hc0 hc1 hc2 x0 x1 acc (ix3 (0 : Fin 1) r l) = acc (ix2 r l) + tn (K := 2048) x0 x1 (ix2 r l) := by
  unfold out0_C_2
  rw [View.read_writes_eq_canon _ _ _ (cover0_C_2 c i arg3 harg3 arg4 harg4 arg6 harg6 arg7 harg7 hc0 hc1 hc2 x0 x1 acc)]
  unfold kernelRun0_C
  dsimp only
  sl_unfold_words
  rw [View.canon_unit_zero hz3]
  unfold k0_pay4 k0_pay3
  simp only [View.readCov_unit_zero (S := S512x1408) _ hz, View.readAt_eq_ld, harg3.read_unread, harg4.read_unread, harg7.read_unread, View.ld_unit_zero (S := S2048x512) hz, View.ld_unit_zero (S := S2048x1408) hz,
    View.ld_unit_zero (S := S512x1408) hz, shapeCast_self, pay_apply]
  pointwise []

end

theorem set (c : Dev nD) (n : ℕ) (h : n < cfg0.N) (j : S512x1408.Idx) (hn : n % 4 = 0) :
    (outsAt0 m c n h).2 j = tn (K := 2048) (iblk m c 0 ⟨n, h⟩) (iblk m c 1 ⟨n, h⟩) j := by
  rw [outsAt0_A m c ⟨n, h⟩ hn (by show ¬1 ≤ n % 4; omega) (by show ¬n % 4 = 3; omega)]
  dsimp only
  rw [scratch_A]

theorem add (c : Dev nD) (n : ℕ) (h : n + 1 < cfg0.N) (j : S512x1408.Idx) (hn : (n + 1) % 4 ≠ 0) :
    (outsAt0 m c (n + 1) h).2 j = (outsAt0 m c n (Nat.lt_of_succ_lt h)).2 j + tn (K := 2048) (iblk m c 0 ⟨n + 1, h⟩) (iblk m c 1 ⟨n + 1, h⟩) j := by
  by_cases h3 : (n + 1) % 4 = 3
  · rw [outsAt0_C m c ⟨n + 1, h⟩ hn (by show 1 ≤ (n + 1) % 4; omega) h3]
    dsimp only
    rw [scratch_C]
    rfl
  · rw [outsAt0_B m c ⟨n + 1, h⟩ hn (by show 1 ≤ (n + 1) % 4; omega) h3]
    dsimp only
    rw [scratch_B]
    rfl

theorem out (c : Dev nD) (t : Fin cfg0.N) (h : t.val % 4 = 3) (r : Fin 512) (l : Fin 1408) :
    (outsAt0 m c t.val t.isLt).1 (ix3 (0 : Fin 1) r l) = (outsAt0 m c t.val t.isLt).2 (ix2 r l) := by
  rw [outsAt0_C m c t (by omega) (by omega) h]
  dsimp only
  rw [out_C, scratch_C]

/-- The two arguments as the program is given them; over the reals the casts change nothing. -/
abbrev h (c : Dev nD) : Mat 8192 2048 := m ((c : Thread nD τ).loc main_arg0)
abbrev dg (c : Dev nD) : Mat 8192 5632 := m ((c : Thread nD τ).loc main_arg1)

theorem V_h (c : Dev nD) : V m c main_v0 = h m c := by
  unfold_abbrev_sides
  after_results
  rfl

theorem V_dg (c : Dev nD) : V m c main_v1 = dg m c := by
  unfold_abbrev_sides
  after_results
  rfl

/-- The slots the result starts from: the ones this call leaves keep them. -/
abbrev earlier (c : Dev nD) : Slots := m ((c : Thread nD τ).loc main_arg2)

theorem V_earlier (c : Dev nD) : V m c main_v2 = earlier m c := by
  unfold_abbrev_sides
  after_results
  rfl

theorem idx : ∀ t : Fin cfg0.N, (win0_0.index t 0 = t.val % 4 ∧ win0_0.index t 1 = t.val / 16) ∧ win0_1.index t 0 = t.val % 4 ∧ win0_1.index t 1 = t.val / 4 % 4 :=
  (by decide +kernel : ∀ t : Fin grid0.N, (win0_0.index t 0 = t.val % 4 ∧ win0_0.index t 1 = t.val / 16) ∧ win0_1.index t 0 = t.val % 4 ∧ win0_1.index t 1 = t.val / 4 % 4)

theorem read0 (c : Dev nD) (t : Fin cfg0.N) (s : Fin 4) (k : Fin 2048) (r : Fin 512) (p : Fin 2048) (hs : t.val % 4 = s.val) (hp : p.val = 512 * (t.val / 16) + r.val) :
    iblk m c 0 t (ix2 k r) = h m c (ix2 (deep s k) p) := by
  unfold iblk
  rw [View.read_apply]
  exact (congrFun (V_h m c) _).trans (congrArg (h m c) (block_at _ rfl rfl ((idx t).1.1.trans hs) (idx t).1.2 rfl hp))

theorem read1 (c : Dev nD) (t : Fin cfg0.N) (s : Fin 4) (k : Fin 2048) (l : Fin 1408) (q : Fin 5632) (hs : t.val % 4 = s.val) (hq : q.val = 1408 * (t.val / 4 % 4) + l.val) :
    iblk m c 1 t (ix2 k l) = dg m c (ix2 (deep s k) q) := by
  unfold iblk
  rw [View.read_apply]
  exact (congrFun (V_dg m c) _).trans (congrArg (dg m c) (block_at _ rfl rfl ((idx t).2.1.trans hs) (idx t).2.2 rfl hq))

/-- The last point of run `u` holds tile `u` of the gradient. -/
theorem run_tile (c : Dev nD) (u : ℕ) (hu : 4 * u + 3 < cfg0.N) (r : Fin 512) (l : Fin 1408) (p : Fin 2048) (q : Fin 5632) (hp : p.val = 512 * (u / 4) + r.val)
    (hq : q.val = 1408 * (u % 4) + l.val) : (outsAt0 m c (4 * u + 3) hu).2 (ix2 r l) = tn (h m c) (dg m c) (ix2 p q) :=
  tn_of_runs (h m c) (dg m c) (fun n h => (outsAt0 m c n h).2) (fun n h => iblk m c 0 ⟨n, h⟩) (fun n h => iblk m c 1 ⟨n, h⟩) (set m c) (add m c) u hu r l p q
    (fun s k hn => read0 m c ⟨_, hn⟩ s k r p (by show (4 * u + s.val) % 4 = s.val; omega) (by show p.val = 512 * ((4 * u + s.val) / 16) + r.val; omega))
    (fun s k hn => read1 m c ⟨_, hn⟩ s k l q (by show (4 * u + s.val) % 4 = s.val; omega) (by show q.val = 1408 * ((4 * u + s.val) / 4 % 4) + l.val; omega))

theorem idx2 : ∀ t : Fin cfg0.N, win0_2.index t 0 = t.val / 4 % 4 ∧ win0_2.index t 1 = t.val / 16 ∧ win0_2.index t 2 = 0 :=
  (by decide +kernel : ∀ t : Fin grid0.N, win0_2.index t 0 = t.val / 4 % 4 ∧ win0_2.index t 1 = t.val / 16 ∧ win0_2.index t 2 = 0)

/-- What the kernel leaves: the gradient's slots over the earlier ones. -/
abbrev result (c : Dev nD) : Slots := inSlots 0 (tn (h m c) (dg m c)) (earlier m c)

/-- Where a point's block sits. -/
theorem emb_eq (t : Fin cfg0.N) (r : Fin 512) (l : Fin 1408) (s : Fin 8) (p : Fin 2048) (hs : s.val = 0 + t.val / 4 % 4) (hp : p.val = 512 * (t.val / 16) + r.val) :
    ((cfg0.win 2).blk t).view.emb (ix3 (0 : Fin 1) r l) = ix3 s p l := by
  refine at_eq3 _ s p l ?_ ?_ ?_
  · show win0_2.index t 0 * 1 + 1 * 0 = s.val
    rw [(idx2 t).1]; omega
  · show win0_2.index t 1 * 512 + 1 * r.val = p.val
    rw [(idx2 t).2.1]; omega
  · show win0_2.index t 2 * 1408 + 1 * l.val = l.val
    rw [(idx2 t).2.2]; omega

theorem lt64 (t : Fin cfg0.N) : t.val < 64 := lt_of_lt_of_eq t.isLt (by decide)

theorem flushed_eq (c : Dev nD) (t : Fin cfg0.N) (hf : (cfg0.win 2).flush t = true) :
    (dats m 0 c).flushed 2 t = ((cfg0.win 2).blk t).view.read (Elt Ideal) (result m c) := by
  have h3 : t.val % 4 = 3 := (flush0_2 t).mp hf
  have h64 := lt64 t
  have hlt : 4 * (t.val / 4) + 3 < cfg0.N := by have := t.isLt; omega
  have e : t = ⟨4 * (t.val / 4) + 3, hlt⟩ := Fin.ext (by show t.val = 4 * (t.val / 4) + 3; omega)
  rw [Value.flushed2]
  funext y
  obtain ⟨z, r, l, rfl⟩ : ∃ (z : Fin 1) (r : Fin 512) (l : Fin 1408), y = ix3 z r l := ⟨y 0, y 1, y 2, eq_ix3 y⟩
  obtain rfl : z = 0 := Subsingleton.elim _ _
  rw [View.read_apply, emb_eq t r l ⟨0 + t.val / 4 % 4, by omega⟩ ⟨512 * (t.val / 16) + r.val, by omega⟩ rfl rfl]
  refine (out m c t h3 r l).trans ?_
  have hr := run_tile m c (t.val / 4) hlt r l ⟨512 * (t.val / 16) + r.val, by omega⟩ ⟨1408 * (t.val / 4 % 4) + l.val, by omega⟩ (by show 512 * (t.val / 16) + r.val = 512 * (t.val / 4 / 4) + r.val; omega) rfl
  refine Eq.trans ?_ (hr.trans (inSlots_own 0 _ (earlier m c) ⟨0 + t.val / 4 % 4, by omega⟩ _ l (t.val / 4 % 4) _ (by omega) rfl rfl).symm)
  exact congrArg (fun t' : Fin cfg0.N => (outsAt0 m c t'.val t'.isLt).2 (ix2 r l)) e

/-- The kernel's result: its four slots are covered by the points' blocks, the others keep what was there. -/
theorem final (c : Dev nD) : (dats m 0 c).arrAt 2 cfg0.N = result m c := by
  funext i
  refine (Dat.arrAt_eq_piecewise (dats m 0 c) 2 (result m c) (flushed_eq m c) i).trans ?_
  split
  · rfl
  · rename_i hn
    rw [A_eq]
    refine (congrFun (V_earlier m c) i).trans (inSlots_other 0 _ (earlier m c) i fun hs => hn ?_).symm
    obtain ⟨s, p, l, rfl⟩ : ∃ (s : Fin 8) (p : Fin 2048) (l : Fin 1408), i = ix3 s p l := ⟨i 0, i 1, i 2, eq_ix3 i⟩
    have hs' : 0 ≤ s.val ∧ s.val < 0 + 4 := hs
    have hN : 16 * (p.val / 512) + 4 * (s.val - 0) + 3 < cfg0.N := lt_of_lt_of_eq (b := 64) (by omega) (by decide)
    refine ⟨⟨_, hN⟩, (flush0_2 _).mpr (by show (16 * (p.val / 512) + 4 * (s.val - 0) + 3) % 4 = 3; omega), ?_⟩
    rw [← emb_eq ⟨_, hN⟩ ⟨p.val % 512, Nat.mod_lt _ (by decide)⟩ l s p (by show s.val = 0 + (16 * (p.val / 512) + 4 * (s.val - 0) + 3) / 4 % 4; omega)
      (by show p.val = 512 * ((16 * (p.val / 512) + 4 * (s.val - 0) + 3) / 16) + p.val % 512; omega)]
    exact View.emb_mem_set _ _

end Cert.Kernel5Ideal.Dwg

namespace Cert.Reference5Ideal.Read

open Cert.Reference5Ideal Cert.Reference5Ideal.Gen Idealize.ShloMosaic Cert.Products

theorem own (x0 : Mat 8192 2048) (x1 : Mat 8192 5632) (s : Fin 4) (p : Fin 2048) (l : Fin 1408) :
    val_main_v6 (F := Ideal) x0 x1 (ix3 s p l) = tn x0 x1 (ix2 p ⟨1408 * s.val + l.val, by omega⟩) := by
  rw [val_main_v6_apply, val_main_v5_apply, val_main_v4_apply, val_main_v3_apply, val_main_v2_apply]
  refine Finset.sum_congr rfl fun k _ => ?_
  rw [mul_comm]
  refine congrArg₂ (· * ·) (congrArg x0 (at_eq _ _ _ rfl ?_)) (congrArg x1 (at_eq _ _ _ rfl ?_))
  · show ((p.val * 4 + s.val) * 1408 + l.val) / 5632 = p.val
    omega
  · show ((p.val * 4 + s.val) * 1408 + l.val) % 5632 = 1408 * s.val + l.val
    omega

/-- The two halves of the slots, one after the other. -/
theorem slots_own (x0 : Mat 8192 2048) (x1 : Mat 8192 5632) (x2 : Slots) (s : Fin 4) (p : Fin 2048) (l : Fin 1408) :
    val_main_v8 (F := Ideal) x0 x1 x2 (ix3 (⟨s.val, by omega⟩ : Fin 8) p l) = val_main_v6 (F := Ideal) x0 x1 (ix3 s p l) := by
  pointwise [val_main_v8]

theorem slots_kept (x0 : Mat 8192 2048) (x1 : Mat 8192 5632) (x2 : Slots) (s : Fin 4) (p : Fin 2048) (l : Fin 1408) :
    val_main_v8 (F := Ideal) x0 x1 x2 (ix3 (⟨4 + s.val, by omega⟩ : Fin 8) p l) = x2 (ix3 ⟨4 + s.val, by omega⟩ p l) := by
  pointwise [val_main_v8, val_main_v7]

theorem weightGrad_eq (x0 : Mat 8192 2048) (x1 : Mat 8192 5632) (x2 : Slots) : val_main_v8 (F := Ideal) x0 x1 x2 = inSlots 0 (tn x0 x1) x2 := by
  funext i
  obtain ⟨s, p, l, rfl⟩ : ∃ (s : Fin 8) (p : Fin 2048) (l : Fin 1408), i = ix3 s p l := ⟨i 0, i 1, i 2, eq_ix3 i⟩
  by_cases hs : s.val < 4
  · have e : s = (⟨(⟨s.val, hs⟩ : Fin 4).val, by omega⟩ : Fin 8) := rfl
    exact (congrArg (fun s' => val_main_v8 (F := Ideal) x0 x1 x2 (ix3 s' p l)) e).trans ((slots_own x0 x1 x2 ⟨s.val, hs⟩ p l).trans ((own x0 x1 ⟨s.val, hs⟩ p l).trans
      (inSlots_own 0 _ x2 s p l s.val _ (by omega) (by omega) rfl).symm))
  · have e : s = (⟨4 + (⟨s.val - 4, by omega⟩ : Fin 4).val, by show 4 + (s.val - 4) < 8; omega⟩ : Fin 8) := Fin.ext (by show s.val = 4 + (s.val - 4); omega)
    refine (congrArg (fun s' => val_main_v8 (F := Ideal) x0 x1 x2 (ix3 s' p l)) e).trans ((slots_kept x0 x1 x2 ⟨s.val - 4, by omega⟩ p l).trans ?_)
    exact (congrArg (fun s' => x2 (ix3 s' p l)) e.symm).trans (inSlots_other 0 _ x2 _ (fun h' => by have h'' : 0 ≤ s.val ∧ s.val < 0 + 4 := h'; omega)).symm

end Cert.Reference5Ideal.Read

end
-- ==== Proof.Dwu.lean ====
/- The gradient of the up projection's weight, `hᵀ · du`, written as the last four of the eight slots its exchange sends, the
   other four left as they were: what the kernel leaves in its result array, and what the reference does. -/
module

public import proofs.«01_k».proof.Defs
public import proofs.«01_k».proof.Proof.Slots
public import proofs.«01_k».proof.Proof.Gen.Kernel11Ideal.Value
public import proofs.«01_k».proof.Proof.Gen.Reference11Ideal.Read

@[expose] public section

set_option maxRecDepth 16384

noncomputable section

namespace Cert.Kernel11Ideal.Dwu

open Cert.Kernel11Ideal Cert.Kernel11Ideal.Gen Idealize.ShloMosaic Idealize.ShloMosaic.TcCoe Idealize.SL.Sem Idealize.ShloMosaic.StableHlo
open Idealize.ShloMosaic.Pipeline (Dat)
open Cert.Products

variable (m : (ℓ : Loc nD τ sig) → Buf (Elt Ideal) ℓ)

theorem pay_apply (x0 : Vec Ideal S2048x512 .bf16) (x1 : Vec Ideal S2048x1408 .bf16) : k0_pay1 x0 x1 = tn (K := 2048) x0 x1 := by
  funext j
  obtain ⟨r, l, rfl⟩ : ∃ (r : Fin 512) (l : Fin 1408), j = ix2 r l := ⟨j 0, j 1, eq_ix2 j⟩
  unfold tn
  pointwise [k0_pay1]

section
variable (c : Dev nD) (i : grid0.Coords) (arg3 : Memref sig .tc .vmem S2048x512 .bf16) (harg3 : arg3.IsWhole) (arg4 : Memref sig .tc .vmem S2048x1408 .bf16) (harg4 : arg4.IsWhole)
  (arg6 : Memref sig .tc .vmem S1x512x1408 .bf16) (harg6 : arg6.IsWhole) (arg7 : Memref sig .tc .vmem S512x1408 .f32) (harg7 : arg7.IsWhole)

/-- The first point of a run stores its product; the later ones add theirs to what the scratch held. -/
theorem scratch_A (hc0 : cond0_0 i) (hc1 : ¬cond0_1 i) (hc2 : ¬cond0_2 i) (x0 : Vec Ideal S2048x512 .bf16) (x1 : Vec Ideal S2048x1408 .bf16) :
    sout0_A_0 c i arg3 harg3 arg4 harg4 arg6 harg6 arg7 harg7 hc0 hc1 hc2 x0 x1 = tn (K := 2048) x0 x1 := by
  unfold sout0_A_0
  rw [View.read_writes_eq_canon _ _ _ (scover0_A_0 c i arg3 harg3 arg4 harg4 arg6 harg6 arg7 harg7 hc0 hc1 hc2 x0 x1)]
  unfold kernelRun0_A
  dsimp only
  sl_unfold_words
  rw [View.canon_unit_zero hz]
  unfold k0_pay2
  simp only [View.readAt_eq_ld, harg3.read_unread, harg4.read_unread, View.ld_unit_zero (S := S2048x512) hz, View.ld_unit_zero (S := S2048x1408) hz, shapeCast_self]
  exact pay_apply x0 x1

theorem scratch_B (hc0 : ¬cond0_0 i) (hc1 : cond0_1 i) (hc2 : ¬cond0_2 i) (x0 : Vec Ideal S2048x512 .bf16) (x1 : Vec Ideal S2048x1408 .bf16) (acc : Vec Ideal S512x1408 .f32) (j : S512x1408.Idx) :
    sout0_B_0 c i arg3 harg3 arg4 harg4 arg6 harg6 arg7 harg7 hc0 hc1 hc2 x0 x1 acc j = acc j + tn (K := 2048) x0 x1 j := by
  unfold sout0_B_0
  rw [View.read_writes_eq_canon _ _ _ (scover0_B_0 c i arg3 harg3 arg4 harg4 arg6 harg6 arg7 harg7 hc0 hc1 hc2 x0 x1 acc)]
  unfold kernelRun0_B
  dsimp only
  sl_unfold_words
  rw [View.canon_unit_zero hz]
  unfold k0_pay3
  simp only [View.readAt_eq_ld, harg3.read_unread, harg4.read_unread, harg7.read_unread, View.ld_unit_zero (S := S2048x512) hz, View.ld_unit_zero (S := S2048x1408) hz,
    View.ld_unit_zero (S := S512x1408) hz, shapeCast_self, pay_apply]
  rfl

theorem scratch_C (hc0 : ¬cond0_0 i) (hc1 : cond0_1 i) (hc2 : cond0_2 i) (x0 : Vec Ideal S2048x512 .bf16) (x1 : Vec Ideal S2048x1408 .bf16) (acc : Vec Ideal S512x1408 .f32) (j : S512x1408.Idx) :
    sout0_C_0 c i arg3 harg3 arg4 harg4 arg6 harg6 arg7 harg7 hc0 hc1 hc2 x0 x1 acc j = acc j + tn (K := 2048) x0 x1 j := by
  unfold sout0_C_0
  rw [View.read_writes_eq_canon _ _ _ (scover0_C_0 c i arg3 harg3 arg4 harg4 arg6 harg6 arg7 harg7 hc0 hc1 hc2 x0 x1 acc)]
  unfold kernelRun0_C
  dsimp only
  sl_unfold_words
  rw [View.canon_unit_zero hz]
  unfold k0_pay3
  simp only [View.readAt_eq_ld, harg3.read_unread, harg4.read_unread, harg7.read_unread, View.ld_unit_zero (S := S2048x512) hz, View.ld_unit_zero (S := S2048x1408) hz,
    View.ld_unit_zero (S := S512x1408) hz, shapeCast_self, pay_apply]
  rfl

/-- The last point of a run writes the scratch back. -/
theorem out_C (hc0 : ¬cond0_0 i) (hc1 : cond0_1 i) (hc2 : cond0_2 i) (x0 : Vec Ideal S2048x512 .bf16) (x1 : Vec Ideal S2048x1408 .bf16) (acc : Vec Ideal S512x1408 .f32) (r : Fin 512) (l : Fin 1408) :
    out0_C_2 c i arg3 harg3 arg4 harg4 arg6 harg6 arg7 harg7 hc0 hc1 hc2 x0 x1 acc (ix3 (0 : Fin 1) r l) = acc (ix2 r l) + tn (K := 2048) x0 x1 (ix2 r l) := by
  unfold out0_C_2
  rw [View.read_writes_eq_canon _ _ _ (cover0_C_2 c i arg3 harg3 arg4 harg4 arg6 harg6 arg7 harg7 hc0 hc1 hc2 x0 x1 acc)]
  unfold kernelRun0_C
  dsimp only
  sl_unfold_words
  rw [View.canon_unit_zero hz3]
  unfold k0_pay4 k0_pay3
  simp only [View.readCov_unit_zero (S := S512x1408) _ hz, View.readAt_eq_ld, harg3.read_unread, harg4.read_unread, harg7.read_unread, View.ld_unit_zero (S := S2048x512) hz, View.ld_unit_zero (S := S2048x1408) hz,
    View.ld_unit_zero (S := S512x1408) hz, shapeCast_self, pay_apply]
  pointwise []

end

theorem set (c : Dev nD) (n : ℕ) (h : n < cfg0.N) (j : S512x1408.Idx) (hn : n % 4 = 0) :
    (outsAt0 m c n h).2 j = tn (K := 2048) (iblk m c 0 ⟨n, h⟩) (iblk m c 1 ⟨n, h⟩) j := by
  rw [outsAt0_A m c ⟨n, h⟩ hn (by show ¬1 ≤ n % 4; omega) (by show ¬n % 4 = 3; omega)]
  dsimp only
  rw [scratch_A]

theorem add (c : Dev nD) (n : ℕ) (h : n + 1 < cfg0.N) (j : S512x1408.Idx) (hn : (n + 1) % 4 ≠ 0) :
    (outsAt0 m c (n + 1) h).2 j = (outsAt0 m c n (Nat.lt_of_succ_lt h)).2 j + tn (K := 2048) (iblk m c 0 ⟨n + 1, h⟩) (iblk m c 1 ⟨n + 1, h⟩) j := by
  by_cases h3 : (n + 1) % 4 = 3
  · rw [outsAt0_C m c ⟨n + 1, h⟩ hn (by show 1 ≤ (n + 1) % 4; omega) h3]
    dsimp only
    rw [scratch_C]
    rfl
  · rw [outsAt0_B m c ⟨n + 1, h⟩ hn (by show 1 ≤ (n + 1) % 4; omega) h3]
    dsimp only
    rw [scratch_B]
    rfl

theorem out (c : Dev nD) (t : Fin cfg0.N) (h : t.val % 4 = 3) (r : Fin 512) (l : Fin 1408) :
    (outsAt0 m c t.val t.isLt).1 (ix3 (0 : Fin 1) r l) = (outsAt0 m c t.val t.isLt).2 (ix2 r l) := by
  rw [outsAt0_C m c t (by omega) (by omega) h]
  dsimp only
  rw [out_C, scratch_C]

/-- The two arguments as the program is given them; over the reals the casts change nothing. -/
abbrev h (c : Dev nD) : Mat 8192 2048 := m ((c : Thread nD τ).loc main_arg0)
abbrev dg (c : Dev nD) : Mat 8192 5632 := m ((c : Thread nD τ).loc main_arg1)

theorem V_h (c : Dev nD) : V m c main_v0 = h m c := by
  unfold_abbrev_sides
  after_results
  rfl

theorem V_dg (c : Dev nD) : V m c main_v1 = dg m c := by
  unfold_abbrev_sides
  after_results
  rfl

/-- The slots the result starts from: the ones this call leaves keep them. -/
abbrev earlier (c : Dev nD) : Slots := m ((c : Thread nD τ).loc main_arg2)

theorem V_earlier (c : Dev nD) : V m c main_v2 = earlier m c := by
  unfold_abbrev_sides
  after_results
  rfl

theorem idx : ∀ t : Fin cfg0.N, (win0_0.index t 0 = t.val % 4 ∧ win0_0.index t 1 = t.val / 16) ∧ win0_1.index t 0 = t.val % 4 ∧ win0_1.index t 1 = t.val / 4 % 4 :=
  (by decide +kernel : ∀ t : Fin grid0.N, (win0_0.index t 0 = t.val % 4 ∧ win0_0.index t 1 = t.val / 16) ∧ win0_1.index t 0 = t.val % 4 ∧ win0_1.index t 1 = t.val / 4 % 4)

theorem read0 (c : Dev nD) (t : Fin cfg0.N) (s : Fin 4) (k : Fin 2048) (r : Fin 512) (p : Fin 2048) (hs : t.val % 4 = s.val) (hp : p.val = 512 * (t.val / 16) + r.val) :
    iblk m c 0 t (ix2 k r) = h m c (ix2 (deep s k) p) := by
  unfold iblk
  rw [View.read_apply]
  exact (congrFun (V_h m c) _).trans (congrArg (h m c) (block_at _ rfl rfl ((idx t).1.1.trans hs) (idx t).1.2 rfl hp))

theorem read1 (c : Dev nD) (t : Fin cfg0.N) (s : Fin 4) (k : Fin 2048) (l : Fin 1408) (q : Fin 5632) (hs : t.val % 4 = s.val) (hq : q.val = 1408 * (t.val / 4 % 4) + l.val) :
    iblk m c 1 t (ix2 k l) = dg m c (ix2 (deep s k) q) := by
  unfold iblk
  rw [View.read_apply]
  exact (congrFun (V_dg m c) _).trans (congrArg (dg m c) (block_at _ rfl rfl ((idx t).2.1.trans hs) (idx t).2.2 rfl hq))

/-- The last point of run `u` holds tile `u` of the gradient. -/
theorem run_tile (c : Dev nD) (u : ℕ) (hu : 4 * u + 3 < cfg0.N) (r : Fin 512) (l : Fin 1408) (p : Fin 2048) (q : Fin 5632) (hp : p.val = 512 * (u / 4) + r.val)
    (hq : q.val = 1408 * (u % 4) + l.val) : (outsAt0 m c (4 * u + 3) hu).2 (ix2 r l) = tn (h m c) (dg m c) (ix2 p q) :=
  tn_of_runs (h m c) (dg m c) (fun n h => (outsAt0 m c n h).2) (fun n h => iblk m c 0 ⟨n, h⟩) (fun n h => iblk m c 1 ⟨n, h⟩) (set m c) (add m c) u hu r l p q
    (fun s k hn => read0 m c ⟨_, hn⟩ s k r p (by show (4 * u + s.val) % 4 = s.val; omega) (by show p.val = 512 * ((4 * u + s.val) / 16) + r.val; omega))
    (fun s k hn => read1 m c ⟨_, hn⟩ s k l q (by show (4 * u + s.val) % 4 = s.val; omega) (by show q.val = 1408 * ((4 * u + s.val) / 4 % 4) + l.val; omega))

theorem idx2 : ∀ t : Fin cfg0.N, win0_2.index t 0 = 4 + t.val / 4 % 4 ∧ win0_2.index t 1 = t.val / 16 ∧ win0_2.index t 2 = 0 :=
  (by decide +kernel : ∀ t : Fin grid0.N, win0_2.index t 0 = 4 + t.val / 4 % 4 ∧ win0_2.index t 1 = t.val / 16 ∧ win0_2.index t 2 = 0)

/-- What the kernel leaves: the gradient's slots over the earlier ones. -/
abbrev result (c : Dev nD) : Slots := inSlots 4 (tn (h m c) (dg m c)) (earlier m c)

/-- Where a point's block sits. -/
theorem emb_eq (t : Fin cfg0.N) (r : Fin 512) (l : Fin 1408) (s : Fin 8) (p : Fin 2048) (hs : s.val = 4 + t.val / 4 % 4) (hp : p.val = 512 * (t.val / 16) + r.val) :
    ((cfg0.win 2).blk t).view.emb (ix3 (0 : Fin 1) r l) = ix3 s p l := by
  refine at_eq3 _ s p l ?_ ?_ ?_
  · show win0_2.index t 0 * 1 + 1 * 0 = s.val
    rw [(idx2 t).1]; omega
  · show win0_2.index t 1 * 512 + 1 * r.val = p.val
    rw [(idx2 t).2.1]; omega
  · show win0_2.index t 2 * 1408 + 1 * l.val = l.val
    rw [(idx2 t).2.2]; omega

theorem lt64 (t : Fin cfg0.N) : t.val < 64 := lt_of_lt_of_eq t.isLt (by decide)

theorem flushed_eq (c : Dev nD) (t : Fin cfg0.N) (hf : (cfg0.win 2).flush t = true) :
    (dats m 0 c).flushed 2 t = ((cfg0.win 2).blk t).view.read (Elt Ideal) (result m c) := by
  have h3 : t.val % 4 = 3 := (flush0_2 t).mp hf
  have h64 := lt64 t
  have hlt : 4 * (t.val / 4) + 3 < cfg0.N := by have := t.isLt; omega
  have e : t = ⟨4 * (t.val / 4) + 3, hlt⟩ := Fin.ext (by show t.val = 4 * (t.val / 4) + 3; omega)
  rw [Value.flushed2]
  funext y
  obtain ⟨z, r, l, rfl⟩ : ∃ (z : Fin 1) (r : Fin 512) (l : Fin 1408), y = ix3 z r l := ⟨y 0, y 1, y 2, eq_ix3 y⟩
  obtain rfl : z = 0 := Subsingleton.elim _ _
  rw [View.read_apply, emb_eq t r l ⟨4 + t.val / 4 % 4, by omega⟩ ⟨512 * (t.val / 16) + r.val, by omega⟩ rfl rfl]
  refine (out m c t h3 r l).trans ?_
  have hr := run_tile m c (t.val / 4) hlt r l ⟨512 * (t.val / 16) + r.val, by omega⟩ ⟨1408 * (t.val / 4 % 4) + l.val, by omega⟩ (by show 512 * (t.val / 16) + r.val = 512 * (t.val / 4 / 4) + r.val; omega) rfl
  refine Eq.trans ?_ (hr.trans (inSlots_own 4 _ (earlier m c) ⟨4 + t.val / 4 % 4, by omega⟩ _ l (t.val / 4 % 4) _ (by omega) rfl rfl).symm)
  exact congrArg (fun t' : Fin cfg0.N => (outsAt0 m c t'.val t'.isLt).2 (ix2 r l)) e

/-- The kernel's result: its four slots are covered by the points' blocks, the others keep what was there. -/
theorem final (c : Dev nD) : (dats m 0 c).arrAt 2 cfg0.N = result m c := by
  funext i
  refine (Dat.arrAt_eq_piecewise (dats m 0 c) 2 (result m c) (flushed_eq m c) i).trans ?_
  split
  · rfl
  · rename_i hn
    rw [A_eq]
    refine (congrFun (V_earlier m c) i).trans (inSlots_other 4 _ (earlier m c) i fun hs => hn ?_).symm
    obtain ⟨s, p, l, rfl⟩ : ∃ (s : Fin 8) (p : Fin 2048) (l : Fin 1408), i = ix3 s p l := ⟨i 0, i 1, i 2, eq_ix3 i⟩
    have hs' : 4 ≤ s.val ∧ s.val < 4 + 4 := hs
    have hN : 16 * (p.val / 512) + 4 * (s.val - 4) + 3 < cfg0.N := lt_of_lt_of_eq (b := 64) (by omega) (by decide)
    refine ⟨⟨_, hN⟩, (flush0_2 _).mpr (by show (16 * (p.val / 512) + 4 * (s.val - 4) + 3) % 4 = 3; omega), ?_⟩
    rw [← emb_eq ⟨_, hN⟩ ⟨p.val % 512, Nat.mod_lt _ (by decide)⟩ l s p (by show s.val = 4 + (16 * (p.val / 512) + 4 * (s.val - 4) + 3) / 4 % 4; omega)
      (by show p.val = 512 * ((16 * (p.val / 512) + 4 * (s.val - 4) + 3) / 16) + p.val % 512; omega)]
    exact View.emb_mem_set _ _

end Cert.Kernel11Ideal.Dwu

namespace Cert.Reference11Ideal.Read

open Cert.Reference11Ideal Cert.Reference11Ideal.Gen Idealize.ShloMosaic Cert.Products

theorem own (x0 : Mat 8192 2048) (x1 : Mat 8192 5632) (s : Fin 4) (p : Fin 2048) (l : Fin 1408) :
    val_main_v7 (F := Ideal) x0 x1 (ix3 s p l) = tn x0 x1 (ix2 p ⟨1408 * s.val + l.val, by omega⟩) := by
  rw [val_main_v7_apply, val_main_v6_apply, val_main_v5_apply, val_main_v3_apply, val_main_v2_apply]
  refine Finset.sum_congr rfl fun k _ => ?_
  rw [mul_comm]
  refine congrArg₂ (· * ·) (congrArg x0 (at_eq _ _ _ rfl ?_)) (congrArg x1 (at_eq _ _ _ rfl ?_))
  · show ((p.val * 4 + s.val) * 1408 + l.val) / 5632 = p.val
    omega
  · show ((p.val * 4 + s.val) * 1408 + l.val) % 5632 = 1408 * s.val + l.val
    omega

/-- The two halves of the slots, one after the other. -/
theorem slots_own (x0 : Mat 8192 2048) (x1 : Mat 8192 5632) (x2 : Slots) (s : Fin 4) (p : Fin 2048) (l : Fin 1408) :
    val_main_v8 (F := Ideal) x0 x1 x2 (ix3 (⟨4 + s.val, by omega⟩ : Fin 8) p l) = val_main_v7 (F := Ideal) x0 x1 (ix3 s p l) := by
  pointwise [val_main_v8]

theorem slots_kept (x0 : Mat 8192 2048) (x1 : Mat 8192 5632) (x2 : Slots) (s : Fin 4) (p : Fin 2048) (l : Fin 1408) :
    val_main_v8 (F := Ideal) x0 x1 x2 (ix3 (⟨s.val, by omega⟩ : Fin 8) p l) = x2 (ix3 ⟨s.val, by omega⟩ p l) := by
  pointwise [val_main_v8, val_main_v4]

theorem weightGrad_eq (x0 : Mat 8192 2048) (x1 : Mat 8192 5632) (x2 : Slots) : val_main_v8 (F := Ideal) x0 x1 x2 = inSlots 4 (tn x0 x1) x2 := by
  funext i
  obtain ⟨s, p, l, rfl⟩ : ∃ (s : Fin 8) (p : Fin 2048) (l : Fin 1408), i = ix3 s p l := ⟨i 0, i 1, i 2, eq_ix3 i⟩
  by_cases hs : s.val < 4
  · have e : s = (⟨(⟨s.val, hs⟩ : Fin 4).val, by omega⟩ : Fin 8) := rfl
    refine (congrArg (fun s' => val_main_v8 (F := Ideal) x0 x1 x2 (ix3 s' p l)) e).trans ((slots_kept x0 x1 x2 ⟨s.val, hs⟩ p l).trans ?_)
    exact (congrArg (fun s' => x2 (ix3 s' p l)) e.symm).trans (inSlots_other 4 _ x2 _ (fun h' => by have h'' : 4 ≤ s.val ∧ s.val < 4 + 4 := h'; omega)).symm
  · have e : s = (⟨4 + (⟨s.val - 4, by omega⟩ : Fin 4).val, by show 4 + (s.val - 4) < 8; omega⟩ : Fin 8) := Fin.ext (by show s.val = 4 + (s.val - 4); omega)
    exact (congrArg (fun s' => val_main_v8 (F := Ideal) x0 x1 x2 (ix3 s' p l)) e).trans ((slots_own x0 x1 x2 ⟨s.val - 4, by omega⟩ p l).trans ((own x0 x1 ⟨s.val - 4, by omega⟩ p l).trans
      (inSlots_own 4 _ x2 s p l (s.val - 4) _ (by omega) (by omega) rfl).symm))

end Cert.Reference11Ideal.Read

end
-- ==== Proof.Gating.lean ====
/- The mathematics of the gMLP unit's gradient, on one sequence block of 128 rows: with `u` and `v` the two halves of `gelu z`,
   the unit multiplies `u` by a causal mixing over the block's rows of the layer norm of `v`, group of columns by group. The
   gradients of `z`, of the mixing weights and their bias, and of the norm's scale and shift, each in the form the kernel
   computes it; and the laws, over the reals, that carry the reference's forms of `gelu`, of its derivative and of the norm's
   backward pass to these. -/
module

public import proofs.«01_k».proof.Proof.Reals

@[expose] public section

noncomputable section

namespace Cert.Gating

open Idealize.ShloMosaic Cert.Products Cert.Reals

/-- The constants: a half, the slope `√(2/π)` and the norm's epsilon as f32 holds them, the width 2048 of a half, and the
    cubic's coefficient and three times it. -/
abbrev half : EReal := Ideal.ofBits .f32 0x3F000000#32
abbrev slope : EReal := Ideal.ofBits .f32 0x3F4C422A#32
abbrev eps : EReal := Ideal.ofBits .f32 0x358637BD#32
abbrev width : EReal := Ideal.ofBits .f32 0x45000000#32
abbrev cub : EReal := ((8943 / 200000 : ℝ) : EReal)
abbrev cub3 : EReal := ((26829 / 200000 : ℝ) : EReal)

/-- `tanh (√(2/π) (x + 0.044715 x³))`. -/
def th (x : EReal) : EReal := Ideal.tanh (slope * (x + cub * x * x * x))

def gelu (x : EReal) : EReal := half * x * (1 + th x)

/-- The derivative of `gelu`. -/
def dgelu (x : EReal) : EReal := half * (1 + th x) + half * x * (1 - th x * th x) * slope * (1 + cub3 * x * x)

/-- The mean of a row, the row less its mean, the reciprocal of its deviation, and the normalised row. -/
def mean (w : Fin 2048 → EReal) : EReal := Ideal.div (∑ k, w k) width

def cen (w : Fin 2048 → EReal) (k : Fin 2048) : EReal := w k - mean w

def rstd (w : Fin 2048 → EReal) : EReal := Ideal.rsqrt (mean (fun k => cen w k * cen w k) + eps)

def hat (w : Fin 2048 → EReal) (k : Fin 2048) : EReal := cen w k * rstd w

/-- The norm's backward pass: from the gradient `d` of the normalised row. -/
def normGrad (w d : Fin 2048 → EReal) (k : Fin 2048) : EReal :=
  rstd w * (d k - mean d - hat w k * mean (fun k => d k * hat w k))

/-- A stack of sixteen 128 by 128 matrices. -/
abbrev Stack : Type := (⟨3, ![16, 128, 128]⟩ : Shape).Idx → EReal

/-- The two halves of the 4096 columns; a column's group and its place in it; and back. -/
abbrev lft (k : Fin 2048) : Fin 4096 := ⟨k.val, by omega⟩
abbrev rgt (k : Fin 2048) : Fin 4096 := ⟨2048 + k.val, by omega⟩
abbrev grp (k : Fin 2048) : Fin 16 := ⟨k.val / 128, by omega⟩
abbrev off (k : Fin 2048) : Fin 128 := ⟨k.val % 128, by omega⟩
abbrev col (g : Fin 16) (l : Fin 128) : Fin 2048 := ⟨128 * g.val + l.val, by omega⟩

theorem grp_col (g : Fin 16) (l : Fin 128) : grp (col g l) = g := Fin.ext (by show (128 * g.val + l.val) / 128 = g.val; omega)

theorem off_col (g : Fin 16) (l : Fin 128) : off (col g l) = l := Fin.ext (by show (128 * g.val + l.val) % 128 = l.val; omega)

theorem col_grp_off (k : Fin 2048) : col (grp k) (off k) = k := Fin.ext (by show 128 * (k.val / 128) + k.val % 128 = k.val; omega)

section Block

variable (d : Mat 128 2048) (z : Mat 128 4096) (g b : Mat 1 2048) (w wt bs : Stack)

/-- Row `s` of the second half of `gelu z`. -/
def vrow (s : Fin 128) (k : Fin 2048) : EReal := gelu (z (ix2 s (rgt k)))

/-- The layer norm of row `s`. -/
def vln (s : Fin 128) (k : Fin 2048) : EReal := hat (vrow z s) k * g (ix2 0 k) + b (ix2 0 k)

/-- The mixing of the block's rows. -/
def mix (t : Fin 128) (k : Fin 2048) : EReal := (∑ s : Fin 128, w (ix3 (grp k) t s) * vln z g b s k) + bs (ix3 (grp k) t (off k))

/-- The gradient of the mixing. -/
def dmix (t : Fin 128) (k : Fin 2048) : EReal := d (ix2 t k) * gelu (z (ix2 t (lft k)))

/-- The gradient of the layer norm of row `s`. -/
def dvln (s : Fin 128) (k : Fin 2048) : EReal := ∑ t : Fin 128, wt (ix3 (grp k) s t) * dmix d z t k

/-- What the block adds to the gradient of the mixing weights, of their bias, of the norm's scale and of its shift. -/
def dws (q : Fin 16) (t s : Fin 128) : EReal := if s.val ≤ t.val then ∑ l : Fin 128, dmix d z t (col q l) * vln z g b s (col q l) else 0

def dbs (q : Fin 16) (t : Fin 128) : EReal := ∑ l : Fin 128, dmix d z t (col q l)

def dlg (k : Fin 2048) : EReal := ∑ s : Fin 128, dvln d z wt s k * hat (vrow z s) k

def dlb (k : Fin 2048) : EReal := ∑ s : Fin 128, dvln d z wt s k

/-- The gradient of the two halves of `z`. -/
def dzu (t : Fin 128) (k : Fin 2048) : EReal := d (ix2 t k) * mix z g b w bs t k * dgelu (z (ix2 t (lft k)))

def dzv (s : Fin 128) (k : Fin 2048) : EReal := normGrad (vrow z s) (fun k => dvln d z wt s k * g (ix2 0 k)) k * dgelu (z (ix2 s (rgt k)))

end Block

/-! ## The laws over the reals -/

theorem width_ne : (2048 : ℝ) ≠ 0 := by norm_num

theorem mean_coe (r : Fin 2048 → ℝ) : mean (fun k => (r k : EReal)) = (((∑ k, r k) * (1 / 2048) : ℝ) : EReal) := by
  unfold mean width
  rw [width_eq, Ideal.div_coe width_ne, ← coe_sum, ← EReal.coe_mul]

theorem th_coe (x : ℝ) : IsReal (th (x : EReal)) := by
  obtain ⟨c, hc⟩ := slope_real
  unfold th slope cub
  rw [hc]
  simp only [← EReal.coe_mul, ← EReal.coe_add, Ideal.tanh_coe]
  exact ⟨_, rfl⟩

theorem gelu_real {x : EReal} (hx : IsReal x) : IsReal (gelu x) := by
  obtain ⟨x, rfl⟩ := hx
  obtain ⟨t, ht⟩ := th_coe x
  unfold gelu half
  rw [ht, half_eq, ← EReal.coe_one]
  simp only [← EReal.coe_mul, ← EReal.coe_add]
  exact ⟨_, rfl⟩

/-- The cubic with its coefficient written as a quotient. -/
theorem cubic_forms {x : EReal} (hx : IsReal x) :
    Ideal.div (Ideal.ofBits .f32 0x472EAB00#32 * (x * x * x)) (Ideal.ofBits .f32 0x49742400#32) = cub * x * x * x := by
  obtain ⟨x, rfl⟩ := hx
  rw [num_eq, den_eq, Ideal.div_coe (by norm_num)]
  unfold cub
  simp only [← EReal.coe_mul]
  exact congrArg _ (by ring)

/-- The derivative of `gelu` as its factors' product rule gives it. -/
theorem dgelu_forms {x y t : EReal} (hx : IsReal x) (hy : IsReal y) (ht : IsReal t) :
    slope * (half * x * y * ((1 + t) * (1 - t)))
        + Ideal.ofBits .f32 0x472EAB00#32 * Ideal.div (slope * (half * x * y * ((1 + t) * (1 - t)))) (Ideal.ofBits .f32 0x49742400#32)
          * (Ideal.ofBits .f32 0x40400000#32 * (x * x))
        + half * (y * (1 + t))
      = y * (half * (1 + t) + half * x * (1 - t * t) * slope * (1 + cub3 * x * x)) := by
  obtain ⟨x, rfl⟩ := hx; obtain ⟨y, rfl⟩ := hy; obtain ⟨t, rfl⟩ := ht
  obtain ⟨c, hc⟩ := slope_real
  unfold slope half cub3
  rw [hc, half_eq, num_eq, den_eq, three_eq, Ideal.div_coe (by norm_num), ← EReal.coe_one]
  simp only [← EReal.coe_mul, ← EReal.coe_add, ← EReal.coe_sub]
  exact congrArg _ (by ring)

theorem cen_coe (r : Fin 2048 → ℝ) (k : Fin 2048) : cen (fun k => (r k : EReal)) k = ((r k - (∑ k, r k) * (1 / 2048) : ℝ) : EReal) := by
  unfold cen
  rw [mean_coe, ← EReal.coe_sub]

/-- The sum of a centred row is zero. -/
theorem sum_centred (r : Fin 2048 → ℝ) : ∑ k, (r k - (∑ k, r k) * (1 / 2048)) = 0 := by
  rw [Finset.sum_sub_distrib, Finset.sum_const, Finset.card_univ, Fintype.card_fin, nsmul_eq_mul]
  push_cast
  ring

/-- The variance with its epsilon is a positive real. -/
theorem spread (r : Fin 2048 → ℝ) : ∃ y : ℝ, 0 < y ∧
    mean (fun k => cen (fun k => (r k : EReal)) k * cen (fun k => (r k : EReal)) k) + eps = (y : EReal) := by
  obtain ⟨e, he, hc⟩ := eps_real
  refine ⟨(∑ k, (r k - (∑ k, r k) * (1 / 2048)) * (r k - (∑ k, r k) * (1 / 2048))) * (1 / 2048) + e, ?_, ?_⟩
  · have : 0 ≤ ∑ k, (r k - (∑ k, r k) * (1 / 2048)) * (r k - (∑ k, r k) * (1 / 2048)) := Finset.sum_nonneg fun _ _ => mul_self_nonneg _
    positivity
  · simp only [cen_coe, ← EReal.coe_mul]
    rw [mean_coe, EReal.coe_add]
    exact congrArg _ hc

theorem rsqrt_pos {y : ℝ} (hy : 0 < y) : Ideal.rsqrt (y : EReal) = (((Real.sqrt y)⁻¹ : ℝ) : EReal) := by
  rw [Ideal.rsqrt_coe, if_neg (not_lt.mpr hy.le), if_neg hy.ne']

theorem hat_real {w : Fin 2048 → EReal} (hw : ∀ k, IsReal (w k)) (k : Fin 2048) : IsReal (hat w k) := by
  obtain ⟨r, rfl⟩ := reals_of hw
  obtain ⟨y, hy, h⟩ := spread r
  unfold hat rstd
  rw [h, rsqrt_pos hy, cen_coe, ← EReal.coe_mul]
  exact ⟨_, rfl⟩

/-- The norm's backward pass as the chain of its operations gives it, through the variance and the mean. -/
theorem norm_forms {w d : Fin 2048 → EReal} (hw : ∀ k, IsReal (w k)) (hd : ∀ k, IsReal (d k)) (k : Fin 2048) (q : EReal)
    (hq : q = Ideal.div ((∑ k, cen w k * d k) * (Ideal.ofBits .f32 0xBF000000#32 * Ideal.div (rstd w) (mean (fun k => cen w k * cen w k) + eps))) width) :
    d k * rstd w + q * (Ideal.ofBits .f32 0x40000000#32 * cen w k)
        + Ideal.div ((∑ k, -(d k * rstd w)) + ∑ k, -(q * (Ideal.ofBits .f32 0x40000000#32 * cen w k))) width
      = normGrad w d k := by
  obtain ⟨r, rfl⟩ := reals_of hw
  obtain ⟨e, rfl⟩ := reals_of hd
  obtain ⟨y, hy, h⟩ := spread r
  obtain ⟨c, hc⟩ : ∃ c : Fin 2048 → ℝ, c = fun k => r k - (∑ k, r k) * (1 / 2048) := ⟨_, rfl⟩
  have hcen : ∀ k, cen (fun k => (r k : EReal)) k = (c k : EReal) := fun k => by rw [cen_coe, hc]
  have hsum : ∑ k, c k = 0 := by rw [hc]; exact sum_centred r
  obtain ⟨i, hi⟩ : ∃ i : ℝ, i = (Real.sqrt y)⁻¹ := ⟨_, rfl⟩
  have hii : i * i = 1 / y := by rw [hi, ← mul_inv, Real.mul_self_sqrt hy.le, one_div]
  have hr : rstd (fun k => (r k : EReal)) = (i : EReal) := by unfold rstd; rw [h, rsqrt_pos hy, hi]
  have hqr : q = (((∑ k, c k * e k) * (-(1 / 2) * (i * (1 / y))) * (1 / 2048) : ℝ) : EReal) := by
    rw [hq, h, hr]
    unfold width
    simp only [hcen]
    rw [neg_half_eq, width_eq, Ideal.div_coe hy.ne', Ideal.div_coe width_ne]
    simp only [← EReal.coe_mul, ← coe_sum]
  unfold normGrad hat
  simp only [hcen, hr, hqr, two_eq]
  unfold width
  rw [width_eq, Ideal.div_coe width_ne]
  simp only [← EReal.coe_mul, mean_coe, ← EReal.coe_neg, ← coe_sum, ← EReal.coe_add, ← EReal.coe_sub]
  refine congrArg _ ?_
  have e1 : ∑ k, -(e k * i) = -((∑ k, e k) * i) := by rw [Finset.sum_neg_distrib, Finset.sum_mul]
  have e2 : ∑ x, -((∑ k, c k * e k) * (-(1 / 2) * (i * (1 / y))) * (1 / 2048) * (2 * c x)) = 0 := by
    rw [Finset.sum_neg_distrib, ← Finset.mul_sum, ← Finset.mul_sum, hsum, mul_zero, mul_zero, neg_zero]
  have e3 : ∑ k, e k * (c k * i) = (∑ k, c k * e k) * i := by
    rw [Finset.sum_mul]; exact Finset.sum_congr rfl fun k _ => by ring
  rw [e1, e2, e3, ← hii]
  ring

theorem dgelu_real {x : EReal} (hx : IsReal x) : IsReal (dgelu x) := by
  obtain ⟨x, rfl⟩ := hx
  obtain ⟨t, ht⟩ := th_coe x
  obtain ⟨c, hc⟩ := slope_real
  unfold dgelu half slope cub3
  rw [ht, hc, half_eq, ← EReal.coe_one]
  simp only [← EReal.coe_mul, ← EReal.coe_add, ← EReal.coe_sub]
  exact ⟨_, rfl⟩

theorem normGrad_real {w d : Fin 2048 → EReal} (hw : ∀ k, IsReal (w k)) (hd : ∀ k, IsReal (d k)) (k : Fin 2048) : IsReal (normGrad w d k) := by
  obtain ⟨h, hh⟩ := reals_of (hat_real hw)
  obtain ⟨e, rfl⟩ := reals_of hd
  obtain ⟨i, hi⟩ : IsReal (rstd w) := by
    obtain ⟨r, rfl⟩ := reals_of hw
    obtain ⟨y, hy, h⟩ := spread r
    unfold rstd
    rw [h, rsqrt_pos hy]
    exact ⟨_, rfl⟩
  unfold normGrad
  rw [hh, hi]
  simp only [← EReal.coe_mul, mean_coe, ← EReal.coe_sub]
  exact ⟨_, rfl⟩

/-! ## The whole sequence of 64 blocks -/

/-- Row `r` of block `q`, and the rows of block `q`. -/
abbrev pos (q : Fin 64) (r : Fin 128) : Fin 8192 := ⟨128 * q.val + r.val, by omega⟩

def rows {n : ℕ} (x : Mat 8192 n) (q : Fin 64) : Mat 128 n := fun i => x (ix2 (pos q (i 0)) (i 1))

theorem rows_apply {n : ℕ} (x : Mat 8192 n) (q : Fin 64) (r : Fin 128) (k : Fin n) : rows x q (ix2 r k) = x (ix2 (pos q r) k) := rfl

/-- The mixing weights with what lies above the diagonal cleared, these transposed, and the bias once for each column. -/
def causal (w : Stack) : Stack := fun i => if (i 2).val ≤ (i 1).val then w i else 0

def causalT (w : Stack) : Stack := fun i => if (i 1).val ≤ (i 2).val then w (ix3 (i 0) (i 2) (i 1)) else 0

def spreadBias (b : Mat 16 128) : Stack := fun i => b (ix2 (i 0) (i 1))

section Whole

variable (d : Mat 8192 2048) (z : Mat 8192 4096) (g b : Mat 1 2048) (w : Stack) (bs : Mat 16 128)

/-- The five gradients over the whole sequence. -/
def gradZ : Mat 8192 4096 := fun i =>
  have h0 : (i 0).val < 8192 := (i 0).isLt
  have h1 : (i 1).val < 4096 := (i 1).isLt
  if h : (i 1).val < 2048 then
    dzu (rows d ⟨(i 0).val / 128, by omega⟩) (rows z ⟨(i 0).val / 128, by omega⟩) g b (causal w) (spreadBias bs) ⟨(i 0).val % 128, by omega⟩ ⟨(i 1).val, h⟩
  else
    dzv (rows d ⟨(i 0).val / 128, by omega⟩) (rows z ⟨(i 0).val / 128, by omega⟩) g (causalT w) ⟨(i 0).val % 128, by omega⟩ ⟨(i 1).val - 2048, by omega⟩

def gradW : Stack := fun i => ∑ q : Fin 64, dws (rows d q) (rows z q) g b (i 0) (i 1) (i 2)

def gradB : Stack := fun i => ∑ q : Fin 64, dbs (rows d q) (rows z q) (i 0) (i 1)

def gradG : Mat 1 2048 := fun i => ∑ q : Fin 64, dlg (rows d q) (rows z q) (causalT w) (i 1)

def gradS : Mat 1 2048 := fun i => ∑ q : Fin 64, dlb (rows d q) (rows z q) (causalT w) (i 1)

theorem gradZ_left (q : Fin 64) (r : Fin 128) (k : Fin 2048) :
    gradZ d z g b w bs (ix2 (pos q r) (lft k)) = dzu (rows d q) (rows z q) g b (causal w) (spreadBias bs) r k := by
  have hq : (⟨(128 * q.val + r.val) / 128, by omega⟩ : Fin 64) = q := Fin.ext (by show (128 * q.val + r.val) / 128 = q.val; omega)
  have hr : (⟨(128 * q.val + r.val) % 128, by omega⟩ : Fin 128) = r := Fin.ext (by show (128 * q.val + r.val) % 128 = r.val; omega)
  unfold gradZ
  refine (dif_pos k.isLt).trans ?_
  show dzu (rows d ⟨(128 * q.val + r.val) / 128, _⟩) (rows z ⟨(128 * q.val + r.val) / 128, _⟩) g b (causal w) (spreadBias bs) ⟨(128 * q.val + r.val) % 128, _⟩ k = _
  rw [hq, hr]

theorem gradZ_right (q : Fin 64) (r : Fin 128) (k : Fin 2048) :
    gradZ d z g b w bs (ix2 (pos q r) (rgt k)) = dzv (rows d q) (rows z q) g (causalT w) r k := by
  have hq : (⟨(128 * q.val + r.val) / 128, by omega⟩ : Fin 64) = q := Fin.ext (by show (128 * q.val + r.val) / 128 = q.val; omega)
  have hr : (⟨(128 * q.val + r.val) % 128, by omega⟩ : Fin 128) = r := Fin.ext (by show (128 * q.val + r.val) % 128 = r.val; omega)
  have hk : (⟨2048 + k.val - 2048, by omega⟩ : Fin 2048) = k := Fin.ext (by show 2048 + k.val - 2048 = k.val; omega)
  unfold gradZ
  refine (dif_neg (by show ¬(2048 + k.val < 2048); omega)).trans ?_
  show dzv (rows d ⟨(128 * q.val + r.val) / 128, _⟩) (rows z ⟨(128 * q.val + r.val) / 128, _⟩) g (causalT w) ⟨(128 * q.val + r.val) % 128, _⟩ ⟨2048 + k.val - 2048, _⟩ = _
  rw [hq, hr, hk]

end Whole

end Cert.Gating

end
-- ==== Proof.GatingRef.lean ====
/- What the reference's gradient of the gMLP unit is: jax's backward pass of the unit, read operation by operation, is the
   block-by-block mathematics of `Gating`, where the arguments are finite. -/
module

public import proofs.«01_k».proof.Proof.Gating
public import proofs.«01_k».proof.Proof.Slots
public import proofs.«01_k».proof.Proof.Gen.ReferenceIdeal.Read

@[expose] public section

set_option maxRecDepth 16384

noncomputable section

namespace Cert.Gating

open Idealize.ShloMosaic Cert.Products Cert.Reals

/-- An index of four axes is its four coordinates. -/
theorem at_eq4 {A B C D : ℕ} (i : (⟨4, ![A, B, C, D]⟩ : Shape).Idx) (a : Fin A) (b : Fin B) (c : Fin C) (d : Fin D)
    (h0 : (i 0).val = a.val) (h1 : (i 1).val = b.val) (h2 : (i 2).val = c.val) (h3 : (i 3).val = d.val) : i = ix4 a b c d := by
  funext x
  apply Fin.ext
  match x with
  | ⟨0, _⟩ => exact h0
  | ⟨1, _⟩ => exact h1
  | ⟨2, _⟩ => exact h2
  | ⟨3, _⟩ => exact h3

/-- A host sum over the first and the last of four axes. -/
theorem sum_outer {A B C D : ℕ} (h : (⟨4, ![A, B, C, D]⟩ : Shape).ReducesTo [0, 3] ⟨2, ![B, C]⟩) (x : (⟨4, ![A, B, C, D]⟩ : Shape).Idx → EReal) (e : EReal)
    (b : Fin B) (c : Fin C) : Ideal.hostReduceAdd h x e (ix2 b c) = e + ∑ a : Fin A, ∑ d : Fin D, x (ix4 a b c d) := by
  unfold Ideal.hostReduceAdd
  rw [← Fintype.sum_prod_type']
  refine congrArg (e + ·) (Finset.sum_nbij' (fun i => (i 0, i 3)) (fun p => ix4 p.1 b c p.2) (fun _ _ => Finset.mem_univ _) ?_ ?_ (fun _ _ => rfl) ?_)
  · intro p _
    refine Finset.mem_filter.mpr ⟨Finset.mem_univ _, at_eq _ _ _ ?_ ?_⟩
    · exact h.drop_apply_val_of_eq _ 0 1 Nat.zero_lt_two rfl
    · exact h.drop_apply_val_of_eq _ 1 2 Nat.one_lt_two rfl
  · intro i hi
    have hd := (Finset.mem_filter.mp hi).2
    refine (at_eq4 i _ _ _ _ rfl ?_ ?_ rfl).symm
    · exact (h.drop_apply_val_of_eq i 0 1 Nat.zero_lt_two rfl).symm.trans (congrArg (fun j : (⟨2, ![B, C]⟩ : Shape).Idx => (j 0).val) hd)
    · exact (h.drop_apply_val_of_eq i 1 2 Nat.one_lt_two rfl).symm.trans (congrArg (fun j : (⟨2, ![B, C]⟩ : Shape).Idx => (j 1).val) hd)
  · intro i hi
    have hd := (Finset.mem_filter.mp hi).2
    refine congrArg x (at_eq4 i _ _ _ _ rfl ?_ ?_ rfl)
    · exact (h.drop_apply_val_of_eq i 0 1 Nat.zero_lt_two rfl).symm.trans (congrArg (fun j : (⟨2, ![B, C]⟩ : Shape).Idx => (j 0).val) hd)
    · exact (h.drop_apply_val_of_eq i 1 2 Nat.one_lt_two rfl).symm.trans (congrArg (fun j : (⟨2, ![B, C]⟩ : Shape).Idx => (j 1).val) hd)

section Finite

variable {d : Mat 8192 2048} {z : Mat 8192 4096} {g b : Mat 1 2048} {w : Stack} {bs : Mat 16 128}

theorem vrow_real (hz : ∀ i, IsReal (z i)) (q : Fin 64) (s : Fin 128) (k : Fin 2048) : IsReal (vrow (rows z q) s k) := gelu_real (hz _)

theorem causal_real (hw : ∀ i, IsReal (w i)) (i : (⟨3, ![16, 128, 128]⟩ : Shape).Idx) : IsReal (causal w i) := by
  unfold causal
  split
  · exact hw _
  · exact ⟨0, rfl⟩

theorem causalT_real (hw : ∀ i, IsReal (w i)) (i : (⟨3, ![16, 128, 128]⟩ : Shape).Idx) : IsReal (causalT w i) := by
  unfold causalT
  split
  · exact hw _
  · exact ⟨0, rfl⟩

theorem mix_real (hz : ∀ i, IsReal (z i)) (hg : ∀ i, IsReal (g i)) (hb : ∀ i, IsReal (b i)) (hw : ∀ i, IsReal (w i)) (hbs : ∀ i, IsReal (bs i)) (q : Fin 64) (t : Fin 128) (k : Fin 2048) :
    IsReal (mix (rows z q) g b (causal w) (spreadBias bs) t k) :=
  (IsReal.sum _ fun s _ => (causal_real hw _).mul (((hat_real (fun k => vrow_real hz q s k) k).mul (hg _)).add (hb _))).add (hbs _)

theorem dvln_real (hd : ∀ i, IsReal (d i)) (hz : ∀ i, IsReal (z i)) (hw : ∀ i, IsReal (w i)) (q : Fin 64) (s : Fin 128) (k : Fin 2048) :
    IsReal (dvln (rows d q) (rows z q) (causalT w) s k) :=
  IsReal.sum _ fun t _ => (causalT_real hw _).mul ((hd _).mul (gelu_real (hz _)))

end Finite

end Cert.Gating

namespace Cert.ReferenceIdeal.Read

open Cert.ReferenceIdeal Cert.ReferenceIdeal.Gen Idealize.ShloMosaic Cert.Products Cert.Reals Cert.Gating

variable (x0 : Mat 8192 2048) (x1 : Mat 8192 4096) (x2 x3 : Mat 1 2048) (x4 : Stack) (x5 : Mat 16 128)

section Forward

variable (h1 : ∀ i, IsReal (x1 i))
include h1

theorem th_eq (i : S8192x4096.Idx) : val_main_v14 (F := Ideal) x1 i = th (x1 i) := by
  unfold th
  rw [← cubic_forms (h1 i)]
  rfl

theorem gelu_eq (i : S8192x4096.Idx) : val_main_v22 (F := Ideal) x1 i = gelu (x1 i) := by
  unfold gelu
  rw [← th_eq x1 h1 i]
  pointwise [val_main_v22, val_main_v21, val_main_v20, val_main_cst_6, val_main_v1, val_main_v0, val_main_cst]

theorem right_eq (q : Fin 64) (r : Fin 128) (k : Fin 2048) : val_main_v24 (F := Ideal) x1 (ix2 (pos q r) k) = vrow (rows x1 q) r k := by
  rw [val_main_v24_apply, gelu_eq x1 h1]
  exact congrArg (fun i => gelu (x1 i)) (at_eq _ _ _ rfl rfl)

theorem mean_eq (q : Fin 64) (r : Fin 128) : val_main_v28 (F := Ideal) x1 (ix2 (pos q r) 0) = mean (vrow (rows x1 q) r) := by
  unfold mean
  pointwise [val_main_v28, val_main_v27, val_main_cst_8, val_main_v26, val_main_v25, val_main_cst_7]
  exact congrArg (Ideal.div · width) (Finset.sum_congr rfl fun k _ => right_eq x1 h1 q r k)

theorem cen_eq (q : Fin 64) (r : Fin 128) (k : Fin 2048) : val_main_v30 (F := Ideal) x1 (ix2 (pos q r) k) = cen (vrow (rows x1 q) r) k := by
  unfold cen
  rw [← mean_eq x1 h1, ← right_eq x1 h1]
  pointwise [val_main_v30, val_main_v29]

theorem cen_eq' (q : Fin 64) (r : Fin 128) (k : Fin 2048) : val_main_v39 (F := Ideal) x1 (ix2 (pos q r) k) = cen (vrow (rows x1 q) r) k := by
  unfold cen
  rw [← mean_eq x1 h1, ← right_eq x1 h1]
  pointwise [val_main_v39, val_main_v38]

theorem var_eq (q : Fin 64) (r : Fin 128) :
    val_main_v41 (F := Ideal) x1 (ix2 (pos q r) 0) = mean (fun k => cen (vrow (rows x1 q) r) k * cen (vrow (rows x1 q) r) k) + eps := by
  unfold mean
  simp only [← cen_eq x1 h1]
  pointwise [val_main_v41, val_main_v40, val_main_cst_12, val_main_v37, val_main_v36, val_main_cst_11, val_main_v35, val_main_v34, val_main_cst_10, val_main_v31]

theorem rstd_eq (q : Fin 64) (r : Fin 128) : val_main_v42 (F := Ideal) x1 (ix2 (pos q r) 0) = rstd (vrow (rows x1 q) r) := by
  unfold rstd
  rw [← var_eq x1 h1]
  pointwise [val_main_v42]

theorem hat_eq (q : Fin 64) (r : Fin 128) (k : Fin 2048) : val_main_v47 (F := Ideal) x1 (ix2 (pos q r) k) = hat (vrow (rows x1 q) r) k := by
  unfold hat
  rw [← cen_eq' x1 h1, ← rstd_eq x1 h1]
  pointwise [val_main_v47, val_main_v46]

theorem vln_eq (q : Fin 64) (r : Fin 128) (k : Fin 2048) : val_main_v51 (F := Ideal) x1 x2 x3 (ix2 (pos q r) k) = vln (rows x1 q) x2 x3 r k := by
  unfold vln
  rw [← hat_eq x1 h1]
  pointwise [val_main_v51, val_main_v50, val_main_v49, val_main_v48]

theorem vln_eq4 (q : Fin 64) (s : Fin 128) (g : Fin 16) (l : Fin 128) :
    val_main_v52 (F := Ideal) x1 x2 x3 (ix4 q s g l) = vln (rows x1 q) x2 x3 s (col g l) := by
  rw [val_main_v52_apply, ← vln_eq x1 x2 x3 h1]
  refine congrArg _ (at_eq _ _ _ ?_ ?_)
  · show (((q.val * 128 + s.val) * 16 + g.val) * 128 + l.val) / 2048 = 128 * q.val + s.val; omega
  · show (((q.val * 128 + s.val) * 16 + g.val) * 128 + l.val) % 2048 = 128 * g.val + l.val; omega

end Forward

/-- The mask's bit is set on and below the diagonal. -/
theorem mask_eq (t s : Fin 128) (a b : EReal) :
    Scalar.select (Scalar.select (IntOp.cmpi CmpIPredicate.sge (IntOp.addi (BitVec.ofNat 32 t.val) 0#32) (BitVec.ofNat 32 s.val)) 1#1 0#1) a b
      = if s.val ≤ t.val then a else b := by
  have e : ∀ t s : Fin 128, IntOp.cmpi CmpIPredicate.sge (IntOp.addi (BitVec.ofNat 32 t.val) 0#32) (BitVec.ofNat 32 s.val) = if s.val ≤ t.val then 1#1 else 0#1 := by
    decide +kernel
  rw [e]
  by_cases h : s.val ≤ t.val
  · simp [h, Scalar.select]
  · simp [h, Scalar.select]

theorem causal_eq (g : Fin 16) (t s : Fin 128) : val_main_v57_0 (F := Ideal) x4 (ix3 g t s) = causal x4 (ix3 g t s) := by
  refine Eq.trans ?_ (mask_eq t s _ _)
  pointwise [val_main_v57_0, val_main_v57_1, val_main_v56, val_main_v55, val_main_v54, val_main_v53, val_main_c, val_main_call0_v0, val_main_call0_v1, val_main_call0_v2, val_main_call0_v3,
    val_main_call0_v4, val_main_call0_v5, val_main_call0_c, val_main_call0_c_0, val_main_cst_14]

theorem bias_eq (q : Fin 64) (t : Fin 128) (g : Fin 16) (l : Fin 128) : val_main_v62 (F := Ideal) x5 (ix4 q t g l) = spreadBias x5 (ix3 g t l) := by
  pointwise [val_main_v62, val_main_v61, val_main_v60, spreadBias]

theorem mix_eq (h1 : ∀ i, IsReal (x1 i)) (q : Fin 64) (t : Fin 128) (k : Fin 2048) :
    val_main_v64 (F := Ideal) x1 x2 x3 x4 x5 (ix2 (pos q t) k) = mix (rows x1 q) x2 x3 (causal x4) (spreadBias x5) t k := by
  have hk := k.isLt
  unfold mix
  rw [val_main_v64_apply, show idx_main_v64 (ix2 (pos q t) k) = ix4 q t (grp k) (off k) from at_eq4 _ _ _ _ _
    (by show ((128 * q.val + t.val) * 2048 + k.val) / 262144 = q.val; omega)
    (by show ((128 * q.val + t.val) * 2048 + k.val) / 2048 % 128 = t.val; omega)
    (by show ((128 * q.val + t.val) * 2048 + k.val) / 128 % 16 = k.val / 128; omega)
    (by show ((128 * q.val + t.val) * 2048 + k.val) % 128 = k.val % 128; omega),
    val_main_v63_apply, bias_eq]
  refine congrArg (· + _) ?_
  pointwise [val_main_v59, val_main_v58]
  refine Finset.sum_congr rfl fun s _ => ?_
  rw [vln_eq4 x1 x2 x3 h1, causal_eq, col_grp_off, mul_comm]

section Backward

variable (h1 : ∀ i, IsReal (x1 i))
include h1

theorem left_eq (q : Fin 64) (r : Fin 128) (k : Fin 2048) : val_main_v23 (F := Ideal) x1 (ix2 (pos q r) k) = gelu (rows x1 q (ix2 r (lft k))) := by
  rw [val_main_v23_apply, gelu_eq x1 h1]
  exact congrArg (fun i => gelu (x1 i)) (at_eq _ _ _ rfl rfl)

theorem dmix_eq4 (q : Fin 64) (t : Fin 128) (g : Fin 16) (l : Fin 128) :
    val_main_v68 (F := Ideal) x0 x1 (ix4 q t g l) = dmix (rows x0 q) (rows x1 q) t (col g l) := by
  unfold dmix
  rw [val_main_v68_apply, show idx_main_v68 (ix4 q t g l) = ix2 (pos q t) (col g l) from at_eq _ _ _
    (by show (((q.val * 128 + t.val) * 16 + g.val) * 128 + l.val) / 2048 = 128 * q.val + t.val; omega)
    (by show (((q.val * 128 + t.val) * 16 + g.val) * 128 + l.val) % 2048 = 128 * g.val + l.val; omega),
    val_main_v66_apply, left_eq x1 h1]
  exact mul_comm _ _

theorem dvln_eq (q : Fin 64) (s : Fin 128) (k : Fin 2048) :
    val_main_v78 (F := Ideal) x0 x1 x4 (ix2 (pos q s) k) = dvln (rows x0 q) (rows x1 q) (causalT x4) s k := by
  have hk := k.isLt
  unfold dvln
  rw [val_main_v78_apply, show idx_main_v78 (ix2 (pos q s) k) = ix4 q s (grp k) (off k) from at_eq4 _ _ _ _ _
    (by show ((128 * q.val + s.val) * 2048 + k.val) / 262144 = q.val; omega)
    (by show ((128 * q.val + s.val) * 2048 + k.val) / 2048 % 128 = s.val; omega)
    (by show ((128 * q.val + s.val) * 2048 + k.val) / 128 % 16 = k.val / 128; omega)
    (by show ((128 * q.val + s.val) * 2048 + k.val) % 128 = k.val % 128; omega)]
  pointwise [val_main_v76, val_main_v75, val_main_v73]
  refine Finset.sum_congr rfl fun t _ => ?_
  rw [dmix_eq4 x0 x1 h1, causal_eq, col_grp_off, mul_comm]
  rfl

/-- The gradient of the mixing bias. -/
theorem gradB_eq : val_main_v127 (F := Ideal) x0 x1 = gradB x0 x1 := by
  funext i
  obtain ⟨g, t, l, rfl⟩ : ∃ (g : Fin 16) (t l : Fin 128), i = ix3 g t l := ⟨i 0, i 1, i 2, at_eq3 i _ _ _ rfl rfl rfl⟩
  show _ = ∑ q : Fin 64, ∑ l : Fin 128, dmix (rows x0 q) (rows x1 q) t (col g l)
  pointwise [val_main_v127, val_main_v126, val_main_v72, val_main_v71, val_main_cst_16]
  rw [sum_outer, zero_add, Fin.sum_univ_one, Fin.sum_univ_one, val_main_v70_apply,
    show idx_main_v70 (ix4 0 t g 0) = ix2 t g from at_eq _ _ _ (by show (((0 * 128 + t.val) * 16 + g.val) * 1 + 0) / 16 = t.val; omega) (by show (((0 * 128 + t.val) * 16 + g.val) * 1 + 0) % 16 = g.val; omega)]
  pointwise [val_main_v69, val_main_cst_15]
  rw [sum_outer, zero_add]
  exact Finset.sum_congr rfl fun q _ => Finset.sum_congr rfl fun l _ => dmix_eq4 x0 x1 h1 q t g l

/-- The gradient of the mixing weights. -/
theorem gradW_eq : val_main_v77 (F := Ideal) x0 x1 x2 x3 = gradW x0 x1 x2 x3 := by
  funext i
  obtain ⟨g, t, s, rfl⟩ : ∃ (g : Fin 16) (t s : Fin 128), i = ix3 g t s := ⟨i 0, i 1, i 2, at_eq3 i _ _ _ rfl rfl rfl⟩
  have e : val_main_v77 (F := Ideal) x0 x1 x2 x3 (ix3 g t s) = if s.val ≤ t.val then val_main_v74 (F := Ideal) x0 x1 x2 x3 (ix3 g t s) else 0 := by
    refine Eq.trans ?_ (mask_eq t s _ _)
    pointwise [val_main_v77, val_main_v57_1, val_main_v55, val_main_v54, val_main_v53, val_main_c, val_main_call0_v0, val_main_call0_v1, val_main_call0_v2, val_main_call0_v3,
      val_main_call0_v4, val_main_call0_v5, val_main_call0_c, val_main_call0_c_0, val_main_call2_v0, val_main_call2_cst]
  rw [e]
  show _ = ∑ q : Fin 64, dws (rows x0 q) (rows x1 q) x2 x3 g t s
  unfold dws
  by_cases h : s.val ≤ t.val
  · simp only [if_pos h]
    pointwise [val_main_v74, val_main_v73]
    refine Finset.sum_congr rfl fun q _ => Finset.sum_congr rfl fun l _ => ?_
    rw [dmix_eq4 x0 x1 h1, vln_eq4 x1 x2 x3 h1]
  · simp only [if_neg h]
    exact Finset.sum_const_zero.symm

/-- The gradient of the norm's shift. -/
theorem gradS_eq : val_main_v80 (F := Ideal) x0 x1 x4 = gradS x0 x1 x4 := by
  funext i
  obtain ⟨u, k, rfl⟩ : ∃ (u : Fin 1) (k : Fin 2048), i = ix2 u k := ⟨i 0, i 1, eq_ix2 i⟩
  obtain rfl : u = 0 := Subsingleton.elim _ _
  show _ = ∑ q : Fin 64, ∑ s : Fin 128, dvln (rows x0 q) (rows x1 q) (causalT x4) s k
  pointwise [val_main_v80, val_main_v79, val_main_cst_17]
  exact (sum_runs 64 128 _).trans (Finset.sum_congr rfl fun q _ => Finset.sum_congr rfl fun s _ => dvln_eq x0 x1 x4 h1 q s k)

/-- The gradient of the norm's scale. -/
theorem gradG_eq : val_main_v83 (F := Ideal) x0 x1 x4 = gradG x0 x1 x4 := by
  funext i
  obtain ⟨u, k, rfl⟩ : ∃ (u : Fin 1) (k : Fin 2048), i = ix2 u k := ⟨i 0, i 1, eq_ix2 i⟩
  obtain rfl : u = 0 := Subsingleton.elim _ _
  show _ = ∑ q : Fin 64, ∑ s : Fin 128, dvln (rows x0 q) (rows x1 q) (causalT x4) s k * hat (vrow (rows x1 q) s) k
  pointwise [val_main_v83, val_main_v82, val_main_cst_18, val_main_v81]
  refine (sum_runs 64 128 _).trans (Finset.sum_congr rfl fun q _ => Finset.sum_congr rfl fun s _ => ?_)
  rw [← dvln_eq x0 x1 x4 h1, ← hat_eq x1 h1]
  exact mul_comm _ _

/-- The norm's backward pass. -/
theorem normGrad_eq (h0 : ∀ i, IsReal (x0 i)) (h2 : ∀ i, IsReal (x2 i)) (h4 : ∀ i, IsReal (x4 i)) (q : Fin 64) (s : Fin 128) (k : Fin 2048) :
    val_main_v109 (F := Ideal) x0 x1 x2 x4 (ix2 (pos q s) k)
      = normGrad (vrow (rows x1 q) s) (fun k => dvln (rows x0 q) (rows x1 q) (causalT x4) s k * x2 (ix2 0 k)) k := by
  have hd : ∀ k, IsReal (dvln (rows x0 q) (rows x1 q) (causalT x4) s k * x2 (ix2 0 k)) := fun k => (dvln_real h0 h1 h4 q s k).mul (h2 _)
  have e85 : ∀ k, val_main_v85 (F := Ideal) x0 x1 x2 x4 (ix2 (pos q s) k) = dvln (rows x0 q) (rows x1 q) (causalT x4) s k * x2 (ix2 0 k) := fun k => by
    rw [← dvln_eq x0 x1 x4 h1]
    pointwise [val_main_v85, val_main_v84]
  have e90 : ∀ k, val_main_v90 (F := Ideal) x0 x1 x2 x4 (ix2 (pos q s) k) = dvln (rows x0 q) (rows x1 q) (causalT x4) s k * x2 (ix2 0 k) * rstd (vrow (rows x1 q) s) := fun k => by
    rw [← e85, ← rstd_eq x1 h1]
    pointwise [val_main_v90, val_main_v89]
  have e97 : val_main_v97 (F := Ideal) x0 x1 x2 x4 (ix1 (pos q s)) = Ideal.div ((∑ k, cen (vrow (rows x1 q) s) k * (dvln (rows x0 q) (rows x1 q) (causalT x4) s k * x2 (ix2 0 k)))
      * (Ideal.ofBits .f32 0xBF000000#32 * Ideal.div (rstd (vrow (rows x1 q) s)) (mean (fun k => cen (vrow (rows x1 q) s) k * cen (vrow (rows x1 q) s) k) + eps))) width := by
    rw [← var_eq x1 h1, ← rstd_eq x1 h1]
    simp only [← e85, ← cen_eq' x1 h1]
    pointwise [val_main_v97, val_main_cst_22, val_main_v96, val_main_v95, val_main_cst_21, val_main_v91, val_main_v88, val_main_v87, val_main_cst_19, val_main_v86, val_main_v45, val_main_v44,
      val_main_cst_13, val_main_v43]
    rw [Fin.sum_univ_one]
  have e99 : ∀ k, val_main_v99 (F := Ideal) x0 x1 x2 x4 (ix2 (pos q s) k)
      = val_main_v97 (F := Ideal) x0 x1 x2 x4 (ix1 (pos q s)) * (Ideal.ofBits .f32 0x40000000#32 * cen (vrow (rows x1 q) s) k) := fun k => by
    rw [← cen_eq x1 h1]
    pointwise [val_main_v99, val_main_v98, val_main_v33, val_main_v32, val_main_cst_9]
  rw [← norm_forms (fun k => vrow_real h1 q s k) hd k _ e97]
  simp only [← e99, ← e90]
  pointwise [val_main_v109, val_main_v108, val_main_v107, val_main_cst_25, val_main_v106, val_main_v105, val_main_cst_24, val_main_v104, val_main_v103, val_main_v102, val_main_v101,
    val_main_cst_23, val_main_v100, val_main_v94, val_main_v93, val_main_cst_20, val_main_v92]
  rw [Fin.sum_univ_one]

/-- `gelu`'s backward pass of a real gradient. -/
theorem geluGrad_eq (i : S8192x4096.Idx) (hy : IsReal (val_main_v110 (F := Ideal) x0 x1 x2 x3 x4 x5 i)) :
    val_main_v125 (F := Ideal) x0 x1 x2 x3 x4 x5 i = val_main_v110 (F := Ideal) x0 x1 x2 x3 x4 x5 i * dgelu (x1 i) := by
  obtain ⟨x, hx⟩ := h1 i
  have ht : IsReal (th (x1 i)) := by rw [hx]; exact th_coe x
  unfold dgelu
  rw [← dgelu_forms (h1 i) hy ht, ← th_eq x1 h1 i]
  pointwise [val_main_v125, val_main_v124, val_main_v123, val_main_v122, val_main_cst_29, val_main_v121, val_main_v120, val_main_v119, val_main_v118, val_main_cst_28, val_main_v117, val_main_v116,
    val_main_cst_27, val_main_v115, val_main_v114, val_main_cst_26, val_main_v113, val_main_v112, val_main_v111, val_main_v21, val_main_v20, val_main_cst_6, val_main_v19, val_main_v18, val_main_v17,
    val_main_cst_5, val_main_v16, val_main_v15, val_main_cst_4, val_main_v6, val_main_v5, val_main_cst_0, val_main_v4, val_main_v1, val_main_v0, val_main_cst]

/-- The gradient of the unit's input. -/
theorem gradZ_eq (h0 : ∀ i, IsReal (x0 i)) (h2 : ∀ i, IsReal (x2 i)) (h3 : ∀ i, IsReal (x3 i)) (h4 : ∀ i, IsReal (x4 i)) (h5 : ∀ i, IsReal (x5 i)) :
    val_main_v125 (F := Ideal) x0 x1 x2 x3 x4 x5 = gradZ x0 x1 x2 x3 x4 x5 := by
  have hl : ∀ (q : Fin 64) (r : Fin 128) (k : Fin 2048), val_main_v110 (F := Ideal) x0 x1 x2 x3 x4 x5 (ix2 (pos q r) (lft k))
      = rows x0 q (ix2 r k) * mix (rows x1 q) x2 x3 (causal x4) (spreadBias x5) r k := fun q r k => by
    rw [← mix_eq x1 x2 x3 x4 x5 h1]
    pointwise [val_main_v110, val_main_v67]
    rfl
  have hr : ∀ (q : Fin 64) (r : Fin 128) (k : Fin 2048), val_main_v110 (F := Ideal) x0 x1 x2 x3 x4 x5 (ix2 (pos q r) (rgt k))
      = normGrad (vrow (rows x1 q) r) (fun k => dvln (rows x0 q) (rows x1 q) (causalT x4) r k * x2 (ix2 0 k)) k := fun q r k => by
    rw [← normGrad_eq x0 x1 x2 x4 h1 h0 h2 h4]
    pointwise [val_main_v110]
  funext i
  have hi0 : (i 0).val < 8192 := (i 0).isLt
  have hi1 : (i 1).val < 4096 := (i 1).isLt
  obtain ⟨q, r, hqr⟩ : ∃ (q : Fin 64) (r : Fin 128), (i 0).val = 128 * q.val + r.val :=
    ⟨⟨(i 0).val / 128, by omega⟩, ⟨(i 0).val % 128, by omega⟩, by show (i 0).val = 128 * ((i 0).val / 128) + (i 0).val % 128; omega⟩
  by_cases h : (i 1).val < 2048
  · obtain ⟨k, hk⟩ : ∃ k : Fin 2048, (i 1).val = k.val := ⟨⟨(i 1).val, h⟩, rfl⟩
    obtain rfl : i = ix2 (pos q r) (lft k) := at_eq _ _ _ hqr hk
    rw [geluGrad_eq x0 x1 x2 x3 x4 x5 h1, hl, gradZ_left]
    · rfl
    · rw [hl]; exact (h0 _).mul (mix_real h1 h2 h3 h4 h5 q r _)
  · obtain ⟨k, hk⟩ : ∃ k : Fin 2048, (i 1).val = 2048 + k.val := ⟨⟨(i 1).val - 2048, by omega⟩, by show (i 1).val = 2048 + ((i 1).val - 2048); omega⟩
    obtain rfl : i = ix2 (pos q r) (rgt k) := at_eq _ _ _ hqr hk
    rw [geluGrad_eq x0 x1 x2 x3 x4 x5 h1, hr, gradZ_right]
    · rfl
    · rw [hr]; exact normGrad_real (fun k => vrow_real h1 q r k) (fun k => (dvln_real h0 h1 h4 q r k).mul (h2 _)) _

end Backward

end Cert.ReferenceIdeal.Read

end
-- ==== Proof.Norms.lean ====
/- The mathematics of the root-mean-square norm's gradient, on bands of rows: the gradient of the norm's input, of its scale, and
   of the vector the norm's output is scaled by, each in the form the kernels compute it; the law over the reals that carries the
   references' form of the first to it; and sums over 8192 rows as sums over bands of them. -/
module

public import proofs.«01_k».proof.Proof.Gating

@[expose] public section

noncomputable section

namespace Cert.Norms

open Idealize.ShloMosaic Cert.Products Cert.Reals Cert.Gating

/-- The reciprocal of a row's root mean square, the row over it, and the gradient of the row from that of the row over it. -/
def rrms (w : Fin 2048 → EReal) : EReal := Ideal.rsqrt (mean (fun k => w k * w k) + eps)

def over (w : Fin 2048 → EReal) (k : Fin 2048) : EReal := w k * rrms w

def rmsGrad (w d : Fin 2048 → EReal) (k : Fin 2048) : EReal := rrms w * (d k - over w k * mean (fun k => d k * over w k))

/-- The mean square of a real row, with the epsilon, is a positive real. -/
theorem msq_pos (r : Fin 2048 → ℝ) : ∃ y : ℝ, 0 < y ∧ mean (fun k => (r k : EReal) * r k) + eps = (y : EReal) := by
  obtain ⟨e, he, hc⟩ := eps_real
  refine ⟨(∑ k, r k * r k) * (1 / 2048) + e, ?_, ?_⟩
  · have : 0 ≤ ∑ k, r k * r k := Finset.sum_nonneg fun _ _ => mul_self_nonneg _
    positivity
  · simp only [← EReal.coe_mul]
    rw [mean_coe, EReal.coe_add]
    exact congrArg _ hc

/-- The gradient of the row as the chain of the norm's operations gives it, through the mean square. -/
theorem rms_forms {w d : Fin 2048 → EReal} (hw : ∀ k, IsReal (w k)) (hd : ∀ k, IsReal (d k)) (k : Fin 2048) (q : EReal)
    (hq : q = Ideal.div ((∑ k, w k * d k) * (Ideal.ofBits .f32 0xBF000000#32 * Ideal.div (rrms w) (mean (fun k => w k * w k) + eps))) width) :
    d k * rrms w + w k * q + q * w k = rmsGrad w d k := by
  obtain ⟨r, rfl⟩ := reals_of hw
  obtain ⟨e, rfl⟩ := reals_of hd
  obtain ⟨y, hy, h⟩ := msq_pos r
  obtain ⟨i, hi⟩ : ∃ i : ℝ, i = (Real.sqrt y)⁻¹ := ⟨_, rfl⟩
  have hii : i * i = 1 / y := by rw [hi, ← mul_inv, Real.mul_self_sqrt hy.le, one_div]
  have hr : rrms (fun k => (r k : EReal)) = (i : EReal) := by unfold rrms; rw [h, rsqrt_pos hy, hi]
  have hqr : q = (((∑ k, r k * e k) * (-(1 / 2) * (i * (1 / y))) * (1 / 2048) : ℝ) : EReal) := by
    rw [hq, h, hr]
    unfold width
    rw [neg_half_eq, width_eq, Ideal.div_coe hy.ne', Ideal.div_coe width_ne]
    simp only [← EReal.coe_mul, ← coe_sum]
  unfold rmsGrad over
  simp only [hr, hqr]
  simp only [← EReal.coe_mul, mean_coe, ← EReal.coe_add, ← EReal.coe_sub]
  refine congrArg _ ?_
  have e3 : ∑ k, e k * (r k * i) = (∑ k, r k * e k) * i := by
    rw [Finset.sum_mul]; exact Finset.sum_congr rfl fun k _ => by ring
  rw [e3, ← hii]
  ring

section Rows

variable {R : ℕ}

/-- Row `r` of a matrix. -/
def row (y : Mat R 2048) (r : Fin R) (k : Fin 2048) : EReal := y (ix2 r k)

/-- Every row of `d` scaled by `a`; and `1 + s`. -/
def scaled (d : Mat R 2048) (a : Mat 1 2048) : Mat R 2048 := fun i => d (ix2 (i 0) (i 1)) * a (ix2 0 (i 1))

def plusOne (s : Mat 1 2048) : Mat 1 2048 := fun i => Ideal.ofBits .f32 0x3F800000#32 + s (ix2 0 (i 1))

/-- The sum of two matrices. -/
def plus {n : ℕ} (a b : Mat R n) : Mat R n := fun i => a i + b i

/-- The gradient of the norm's input, of its scale, and of a scale of its output; and the sum of the rows. -/
def inGrad (e y : Mat R 2048) (g : Mat 1 2048) : Mat R 2048 := fun i => rmsGrad (row y (i 0)) (row (scaled e g) (i 0)) (i 1)

def scaleGrad (e y : Mat R 2048) : Mat 1 2048 := fun i => ∑ r : Fin R, e (ix2 r (i 1)) * over (row y r) (i 1)

def outGrad (d y : Mat R 2048) (g : Mat 1 2048) : Mat 1 2048 := fun i => ∑ r : Fin R, d (ix2 r (i 1)) * (over (row y r) (i 1) * g (ix2 0 (i 1)))

def sumRows {n : ℕ} (d : Mat R n) : Mat 1 n := fun i => ∑ r : Fin R, d (ix2 r (i 1))

end Rows

/-! ## What a grid's points add up to -/

section Run

variable {α : Type} {P K : ℕ} (hP : P = K) (f : (n : ℕ) → n < P → α) (v : α → EReal) (s : Fin K → EReal)
  (h0 : ∀ t : Fin P, t.val % K = 0 → v (f t.val t.isLt) = s ⟨t.val, lt_of_lt_of_eq t.isLt hP⟩)
  (hs : ∀ t : Fin P, ¬t.val % K = 0 → v (f t.val t.isLt)
    = v (f (t.val - 1) (Nat.lt_of_le_of_lt (Nat.sub_le _ _) t.isLt)) + s ⟨t.val, lt_of_lt_of_eq t.isLt hP⟩)
include h0 hs

/-- What is begun at the first point and added to at each later one is, at a point, the sum over the points so far. -/
theorem so_far (n : ℕ) (h : n < K) (h' : n < P) : v (f n h') = ∑ q : Fin (n + 1), s ⟨q.val, by omega⟩ := by
  induction n with
  | zero => exact (h0 ⟨0, h'⟩ (Nat.zero_mod _)).trans (Fin.sum_univ_one fun q : Fin 1 => s ⟨q.val, by omega⟩).symm
  | succ n ih =>
    refine (hs ⟨n + 1, h'⟩ (by show ¬(n + 1) % K = 0; rw [Nat.mod_eq_of_lt h]; omega)).trans ?_
    refine Eq.trans ?_ (Fin.sum_univ_castSucc fun q : Fin (n + 1 + 1) => s ⟨q.val, by omega⟩).symm
    exact congrArg (· + s ⟨n + 1, h⟩) (ih (by omega) (Nat.lt_of_succ_lt h'))

/-- At the last, it is the sum over all. -/
theorem in_all (t : Fin P) (ht : t.val % K = K - 1) : v (f t.val t.isLt) = ∑ q, s q := by
  have hlt := lt_of_lt_of_eq t.isLt hP
  rw [Nat.mod_eq_of_lt hlt] at ht
  obtain ⟨n, hn⟩ := t
  obtain rfl : K = n + 1 := by have : n = K - 1 := ht; omega
  exact so_far hP f v s h0 hs n hlt hn

end Run

/-! ## Bands of rows -/

variable {T N R n : ℕ} (hT : T = N * R)
include hT

/-- Row `r` of band `q` of the `N` bands, each of `R` rows, of `T` rows. -/
theorem at_band_lt (q : Fin N) (r : Fin R) : R * q.val + r.val < T := by
  calc R * q.val + r.val < R * q.val + R := by omega
    _ = (q.val + 1) * R := by ring
    _ ≤ N * R := Nat.mul_le_mul_right R q.isLt
    _ = T := hT.symm

abbrev at_band (q : Fin N) (r : Fin R) : Fin T := ⟨R * q.val + r.val, at_band_lt hT q r⟩

/-- Band `q`. -/
def band (x : Mat T n) (q : Fin N) : Mat R n := fun i => x (ix2 (at_band hT q (i 0)) (i 1))

theorem sum_bands (f : Fin T → EReal) : ∑ k, f k = ∑ q : Fin N, ∑ r : Fin R, f (at_band hT q r) := by
  subst hT
  exact sum_runs N R f

theorem sumRows_bands (d : Mat T n) (i : (M 1 n).Idx) : ∑ q, sumRows (band hT d q) i = sumRows d i :=
  (sum_bands hT fun r => d (ix2 r (i 1))).symm

theorem scaleGrad_bands (e y : Mat T 2048) (i : (M 1 2048).Idx) : ∑ q, scaleGrad (band hT e q) (band hT y q) i = scaleGrad e y i :=
  (sum_bands hT fun r => e (ix2 r (i 1)) * over (row y r) (i 1)).symm

theorem outGrad_bands (d y : Mat T 2048) (g : Mat 1 2048) (i : (M 1 2048).Idx) : ∑ q, outGrad (band hT d q) (band hT y q) g i = outGrad d y g i :=
  (sum_bands hT fun r => d (ix2 r (i 1)) * (over (row y r) (i 1) * g (ix2 0 (i 1)))).symm

/-- The scaled rows, a sum and the gradient of the norm's input are a band's at a time. -/
theorem scaled_band (d : Mat T 2048) (a : Mat 1 2048) (q : Fin N) : scaled (band hT d q) a = band hT (scaled d a) q := rfl

theorem plus_band (a b : Mat T n) (q : Fin N) : plus (band hT a q) (band hT b q) = band hT (plus a b) q := rfl

theorem inGrad_band (e y : Mat T 2048) (g : Mat 1 2048) (q : Fin N) : inGrad (band hT e q) (band hT y q) g = band hT (inGrad e y g) q := rfl

omit hT

/-- The only index of a row of `n` is its column. -/
theorem eq_row (i : (M 1 n).Idx) : i = ix2 0 (i 1) :=
  at_eq i _ _ (by have h : (i 0).val < 1 := (i 0).isLt; show (i 0).val = 0; omega) rfl

/-- A window that holds a whole row at its origin covers the row. -/
theorem row_covers (x : Fin 2 → ℕ) (h0 : x 0 = 0) (h1 : x 1 = 0) (i : (M 1 n).Idx) (a : Fin 2) :
    x a * (M 1 n).size a ≤ (i a).val ∧ (i a).val < x a * (M 1 n).size a + (M 1 n).size a := by
  match a with
  | ⟨0, _⟩ => exact ⟨by show x 0 * _ ≤ _; rw [h0, zero_mul]; exact Nat.zero_le _, by show _ < x 0 * _ + _; rw [h0, zero_mul, zero_add]; exact (i 0).isLt⟩
  | ⟨1, _⟩ => exact ⟨by show x 1 * _ ≤ _; rw [h1, zero_mul]; exact Nat.zero_le _, by show _ < x 1 * _ + _; rw [h1, zero_mul, zero_add]; exact (i 1).isLt⟩

include hT in
/-- The place in its array of a place in a band's block, and in a row's. -/
theorem band_at (i : (M T n).Idx) (x : Fin 2 → ℕ) (q : Fin N) (h0 : x 0 = q.val) (h1 : x 1 = 0) (r : Fin R) (k : Fin n)
    (e0 : (i 0).val = x 0 * R + 1 * r.val) (e1 : (i 1).val = x 1 * n + 1 * k.val) : i = ix2 (at_band hT q r) k :=
  at_eq i _ _ (by rw [e0, h0, one_mul, Nat.mul_comm]) (by rw [e1, h1, zero_mul, zero_add, one_mul])

theorem row_at (i : (M 1 n).Idx) (x : Fin 2 → ℕ) (h1 : x 1 = 0) (j : (M 1 n).Idx) (e1 : (i 1).val = x 1 * n + 1 * (j 1).val) : i = j := by
  rw [eq_row j]
  exact (eq_row i).trans (congrArg (ix2 0) (Fin.ext (by rw [e1, h1, zero_mul, zero_add, one_mul])))

include hT in
/-- The bands cover the rows. -/
theorem band_covers (i : (M T n).Idx) : ∃ q : Fin N, ∀ x : Fin 2 → ℕ, x 0 = q.val → x 1 = 0 →
    ∀ a : Fin 2, x a * (M R n).size a ≤ (i a).val ∧ (i a).val < x a * (M R n).size a + (M R n).size a := by
  have hi : (i 0).val < N * R := lt_of_lt_of_eq (i 0).isLt hT
  have hR : 0 < R := Nat.pos_of_ne_zero fun h => absurd (lt_of_lt_of_eq hi (by rw [h, Nat.mul_zero])) (Nat.not_lt_zero _)
  refine ⟨⟨(i 0).val / R, (Nat.div_lt_iff_lt_mul hR).mpr hi⟩, fun x h0 h1 a => ?_⟩
  match a with
  | ⟨0, _⟩ =>
    show x 0 * R ≤ (i 0).val ∧ (i 0).val < x 0 * R + R
    rw [h0]
    exact ⟨Nat.div_mul_le_self _ _, Nat.lt_div_mul_add hR⟩
  | ⟨1, _⟩ => exact ⟨by show x 1 * _ ≤ _; rw [h1, zero_mul]; exact Nat.zero_le _, by show _ < x 1 * _ + _; rw [h1, zero_mul, zero_add]; exact (i 1).isLt⟩

end Cert.Norms

end
-- ==== Proof.SguFwd.lean ====
/- The gating unit's forward kernel: each of its 32 points computes the unit on two blocks of 128 rows, a tile of 128 columns at a
   time, and the points together leave in the result the whole sequence's; and the reference's operations, read one by one, come
   to the same for every argument. -/
module

public import proofs.«01_k».proof.Proof.GatingRef
public import proofs.«01_k».proof.Proof.Norms
public import proofs.«01_k».proof.Proof.Slots
public import proofs.«01_k».proof.Proof.Gen.Kernel28Ideal.Value
public import proofs.«01_k».proof.Proof.Gen.Reference28Ideal.Read

@[expose] public section

set_option maxRecDepth 16384

noncomputable section

namespace Cert.Gating

open Idealize.ShloMosaic Cert.Products Cert.Reals

/-- One entry of the unit's result on a block. -/
def unitAt (z : Mat 128 4096) (g b : Mat 1 2048) (w bs : Stack) (t : Fin 128) (k : Fin 2048) : EReal :=
  gelu (z (ix2 t (lft k))) * mix z g b w bs t k

/-- The unit's result on the whole sequence. -/
def gated (z : Mat 8192 4096) (g b : Mat 1 2048) (w : Stack) (bs : Mat 16 128) : Mat 8192 2048 := fun i =>
  unitAt (rows z ⟨(i 0).val / 128, by have h : (i 0).val < 8192 := (i 0).isLt; omega⟩) g b (causal w) (spreadBias bs)
    ⟨(i 0).val % 128, Nat.mod_lt _ (by norm_num)⟩ (i 1)

theorem gated_apply (z : Mat 8192 4096) (g b : Mat 1 2048) (w : Stack) (bs : Mat 16 128) (q : Fin 64) (t : Fin 128) (k : Fin 2048) :
    gated z g b w bs (ix2 (pos q t) k) = unitAt (rows z q) g b (causal w) (spreadBias bs) t k := by
  refine congrArg₂ (fun q t => unitAt (rows z q) g b (causal w) (spreadBias bs) t k) (Fin.ext ?_) (Fin.ext ?_)
  · show (128 * q.val + t.val) / 128 = q.val; omega
  · show (128 * q.val + t.val) % 128 = t.val; omega

/-- The cubic with its coefficient written as a quotient, at the infinities too. -/
theorem cubic_all (x : EReal) :
    Ideal.div (Ideal.ofBits .f32 0x472EAB00#32 * (x * x * x)) (Ideal.ofBits .f32 0x49742400#32) = cub * x * x * x := by
  rw [num_eq, den_eq, Ideal.div_coe (by norm_num), mul_right_comm, ← EReal.coe_mul, show (44715 * (1 / 1000000) : ℝ) = 8943 / 200000 by norm_num]
  simp only [mul_assoc]

end Cert.Gating

namespace Cert.Kernel28Ideal.SguFwd

open Cert.Kernel28Ideal Cert.Kernel28Ideal.Gen Idealize.ShloMosaic Idealize.ShloMosaic.TcCoe Idealize.SL.Sem Idealize.ShloMosaic.StableHlo
open Idealize.ShloMosaic.Pipeline (Dat)
open Cert.Products Cert.Gating Cert.Reals Cert.Norms

theorem cub_eq : Named.named (F := Ideal) (φ := .f32) κ "gelu_c" 0x3D372713#32 = cub := IdealRules.named_const.ideal_named_scalar κ "gelu_c" _ cub rfl
theorem unit_eq : Ideal.ofBits .f32 0x3F800000#32 = (1 : EReal) := one_eq.trans EReal.coe_one

section Rows
variable (z v : FVec Ideal S256x2048 .f32) (g b : FVec Ideal S1x2048 .f32) (r : Fin 256) (k : Fin 2048)

/-- A row of a point's right half after `gelu`. -/
def act (v : FVec Ideal S256x2048 .f32) (r : Fin 256) (k : Fin 2048) : EReal := gelu (v (ix2 r k))

theorem pay2_apply : k0_pay2 (F := Ideal) z (ix2 r k) = gelu (z (ix2 r k)) := by
  unfold gelu th
  rw [← cub_eq, ← unit_eq]
  pointwise [k0_pay2]

theorem pay3_apply : k0_pay3 (F := Ideal) v (ix2 r k) = cen (act v r) k := by
  unfold cen mean act gelu th
  rw [← cub_eq, ← unit_eq]
  pointwise [k0_pay3]

theorem pay4_apply : k0_pay4 (F := Ideal) v (ix2 r 0) = rstd (act v r) := by
  unfold rstd
  simp only [← pay3_apply]
  unfold mean
  pointwise [k0_pay4]

theorem pay5_apply : k0_pay5 (F := Ideal) (k0_pay3 (F := Ideal) v) (k0_pay4 (F := Ideal) v) g b (ix2 r k) = hat (act v r) k * g (ix2 0 k) + b (ix2 0 k) := by
  unfold hat
  rw [← pay3_apply, ← pay4_apply]
  pointwise [k0_pay5]
end Rows

/-- A tile cut out of a point's rows. -/
abbrev cut (x : FVec Ideal S256x2048 .f32) (p n : ℕ) (hs : S256x2048.Slices ![p, n] S128x128) : FVec Ideal S128x128 .f32 := extractStridedSlice S128x128 ![p, n] x hs

/-- One tile of the result. -/
def tile (u v : FVec Ideal S128x128 .f32) (w : FVec Ideal S1x128x128 .bf16) (b : FVec Ideal S1x128x128 .f32) : FVec Ideal S128x128 .bf16 :=
  truncf .bf16 (mulf u (addf (matmul dot_S128x128_S128x128_S128x128_1_0_0_1_n_n none (shapeCast S128x128 w shapeCasts_S1x128x128_S128x128)
    (truncf .bf16 v bitsLt_bf16_f32) (constant S128x128 .f32 0x00000000#32)) (shapeCast S128x128 b shapeCasts_S1x128x128_S128x128))) bitsLt_bf16_f32

theorem tile_apply (u v : FVec Ideal S128x128 .f32) (w : FVec Ideal S1x128x128 .bf16) (b : FVec Ideal S1x128x128 .f32) (t l : Fin 128) :
    tile u v w b (ix2 t l) = u (ix2 t l) * ((∑ s : Fin 128, w (ix3 0 t s) * v (ix2 s l)) + b (ix3 0 t l)) := by
  pointwise [tile]

theorem two_halves : 256 = 2 * 128 := rfl

theorem cut_apply (x : FVec Ideal S256x2048 .f32) (a : Fin 2) {p m n : ℕ} (hp : p = 128 * a.val) (hm : m < 16) (hn : n = 128 * m) (hs : S256x2048.Slices ![p, n] S128x128) (r l : Fin 128) :
    cut x p n hs (ix2 r l) = x (ix2 (at_band two_halves a r) (col ⟨m, hm⟩ l)) := by
  subst hn; subst hp
  exact congrArg x (at_eq _ _ _ rfl rfl)

section Stores
variable (G : S256x2048.Idx → EReal) (L : List (View.Piece (Elt Ideal) S256x2048 .bf16))

/-- Where the stores so far have written, what they have written is `G`. -/
def Agrees (L : List (View.Piece (Elt Ideal) S256x2048 .bf16)) : Prop := ∀ y, (∃ p ∈ L, y ∈ p.1.set) → View.canon L y = G y

theorem agrees_nil : Agrees G [] := fun y h => by obtain ⟨p, hp, _⟩ := h; exact absurd hp List.not_mem_nil

theorem agrees_cons {p n : ℕ} (inb : ∀ a, (![p, n] : Fin 2 → ℕ) a + S128x128.size a ≤ S256x2048.size a) (x : FVec Ideal S128x128 .bf16)
    (hx : ∀ r l : Fin 128, x (ix2 r l) = G ((Rect.unit (s := S256x2048) ![p, n] S128x128.size inb).emb (ix2 r l))) (h : Agrees G L) :
    Agrees G (⟨Rect.unit (s := S256x2048) ![p, n] S128x128.size inb, x⟩ :: L) := by
  intro y hy
  by_cases e : y ∈ (Rect.unit (s := S256x2048) ![p, n] S128x128.size inb).set
  · have b := Rect.mem_set_unit.mp e
    have b0 := b 0
    have b1 := b 1
    change p ≤ (y 0).val ∧ (y 0).val < p + 128 at b0
    change n ≤ (y 1).val ∧ (y 1).val < n + 128 at b1
    obtain ⟨r, l, rfl⟩ : ∃ r l : Fin 128, y = (Rect.unit (s := S256x2048) ![p, n] S128x128.size inb).emb (ix2 r l) :=
      ⟨⟨(y 0).val - p, by omega⟩, ⟨(y 1).val - n, by omega⟩, (eq_ix2 y).trans (at_eq _ _ _
        (by show p + 1 * ((y 0).val - p) = (y 0).val; omega) (by show n + 1 * ((y 1).val - n) = (y 1).val; omega)).symm⟩
    exact (View.canon_cons_emb (Val := Elt Ideal) (e := .bf16) (Rect.unit (s := S256x2048) ![p, n] S128x128.size inb) x L (ix2 r l)).trans (hx r l)
  · refine (View.canon_cons_of_not_mem (⟨Rect.unit (s := S256x2048) ![p, n] S128x128.size inb, x⟩ : View.Piece (Elt Ideal) S256x2048 .bf16) L e).trans (h y ?_)
    obtain ⟨q, hq, hy⟩ := hy
    rcases List.mem_cons.mp hq with rfl | hq
    · exact absurd hy e
    · exact ⟨q, hq, hy⟩

end Stores

section Block
variable (x0 : Vec Ideal S256x4096 .f32) (x1 x2 : Vec Ideal S1x2048 .f32) (x3 : Vec Ideal S16x128x128 .bf16) (x4 : Vec Ideal S16x128x128 .f32)

theorem hz : (![0, 0] : Fin 2 → ℕ) = fun _ => 0 := funext fun a => match a with
  | ⟨0, _⟩ => rfl
  | ⟨1, _⟩ => rfl

theorem left_value (a : Fin 2) (t : Fin 128) (k : Fin 2048) :
    k0_pay49 x0 x1 x2 x3 x4 (ix2 (at_band two_halves a t) k) = gelu (band two_halves x0 a (ix2 t (lft k))) := by
  refine (pay2_apply _ _ _).trans (congrArg (fun i => gelu (x0 i)) (at_eq _ _ _ ?_ ?_))
  · show 0 + 1 * (128 * a.val + t.val) = 128 * a.val + t.val; omega
  · show 0 + 1 * k.val = k.val; omega

theorem right_row (a : Fin 2) (s : Fin 128) : act (View.ld x0 r0_1) (at_band two_halves a s) = vrow (band two_halves x0 a) s := by
  funext k
  refine congrArg (fun i => gelu (x0 i)) (at_eq _ _ _ ?_ ?_)
  · show 0 + 1 * (128 * a.val + s.val) = 128 * a.val + s.val; omega
  · show 2048 + 1 * k.val = 2048 + k.val; omega

theorem right_value (a : Fin 2) (s : Fin 128) (k : Fin 2048) :
    k0_pay52 x0 x1 x2 x3 x4 (ix2 (at_band two_halves a s) k) = vln (band two_halves x0 a) x1 x2 s k := by
  unfold k0_pay52 vln
  rw [← right_row x0 a s, View.ld_unit_zero (S := S1x2048) hz, View.ld_unit_zero (S := S1x2048) hz]
  exact pay5_apply _ _ _ _ _

/-- What a point leaves at a place of its block. -/
def pointAt (y : S256x2048.Idx) : EReal :=
  unitAt (band two_halves x0 ⟨(y 0).val / 128, by have h : (y 0).val < 256 := (y 0).isLt; omega⟩) x1 x2 x3 x4 ⟨(y 0).val % 128, Nat.mod_lt _ (by norm_num)⟩ (y 1)

theorem pointAt_apply (a : Fin 2) (t : Fin 128) (k : Fin 2048) :
    pointAt x0 x1 x2 x3 x4 (ix2 (at_band two_halves a t) k) = unitAt (band two_halves x0 a) x1 x2 x3 x4 t k := by
  refine congrArg₂ (fun q t => unitAt (band two_halves x0 q) x1 x2 x3 x4 t k) (Fin.ext ?_) (Fin.ext ?_)
  · show (128 * a.val + t.val) / 128 = a.val; omega
  · show (128 * a.val + t.val) % 128 = t.val; omega

theorem slab {e : EltTy} (x : Vec Ideal S16x128x128 e) {m : ℕ} (hm : m < 16) (inb : ∀ a, (![m, 0, 0] : Fin 3 → ℕ) a + S1x128x128.size a ≤ S16x128x128.size a) (t s : Fin 128) :
    View.ld x (Rect.unit (s := S16x128x128) ![m, 0, 0] S1x128x128.size inb) (ix3 0 t s) = x (ix3 ⟨m, hm⟩ t s) :=
  congrArg x (at_eq3 _ _ _ _ (by show m + 1 * 0 = m; omega) (by show 0 + 1 * t.val = t.val; omega) (by show 0 + 1 * s.val = s.val; omega))

/-- One more tile's store. -/
theorem store (a : Fin 2) {p m n : ℕ} (hp : p = 128 * a.val) (hm : m < 16) (hn : n = 128 * m) (hs : S256x2048.Slices ![p, n] S128x128)
    (inb : ∀ a, (![m, 0, 0] : Fin 3 → ℕ) a + S1x128x128.size a ≤ S16x128x128.size a) (inc : ∀ a, (![p, n] : Fin 2 → ℕ) a + S128x128.size a ≤ S256x2048.size a)
    (L : List (View.Piece (Elt Ideal) S256x2048 .bf16)) (h : Agrees (pointAt x0 x1 x2 x3 x4) L) :
    Agrees (pointAt x0 x1 x2 x3 x4) (⟨Rect.unit (s := S256x2048) ![p, n] S128x128.size inc,
      tile (cut (k0_pay49 x0 x1 x2 x3 x4) p n hs) (cut (k0_pay52 x0 x1 x2 x3 x4) p n hs) (View.ld x3 (Rect.unit (s := S16x128x128) ![m, 0, 0] S1x128x128.size inb))
        (View.ld x4 (Rect.unit (s := S16x128x128) ![m, 0, 0] S1x128x128.size inb))⟩ :: L) := by
  refine agrees_cons _ L inc _ (fun r l => ?_) h
  rw [show (Rect.unit (s := S256x2048) ![p, n] S128x128.size inc).emb (ix2 r l) = ix2 (at_band two_halves a r) (col ⟨m, hm⟩ l) from
    at_eq _ _ _ (by show p + 1 * r.val = 128 * a.val + r.val; omega) (by show n + 1 * l.val = 128 * m + l.val; omega), pointAt_apply, tile_apply]
  simp only [cut_apply _ a hp hm hn hs, left_value, right_value, slab x3 hm inb, slab x4 hm inb]
  unfold unitAt mix
  rw [grp_col, off_col]

theorem out_5 (a : Fin 2) (t : Fin 128) (k : Fin 2048) :
    out0_5 x0 x1 x2 x3 x4 (ix2 (at_band two_halves a t) k) = unitAt (band two_halves x0 a) x1 x2 x3 x4 t k := by
  rw [← pointAt_apply]
  unfold out0_5
  refine (?_ : Agrees (pointAt x0 x1 x2 x3 x4) _) _ (cover0_5 _ _ _ _ _ _ _ _ _ _ _ _ _ _ _ _ _ _ _ _ _ _ _ _ _ _ _ _ _ _ _ _ _)
  refine store x0 x1 x2 x3 x4 1 (m := 15) rfl (by decide) rfl slices_S256x2048_o128_1920_S128x128 _ _ _ ?_
  refine store x0 x1 x2 x3 x4 1 (m := 14) rfl (by decide) rfl slices_S256x2048_o128_1792_S128x128 _ _ _ ?_
  refine store x0 x1 x2 x3 x4 1 (m := 13) rfl (by decide) rfl slices_S256x2048_o128_1664_S128x128 _ _ _ ?_
  refine store x0 x1 x2 x3 x4 1 (m := 12) rfl (by decide) rfl slices_S256x2048_o128_1536_S128x128 _ _ _ ?_
  refine store x0 x1 x2 x3 x4 1 (m := 11) rfl (by decide) rfl slices_S256x2048_o128_1408_S128x128 _ _ _ ?_
  refine store x0 x1 x2 x3 x4 1 (m := 10) rfl (by decide) rfl slices_S256x2048_o128_1280_S128x128 _ _ _ ?_
  refine store x0 x1 x2 x3 x4 1 (m := 9) rfl (by decide) rfl slices_S256x2048_o128_1152_S128x128 _ _ _ ?_
  refine store x0 x1 x2 x3 x4 1 (m := 8) rfl (by decide) rfl slices_S256x2048_o128_1024_S128x128 _ _ _ ?_
  refine store x0 x1 x2 x3 x4 1 (m := 7) rfl (by decide) rfl slices_S256x2048_o128_896_S128x128 _ _ _ ?_
  refine store x0 x1 x2 x3 x4 1 (m := 6) rfl (by decide) rfl slices_S256x2048_o128_768_S128x128 _ _ _ ?_
  refine store x0 x1 x2 x3 x4 1 (m := 5) rfl (by decide) rfl slices_S256x2048_o128_640_S128x128 _ _ _ ?_
  refine store x0 x1 x2 x3 x4 1 (m := 4) rfl (by decide) rfl slices_S256x2048_o128_512_S128x128 _ _ _ ?_
  refine store x0 x1 x2 x3 x4 1 (m := 3) rfl (by decide) rfl slices_S256x2048_o128_384_S128x128 _ _ _ ?_
  refine store x0 x1 x2 x3 x4 1 (m := 2) rfl (by decide) rfl slices_S256x2048_o128_256_S128x128 _ _ _ ?_
  refine store x0 x1 x2 x3 x4 1 (m := 1) rfl (by decide) rfl slices_S256x2048_o128_128_S128x128 _ _ _ ?_
  refine store x0 x1 x2 x3 x4 1 (m := 0) rfl (by decide) rfl slices_S256x2048_o128_0_S128x128 _ _ _ ?_
  refine store x0 x1 x2 x3 x4 0 (m := 15) rfl (by decide) rfl slices_S256x2048_o0_1920_S128x128 _ _ _ ?_
  refine store x0 x1 x2 x3 x4 0 (m := 14) rfl (by decide) rfl slices_S256x2048_o0_1792_S128x128 _ _ _ ?_
  refine store x0 x1 x2 x3 x4 0 (m := 13) rfl (by decide) rfl slices_S256x2048_o0_1664_S128x128 _ _ _ ?_
  refine store x0 x1 x2 x3 x4 0 (m := 12) rfl (by decide) rfl slices_S256x2048_o0_1536_S128x128 _ _ _ ?_
  refine store x0 x1 x2 x3 x4 0 (m := 11) rfl (by decide) rfl slices_S256x2048_o0_1408_S128x128 _ _ _ ?_
  refine store x0 x1 x2 x3 x4 0 (m := 10) rfl (by decide) rfl slices_S256x2048_o0_1280_S128x128 _ _ _ ?_
  refine store x0 x1 x2 x3 x4 0 (m := 9) rfl (by decide) rfl slices_S256x2048_o0_1152_S128x128 _ _ _ ?_
  refine store x0 x1 x2 x3 x4 0 (m := 8) rfl (by decide) rfl slices_S256x2048_o0_1024_S128x128 _ _ _ ?_
  refine store x0 x1 x2 x3 x4 0 (m := 7) rfl (by decide) rfl slices_S256x2048_o0_896_S128x128 _ _ _ ?_
  refine store x0 x1 x2 x3 x4 0 (m := 6) rfl (by decide) rfl slices_S256x2048_o0_768_S128x128 _ _ _ ?_
  refine store x0 x1 x2 x3 x4 0 (m := 5) rfl (by decide) rfl slices_S256x2048_o0_640_S128x128 _ _ _ ?_
  refine store x0 x1 x2 x3 x4 0 (m := 4) rfl (by decide) rfl slices_S256x2048_o0_512_S128x128 _ _ _ ?_
  refine store x0 x1 x2 x3 x4 0 (m := 3) rfl (by decide) rfl slices_S256x2048_o0_384_S128x128 _ _ _ ?_
  refine store x0 x1 x2 x3 x4 0 (m := 2) rfl (by decide) rfl slices_S256x2048_o0_256_S128x128 _ _ _ ?_
  refine store x0 x1 x2 x3 x4 0 (m := 1) rfl (by decide) rfl slices_S256x2048_o0_128_S128x128 _ _ _ ?_
  refine store x0 x1 x2 x3 x4 0 (m := 0) rfl (by decide) rfl slices_S256x2048_o0_0_S128x128 _ _ _ ?_
  exact agrees_nil _

end Block

section Run
variable (m : (l : Loc nD τ sig) → Buf (Elt Ideal) l)

/-- The arguments. -/
abbrev z (c : Dev nD) : Mat 8192 4096 := m ((c : Thread nD τ).loc main_arg0)
abbrev g (c : Dev nD) : Mat 1 2048 := m ((c : Thread nD τ).loc main_arg1)
abbrev b (c : Dev nD) : Mat 1 2048 := m ((c : Thread nD τ).loc main_arg2)
abbrev w (c : Dev nD) : Stack := m ((c : Thread nD τ).loc main_arg3)
abbrev bs (c : Dev nD) : Mat 16 128 := m ((c : Thread nD τ).loc main_arg4)

theorem V_causal (c : Dev nD) : V m c main_v4 = causal (w m c) := by
  unfold_abbrev_sides
  unfold hostOps0 hostOps0_1 hostOps0_2 hostOps0_3 hostOps0_4
  simp only [List.flatten_cons, List.flatten_nil, List.cons_append, List.nil_append, List.append_nil]
  after_results
  funext i
  obtain ⟨q, t, s, rfl⟩ : ∃ (q : Fin 16) (t s : Fin 128), i = ix3 q t s := ⟨i 0, i 1, i 2, at_eq3 i _ _ _ rfl rfl rfl⟩
  refine Eq.trans ?_ ((Cert.ReferenceIdeal.Read.mask_eq t s (w m c (ix3 q t s)) _).trans (congrArg (fun e => if s.val ≤ t.val then w m c (ix3 q t s) else e) (Ideal.ofBits_zero .f32)))
  rfl

theorem V_bias (c : Dev nD) : V m c main_v6 = spreadBias (bs m c) := by
  unfold_abbrev_sides
  unfold hostOps0 hostOps0_1 hostOps0_2 hostOps0_3 hostOps0_4
  simp only [List.flatten_cons, List.flatten_nil, List.cons_append, List.nil_append, List.append_nil]
  after_results
  funext i
  obtain ⟨q, t, s, rfl⟩ : ∃ (q : Fin 16) (t s : Fin 128), i = ix3 q t s := ⟨i 0, i 1, i 2, at_eq3 i _ _ _ rfl rfl rfl⟩
  pointwise [spreadBias]

theorem points : cfg0.N = 32 := by decide
theorem rows_eq : 8192 = 32 * 256 := rfl

/-- Which block each window takes at a point. -/
theorem idx_rows : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ win0_5.index t 0 = t.val ∧ win0_5.index t 1 = 0 :=
  (by decide +kernel : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ win0_5.index t 0 = t.val ∧ win0_5.index t 1 = 0)

theorem idx_stack : ∀ (t : Fin cfg0.N) (a : Fin 3), win0_3.index t a = 0 ∧ win0_4.index t a = 0 :=
  (by decide +kernel : ∀ (t : Fin grid0.N) (a : Fin 3), win0_3.index t a = 0 ∧ win0_4.index t a = 0)

abbrev pt (t : Fin cfg0.N) : Fin 32 := ⟨t.val, lt_of_lt_of_eq t.isLt points⟩

/-- A half of a point's rows is a block of the sequence. -/
abbrev blockOf (t : Fin 32) (a : Fin 2) : Fin 64 := ⟨2 * t.val + a.val, by omega⟩

theorem z_blk (c : Dev nD) (t : Fin cfg0.N) : iblk m c 0 t = band rows_eq (z m c) (pt t) := by
  funext j
  obtain ⟨r, k, rfl⟩ : ∃ (r : Fin 256) (k : Fin 4096), j = ix2 r k := ⟨j 0, j 1, eq_ix2 j⟩
  unfold iblk
  rw [View.read_apply]
  exact (congrFun (V_main_arg0 m c) _).trans (congrArg (z m c) (band_at rows_eq _ (win0_0.index t) (pt t) (idx_rows t).1.1 (idx_rows t).1.2 r k rfl rfl))

theorem g_blk (c : Dev nD) (t : Fin cfg0.N) : iblk m c 1 t = g m c := by
  funext j
  unfold iblk
  rw [View.read_apply]
  exact (congrFun (V_main_arg1 m c) _).trans (congrArg (g m c) (row_at _ (win0_1.index t) (idx_rows t).2.1.2 j rfl))

theorem b_blk (c : Dev nD) (t : Fin cfg0.N) : iblk m c 2 t = b m c := by
  funext j
  unfold iblk
  rw [View.read_apply]
  exact (congrFun (V_main_arg2 m c) _).trans (congrArg (b m c) (row_at _ (win0_2.index t) (idx_rows t).2.2.1.2 j rfl))

/-- The place in its array of a place in a block that is the whole array. -/
theorem same_at (i : S16x128x128.Idx) (x : Fin 3 → ℕ) (hx : ∀ a, x a = 0) (q : Fin 16) (t s : Fin 128)
    (h0 : (i 0).val = x 0 * 16 + 1 * q.val) (h1 : (i 1).val = x 1 * 128 + 1 * t.val) (h2 : (i 2).val = x 2 * 128 + 1 * s.val) : i = ix3 q t s := by
  rw [hx] at h0 h1 h2
  exact at_eq3 _ _ _ _ (by omega) (by omega) (by omega)

theorem w_blk (c : Dev nD) (t : Fin cfg0.N) : iblk m c 3 t = causal (w m c) := by
  funext j
  obtain ⟨q, r, s, rfl⟩ : ∃ (q : Fin 16) (r s : Fin 128), j = ix3 q r s := ⟨j 0, j 1, j 2, at_eq3 j _ _ _ rfl rfl rfl⟩
  unfold iblk
  rw [View.read_apply]
  exact (congrFun (V_causal m c) _).trans (congrArg (causal (w m c)) (same_at _ (win0_3.index t) (fun a => (idx_stack t a).1) q r s rfl rfl rfl))

theorem bs_blk (c : Dev nD) (t : Fin cfg0.N) : iblk m c 4 t = spreadBias (bs m c) := by
  funext j
  obtain ⟨q, r, s, rfl⟩ : ∃ (q : Fin 16) (r s : Fin 128), j = ix3 q r s := ⟨j 0, j 1, j 2, at_eq3 j _ _ _ rfl rfl rfl⟩
  unfold iblk
  rw [View.read_apply]
  exact (congrFun (V_bias m c) _).trans (congrArg (spreadBias (bs m c)) (same_at _ (win0_4.index t) (fun a => (idx_stack t a).2) q r s rfl rfl rfl))

theorem half_rows (x : Mat 8192 4096) (t : Fin 32) (a : Fin 2) : band two_halves (band rows_eq x t) a = rows x (blockOf t a) := by
  funext i
  refine congrArg x (at_eq _ _ _ ?_ rfl)
  show 256 * t.val + (128 * a.val + (i 0).val) = 128 * (2 * t.val + a.val) + (i 0).val
  omega

/-- The result. -/
abbrev res (c : Dev nD) : Buf (Elt Ideal) ((c : Thread nD τ).loc main_v7) := gated (z m c) (g m c) (b m c) (w m c) (bs m c)

theorem flushed (c : Dev nD) (t : Fin cfg0.N) : (dats m 0 c).flushed 5 t = ((cfg0.win 5).blk t).view.read (Elt Ideal) (res m c) := by
  rw [Value.flushed5, z_blk, g_blk, b_blk, w_blk, bs_blk]
  funext j
  rw [View.read_apply]
  obtain ⟨a, r, k, rfl⟩ : ∃ (a : Fin 2) (r : Fin 128) (k : Fin 2048), j = ix2 (at_band two_halves a r) k := by
    have h : (j 0).val < 256 := (j 0).isLt
    exact ⟨⟨(j 0).val / 128, by omega⟩, ⟨(j 0).val % 128, Nat.mod_lt _ (by norm_num)⟩, j 1,
      at_eq _ _ _ (by show (j 0).val = 128 * ((j 0).val / 128) + (j 0).val % 128; omega) rfl⟩
  have hemb : ((cfg0.win 5).blk t).view.emb (ix2 (at_band two_halves a r) k) = (ix2 (pos (blockOf (pt t) a) r) k : S8192x2048.Idx) := by
    refine at_eq _ _ _ ?_ ?_
    · show win0_5.index t 0 * 256 + 1 * (128 * a.val + r.val) = 128 * (2 * t.val + a.val) + r.val
      rw [(idx_rows t).2.2.2.1]; omega
    · show win0_5.index t 1 * 2048 + 1 * k.val = k.val
      rw [(idx_rows t).2.2.2.2]; omega
  rw [hemb]
  refine Eq.trans ?_ (gated_apply _ _ _ _ _ _ _ _).symm
  rw [← half_rows]
  exact out_5 _ _ _ _ _ a r k

theorem final (c : Dev nD) : (dats m 0 c).arrAt 5 cfg0.N = res m c :=
  (dats m 0 c).arrAt_eq_of_cover 5 (res m c) (fun t _ => flushed m c t) fun i => by
    obtain ⟨q, hq⟩ := band_covers rows_eq (show S8192x2048.Idx from i)
    let t : Fin cfg0.N := ⟨q.val, lt_of_lt_of_eq q.isLt points.symm⟩
    refine ⟨t, flush0_5 _, ?_⟩
    show (show S8192x2048.Idx from i) ∈ ((View.whole main_v7).slice (win0_5.rect t)).set
    rw [View.set_slice_whole, Rect.mem_set_unit]
    exact hq (win0_5.index t) (idx_rows t).2.2.2.1 (idx_rows t).2.2.2.2

end Run

end Cert.Kernel28Ideal.SguFwd

namespace Cert.Reference28Ideal.Read

open Cert.Reference28Ideal Cert.Reference28Ideal.Gen Idealize.ShloMosaic Idealize.ShloMosaic.TcCoe Idealize.SL.Sem Idealize.ShloMosaic.StableHlo
open Cert.Products Cert.Gating Cert.Reals

theorem unit_eq : Ideal.ofBits .f32 0x3F800000#32 = (1 : EReal) := one_eq.trans EReal.coe_one

variable (x0 : Mat 8192 4096) (x1 x2 : Mat 1 2048) (x3 : Stack) (x4 : Mat 16 128)

theorem gelu_eq (i : S8192x4096.Idx) : val_main_v14 (F := Ideal) x0 i = gelu (x0 i) := by
  unfold gelu th
  rw [← cubic_all (x0 i), ← unit_eq]
  pointwise [val_main_v14, val_main_v13, val_main_v12, val_main_cst_3, val_main_v11, val_main_v10, val_main_v9, val_main_cst_2, val_main_v8, val_main_v7, val_main_v6, val_main_cst_1,
    val_main_v5, val_main_v4, val_main_cst_0, val_main_v3, val_main_v2, val_main_v1, val_main_v0, val_main_cst]

theorem left_eq (q : Fin 64) (r : Fin 128) (k : Fin 2048) : val_main_v15 (F := Ideal) x0 (ix2 (pos q r) k) = gelu (rows x0 q (ix2 r (lft k))) := by
  rw [val_main_v15_apply, gelu_eq x0]
  exact congrArg (fun i => gelu (x0 i)) (at_eq _ _ _ rfl rfl)

theorem right_eq (q : Fin 64) (r : Fin 128) (k : Fin 2048) : val_main_v16 (F := Ideal) x0 (ix2 (pos q r) k) = vrow (rows x0 q) r k := by
  rw [val_main_v16_apply, gelu_eq x0]
  exact congrArg (fun i => gelu (x0 i)) (at_eq _ _ _ rfl rfl)

theorem mean_eq (q : Fin 64) (r : Fin 128) : val_main_v20 (F := Ideal) x0 (ix2 (pos q r) 0) = mean (vrow (rows x0 q) r) := by
  unfold mean
  pointwise [val_main_v20, val_main_v19, val_main_cst_5, val_main_v18, val_main_v17, val_main_cst_4]
  exact congrArg (Ideal.div · width) (Finset.sum_congr rfl fun k _ => right_eq x0 q r k)

theorem cen_eq (q : Fin 64) (r : Fin 128) (k : Fin 2048) : val_main_v22 (F := Ideal) x0 (ix2 (pos q r) k) = cen (vrow (rows x0 q) r) k := by
  unfold cen
  rw [← mean_eq x0, ← right_eq x0]
  pointwise [val_main_v22, val_main_v21]

theorem cen_eq' (q : Fin 64) (r : Fin 128) (k : Fin 2048) : val_main_v29 (F := Ideal) x0 (ix2 (pos q r) k) = cen (vrow (rows x0 q) r) k := by
  unfold cen
  rw [← mean_eq x0, ← right_eq x0]
  pointwise [val_main_v29, val_main_v28]

theorem rstd_eq (q : Fin 64) (r : Fin 128) : val_main_v32 (F := Ideal) x0 (ix2 (pos q r) 0) = rstd (vrow (rows x0 q) r) := by
  unfold rstd mean
  simp only [← cen_eq x0]
  pointwise [val_main_v32, val_main_v31, val_main_v30, val_main_cst_8, val_main_v27, val_main_v26, val_main_cst_7, val_main_v25, val_main_v24, val_main_cst_6, val_main_v23]

theorem hat_eq (q : Fin 64) (r : Fin 128) (k : Fin 2048) : val_main_v34 (F := Ideal) x0 (ix2 (pos q r) k) = hat (vrow (rows x0 q) r) k := by
  unfold hat
  rw [← cen_eq' x0, ← rstd_eq x0]
  pointwise [val_main_v34, val_main_v33]

theorem vln_eq (q : Fin 64) (r : Fin 128) (k : Fin 2048) : val_main_v38 (F := Ideal) x0 x1 x2 (ix2 (pos q r) k) = vln (rows x0 q) x1 x2 r k := by
  unfold vln
  rw [← hat_eq x0]
  pointwise [val_main_v38, val_main_v37, val_main_v36, val_main_v35]

theorem vln_eq4 (q : Fin 64) (s : Fin 128) (g : Fin 16) (l : Fin 128) :
    val_main_v39 (F := Ideal) x0 x1 x2 (ix4 q s g l) = vln (rows x0 q) x1 x2 s (col g l) := by
  rw [val_main_v39_apply, ← vln_eq x0 x1 x2]
  refine congrArg _ (at_eq _ _ _ ?_ ?_)
  · show (((q.val * 128 + s.val) * 16 + g.val) * 128 + l.val) / 2048 = 128 * q.val + s.val; omega
  · show (((q.val * 128 + s.val) * 16 + g.val) * 128 + l.val) % 2048 = 128 * g.val + l.val; omega

theorem causal_eq (g : Fin 16) (t s : Fin 128) : val_main_v44 (F := Ideal) x3 (ix3 g t s) = causal x3 (ix3 g t s) := by
  refine Eq.trans ?_ (Cert.ReferenceIdeal.Read.mask_eq t s _ _)
  pointwise [val_main_v44, val_main_call1_v0, val_main_v43, val_main_v42, val_main_v41, val_main_v40, val_main_c, val_main_call0_v0, val_main_call0_v1, val_main_call0_v2, val_main_call0_v3,
    val_main_call0_v4, val_main_call0_v5, val_main_call0_c, val_main_call0_c_0, val_main_cst_9]

theorem bias_eq (q : Fin 64) (t : Fin 128) (g : Fin 16) (l : Fin 128) : val_main_v49 (F := Ideal) x4 (ix4 q t g l) = spreadBias x4 (ix3 g t l) := by
  pointwise [val_main_v49, val_main_v48, val_main_v47, spreadBias]

theorem mix_eq (q : Fin 64) (t : Fin 128) (k : Fin 2048) :
    val_main_v51 (F := Ideal) x0 x1 x2 x3 x4 (ix2 (pos q t) k) = mix (rows x0 q) x1 x2 (causal x3) (spreadBias x4) t k := by
  have hk := k.isLt
  unfold mix
  rw [val_main_v51_apply, show idx_main_v51 (ix2 (pos q t) k) = ix4 q t (grp k) (off k) from at_eq4 _ _ _ _ _
    (by show ((128 * q.val + t.val) * 2048 + k.val) / 262144 = q.val; omega)
    (by show ((128 * q.val + t.val) * 2048 + k.val) / 2048 % 128 = t.val; omega)
    (by show ((128 * q.val + t.val) * 2048 + k.val) / 128 % 16 = k.val / 128; omega)
    (by show ((128 * q.val + t.val) * 2048 + k.val) % 128 = k.val % 128; omega),
    val_main_v50_apply, bias_eq]
  refine congrArg (· + _) ?_
  pointwise [val_main_v46, val_main_v45]
  refine Finset.sum_congr rfl fun s _ => ?_
  rw [vln_eq4 x0 x1 x2, causal_eq, col_grp_off, mul_comm]

/-- The reference's result. -/
theorem gated_eq : val_main_v53 (F := Ideal) x0 x1 x2 x3 x4 = gated x0 x1 x2 x3 x4 := by
  funext i
  have hi0 : (i 0).val < 8192 := (i 0).isLt
  obtain ⟨q, r, k, rfl⟩ : ∃ (q : Fin 64) (r : Fin 128) (k : Fin 2048), i = ix2 (pos q r) k :=
    ⟨⟨(i 0).val / 128, by omega⟩, ⟨(i 0).val % 128, by omega⟩, i 1, at_eq _ _ _ (by show (i 0).val = 128 * ((i 0).val / 128) + (i 0).val % 128; omega) rfl⟩
  refine Eq.trans ?_ (gated_apply _ _ _ _ _ _ _ _).symm
  unfold unitAt
  rw [← left_eq, ← mix_eq]
  rfl

/-- The reference's run, its result as a function of the arguments. -/
theorem run_vals (m : (l : Loc nD τ sig) → Buf (Elt Ideal) l) (ρ : Dev nD → PrngReg) :
    θ_run defs (onTc (τ := τ) (main (F := Ideal))) ⟨m, fun _ => 0, ρ⟩ fun r => ∀ c : Dev nD,
      r.2.mem ((c.tc : Thread nD τ).loc main_v53) = val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v53_eq m c), (h c).2⟩) (Cert.Reference28Ideal.Value.run m ρ)

end Cert.Reference28Ideal.Read

end
-- ==== Proof.Loss.lean ====
/- The loss's gradient, and the sum of squared errors that the loss is a multiple of: the kernel's 32 points write a band each of
   the gradient and add up the squares of their bands. -/
module

public import proofs.«01_k».proof.Proof.Gen.Kernel29Ideal.Value
public import proofs.«01_k».proof.Proof.Gen.Reference29Ideal.Read
public import proofs.«01_k».proof.Proof.Tiles
public import proofs.«01_k».proof.Proof.Norms

@[expose] public section

set_option maxRecDepth 16384

noncomputable section

namespace Cert.Norms

open Idealize.ShloMosaic Cert.Products Cert.Reals Cert.Gating

variable {R : ℕ}

/-- The error of every entry, over the width. -/
def errGrad (x t : Mat R 2048) : Mat R 2048 := fun i => Ideal.div (x (ix2 (i 0) (i 1)) - t (ix2 (i 0) (i 1))) width

/-- The sum of the squared errors. -/
def sqErr (x t : Mat R 2048) : EReal := ∑ r : Fin R, ∑ k : Fin 2048, (x (ix2 r k) - t (ix2 r k)) * (x (ix2 r k) - t (ix2 r k))

theorem errGrad_band {T N : ℕ} (hT : T = N * R) (x t : Mat T 2048) (q : Fin N) : errGrad (band hT x q) (band hT t q) = band hT (errGrad x t) q := rfl

theorem sqErr_bands {T N : ℕ} (hT : T = N * R) (x t : Mat T 2048) : ∑ q, sqErr (band hT x q) (band hT t q) = sqErr x t :=
  (sum_bands hT fun r => ∑ k : Fin 2048, (x (ix2 r k) - t (ix2 r k)) * (x (ix2 r k) - t (ix2 r k))).symm

theorem err_rows : 8192 = 32 * 256 := rfl

/-- Half of a mean's share of the derivative of a square is the error over the width, of any extended real. -/
theorem half_square (e : EReal) :
    Ideal.div (Ideal.ofBits .f32 0x3F000000#32 * Ideal.ofBits .f32 0x3F800000#32) (Ideal.ofBits .f32 0x45000000#32)
      * (Ideal.ofBits .f32 0x40000000#32 * e) = Ideal.div e width := by
  show _ = Ideal.div e (Ideal.ofBits .f32 0x45000000#32)
  rw [half_eq, one_eq, two_eq, width_eq, Ideal.div_coe (by norm_num), Ideal.div_coe (by norm_num), ← EReal.coe_mul, ← EReal.coe_mul, ← mul_assoc,
    ← EReal.coe_mul, mul_comm]
  norm_num

end Cert.Norms

namespace Cert.Kernel29Ideal.Loss

open Cert.Kernel29Ideal Cert.Kernel29Ideal.Gen Idealize.ShloMosaic Idealize.ShloMosaic.TcCoe Idealize.SL.Sem Idealize.ShloMosaic.StableHlo
open Idealize.ShloMosaic.Pipeline (Dat)
open Cert.Products Cert.Gating Cert.Norms

section Values

variable (x y : FVec Ideal S256x2048 .f32) (acc : FVec Ideal S1x128 .f32)

theorem pay3_apply (r : Fin 256) (k : Fin 2048) : k0_pay3 (F := Ideal) x y (ix2 r k) = errGrad x y (ix2 r k) := by
  unfold errGrad
  pointwise [k0_pay3, k0_pay2]

theorem pay4_apply (k : Fin 128) : k0_pay4 (F := Ideal) x y acc (ix2 0 k) = acc (ix2 0 k) + sqErr x y := by
  unfold sqErr
  pointwise [k0_pay4, k0_pay2]

end Values

section Point

variable (x y : Vec Ideal S256x2048 .f32) (acc : Vec Ideal S1x128 .f32) (c : Dev nD) (i : grid0.Coords) (arg1 : Memref sig .tc .vmem S256x2048 .f32) (harg1 : arg1.IsWhole) (arg2 : Memref sig .tc .vmem S256x2048 .f32) (harg2 : arg2.IsWhole)
  (arg3 : Memref sig .tc .vmem S256x2048 .f32) (harg3 : arg3.IsWhole) (arg4 : Memref sig .tc .vmem S1x128 .f32) (harg4 : arg4.IsWhole)

section First
variable (hc0 : cond0_0 i)

theorem out_A_2 : out0_A_2 c i arg1 harg1 arg2 harg2 arg3 harg3 arg4 harg4 hc0 x y = errGrad x y := by
  unfold out0_A_2
  rw [View.read_writes_eq_canon _ _ _ (cover0_A_2 c i arg1 harg1 arg2 harg2 arg3 harg3 arg4 harg4 hc0 x y)]
  unfold kernelRun0_A
  dsimp only
  sl_unfold_words
  rw [View.canon_unit_zero (S := S256x2048) hz]
  simp only [View.readAt_eq_ld, harg1.read_unread, harg2.read_unread, View.ld_unit_zero (S := S256x2048) hz]
  funext j
  obtain ⟨r, k, rfl⟩ : ∃ (r : Fin 256) (k : Fin 2048), j = ix2 r k := ⟨j 0, j 1, eq_ix2 j⟩
  exact pay3_apply x y r k

theorem out_A_3 (k : Fin 128) : out0_A_3 c i arg1 harg1 arg2 harg2 arg3 harg3 arg4 harg4 hc0 x y (ix2 0 k) = sqErr x y := by
  unfold out0_A_3
  rw [View.read_writes_eq_canon _ _ _ (cover0_A_3 c i arg1 harg1 arg2 harg2 arg3 harg3 arg4 harg4 hc0 x y)]
  unfold kernelRun0_A
  dsimp only
  sl_unfold_words
  rw [View.canon_cons_unit_zero (S := S1x128) hz]
  simp only [View.readCov_unit_zero (S := S1x128) _ hz, View.readAt_eq_ld, harg1.read_unread, harg2.read_unread, View.ld_unit_zero (S := S256x2048) hz, View.ld_unit_zero (S := S1x128) hz]
  exact (pay4_apply x y k0_pay1 k).trans (by rw [show (k0_pay1 (F := Ideal)) (ix2 0 k) = (0 : EReal) from Ideal.ofBits_zero .f32, zero_add])

end First

section Later
variable (hc0 : ¬cond0_0 i)

theorem out_B_2 : out0_B_2 c i arg1 harg1 arg2 harg2 arg3 harg3 arg4 harg4 hc0 x y acc = errGrad x y := by
  unfold out0_B_2
  rw [View.read_writes_eq_canon _ _ _ (cover0_B_2 c i arg1 harg1 arg2 harg2 arg3 harg3 arg4 harg4 hc0 x y acc)]
  unfold kernelRun0_B
  dsimp only
  sl_unfold_words
  rw [View.canon_unit_zero (S := S256x2048) hz]
  simp only [View.readAt_eq_ld, harg1.read_unread, harg2.read_unread, View.ld_unit_zero (S := S256x2048) hz]
  funext j
  obtain ⟨r, k, rfl⟩ : ∃ (r : Fin 256) (k : Fin 2048), j = ix2 r k := ⟨j 0, j 1, eq_ix2 j⟩
  exact pay3_apply x y r k

theorem out_B_3 (k : Fin 128) : out0_B_3 c i arg1 harg1 arg2 harg2 arg3 harg3 arg4 harg4 hc0 x y acc (ix2 0 k) = acc (ix2 0 k) + sqErr x y := by
  unfold out0_B_3
  rw [View.read_writes_eq_canon _ _ _ (cover0_B_3 c i arg1 harg1 arg2 harg2 arg3 harg3 arg4 harg4 hc0 x y acc)]
  unfold kernelRun0_B
  dsimp only
  sl_unfold_words
  rw [View.canon_unit_zero (S := S1x128) hz]
  simp only [View.readAt_eq_ld, harg1.read_unread, harg2.read_unread, harg4.read_unread, View.ld_unit_zero (S := S256x2048) hz, View.ld_unit_zero (S := S1x128) hz]
  exact pay4_apply x y acc k

end Later
end Point

variable (m : (l : Loc nD τ sig) → Buf (Elt Ideal) l)

abbrev x (c : Dev nD) : Mat 8192 2048 := m ((c : Thread nD τ).loc main_arg0)
abbrev y (c : Dev nD) : Mat 8192 2048 := m ((c : Thread nD τ).loc main_arg1)

/-- Which block each window takes at a point: the point's 256 rows of the matrices, the one row of the sum. -/
theorem idx_rows : ∀ t : Fin cfg0.N, (win0_0.index t 0 = t.val ∧ win0_0.index t 1 = 0) ∧ (win0_1.index t 0 = t.val ∧ win0_1.index t 1 = 0)
    ∧ win0_2.index t 0 = t.val ∧ win0_2.index t 1 = 0 :=
  (by decide +kernel : ∀ t : Fin grid0.N, (win0_0.index t 0 = t.val ∧ win0_0.index t 1 = 0) ∧ (win0_1.index t 0 = t.val ∧ win0_1.index t 1 = 0)
    ∧ win0_2.index t 0 = t.val ∧ win0_2.index t 1 = 0)

theorem idx_flat : ∀ t : Fin cfg0.N, win0_3.index t 0 = 0 ∧ win0_3.index t 1 = 0 :=
  (by decide +kernel : ∀ t : Fin grid0.N, win0_3.index t 0 = 0 ∧ win0_3.index t 1 = 0)

theorem points : cfg0.N = 32 := by decide

/-- A point is a band of the rows. -/
abbrev pt (t : Fin cfg0.N) : Fin 32 := ⟨t.val, lt_of_lt_of_eq t.isLt points⟩

theorem x_blk (c : Dev nD) (t : Fin cfg0.N) : iblk m c 0 t = band err_rows (x m c) (pt t) := by
  funext j
  obtain ⟨r, k, rfl⟩ : ∃ (r : Fin 256) (k : Fin 2048), j = ix2 r k := ⟨j 0, j 1, eq_ix2 j⟩
  unfold iblk
  rw [View.read_apply]
  exact (congrFun (V_main_arg0 m c) _).trans (congrArg (x m c) (band_at err_rows _ (win0_0.index t) (pt t) (idx_rows t).1.1 (idx_rows t).1.2 r k rfl rfl))

theorem y_blk (c : Dev nD) (t : Fin cfg0.N) : iblk m c 1 t = band err_rows (y m c) (pt t) := by
  funext j
  obtain ⟨r, k, rfl⟩ : ∃ (r : Fin 256) (k : Fin 2048), j = ix2 r k := ⟨j 0, j 1, eq_ix2 j⟩
  unfold iblk
  rw [View.read_apply]
  exact (congrFun (V_main_arg1 m c) _).trans (congrArg (y m c) (band_at err_rows _ (win0_1.index t) (pt t) (idx_rows t).2.1.1 (idx_rows t).2.1.2 r k rfl rfl))

abbrev dx (c : Dev nD) : Buf (Elt Ideal) ((c : Thread nD τ).loc main_v0_0) := errGrad (x m c) (y m c)
abbrev total (c : Dev nD) : Buf (Elt Ideal) ((c : Thread nD τ).loc main_v0_1) := fun _ => sqErr (x m c) (y m c)

theorem x_point (c : Dev nD) (t : Fin cfg0.N) : (outsAt0 m c t.val t.isLt).1 = band err_rows (errGrad (x m c) (y m c)) (pt t) := by
  by_cases h0 : t.val % 32 = 0
  · rw [outsAt0_A m c t h0]
    dsimp only
    rw [out_A_2, x_blk, y_blk, errGrad_band]
  · rw [outsAt0_B m c t h0]
    dsimp only
    rw [out_B_2, x_blk, y_blk, errGrad_band]

theorem x_flushed (c : Dev nD) (t : Fin cfg0.N) : (dats m 0 c).flushed 2 t = ((cfg0.win 2).blk t).view.read (Elt Ideal) (dx m c) := by
  rw [Value.flushed2, x_point]
  funext j
  rw [View.read_apply]
  obtain ⟨r, k, rfl⟩ : ∃ (r : Fin 256) (k : Fin 2048), j = ix2 r k := ⟨j 0, j 1, eq_ix2 j⟩
  have hemb : ((cfg0.win 2).blk t).view.emb (ix2 r k) = (ix2 (at_band err_rows (pt t) r) k : S8192x2048.Idx) :=
    band_at err_rows _ (win0_2.index t) (pt t) (idx_rows t).2.2.1 (idx_rows t).2.2.2 r k rfl rfl
  show band err_rows (dx m c) (pt t) (ix2 r k) = dx m c (((cfg0.win 2).blk t).view.emb (ix2 r k))
  rw [hemb]
  rfl

theorem final_x (c : Dev nD) : (dats m 0 c).arrAt 2 cfg0.N = dx m c :=
  (dats m 0 c).arrAt_eq_of_cover 2 (dx m c) (fun t _ => x_flushed m c t) fun i => by
    obtain ⟨q, hq⟩ := band_covers err_rows (show S8192x2048.Idx from i)
    let t : Fin cfg0.N := ⟨q.val, lt_of_lt_of_eq q.isLt points.symm⟩
    refine ⟨t, flush0_2 _, ?_⟩
    show (show S8192x2048.Idx from i) ∈ ((View.whole main_v0_0).slice (win0_2.rect t)).set
    rw [View.set_slice_whole, Rect.mem_set_unit]
    exact hq (win0_2.index t) (idx_rows t).2.2.1 (idx_rows t).2.2.2

theorem sum_total (c : Dev nD) (t : Fin cfg0.N) (ht : t.val % 32 = 31) (k : Fin 128) : (outsAt0 m c t.val t.isLt).2 (ix2 0 k) = sqErr (x m c) (y m c) := by
  refine (in_all points (outsAt0 m c) (fun o => o.2 (ix2 0 k)) (fun q => sqErr (band err_rows (x m c) q) (band err_rows (y m c) q))
    (fun t h0 => ?_) (fun t h0 => ?_) t ht).trans (sqErr_bands err_rows (x m c) (y m c))
  · show (outsAt0 m c t.val t.isLt).2 (ix2 0 k) = _
    rw [outsAt0_A m c t h0]
    dsimp only
    rw [out_A_3, x_blk, y_blk]
  · show (outsAt0 m c t.val t.isLt).2 (ix2 0 k) = _
    rw [outsAt0_B m c t h0]
    dsimp only
    rw [out_B_3, x_blk, y_blk]

abbrev lastPt : Fin cfg0.N := ⟨31, by decide⟩

theorem final_sum (c : Dev nD) : (dats m 0 c).arrAt 3 cfg0.N = total m c :=
  (dats m 0 c).arrAt_eq_of_cover 3 (total m c) (fun t ht => by
    rw [Value.flushed3]
    funext j
    rw [View.read_apply]
    obtain ⟨k, rfl⟩ : ∃ k : Fin 128, j = ix2 0 k := ⟨j 1, eq_row j⟩
    exact sum_total m c t ((flush0_3 t).mp ht) k) fun i => by
    refine ⟨lastPt, (flush0_3 lastPt).mpr rfl, ?_⟩
    show (show S1x128.Idx from i) ∈ ((View.whole main_v0_1).slice (win0_3.rect lastPt)).set
    rw [View.set_slice_whole, Rect.mem_set_unit]
    exact row_covers (win0_3.index lastPt) (idx_flat lastPt).1 (idx_flat lastPt).2 (show S1x128.Idx from i)

end Cert.Kernel29Ideal.Loss

namespace Cert.Reference29Ideal.Read

open Cert.Reference29Ideal Cert.Reference29Ideal.Gen Idealize.ShloMosaic Idealize.ShloMosaic.TcCoe Idealize.SL.Sem Idealize.ShloMosaic.StableHlo
open Cert.Products Cert.Gating Cert.Norms

variable (x0 x1 : Mat 8192 2048)

theorem grad_eq : val_main_v20 (F := Ideal) x0 x1 = errGrad x0 x1 := by
  funext i
  obtain ⟨r, k, rfl⟩ : ∃ (r : Fin 8192) (k : Fin 2048), i = ix2 r k := ⟨i 0, i 1, eq_ix2 i⟩
  refine Eq.trans ?_ (half_square (x0 (ix2 r k) - x1 (ix2 r k)))
  pointwise [val_main_v20, val_main_v19, val_main_v18, val_main_v17, val_main_v16, val_main_v15, val_main_v9, val_main_v8, val_main_v6,
    val_main_cst_1, val_main_cst_6, val_main_cst_7, val_main_cst_8]

theorem sum_eq : val_main_v21 (F := Ideal) x0 x1 = fun _ => sqErr x0 x1 := by
  funext i
  obtain ⟨k, rfl⟩ : ∃ k : Fin 128, i = ix2 0 k := ⟨i 1, eq_row i⟩
  unfold sqErr
  pointwise [val_main_v21, val_main_v5, val_main_v4, val_main_v3, val_main_v2, val_main_v1, val_main_v0, val_main_cst, val_main_cst_0]

/-- The reference's run, its results as functions of the arguments. -/
theorem run_vals (m : (l : Loc nD τ sig) → Buf (Elt Ideal) l) (ρ : Dev nD → PrngReg) :
    θ_run defs (onTc (τ := τ) (main (F := Ideal))) ⟨m, fun _ => 0, ρ⟩ fun r => ∀ c : Dev nD,
      r.2.mem ((c.tc : Thread nD τ).loc main_v20) = val_main_v20 (F := Ideal) (m ((c.tc : Thread nD τ).loc main_arg0)) (m ((c.tc : Thread nD τ).loc main_arg1))
      ∧ r.2.mem ((c.tc : Thread nD τ).loc main_v21) = val_main_v21 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v20_eq _ _), (h c).2.1.trans (val_main_v21_eq _ _), (h c).2.2⟩) (Cert.Reference29Ideal.Value.run m ρ)

end Cert.Reference29Ideal.Read

end
-- ==== Proof.Forward.lean ====
/- The products into and out of the mixers, `x · w`: what each kernel leaves in its result array, and what its reference does. -/
module

public import proofs.«01_k».proof.Defs
public import proofs.«01_k».proof.Proof.Tiles
public import proofs.«01_k».proof.Proof.Gen.Kernel8Ideal.Value
public import proofs.«01_k».proof.Proof.Gen.Reference8Ideal.Read
public import proofs.«01_k».proof.Proof.Gen.Kernel9Ideal.Value
public import proofs.«01_k».proof.Proof.Gen.Reference9Ideal.Read
public import proofs.«01_k».proof.Proof.Gen.Kernel10Ideal.Value
public import proofs.«01_k».proof.Proof.Gen.Reference10Ideal.Read

@[expose] public section

set_option maxRecDepth 16384

noncomputable section

namespace Cert.Kernel8Ideal.MixOut

open Cert.Kernel8Ideal Cert.Kernel8Ideal.Gen Idealize.ShloMosaic Idealize.ShloMosaic.TcCoe Idealize.SL.Sem Idealize.ShloMosaic.StableHlo
open Idealize.ShloMosaic.Pipeline (Dat)
open Cert.Products

variable (m : (ℓ : Loc nD τ sig) → Buf (Elt Ideal) ℓ)

/-- One point's tile: the whole inner extent is contracted at once. -/
theorem tile_apply (x0 : Vec Ideal S1024x2048 .bf16) (x1 : Vec Ideal S2048x1024 .bf16) (r : Fin 1024) (l : Fin 1024) :
    out0_2 x0 x1 (ix2 r l) = ∑ k : Fin 2048, x0 (ix2 r k) * x1 (ix2 k l) := by
  unfold out0_2
  rw [View.canon_unit_zero hz]
  simp only [View.ld_unit_zero (S := S1024x2048) hz, View.ld_unit_zero (S := S2048x1024) hz]
  pointwise [k0_pay1]

/-- The two arguments as the program is given them; over the reals the casts change nothing. -/
abbrev o (c : Dev nD) : Mat 8192 2048 := m ((c : Thread nD τ).loc main_arg0)
abbrev w (c : Dev nD) : Mat 2048 2048 := m ((c : Thread nD τ).loc main_arg1)

theorem V_o (c : Dev nD) : V m c main_v0 = o m c := by
  unfold_abbrev_sides
  after_results
  rfl

theorem V_w (c : Dev nD) : V m c main_v1 = w m c := by
  unfold_abbrev_sides
  after_results
  rfl

theorem idx : ∀ t : Fin cfg0.N, (win0_0.index t 0 = t.val / 2 ∧ win0_0.index t 1 = 0) ∧ (win0_1.index t 0 = 0 ∧ win0_1.index t 1 = t.val % 2)
    ∧ win0_2.index t 0 = t.val / 2 ∧ win0_2.index t 1 = t.val % 2 :=
  (by decide +kernel : ∀ t : Fin grid0.N, (win0_0.index t 0 = t.val / 2 ∧ win0_0.index t 1 = 0) ∧ (win0_1.index t 0 = 0 ∧ win0_1.index t 1 = t.val % 2)
    ∧ win0_2.index t 0 = t.val / 2 ∧ win0_2.index t 1 = t.val % 2)

theorem read0 (c : Dev nD) (t : Fin cfg0.N) (r : Fin 1024) (k : Fin 2048) (p : Fin 8192) (hp : p.val = 1024 * (t.val / 2) + r.val) :
    iblk m c 0 t (ix2 r k) = o m c (ix2 p k) := by
  unfold iblk
  rw [View.read_apply]
  exact (congrFun (V_o m c) _).trans (congrArg (o m c) (block_at _ rfl rfl (idx t).1.1 (idx t).1.2 hp (first _ _)))

theorem read1 (c : Dev nD) (t : Fin cfg0.N) (k : Fin 2048) (l : Fin 1024) (q : Fin 2048) (hq : q.val = 1024 * (t.val % 2) + l.val) :
    iblk m c 1 t (ix2 k l) = w m c (ix2 k q) := by
  unfold iblk
  rw [View.read_apply]
  exact (congrFun (V_w m c) _).trans (congrArg (w m c) (block_at _ rfl rfl (idx t).2.1.1 (idx t).2.1.2 (first _ _) hq))

/-- The kernel's result is the product. -/
theorem final (c : Dev nD) : (dats m 0 c).arrAt 2 cfg0.N = nn (o m c) (w m c) := by
  refine eq_of_tiles (ni := 8) (nj := 2) (tm := 1024) (tl := 1024) rfl rfl fun t ht r l p q hp hq => ?_
  have hN : t < cfg0.N := lt_of_lt_of_eq ht (by decide)
  have hb := congrFun (Value.blocks2 m c ⟨t, hN⟩ (flush0_2 _)) (ix2 r l)
  rw [View.read_apply, Value.flushed2, show ((cfg0.win 2).blk ⟨t, hN⟩).view.emb (ix2 r l) = ix2 p q from block_at _ rfl rfl (idx ⟨t, hN⟩).2.2.1 (idx ⟨t, hN⟩).2.2.2 hp hq] at hb
  refine hb.trans ((tile_apply _ _ r l).trans (Finset.sum_congr rfl fun k _ => ?_))
  exact congrArg₂ (· * ·) (read0 m c ⟨t, hN⟩ r k p hp) (read1 m c ⟨t, hN⟩ k l q hq)

end Cert.Kernel8Ideal.MixOut

namespace Cert.Reference8Ideal.Read

open Cert.Reference8Ideal Cert.Reference8Ideal.Gen Idealize.ShloMosaic Cert.Products

theorem product_eq (x0 : Mat 8192 2048) (x1 : Mat 2048 2048) : val_main_v0 (F := Ideal) x0 x1 = nn x0 x1 := by
  funext i
  rw [val_main_v0_apply]
  exact Finset.sum_congr rfl fun k _ => congrArg₂ (· * ·) (congrArg x0 (at_eq _ _ _ rfl rfl)) (congrArg x1 (at_eq _ _ _ rfl rfl))

end Cert.Reference8Ideal.Read

namespace Cert.Kernel9Ideal.FoxQkv

open Cert.Kernel9Ideal Cert.Kernel9Ideal.Gen Idealize.ShloMosaic Idealize.ShloMosaic.TcCoe Idealize.SL.Sem Idealize.ShloMosaic.StableHlo
open Idealize.ShloMosaic.Pipeline (Dat)
open Cert.Products

variable (m : (ℓ : Loc nD τ sig) → Buf (Elt Ideal) ℓ)

/-- One point's tile: the whole inner extent is contracted at once. -/
theorem tile_apply (x0 : Vec Ideal S1024x2048 .bf16) (x1 : Vec Ideal S2048x1536 .bf16) (r : Fin 1024) (l : Fin 1536) :
    out0_2 x0 x1 (ix2 r l) = ∑ k : Fin 2048, x0 (ix2 r k) * x1 (ix2 k l) := by
  unfold out0_2
  rw [View.canon_unit_zero hz]
  simp only [View.ld_unit_zero (S := S1024x2048) hz, View.ld_unit_zero (S := S2048x1536) hz]
  pointwise [k0_pay1]

/-- The two arguments as the program is given them; over the reals the casts change nothing. -/
abbrev h (c : Dev nD) : Mat 8192 2048 := m ((c : Thread nD τ).loc main_arg0)
abbrev win (c : Dev nD) : Mat 2048 6160 := m ((c : Thread nD τ).loc main_arg1)

/-- The weight without its last sixteen columns. -/
def wqkv (c : Dev nD) : Mat 2048 6144 := fun i => win m c (ix2 (i 0) (⟨(i 1).val, Nat.lt_of_lt_of_le (i 1).isLt (by decide)⟩ : Fin 6160))

theorem V_h (c : Dev nD) : V m c main_v2 = h m c := by
  unfold_abbrev_sides
  after_results
  rfl

theorem V_wqkv (c : Dev nD) : V m c main_v1 = wqkv m c := by
  unfold_abbrev_sides
  after_results
  funext i
  obtain ⟨r, l, rfl⟩ : ∃ (r : Fin 2048) (l : Fin 6144), i = ix2 r l := ⟨i 0, i 1, eq_ix2 i⟩
  unfold wqkv
  pointwise []

theorem idx : ∀ t : Fin cfg0.N, (win0_0.index t 0 = t.val / 4 ∧ win0_0.index t 1 = 0) ∧ (win0_1.index t 0 = 0 ∧ win0_1.index t 1 = t.val % 4)
    ∧ win0_2.index t 0 = t.val / 4 ∧ win0_2.index t 1 = t.val % 4 :=
  (by decide +kernel : ∀ t : Fin grid0.N, (win0_0.index t 0 = t.val / 4 ∧ win0_0.index t 1 = 0) ∧ (win0_1.index t 0 = 0 ∧ win0_1.index t 1 = t.val % 4)
    ∧ win0_2.index t 0 = t.val / 4 ∧ win0_2.index t 1 = t.val % 4)

theorem read0 (c : Dev nD) (t : Fin cfg0.N) (r : Fin 1024) (k : Fin 2048) (p : Fin 8192) (hp : p.val = 1024 * (t.val / 4) + r.val) :
    iblk m c 0 t (ix2 r k) = h m c (ix2 p k) := by
  unfold iblk
  rw [View.read_apply]
  exact (congrFun (V_h m c) _).trans (congrArg (h m c) (block_at _ rfl rfl (idx t).1.1 (idx t).1.2 hp (first _ _)))

theorem read1 (c : Dev nD) (t : Fin cfg0.N) (k : Fin 2048) (l : Fin 1536) (q : Fin 6144) (hq : q.val = 1536 * (t.val % 4) + l.val) :
    iblk m c 1 t (ix2 k l) = wqkv m c (ix2 k q) := by
  unfold iblk
  rw [View.read_apply]
  exact (congrFun (V_wqkv m c) _).trans (congrArg (wqkv m c) (block_at _ rfl rfl (idx t).2.1.1 (idx t).2.1.2 (first _ _) hq))

/-- The kernel's result is the product. -/
theorem final (c : Dev nD) : (dats m 0 c).arrAt 2 cfg0.N = nn (h m c) (wqkv m c) := by
  refine eq_of_tiles (ni := 8) (nj := 4) (tm := 1024) (tl := 1536) rfl rfl fun t ht r l p q hp hq => ?_
  have hN : t < cfg0.N := lt_of_lt_of_eq ht (by decide)
  have hb := congrFun (Value.blocks2 m c ⟨t, hN⟩ (flush0_2 _)) (ix2 r l)
  rw [View.read_apply, Value.flushed2, show ((cfg0.win 2).blk ⟨t, hN⟩).view.emb (ix2 r l) = ix2 p q from block_at _ rfl rfl (idx ⟨t, hN⟩).2.2.1 (idx ⟨t, hN⟩).2.2.2 hp hq] at hb
  refine hb.trans ((tile_apply _ _ r l).trans (Finset.sum_congr rfl fun k _ => ?_))
  exact congrArg₂ (· * ·) (read0 m c ⟨t, hN⟩ r k p hp) (read1 m c ⟨t, hN⟩ k l q hq)

end Cert.Kernel9Ideal.FoxQkv

namespace Cert.Reference9Ideal.Read

open Cert.Reference9Ideal Cert.Reference9Ideal.Gen Idealize.ShloMosaic Cert.Products

theorem product_eq (x0 : Mat 8192 2048) (x1 : Mat 2048 6160) :
    val_main_v2 (F := Ideal) x0 x1 = nn x0 (fun i => x1 (ix2 (i 0) (⟨(i 1).val, Nat.lt_of_lt_of_le (i 1).isLt (by decide)⟩ : Fin 6160)) : Mat 2048 6144) := by
  funext i
  rw [val_main_v2_apply, val_main_v1_apply, val_main_v0_apply]
  exact Finset.sum_congr rfl fun k _ => congrArg₂ (· * ·) (congrArg x0 (at_eq _ _ _ rfl rfl)) (congrArg x1 (at_eq _ _ _ rfl rfl))

end Cert.Reference9Ideal.Read

namespace Cert.Kernel10Ideal.SguIn

open Cert.Kernel10Ideal Cert.Kernel10Ideal.Gen Idealize.ShloMosaic Idealize.ShloMosaic.TcCoe Idealize.SL.Sem Idealize.ShloMosaic.StableHlo
open Idealize.ShloMosaic.Pipeline (Dat)
open Cert.Products

variable (m : (ℓ : Loc nD τ sig) → Buf (Elt Ideal) ℓ)

/-- One point's tile: the whole inner extent is contracted at once. -/
theorem tile_apply (x0 : Vec Ideal S1024x2048 .bf16) (x1 : Vec Ideal S2048x1024 .bf16) (r : Fin 1024) (l : Fin 1024) :
    out0_2 x0 x1 (ix2 r l) = ∑ k : Fin 2048, x0 (ix2 r k) * x1 (ix2 k l) := by
  unfold out0_2
  rw [View.canon_unit_zero hz]
  simp only [View.ld_unit_zero (S := S1024x2048) hz, View.ld_unit_zero (S := S2048x1024) hz]
  pointwise [k0_pay1]

/-- The two arguments as the program is given them; over the reals the casts change nothing. -/
abbrev h (c : Dev nD) : Mat 8192 2048 := m ((c : Thread nD τ).loc main_arg0)
abbrev w (c : Dev nD) : Mat 2048 4096 := m ((c : Thread nD τ).loc main_arg1)

theorem V_h (c : Dev nD) : V m c main_v0 = h m c := by
  unfold_abbrev_sides
  after_results
  rfl

theorem V_w (c : Dev nD) : V m c main_v1 = w m c := by
  unfold_abbrev_sides
  after_results
  rfl

theorem idx : ∀ t : Fin cfg0.N, (win0_0.index t 0 = t.val / 4 ∧ win0_0.index t 1 = 0) ∧ (win0_1.index t 0 = 0 ∧ win0_1.index t 1 = t.val % 4)
    ∧ win0_2.index t 0 = t.val / 4 ∧ win0_2.index t 1 = t.val % 4 :=
  (by decide +kernel : ∀ t : Fin grid0.N, (win0_0.index t 0 = t.val / 4 ∧ win0_0.index t 1 = 0) ∧ (win0_1.index t 0 = 0 ∧ win0_1.index t 1 = t.val % 4)
    ∧ win0_2.index t 0 = t.val / 4 ∧ win0_2.index t 1 = t.val % 4)

theorem read0 (c : Dev nD) (t : Fin cfg0.N) (r : Fin 1024) (k : Fin 2048) (p : Fin 8192) (hp : p.val = 1024 * (t.val / 4) + r.val) :
    iblk m c 0 t (ix2 r k) = h m c (ix2 p k) := by
  unfold iblk
  rw [View.read_apply]
  exact (congrFun (V_h m c) _).trans (congrArg (h m c) (block_at _ rfl rfl (idx t).1.1 (idx t).1.2 hp (first _ _)))

theorem read1 (c : Dev nD) (t : Fin cfg0.N) (k : Fin 2048) (l : Fin 1024) (q : Fin 4096) (hq : q.val = 1024 * (t.val % 4) + l.val) :
    iblk m c 1 t (ix2 k l) = w m c (ix2 k q) := by
  unfold iblk
  rw [View.read_apply]
  exact (congrFun (V_w m c) _).trans (congrArg (w m c) (block_at _ rfl rfl (idx t).2.1.1 (idx t).2.1.2 (first _ _) hq))

/-- The kernel's result is the product. -/
theorem final (c : Dev nD) : (dats m 0 c).arrAt 2 cfg0.N = nn (h m c) (w m c) := by
  refine eq_of_tiles (ni := 8) (nj := 4) (tm := 1024) (tl := 1024) rfl rfl fun t ht r l p q hp hq => ?_
  have hN : t < cfg0.N := lt_of_lt_of_eq ht (by decide)
  have hb := congrFun (Value.blocks2 m c ⟨t, hN⟩ (flush0_2 _)) (ix2 r l)
  rw [View.read_apply, Value.flushed2, show ((cfg0.win 2).blk ⟨t, hN⟩).view.emb (ix2 r l) = ix2 p q from block_at _ rfl rfl (idx ⟨t, hN⟩).2.2.1 (idx ⟨t, hN⟩).2.2.2 hp hq] at hb
  refine hb.trans ((tile_apply _ _ r l).trans (Finset.sum_congr rfl fun k _ => ?_))
  exact congrArg₂ (· * ·) (read0 m c ⟨t, hN⟩ r k p hp) (read1 m c ⟨t, hN⟩ k l q hq)

end Cert.Kernel10Ideal.SguIn

namespace Cert.Reference10Ideal.Read

open Cert.Reference10Ideal Cert.Reference10Ideal.Gen Idealize.ShloMosaic Cert.Products

theorem product_eq (x0 : Mat 8192 2048) (x1 : Mat 2048 4096) : val_main_v0 (F := Ideal) x0 x1 = nn x0 x1 := by
  funext i
  rw [val_main_v0_apply]
  exact Finset.sum_congr rfl fun k _ => congrArg₂ (· * ·) (congrArg x0 (at_eq _ _ _ rfl rfl)) (congrArg x1 (at_eq _ _ _ rfl rfl))

end Cert.Reference10Ideal.Read

end
-- ==== Proof.Inputs.lean ====
/- The gradients of the mixers' inputs, `dy · wᵀ`: what each kernel leaves in its result array, and what its reference does. -/
module

public import proofs.«01_k».proof.Defs
public import proofs.«01_k».proof.Proof.Tiles
public import proofs.«01_k».proof.Proof.Gen.Kernel15Ideal.Value
public import proofs.«01_k».proof.Proof.Gen.Reference15Ideal.Read
public import proofs.«01_k».proof.Proof.Gen.Kernel16Ideal.Value
public import proofs.«01_k».proof.Proof.Gen.Reference16Ideal.Read
public import proofs.«01_k».proof.Proof.Gen.Kernel17Ideal.Value
public import proofs.«01_k».proof.Proof.Gen.Reference17Ideal.Read

@[expose] public section

set_option maxRecDepth 16384

noncomputable section

namespace Cert.Kernel15Ideal.MixDout

open Cert.Kernel15Ideal Cert.Kernel15Ideal.Gen Idealize.ShloMosaic Idealize.ShloMosaic.TcCoe Idealize.SL.Sem Idealize.ShloMosaic.StableHlo
open Idealize.ShloMosaic.Pipeline (Dat)
open Cert.Products

variable (m : (ℓ : Loc nD τ sig) → Buf (Elt Ideal) ℓ)

/-- One point's tile: the whole inner extent is contracted at once. -/
theorem tile_apply (x0 : Vec Ideal S1024x2048 .bf16) (x1 : Vec Ideal S1024x2048 .bf16) (r : Fin 1024) (l : Fin 1024) :
    out0_2 x0 x1 (ix2 r l) = ∑ k : Fin 2048, x0 (ix2 r k) * x1 (ix2 l k) := by
  unfold out0_2
  rw [View.canon_unit_zero hz]
  simp only [View.ld_unit_zero (S := S1024x2048) hz, View.ld_unit_zero (S := S1024x2048) hz]
  pointwise [k0_pay1]

/-- The two arguments as the program is given them; over the reals the casts change nothing. -/
abbrev dy (c : Dev nD) : Mat 8192 2048 := m ((c : Thread nD τ).loc main_arg0)
abbrev w (c : Dev nD) : Mat 2048 2048 := m ((c : Thread nD τ).loc main_arg1)

theorem V_dy (c : Dev nD) : V m c main_v0 = dy m c := by
  unfold_abbrev_sides
  after_results
  rfl

theorem V_w (c : Dev nD) : V m c main_v1 = w m c := by
  unfold_abbrev_sides
  after_results
  rfl

theorem idx : ∀ t : Fin cfg0.N, (win0_0.index t 0 = t.val / 2 ∧ win0_0.index t 1 = 0) ∧ (win0_1.index t 0 = t.val % 2 ∧ win0_1.index t 1 = 0)
    ∧ win0_2.index t 0 = t.val / 2 ∧ win0_2.index t 1 = t.val % 2 :=
  (by decide +kernel : ∀ t : Fin grid0.N, (win0_0.index t 0 = t.val / 2 ∧ win0_0.index t 1 = 0) ∧ (win0_1.index t 0 = t.val % 2 ∧ win0_1.index t 1 = 0)
    ∧ win0_2.index t 0 = t.val / 2 ∧ win0_2.index t 1 = t.val % 2)

theorem read0 (c : Dev nD) (t : Fin cfg0.N) (r : Fin 1024) (k : Fin 2048) (p : Fin 8192) (hp : p.val = 1024 * (t.val / 2) + r.val) :
    iblk m c 0 t (ix2 r k) = dy m c (ix2 p k) := by
  unfold iblk
  rw [View.read_apply]
  exact (congrFun (V_dy m c) _).trans (congrArg (dy m c) (block_at _ rfl rfl (idx t).1.1 (idx t).1.2 hp (first _ _)))

theorem read1 (c : Dev nD) (t : Fin cfg0.N) (k : Fin 2048) (l : Fin 1024) (q : Fin 2048) (hq : q.val = 1024 * (t.val % 2) + l.val) :
    iblk m c 1 t (ix2 l k) = w m c (ix2 q k) := by
  unfold iblk
  rw [View.read_apply]
  exact (congrFun (V_w m c) _).trans (congrArg (w m c) (block_at _ rfl rfl (idx t).2.1.1 (idx t).2.1.2 hq (first _ _)))

/-- The kernel's result is the product. -/
theorem final (c : Dev nD) : (dats m 0 c).arrAt 2 cfg0.N = nt (dy m c) (w m c) := by
  refine eq_of_tiles (ni := 8) (nj := 2) (tm := 1024) (tl := 1024) rfl rfl fun t ht r l p q hp hq => ?_
  have hN : t < cfg0.N := lt_of_lt_of_eq ht (by decide)
  have hb := congrFun (Value.blocks2 m c ⟨t, hN⟩ (flush0_2 _)) (ix2 r l)
  rw [View.read_apply, Value.flushed2, show ((cfg0.win 2).blk ⟨t, hN⟩).view.emb (ix2 r l) = ix2 p q from block_at _ rfl rfl (idx ⟨t, hN⟩).2.2.1 (idx ⟨t, hN⟩).2.2.2 hp hq] at hb
  refine hb.trans ((tile_apply _ _ r l).trans (Finset.sum_congr rfl fun k _ => ?_))
  exact congrArg₂ (· * ·) (read0 m c ⟨t, hN⟩ r k p hp) (read1 m c ⟨t, hN⟩ k l q hq)

end Cert.Kernel15Ideal.MixDout

namespace Cert.Reference15Ideal.Read

open Cert.Reference15Ideal Cert.Reference15Ideal.Gen Idealize.ShloMosaic Cert.Products

theorem inputGrad_eq (x0 : Mat 8192 2048) (x1 : Mat 2048 2048) : val_main_v2 (F := Ideal) x0 x1 = nt x0 x1 := by
  funext i
  rw [val_main_v2_apply]
  exact Finset.sum_congr rfl fun k _ => congrArg₂ (· * ·) (congrArg x0 (at_eq _ _ _ rfl rfl)) (congrArg x1 (at_eq _ _ _ rfl rfl))

end Cert.Reference15Ideal.Read

namespace Cert.Kernel16Ideal.FoxDh

open Cert.Kernel16Ideal Cert.Kernel16Ideal.Gen Idealize.ShloMosaic Idealize.ShloMosaic.TcCoe Idealize.SL.Sem Idealize.ShloMosaic.StableHlo
open Idealize.ShloMosaic.Pipeline (Dat)
open Cert.Products

variable (m : (ℓ : Loc nD τ sig) → Buf (Elt Ideal) ℓ)

/-- One point's tile: the whole inner extent is contracted at once. -/
theorem tile_apply (x0 : Vec Ideal S1024x6272 .bf16) (x1 : Vec Ideal S256x6272 .bf16) (r : Fin 1024) (l : Fin 256) :
    out0_2 x0 x1 (ix2 r l) = ∑ k : Fin 6272, x0 (ix2 r k) * x1 (ix2 l k) := by
  unfold out0_2
  rw [View.canon_unit_zero hz]
  simp only [View.ld_unit_zero (S := S1024x6272) hz, View.ld_unit_zero (S := S256x6272) hz]
  pointwise [k0_pay1]

/-- The two arguments as the program is given them; over the reals the casts change nothing. -/
abbrev dproj (c : Dev nD) : Mat 8192 6272 := m ((c : Thread nD τ).loc main_arg0)
abbrev win (c : Dev nD) : Mat 2048 6160 := m ((c : Thread nD τ).loc main_arg1)

/-- The weight with 112 columns of zeros after its own. -/
abbrev wpad (c : Dev nD) : Mat 2048 6272 := padded (win m c)

/-- The last sixteen columns followed by 112 columns of zeros. -/
theorem pad_eq (W : Vec Ideal S2048x6160 .bf16) (r : Fin 2048) (l : Fin 128) :
    pad (α := EReal) S2048x128 ![0, 0] ![0, 112] ![0, 0] (extractStridedSlice S2048x16 ![0, 6144] W slices_S2048x6160_S2048x16_0_6144)
      (sitofp (F := Ideal) .bf16 (constantI S_ 32 0#32)) pads_S2048x16_S2048x128_000_01120 h_S_ (ix2 r l)
    = if hl : l.val < 16 then W (ix2 r ⟨6144 + l.val, by omega⟩) else 0 := by
  by_cases hl : l.val < 16
  · rw [dif_pos hl, pad_apply_of_inside _ _ _ _ _ _ _ _ (ix2 r (⟨l.val, hl⟩ : Fin 16)) (fun a => by fin_cases a <;> simp)]
    pointwise []
  · rw [dif_neg hl, pad_apply_of_not_inside _ _ _ _ _ _ _ _ (1 : Fin 2) (fun hin => hl (by simpa using hin.2.2))]
    exact sitofp_zero (φ := .bf16)

theorem V_dproj (c : Dev nD) : V m c main_v5 = dproj m c := by
  unfold_abbrev_sides
  unfold hostOps0 hostOps0_1 hostOps0_2
  simp only [List.flatten_cons, List.flatten_nil, List.cons_append, List.nil_append, List.append_nil]
  after_results
  rfl

theorem V_wpad (c : Dev nD) : V m c main_v4 = wpad m c := by
  unfold_abbrev_sides
  unfold hostOps0 hostOps0_1 hostOps0_2
  simp only [List.flatten_cons, List.flatten_nil, List.cons_append, List.nil_append, List.append_nil]
  after_results
  funext i
  obtain ⟨r, l, rfl⟩ : ∃ (r : Fin 2048) (l : Fin 6272), i = ix2 r l := ⟨i 0, i 1, eq_ix2 i⟩
  pointwise []
  by_cases h1 : l.val < 6144
  · rw [dif_pos h1]
    exact (padded_own (win m c) r l (by omega)).symm
  · rw [dif_neg h1]
    refine (pad_eq (win m c) r ⟨l.val - 6144, by omega⟩).trans ?_
    by_cases h2 : l.val < 6160
    · rw [dif_pos (by show l.val - 6144 < 16; omega)]
      exact (congrArg (win m c) (congrArg (ix2 r) (Fin.ext (by show 6144 + (l.val - 6144) = l.val; omega)))).trans (padded_own (win m c) r l h2).symm
    · rw [dif_neg (by show ¬l.val - 6144 < 16; omega)]
      exact (padded_zero (win m c) r l h2).symm

theorem idx : ∀ t : Fin cfg0.N, (win0_0.index t 0 = t.val / 8 ∧ win0_0.index t 1 = 0) ∧ (win0_1.index t 0 = t.val % 8 ∧ win0_1.index t 1 = 0)
    ∧ win0_2.index t 0 = t.val / 8 ∧ win0_2.index t 1 = t.val % 8 :=
  (by decide +kernel : ∀ t : Fin grid0.N, (win0_0.index t 0 = t.val / 8 ∧ win0_0.index t 1 = 0) ∧ (win0_1.index t 0 = t.val % 8 ∧ win0_1.index t 1 = 0)
    ∧ win0_2.index t 0 = t.val / 8 ∧ win0_2.index t 1 = t.val % 8)

theorem read0 (c : Dev nD) (t : Fin cfg0.N) (r : Fin 1024) (k : Fin 6272) (p : Fin 8192) (hp : p.val = 1024 * (t.val / 8) + r.val) :
    iblk m c 0 t (ix2 r k) = dproj m c (ix2 p k) := by
  unfold iblk
  rw [View.read_apply]
  exact (congrFun (V_dproj m c) _).trans (congrArg (dproj m c) (block_at _ rfl rfl (idx t).1.1 (idx t).1.2 hp (first _ _)))

theorem read1 (c : Dev nD) (t : Fin cfg0.N) (k : Fin 6272) (l : Fin 256) (q : Fin 2048) (hq : q.val = 256 * (t.val % 8) + l.val) :
    iblk m c 1 t (ix2 l k) = wpad m c (ix2 q k) := by
  unfold iblk
  rw [View.read_apply]
  exact (congrFun (V_wpad m c) _).trans (congrArg (wpad m c) (block_at _ rfl rfl (idx t).2.1.1 (idx t).2.1.2 hq (first _ _)))

/-- The kernel's result is the product. -/
theorem final (c : Dev nD) : (dats m 0 c).arrAt 2 cfg0.N = nt (dproj m c) (wpad m c) := by
  refine eq_of_tiles (ni := 8) (nj := 8) (tm := 1024) (tl := 256) rfl rfl fun t ht r l p q hp hq => ?_
  have hN : t < cfg0.N := lt_of_lt_of_eq ht (by decide)
  have hb := congrFun (Value.blocks2 m c ⟨t, hN⟩ (flush0_2 _)) (ix2 r l)
  rw [View.read_apply, Value.flushed2, show ((cfg0.win 2).blk ⟨t, hN⟩).view.emb (ix2 r l) = ix2 p q from block_at _ rfl rfl (idx ⟨t, hN⟩).2.2.1 (idx ⟨t, hN⟩).2.2.2 hp hq] at hb
  refine hb.trans ((tile_apply _ _ r l).trans (Finset.sum_congr rfl fun k _ => ?_))
  exact congrArg₂ (· * ·) (read0 m c ⟨t, hN⟩ r k p hp) (read1 m c ⟨t, hN⟩ k l q hq)

end Cert.Kernel16Ideal.FoxDh

namespace Cert.Reference16Ideal.Read

open Cert.Reference16Ideal Cert.Reference16Ideal.Gen Idealize.ShloMosaic Cert.Products

theorem inputGrad_eq (x0 : Mat 8192 6272) (x1 : Mat 2048 6160) :
    val_main_v3 (F := Ideal) x0 x1 = nt x0 (padded x1) := by
  funext i
  obtain ⟨p, q, rfl⟩ : ∃ (p : Fin 8192) (q : Fin 2048), i = ix2 p q := ⟨i 0, i 1, eq_ix2 i⟩
  rw [val_main_v3_apply]
  refine Eq.trans ?_ (Fin.sum_univ_add (a := 6160) (b := 112) fun k => x0 (ix2 p k) * padded x1 (ix2 q k)).symm
  refine (add_zero _).symm.trans (congrArg₂ (· + ·) (Finset.sum_congr rfl fun k _ => ?_) (Finset.sum_eq_zero fun k _ => ?_).symm)
  · rw [val_main_v2_apply, padded_own x1 q _ k.isLt]
    exact congrArg₂ (· * ·) (congrArg x0 (at_eq _ _ _ rfl rfl)) (congrArg x1 (at_eq _ _ _ rfl rfl))
  · rw [padded_zero x1 q _ (by show ¬6160 + k.val < 6160; omega), mul_zero]

end Cert.Reference16Ideal.Read

namespace Cert.Kernel17Ideal.SguDh

open Cert.Kernel17Ideal Cert.Kernel17Ideal.Gen Idealize.ShloMosaic Idealize.ShloMosaic.TcCoe Idealize.SL.Sem Idealize.ShloMosaic.StableHlo
open Idealize.ShloMosaic.Pipeline (Dat)
open Cert.Products

variable (m : (ℓ : Loc nD τ sig) → Buf (Elt Ideal) ℓ)

/-- One point's tile: the whole inner extent is contracted at once. -/
theorem tile_apply (x0 : Vec Ideal S1024x4096 .bf16) (x1 : Vec Ideal S512x4096 .bf16) (r : Fin 1024) (l : Fin 512) :
    out0_2 x0 x1 (ix2 r l) = ∑ k : Fin 4096, x0 (ix2 r k) * x1 (ix2 l k) := by
  unfold out0_2
  rw [View.canon_unit_zero hz]
  simp only [View.ld_unit_zero (S := S1024x4096) hz, View.ld_unit_zero (S := S512x4096) hz]
  pointwise [k0_pay1]

/-- The two arguments as the program is given them; over the reals the casts change nothing. -/
abbrev dz (c : Dev nD) : Mat 8192 4096 := m ((c : Thread nD τ).loc main_arg0)
abbrev w (c : Dev nD) : Mat 2048 4096 := m ((c : Thread nD τ).loc main_arg1)

theorem V_dz (c : Dev nD) : V m c main_v0 = dz m c := by
  unfold_abbrev_sides
  after_results
  rfl

theorem V_w (c : Dev nD) : V m c main_v1 = w m c := by
  unfold_abbrev_sides
  after_results
  rfl

theorem idx : ∀ t : Fin cfg0.N, (win0_0.index t 0 = t.val / 4 ∧ win0_0.index t 1 = 0) ∧ (win0_1.index t 0 = t.val % 4 ∧ win0_1.index t 1 = 0)
    ∧ win0_2.index t 0 = t.val / 4 ∧ win0_2.index t 1 = t.val % 4 :=
  (by decide +kernel : ∀ t : Fin grid0.N, (win0_0.index t 0 = t.val / 4 ∧ win0_0.index t 1 = 0) ∧ (win0_1.index t 0 = t.val % 4 ∧ win0_1.index t 1 = 0)
    ∧ win0_2.index t 0 = t.val / 4 ∧ win0_2.index t 1 = t.val % 4)

theorem read0 (c : Dev nD) (t : Fin cfg0.N) (r : Fin 1024) (k : Fin 4096) (p : Fin 8192) (hp : p.val = 1024 * (t.val / 4) + r.val) :
    iblk m c 0 t (ix2 r k) = dz m c (ix2 p k) := by
  unfold iblk
  rw [View.read_apply]
  exact (congrFun (V_dz m c) _).trans (congrArg (dz m c) (block_at _ rfl rfl (idx t).1.1 (idx t).1.2 hp (first _ _)))

theorem read1 (c : Dev nD) (t : Fin cfg0.N) (k : Fin 4096) (l : Fin 512) (q : Fin 2048) (hq : q.val = 512 * (t.val % 4) + l.val) :
    iblk m c 1 t (ix2 l k) = w m c (ix2 q k) := by
  unfold iblk
  rw [View.read_apply]
  exact (congrFun (V_w m c) _).trans (congrArg (w m c) (block_at _ rfl rfl (idx t).2.1.1 (idx t).2.1.2 hq (first _ _)))

/-- The kernel's result is the product. -/
theorem final (c : Dev nD) : (dats m 0 c).arrAt 2 cfg0.N = nt (dz m c) (w m c) := by
  refine eq_of_tiles (ni := 8) (nj := 4) (tm := 1024) (tl := 512) rfl rfl fun t ht r l p q hp hq => ?_
  have hN : t < cfg0.N := lt_of_lt_of_eq ht (by decide)
  have hb := congrFun (Value.blocks2 m c ⟨t, hN⟩ (flush0_2 _)) (ix2 r l)
  rw [View.read_apply, Value.flushed2, show ((cfg0.win 2).blk ⟨t, hN⟩).view.emb (ix2 r l) = ix2 p q from block_at _ rfl rfl (idx ⟨t, hN⟩).2.2.1 (idx ⟨t, hN⟩).2.2.2 hp hq] at hb
  refine hb.trans ((tile_apply _ _ r l).trans (Finset.sum_congr rfl fun k _ => ?_))
  exact congrArg₂ (· * ·) (read0 m c ⟨t, hN⟩ r k p hp) (read1 m c ⟨t, hN⟩ k l q hq)

end Cert.Kernel17Ideal.SguDh

namespace Cert.Reference17Ideal.Read

open Cert.Reference17Ideal Cert.Reference17Ideal.Gen Idealize.ShloMosaic Cert.Products

theorem inputGrad_eq (x0 : Mat 8192 4096) (x1 : Mat 2048 4096) : val_main_v2 (F := Ideal) x0 x1 = nt x0 x1 := by
  funext i
  rw [val_main_v2_apply]
  exact Finset.sum_congr rfl fun k _ => congrArg₂ (· * ·) (congrArg x0 (at_eq _ _ _ rfl rfl)) (congrArg x1 (at_eq _ _ _ rfl rfl))

end Cert.Reference17Ideal.Read

end
-- ==== Proof.Weights.lean ====
/- The gradients of the mixers' weights, `xᵀ · dy`, each summed over the 8192 rows in four runs of 2048 into a scratch buffer:
   what each kernel leaves in its result array, and what its reference does. -/
module

public import proofs.«01_k».proof.Defs
public import proofs.«01_k».proof.Proof.Tiles
public import proofs.«01_k».proof.Proof.Gen.Kernel12Ideal.Value
public import proofs.«01_k».proof.Proof.Gen.Reference12Ideal.Read
public import proofs.«01_k».proof.Proof.Gen.Kernel13Ideal.Value
public import proofs.«01_k».proof.Proof.Gen.Reference13Ideal.Read
public import proofs.«01_k».proof.Proof.Gen.Kernel14Ideal.Value
public import proofs.«01_k».proof.Proof.Gen.Reference14Ideal.Read

@[expose] public section

set_option maxRecDepth 16384

noncomputable section

namespace Cert.Kernel12Ideal.MixDwout

open Cert.Kernel12Ideal Cert.Kernel12Ideal.Gen Idealize.ShloMosaic Idealize.ShloMosaic.TcCoe Idealize.SL.Sem Idealize.ShloMosaic.StableHlo
open Idealize.ShloMosaic.Pipeline (Dat)
open Cert.Products

variable (m : (ℓ : Loc nD τ sig) → Buf (Elt Ideal) ℓ)

theorem pay_apply (x0 : Vec Ideal S2048x1024 .bf16) (x1 : Vec Ideal S2048x1024 .bf16) : k0_pay1 x0 x1 = tn (K := 2048) x0 x1 := by
  funext j
  obtain ⟨r, l, rfl⟩ : ∃ (r : Fin 1024) (l : Fin 1024), j = ix2 r l := ⟨j 0, j 1, eq_ix2 j⟩
  unfold tn
  pointwise [k0_pay1]

section
variable (c : Dev nD) (i : grid0.Coords) (arg3 : Memref sig .tc .vmem S2048x1024 .bf16) (harg3 : arg3.IsWhole) (arg4 : Memref sig .tc .vmem S2048x1024 .bf16) (harg4 : arg4.IsWhole)
  (arg5 : Memref sig .tc .vmem S1024x1024 .bf16) (harg5 : arg5.IsWhole) (arg6 : Memref sig .tc .vmem S1024x1024 .f32) (harg6 : arg6.IsWhole)

/-- The first point of a run stores its product; the later ones add theirs to what the scratch held. -/
theorem scratch_A (hc0 : cond0_0 i) (hc1 : ¬cond0_1 i) (hc2 : ¬cond0_2 i) (x0 : Vec Ideal S2048x1024 .bf16) (x1 : Vec Ideal S2048x1024 .bf16) :
    sout0_A_0 c i arg3 harg3 arg4 harg4 arg5 harg5 arg6 harg6 hc0 hc1 hc2 x0 x1 = tn (K := 2048) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  unfold k0_pay2
  simp only [View.readAt_eq_ld, harg3.read_unread, harg4.read_unread, View.ld_unit_zero (S := S2048x1024) hz, View.ld_unit_zero (S := S2048x1024) hz, shapeCast_self]
  exact pay_apply x0 x1

theorem scratch_B (hc0 : ¬cond0_0 i) (hc1 : cond0_1 i) (hc2 : ¬cond0_2 i) (x0 : Vec Ideal S2048x1024 .bf16) (x1 : Vec Ideal S2048x1024 .bf16) (acc : Vec Ideal S1024x1024 .f32) (j : S1024x1024.Idx) :
    sout0_B_0 c i arg3 harg3 arg4 harg4 arg5 harg5 arg6 harg6 hc0 hc1 hc2 x0 x1 acc j = acc j + tn (K := 2048) x0 x1 j := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  rw [View.canon_unit_zero hz]
  unfold k0_pay3
  simp only [View.readAt_eq_ld, harg3.read_unread, harg4.read_unread, harg6.read_unread, View.ld_unit_zero (S := S2048x1024) hz, View.ld_unit_zero (S := S2048x1024) hz,
    View.ld_unit_zero (S := S1024x1024) hz, shapeCast_self, pay_apply]
  rfl

theorem scratch_C (hc0 : ¬cond0_0 i) (hc1 : cond0_1 i) (hc2 : cond0_2 i) (x0 : Vec Ideal S2048x1024 .bf16) (x1 : Vec Ideal S2048x1024 .bf16) (acc : Vec Ideal S1024x1024 .f32) (j : S1024x1024.Idx) :
    sout0_C_0 c i arg3 harg3 arg4 harg4 arg5 harg5 arg6 harg6 hc0 hc1 hc2 x0 x1 acc j = acc j + tn (K := 2048) x0 x1 j := by
  unfold sout0_C_0
  rw [View.read_writes_eq_canon _ _ _ (scover0_C_0 c i arg3 harg3 arg4 harg4 arg5 harg5 arg6 harg6 hc0 hc1 hc2 x0 x1 acc)]
  unfold kernelRun0_C
  dsimp only
  sl_unfold_words
  rw [View.canon_unit_zero hz]
  unfold k0_pay3
  simp only [View.readAt_eq_ld, harg3.read_unread, harg4.read_unread, harg6.read_unread, View.ld_unit_zero (S := S2048x1024) hz, View.ld_unit_zero (S := S2048x1024) hz,
    View.ld_unit_zero (S := S1024x1024) hz, shapeCast_self, pay_apply]
  rfl

/-- The last point of a run writes the scratch back. -/
theorem out_C (hc0 : ¬cond0_0 i) (hc1 : cond0_1 i) (hc2 : cond0_2 i) (x0 : Vec Ideal S2048x1024 .bf16) (x1 : Vec Ideal S2048x1024 .bf16) (acc : Vec Ideal S1024x1024 .f32) (j : S1024x1024.Idx) :
    out0_C_2 c i arg3 harg3 arg4 harg4 arg5 harg5 arg6 harg6 hc0 hc1 hc2 x0 x1 acc j = acc j + tn (K := 2048) x0 x1 j := by
  unfold out0_C_2
  rw [View.read_writes_eq_canon _ _ _ (cover0_C_2 c i arg3 harg3 arg4 harg4 arg5 harg5 arg6 harg6 hc0 hc1 hc2 x0 x1 acc)]
  unfold kernelRun0_C
  dsimp only
  sl_unfold_words
  rw [View.canon_unit_zero hz]
  unfold k0_pay4 k0_pay3
  simp only [View.readCov_unit_zero (S := S1024x1024) _ hz, View.readAt_eq_ld, harg3.read_unread, harg4.read_unread, harg6.read_unread, View.ld_unit_zero (S := S2048x1024) hz, View.ld_unit_zero (S := S2048x1024) hz,
    View.ld_unit_zero (S := S1024x1024) hz, shapeCast_self, pay_apply]
  rfl

end

theorem set (c : Dev nD) (n : ℕ) (h : n < cfg0.N) (j : S1024x1024.Idx) (hn : n % 4 = 0) :
    (outsAt0 m c n h).2 j = tn (K := 2048) (iblk m c 0 ⟨n, h⟩) (iblk m c 1 ⟨n, h⟩) j := by
  rw [outsAt0_A m c ⟨n, h⟩ hn (by show ¬1 ≤ n % 4; omega) (by show ¬n % 4 = 3; omega)]
  dsimp only
  rw [scratch_A]

theorem add (c : Dev nD) (n : ℕ) (h : n + 1 < cfg0.N) (j : S1024x1024.Idx) (hn : (n + 1) % 4 ≠ 0) :
    (outsAt0 m c (n + 1) h).2 j = (outsAt0 m c n (Nat.lt_of_succ_lt h)).2 j + tn (K := 2048) (iblk m c 0 ⟨n + 1, h⟩) (iblk m c 1 ⟨n + 1, h⟩) j := by
  by_cases h3 : (n + 1) % 4 = 3
  · rw [outsAt0_C m c ⟨n + 1, h⟩ hn (by show 1 ≤ (n + 1) % 4; omega) h3]
    dsimp only
    rw [scratch_C]
    rfl
  · rw [outsAt0_B m c ⟨n + 1, h⟩ hn (by show 1 ≤ (n + 1) % 4; omega) h3]
    dsimp only
    rw [scratch_B]
    rfl

theorem out (c : Dev nD) (t : Fin cfg0.N) (h : t.val % 4 = 3) (j : S1024x1024.Idx) :
    (outsAt0 m c t.val t.isLt).1 j = (outsAt0 m c t.val t.isLt).2 j := by
  rw [outsAt0_C m c t (by omega) (by omega) h]
  dsimp only
  rw [out_C, scratch_C]

/-- The two arguments as the program is given them; over the reals the casts change nothing. -/
abbrev o (c : Dev nD) : Mat 8192 2048 := m ((c : Thread nD τ).loc main_arg0)
abbrev dy (c : Dev nD) : Mat 8192 2048 := m ((c : Thread nD τ).loc main_arg1)

theorem V_o (c : Dev nD) : V m c main_v0 = o m c := by
  unfold_abbrev_sides
  after_results
  rfl

theorem V_dy (c : Dev nD) : V m c main_v1 = dy m c := by
  unfold_abbrev_sides
  after_results
  rfl

theorem idx : ∀ t : Fin cfg0.N, (win0_0.index t 0 = t.val % 4 ∧ win0_0.index t 1 = t.val / 8) ∧ win0_1.index t 0 = t.val % 4 ∧ win0_1.index t 1 = t.val / 4 % 2 :=
  (by decide +kernel : ∀ t : Fin grid0.N, (win0_0.index t 0 = t.val % 4 ∧ win0_0.index t 1 = t.val / 8) ∧ win0_1.index t 0 = t.val % 4 ∧ win0_1.index t 1 = t.val / 4 % 2)

theorem read0 (c : Dev nD) (t : Fin cfg0.N) (s : Fin 4) (k : Fin 2048) (r : Fin 1024) (p : Fin 2048) (hs : t.val % 4 = s.val) (hp : p.val = 1024 * (t.val / 8) + r.val) :
    iblk m c 0 t (ix2 k r) = o m c (ix2 (deep s k) p) := by
  unfold iblk
  rw [View.read_apply]
  exact (congrFun (V_o m c) _).trans (congrArg (o m c) (block_at _ rfl rfl ((idx t).1.1.trans hs) (idx t).1.2 rfl hp))

theorem read1 (c : Dev nD) (t : Fin cfg0.N) (s : Fin 4) (k : Fin 2048) (l : Fin 1024) (q : Fin 2048) (hs : t.val % 4 = s.val) (hq : q.val = 1024 * (t.val / 4 % 2) + l.val) :
    iblk m c 1 t (ix2 k l) = dy m c (ix2 (deep s k) q) := by
  unfold iblk
  rw [View.read_apply]
  exact (congrFun (V_dy m c) _).trans (congrArg (dy m c) (block_at _ rfl rfl ((idx t).2.1.trans hs) (idx t).2.2 rfl hq))

/-- The last point of run `u` holds tile `u` of the gradient. -/
theorem run_tile (c : Dev nD) (u : ℕ) (h : 4 * u + 3 < cfg0.N) (r : Fin 1024) (l : Fin 1024) (p : Fin 2048) (q : Fin 2048) (hp : p.val = 1024 * (u / 2) + r.val)
    (hq : q.val = 1024 * (u % 2) + l.val) : (outsAt0 m c (4 * u + 3) h).2 (ix2 r l) = tn (o m c) (dy m c) (ix2 p q) :=
  tn_of_runs (o m c) (dy m c) (fun n h => (outsAt0 m c n h).2) (fun n h => iblk m c 0 ⟨n, h⟩) (fun n h => iblk m c 1 ⟨n, h⟩) (set m c) (add m c) u h r l p q
    (fun s k hn => read0 m c ⟨_, hn⟩ s k r p (by show (4 * u + s.val) % 4 = s.val; omega) (by show p.val = 1024 * ((4 * u + s.val) / 8) + r.val; omega))
    (fun s k hn => read1 m c ⟨_, hn⟩ s k l q (by show (4 * u + s.val) % 4 = s.val; omega) (by show q.val = 1024 * ((4 * u + s.val) / 4 % 2) + l.val; omega))

theorem outs_congr (c : Dev nD) {n n' : ℕ} (hn : n = n') (h : n < cfg0.N) {j j' : S1024x1024.Idx} (hj : j = j') :
    (outsAt0 m c n h).1 j = (outsAt0 m c n' (hn ▸ h)).1 j' := by
  subst hn hj; rfl

/-- The kernel's result is the weight's gradient. -/
theorem final (c : Dev nD) : Value.G2 m c = tn (o m c) (dy m c) := by
  refine eq_of_tiles (ni := 2) (nj := 2) (tm := 1024) (tl := 1024) rfl rfl fun u hu r l p q hp hq => ?_
  have e : Value.pt2Of (ix2 p q) = 4 * u + 3 := by
    show 4 * (2 * (p.val / 1024 - 0) + 1 * (q.val / 1024 - 0)) + 3 = 4 * u + 3
    omega
  have h : 4 * u + 3 < cfg0.N := lt_of_lt_of_eq (b := 16) (by omega) (by decide)
  unfold Value.G2
  rw [dif_pos (e ▸ h), ← Value.outsAt0_sweep m c _ (e ▸ h)]
  refine (outs_congr m c e _ (at_eq _ r l ?_ ?_)).trans ((out m c ⟨4 * u + 3, h⟩ (by show (4 * u + 3) % 4 = 3; omega) (ix2 r l)).trans (run_tile m c u h r l p q hp hq))
  · show p.val % 1024 = r.val
    omega
  · show q.val % 1024 = l.val
    omega

end Cert.Kernel12Ideal.MixDwout

namespace Cert.Reference12Ideal.Read

open Cert.Reference12Ideal Cert.Reference12Ideal.Gen Idealize.ShloMosaic Cert.Products

theorem weightGrad_eq (x0 : Mat 8192 2048) (x1 : Mat 8192 2048) : val_main_v4 (F := Ideal) x0 x1 = tn x0 x1 := by
  funext i
  rw [val_main_v4_apply, val_main_v3_apply, val_main_v2_apply]
  refine Finset.sum_congr rfl fun k _ => ?_
  rw [mul_comm]
  exact congrArg₂ (· * ·) (congrArg x0 (at_eq _ _ _ rfl rfl)) (congrArg x1 (at_eq _ _ _ rfl rfl))

end Cert.Reference12Ideal.Read

namespace Cert.Kernel13Ideal.FoxDwin

open Cert.Kernel13Ideal Cert.Kernel13Ideal.Gen Idealize.ShloMosaic Idealize.ShloMosaic.TcCoe Idealize.SL.Sem Idealize.ShloMosaic.StableHlo
open Idealize.ShloMosaic.Pipeline (Dat)
open Cert.Products

variable (m : (ℓ : Loc nD τ sig) → Buf (Elt Ideal) ℓ)

theorem pay_apply (x0 : Vec Ideal S2048x1024 .bf16) (x1 : Vec Ideal S2048x896 .bf16) : k0_pay1 x0 x1 = tn (K := 2048) x0 x1 := by
  funext j
  obtain ⟨r, l, rfl⟩ : ∃ (r : Fin 1024) (l : Fin 896), j = ix2 r l := ⟨j 0, j 1, eq_ix2 j⟩
  unfold tn
  pointwise [k0_pay1]

section
variable (c : Dev nD) (i : grid0.Coords) (arg3 : Memref sig .tc .vmem S2048x1024 .bf16) (harg3 : arg3.IsWhole) (arg4 : Memref sig .tc .vmem S2048x896 .bf16) (harg4 : arg4.IsWhole)
  (arg5 : Memref sig .tc .vmem S1024x896 .bf16) (harg5 : arg5.IsWhole) (arg6 : Memref sig .tc .vmem S1024x896 .f32) (harg6 : arg6.IsWhole)

/-- The first point of a run stores its product; the later ones add theirs to what the scratch held. -/
theorem scratch_A (hc0 : cond0_0 i) (hc1 : ¬cond0_1 i) (hc2 : ¬cond0_2 i) (x0 : Vec Ideal S2048x1024 .bf16) (x1 : Vec Ideal S2048x896 .bf16) :
    sout0_A_0 c i arg3 harg3 arg4 harg4 arg5 harg5 arg6 harg6 hc0 hc1 hc2 x0 x1 = tn (K := 2048) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  unfold k0_pay2
  simp only [View.readAt_eq_ld, harg3.read_unread, harg4.read_unread, View.ld_unit_zero (S := S2048x1024) hz, View.ld_unit_zero (S := S2048x896) hz, shapeCast_self]
  exact pay_apply x0 x1

theorem scratch_B (hc0 : ¬cond0_0 i) (hc1 : cond0_1 i) (hc2 : ¬cond0_2 i) (x0 : Vec Ideal S2048x1024 .bf16) (x1 : Vec Ideal S2048x896 .bf16) (acc : Vec Ideal S1024x896 .f32) (j : S1024x896.Idx) :
    sout0_B_0 c i arg3 harg3 arg4 harg4 arg5 harg5 arg6 harg6 hc0 hc1 hc2 x0 x1 acc j = acc j + tn (K := 2048) x0 x1 j := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  rw [View.canon_unit_zero hz]
  unfold k0_pay3
  simp only [View.readAt_eq_ld, harg3.read_unread, harg4.read_unread, harg6.read_unread, View.ld_unit_zero (S := S2048x1024) hz, View.ld_unit_zero (S := S2048x896) hz,
    View.ld_unit_zero (S := S1024x896) hz, shapeCast_self, pay_apply]
  rfl

theorem scratch_C (hc0 : ¬cond0_0 i) (hc1 : cond0_1 i) (hc2 : cond0_2 i) (x0 : Vec Ideal S2048x1024 .bf16) (x1 : Vec Ideal S2048x896 .bf16) (acc : Vec Ideal S1024x896 .f32) (j : S1024x896.Idx) :
    sout0_C_0 c i arg3 harg3 arg4 harg4 arg5 harg5 arg6 harg6 hc0 hc1 hc2 x0 x1 acc j = acc j + tn (K := 2048) x0 x1 j := by
  unfold sout0_C_0
  rw [View.read_writes_eq_canon _ _ _ (scover0_C_0 c i arg3 harg3 arg4 harg4 arg5 harg5 arg6 harg6 hc0 hc1 hc2 x0 x1 acc)]
  unfold kernelRun0_C
  dsimp only
  sl_unfold_words
  rw [View.canon_unit_zero hz]
  unfold k0_pay3
  simp only [View.readAt_eq_ld, harg3.read_unread, harg4.read_unread, harg6.read_unread, View.ld_unit_zero (S := S2048x1024) hz, View.ld_unit_zero (S := S2048x896) hz,
    View.ld_unit_zero (S := S1024x896) hz, shapeCast_self, pay_apply]
  rfl

/-- The last point of a run writes the scratch back. -/
theorem out_C (hc0 : ¬cond0_0 i) (hc1 : cond0_1 i) (hc2 : cond0_2 i) (x0 : Vec Ideal S2048x1024 .bf16) (x1 : Vec Ideal S2048x896 .bf16) (acc : Vec Ideal S1024x896 .f32) (j : S1024x896.Idx) :
    out0_C_2 c i arg3 harg3 arg4 harg4 arg5 harg5 arg6 harg6 hc0 hc1 hc2 x0 x1 acc j = acc j + tn (K := 2048) x0 x1 j := by
  unfold out0_C_2
  rw [View.read_writes_eq_canon _ _ _ (cover0_C_2 c i arg3 harg3 arg4 harg4 arg5 harg5 arg6 harg6 hc0 hc1 hc2 x0 x1 acc)]
  unfold kernelRun0_C
  dsimp only
  sl_unfold_words
  rw [View.canon_unit_zero hz]
  unfold k0_pay4 k0_pay3
  simp only [View.readCov_unit_zero (S := S1024x896) _ hz, View.readAt_eq_ld, harg3.read_unread, harg4.read_unread, harg6.read_unread, View.ld_unit_zero (S := S2048x1024) hz, View.ld_unit_zero (S := S2048x896) hz,
    View.ld_unit_zero (S := S1024x896) hz, shapeCast_self, pay_apply]
  rfl

end

theorem set (c : Dev nD) (n : ℕ) (h : n < cfg0.N) (j : S1024x896.Idx) (hn : n % 4 = 0) :
    (outsAt0 m c n h).2 j = tn (K := 2048) (iblk m c 0 ⟨n, h⟩) (iblk m c 1 ⟨n, h⟩) j := by
  rw [outsAt0_A m c ⟨n, h⟩ hn (by show ¬1 ≤ n % 4; omega) (by show ¬n % 4 = 3; omega)]
  dsimp only
  rw [scratch_A]

theorem add (c : Dev nD) (n : ℕ) (h : n + 1 < cfg0.N) (j : S1024x896.Idx) (hn : (n + 1) % 4 ≠ 0) :
    (outsAt0 m c (n + 1) h).2 j = (outsAt0 m c n (Nat.lt_of_succ_lt h)).2 j + tn (K := 2048) (iblk m c 0 ⟨n + 1, h⟩) (iblk m c 1 ⟨n + 1, h⟩) j := by
  by_cases h3 : (n + 1) % 4 = 3
  · rw [outsAt0_C m c ⟨n + 1, h⟩ hn (by show 1 ≤ (n + 1) % 4; omega) h3]
    dsimp only
    rw [scratch_C]
    rfl
  · rw [outsAt0_B m c ⟨n + 1, h⟩ hn (by show 1 ≤ (n + 1) % 4; omega) h3]
    dsimp only
    rw [scratch_B]
    rfl

theorem out (c : Dev nD) (t : Fin cfg0.N) (h : t.val % 4 = 3) (j : S1024x896.Idx) :
    (outsAt0 m c t.val t.isLt).1 j = (outsAt0 m c t.val t.isLt).2 j := by
  rw [outsAt0_C m c t (by omega) (by omega) h]
  dsimp only
  rw [out_C, scratch_C]

/-- The two arguments as the program is given them; over the reals the casts change nothing. -/
abbrev x (c : Dev nD) : Mat 8192 2048 := m ((c : Thread nD τ).loc main_arg0)
abbrev dproj (c : Dev nD) : Mat 8192 6272 := m ((c : Thread nD τ).loc main_arg1)

theorem V_x (c : Dev nD) : V m c main_v0 = x m c := by
  unfold_abbrev_sides
  after_results
  rfl

theorem V_dproj (c : Dev nD) : V m c main_v1 = dproj m c := by
  unfold_abbrev_sides
  after_results
  rfl

theorem idx : ∀ t : Fin cfg0.N, (win0_0.index t 0 = t.val % 4 ∧ win0_0.index t 1 = t.val / 28) ∧ win0_1.index t 0 = t.val % 4 ∧ win0_1.index t 1 = t.val / 4 % 7 :=
  (by decide +kernel : ∀ t : Fin grid0.N, (win0_0.index t 0 = t.val % 4 ∧ win0_0.index t 1 = t.val / 28) ∧ win0_1.index t 0 = t.val % 4 ∧ win0_1.index t 1 = t.val / 4 % 7)

theorem read0 (c : Dev nD) (t : Fin cfg0.N) (s : Fin 4) (k : Fin 2048) (r : Fin 1024) (p : Fin 2048) (hs : t.val % 4 = s.val) (hp : p.val = 1024 * (t.val / 28) + r.val) :
    iblk m c 0 t (ix2 k r) = x m c (ix2 (deep s k) p) := by
  unfold iblk
  rw [View.read_apply]
  exact (congrFun (V_x m c) _).trans (congrArg (x m c) (block_at _ rfl rfl ((idx t).1.1.trans hs) (idx t).1.2 rfl hp))

theorem read1 (c : Dev nD) (t : Fin cfg0.N) (s : Fin 4) (k : Fin 2048) (l : Fin 896) (q : Fin 6272) (hs : t.val % 4 = s.val) (hq : q.val = 896 * (t.val / 4 % 7) + l.val) :
    iblk m c 1 t (ix2 k l) = dproj m c (ix2 (deep s k) q) := by
  unfold iblk
  rw [View.read_apply]
  exact (congrFun (V_dproj m c) _).trans (congrArg (dproj m c) (block_at _ rfl rfl ((idx t).2.1.trans hs) (idx t).2.2 rfl hq))

/-- The last point of run `u` holds tile `u` of the gradient. -/
theorem run_tile (c : Dev nD) (u : ℕ) (h : 4 * u + 3 < cfg0.N) (r : Fin 1024) (l : Fin 896) (p : Fin 2048) (q : Fin 6272) (hp : p.val = 1024 * (u / 7) + r.val)
    (hq : q.val = 896 * (u % 7) + l.val) : (outsAt0 m c (4 * u + 3) h).2 (ix2 r l) = tn (x m c) (dproj m c) (ix2 p q) :=
  tn_of_runs (x m c) (dproj m c) (fun n h => (outsAt0 m c n h).2) (fun n h => iblk m c 0 ⟨n, h⟩) (fun n h => iblk m c 1 ⟨n, h⟩) (set m c) (add m c) u h r l p q
    (fun s k hn => read0 m c ⟨_, hn⟩ s k r p (by show (4 * u + s.val) % 4 = s.val; omega) (by show p.val = 1024 * ((4 * u + s.val) / 28) + r.val; omega))
    (fun s k hn => read1 m c ⟨_, hn⟩ s k l q (by show (4 * u + s.val) % 4 = s.val; omega) (by show q.val = 896 * ((4 * u + s.val) / 4 % 7) + l.val; omega))

theorem outs_congr (c : Dev nD) {n n' : ℕ} (hn : n = n') (h : n < cfg0.N) {j j' : S1024x896.Idx} (hj : j = j') :
    (outsAt0 m c n h).1 j = (outsAt0 m c n' (hn ▸ h)).1 j' := by
  subst hn hj; rfl

/-- The kernel's result is the weight's gradient. -/
theorem final (c : Dev nD) : Value.G2 m c = tn (x m c) (dproj m c) := by
  refine eq_of_tiles (ni := 2) (nj := 7) (tm := 1024) (tl := 896) rfl rfl fun u hu r l p q hp hq => ?_
  have e : Value.pt2Of (ix2 p q) = 4 * u + 3 := by
    show 4 * (7 * (p.val / 1024 - 0) + 1 * (q.val / 896 - 0)) + 3 = 4 * u + 3
    omega
  have h : 4 * u + 3 < cfg0.N := lt_of_lt_of_eq (b := 56) (by omega) (by decide)
  unfold Value.G2
  rw [dif_pos (e ▸ h), ← Value.outsAt0_sweep m c _ (e ▸ h)]
  refine (outs_congr m c e _ (at_eq _ r l ?_ ?_)).trans ((out m c ⟨4 * u + 3, h⟩ (by show (4 * u + 3) % 4 = 3; omega) (ix2 r l)).trans (run_tile m c u h r l p q hp hq))
  · show p.val % 1024 = r.val
    omega
  · show q.val % 896 = l.val
    omega

end Cert.Kernel13Ideal.FoxDwin

namespace Cert.Reference13Ideal.Read

open Cert.Reference13Ideal Cert.Reference13Ideal.Gen Idealize.ShloMosaic Cert.Products

theorem weightGrad_eq (x0 : Mat 8192 2048) (x1 : Mat 8192 6272) : val_main_v4 (F := Ideal) x0 x1 = tn x0 x1 := by
  funext i
  rw [val_main_v4_apply, val_main_v3_apply, val_main_v2_apply]
  refine Finset.sum_congr rfl fun k _ => ?_
  rw [mul_comm]
  exact congrArg₂ (· * ·) (congrArg x0 (at_eq _ _ _ rfl rfl)) (congrArg x1 (at_eq _ _ _ rfl rfl))

end Cert.Reference13Ideal.Read

namespace Cert.Kernel14Ideal.SguDwin

open Cert.Kernel14Ideal Cert.Kernel14Ideal.Gen Idealize.ShloMosaic Idealize.ShloMosaic.TcCoe Idealize.SL.Sem Idealize.ShloMosaic.StableHlo
open Idealize.ShloMosaic.Pipeline (Dat)
open Cert.Products

variable (m : (ℓ : Loc nD τ sig) → Buf (Elt Ideal) ℓ)

theorem pay_apply (x0 : Vec Ideal S2048x1024 .bf16) (x1 : Vec Ideal S2048x1024 .bf16) : k0_pay1 x0 x1 = tn (K := 2048) x0 x1 := by
  funext j
  obtain ⟨r, l, rfl⟩ : ∃ (r : Fin 1024) (l : Fin 1024), j = ix2 r l := ⟨j 0, j 1, eq_ix2 j⟩
  unfold tn
  pointwise [k0_pay1]

section
variable (c : Dev nD) (i : grid0.Coords) (arg3 : Memref sig .tc .vmem S2048x1024 .bf16) (harg3 : arg3.IsWhole) (arg4 : Memref sig .tc .vmem S2048x1024 .bf16) (harg4 : arg4.IsWhole)
  (arg5 : Memref sig .tc .vmem S1024x1024 .bf16) (harg5 : arg5.IsWhole) (arg6 : Memref sig .tc .vmem S1024x1024 .f32) (harg6 : arg6.IsWhole)

/-- The first point of a run stores its product; the later ones add theirs to what the scratch held. -/
theorem scratch_A (hc0 : cond0_0 i) (hc1 : ¬cond0_1 i) (hc2 : ¬cond0_2 i) (x0 : Vec Ideal S2048x1024 .bf16) (x1 : Vec Ideal S2048x1024 .bf16) :
    sout0_A_0 c i arg3 harg3 arg4 harg4 arg5 harg5 arg6 harg6 hc0 hc1 hc2 x0 x1 = tn (K := 2048) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  unfold k0_pay2
  simp only [View.readAt_eq_ld, harg3.read_unread, harg4.read_unread, View.ld_unit_zero (S := S2048x1024) hz, View.ld_unit_zero (S := S2048x1024) hz, shapeCast_self]
  exact pay_apply x0 x1

theorem scratch_B (hc0 : ¬cond0_0 i) (hc1 : cond0_1 i) (hc2 : ¬cond0_2 i) (x0 : Vec Ideal S2048x1024 .bf16) (x1 : Vec Ideal S2048x1024 .bf16) (acc : Vec Ideal S1024x1024 .f32) (j : S1024x1024.Idx) :
    sout0_B_0 c i arg3 harg3 arg4 harg4 arg5 harg5 arg6 harg6 hc0 hc1 hc2 x0 x1 acc j = acc j + tn (K := 2048) x0 x1 j := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  rw [View.canon_unit_zero hz]
  unfold k0_pay3
  simp only [View.readAt_eq_ld, harg3.read_unread, harg4.read_unread, harg6.read_unread, View.ld_unit_zero (S := S2048x1024) hz, View.ld_unit_zero (S := S2048x1024) hz,
    View.ld_unit_zero (S := S1024x1024) hz, shapeCast_self, pay_apply]
  rfl

theorem scratch_C (hc0 : ¬cond0_0 i) (hc1 : cond0_1 i) (hc2 : cond0_2 i) (x0 : Vec Ideal S2048x1024 .bf16) (x1 : Vec Ideal S2048x1024 .bf16) (acc : Vec Ideal S1024x1024 .f32) (j : S1024x1024.Idx) :
    sout0_C_0 c i arg3 harg3 arg4 harg4 arg5 harg5 arg6 harg6 hc0 hc1 hc2 x0 x1 acc j = acc j + tn (K := 2048) x0 x1 j := by
  unfold sout0_C_0
  rw [View.read_writes_eq_canon _ _ _ (scover0_C_0 c i arg3 harg3 arg4 harg4 arg5 harg5 arg6 harg6 hc0 hc1 hc2 x0 x1 acc)]
  unfold kernelRun0_C
  dsimp only
  sl_unfold_words
  rw [View.canon_unit_zero hz]
  unfold k0_pay3
  simp only [View.readAt_eq_ld, harg3.read_unread, harg4.read_unread, harg6.read_unread, View.ld_unit_zero (S := S2048x1024) hz, View.ld_unit_zero (S := S2048x1024) hz,
    View.ld_unit_zero (S := S1024x1024) hz, shapeCast_self, pay_apply]
  rfl

/-- The last point of a run writes the scratch back. -/
theorem out_C (hc0 : ¬cond0_0 i) (hc1 : cond0_1 i) (hc2 : cond0_2 i) (x0 : Vec Ideal S2048x1024 .bf16) (x1 : Vec Ideal S2048x1024 .bf16) (acc : Vec Ideal S1024x1024 .f32) (j : S1024x1024.Idx) :
    out0_C_2 c i arg3 harg3 arg4 harg4 arg5 harg5 arg6 harg6 hc0 hc1 hc2 x0 x1 acc j = acc j + tn (K := 2048) x0 x1 j := by
  unfold out0_C_2
  rw [View.read_writes_eq_canon _ _ _ (cover0_C_2 c i arg3 harg3 arg4 harg4 arg5 harg5 arg6 harg6 hc0 hc1 hc2 x0 x1 acc)]
  unfold kernelRun0_C
  dsimp only
  sl_unfold_words
  rw [View.canon_unit_zero hz]
  unfold k0_pay4 k0_pay3
  simp only [View.readCov_unit_zero (S := S1024x1024) _ hz, View.readAt_eq_ld, harg3.read_unread, harg4.read_unread, harg6.read_unread, View.ld_unit_zero (S := S2048x1024) hz, View.ld_unit_zero (S := S2048x1024) hz,
    View.ld_unit_zero (S := S1024x1024) hz, shapeCast_self, pay_apply]
  rfl

end

theorem set (c : Dev nD) (n : ℕ) (h : n < cfg0.N) (j : S1024x1024.Idx) (hn : n % 4 = 0) :
    (outsAt0 m c n h).2 j = tn (K := 2048) (iblk m c 0 ⟨n, h⟩) (iblk m c 1 ⟨n, h⟩) j := by
  rw [outsAt0_A m c ⟨n, h⟩ hn (by show ¬1 ≤ n % 4; omega) (by show ¬n % 4 = 3; omega)]
  dsimp only
  rw [scratch_A]

theorem add (c : Dev nD) (n : ℕ) (h : n + 1 < cfg0.N) (j : S1024x1024.Idx) (hn : (n + 1) % 4 ≠ 0) :
    (outsAt0 m c (n + 1) h).2 j = (outsAt0 m c n (Nat.lt_of_succ_lt h)).2 j + tn (K := 2048) (iblk m c 0 ⟨n + 1, h⟩) (iblk m c 1 ⟨n + 1, h⟩) j := by
  by_cases h3 : (n + 1) % 4 = 3
  · rw [outsAt0_C m c ⟨n + 1, h⟩ hn (by show 1 ≤ (n + 1) % 4; omega) h3]
    dsimp only
    rw [scratch_C]
    rfl
  · rw [outsAt0_B m c ⟨n + 1, h⟩ hn (by show 1 ≤ (n + 1) % 4; omega) h3]
    dsimp only
    rw [scratch_B]
    rfl

theorem out (c : Dev nD) (t : Fin cfg0.N) (h : t.val % 4 = 3) (j : S1024x1024.Idx) :
    (outsAt0 m c t.val t.isLt).1 j = (outsAt0 m c t.val t.isLt).2 j := by
  rw [outsAt0_C m c t (by omega) (by omega) h]
  dsimp only
  rw [out_C, scratch_C]

/-- The two arguments as the program is given them; over the reals the casts change nothing. -/
abbrev x (c : Dev nD) : Mat 8192 2048 := m ((c : Thread nD τ).loc main_arg0)
abbrev dz (c : Dev nD) : Mat 8192 4096 := m ((c : Thread nD τ).loc main_arg1)

theorem V_x (c : Dev nD) : V m c main_v0 = x m c := by
  unfold_abbrev_sides
  after_results
  rfl

theorem V_dz (c : Dev nD) : V m c main_v1 = dz m c := by
  unfold_abbrev_sides
  after_results
  rfl

theorem idx : ∀ t : Fin cfg0.N, (win0_0.index t 0 = t.val % 4 ∧ win0_0.index t 1 = t.val / 16) ∧ win0_1.index t 0 = t.val % 4 ∧ win0_1.index t 1 = t.val / 4 % 4 :=
  (by decide +kernel : ∀ t : Fin grid0.N, (win0_0.index t 0 = t.val % 4 ∧ win0_0.index t 1 = t.val / 16) ∧ win0_1.index t 0 = t.val % 4 ∧ win0_1.index t 1 = t.val / 4 % 4)

theorem read0 (c : Dev nD) (t : Fin cfg0.N) (s : Fin 4) (k : Fin 2048) (r : Fin 1024) (p : Fin 2048) (hs : t.val % 4 = s.val) (hp : p.val = 1024 * (t.val / 16) + r.val) :
    iblk m c 0 t (ix2 k r) = x m c (ix2 (deep s k) p) := by
  unfold iblk
  rw [View.read_apply]
  exact (congrFun (V_x m c) _).trans (congrArg (x m c) (block_at _ rfl rfl ((idx t).1.1.trans hs) (idx t).1.2 rfl hp))

theorem read1 (c : Dev nD) (t : Fin cfg0.N) (s : Fin 4) (k : Fin 2048) (l : Fin 1024) (q : Fin 4096) (hs : t.val % 4 = s.val) (hq : q.val = 1024 * (t.val / 4 % 4) + l.val) :
    iblk m c 1 t (ix2 k l) = dz m c (ix2 (deep s k) q) := by
  unfold iblk
  rw [View.read_apply]
  exact (congrFun (V_dz m c) _).trans (congrArg (dz m c) (block_at _ rfl rfl ((idx t).2.1.trans hs) (idx t).2.2 rfl hq))

/-- The last point of run `u` holds tile `u` of the gradient. -/
theorem run_tile (c : Dev nD) (u : ℕ) (h : 4 * u + 3 < cfg0.N) (r : Fin 1024) (l : Fin 1024) (p : Fin 2048) (q : Fin 4096) (hp : p.val = 1024 * (u / 4) + r.val)
    (hq : q.val = 1024 * (u % 4) + l.val) : (outsAt0 m c (4 * u + 3) h).2 (ix2 r l) = tn (x m c) (dz m c) (ix2 p q) :=
  tn_of_runs (x m c) (dz m c) (fun n h => (outsAt0 m c n h).2) (fun n h => iblk m c 0 ⟨n, h⟩) (fun n h => iblk m c 1 ⟨n, h⟩) (set m c) (add m c) u h r l p q
    (fun s k hn => read0 m c ⟨_, hn⟩ s k r p (by show (4 * u + s.val) % 4 = s.val; omega) (by show p.val = 1024 * ((4 * u + s.val) / 16) + r.val; omega))
    (fun s k hn => read1 m c ⟨_, hn⟩ s k l q (by show (4 * u + s.val) % 4 = s.val; omega) (by show q.val = 1024 * ((4 * u + s.val) / 4 % 4) + l.val; omega))

theorem outs_congr (c : Dev nD) {n n' : ℕ} (hn : n = n') (h : n < cfg0.N) {j j' : S1024x1024.Idx} (hj : j = j') :
    (outsAt0 m c n h).1 j = (outsAt0 m c n' (hn ▸ h)).1 j' := by
  subst hn hj; rfl

/-- The kernel's result is the weight's gradient. -/
theorem final (c : Dev nD) : Value.G2 m c = tn (x m c) (dz m c) := by
  refine eq_of_tiles (ni := 2) (nj := 4) (tm := 1024) (tl := 1024) rfl rfl fun u hu r l p q hp hq => ?_
  have e : Value.pt2Of (ix2 p q) = 4 * u + 3 := by
    show 4 * (4 * (p.val / 1024 - 0) + 1 * (q.val / 1024 - 0)) + 3 = 4 * u + 3
    omega
  have h : 4 * u + 3 < cfg0.N := lt_of_lt_of_eq (b := 32) (by omega) (by decide)
  unfold Value.G2
  rw [dif_pos (e ▸ h), ← Value.outsAt0_sweep m c _ (e ▸ h)]
  refine (outs_congr m c e _ (at_eq _ r l ?_ ?_)).trans ((out m c ⟨4 * u + 3, h⟩ (by show (4 * u + 3) % 4 = 3; omega) (ix2 r l)).trans (run_tile m c u h r l p q hp hq))
  · show p.val % 1024 = r.val
    omega
  · show q.val % 1024 = l.val
    omega

end Cert.Kernel14Ideal.SguDwin

namespace Cert.Reference14Ideal.Read

open Cert.Reference14Ideal Cert.Reference14Ideal.Gen Idealize.ShloMosaic Cert.Products

theorem weightGrad_eq (x0 : Mat 8192 2048) (x1 : Mat 8192 4096) : val_main_v4 (F := Ideal) x0 x1 = tn x0 x1 := by
  funext i
  rw [val_main_v4_apply, val_main_v3_apply, val_main_v2_apply]
  refine Finset.sum_congr rfl fun k _ => ?_
  rw [mul_comm]
  exact congrArg₂ (· * ·) (congrArg x0 (at_eq _ _ _ rfl rfl)) (congrArg x1 (at_eq _ _ _ rfl rfl))

end Cert.Reference14Ideal.Read

end
-- ==== Proof.SguTile.lean ====
/- The gating unit's backward kernel at one point of its grid: the values of its tiles, one group of columns at a time, and how the
   stores of the sixteen groups fill a buffer. Every fact is stated for any group. -/
module

public import proofs.«01_k».proof.Proof.Gen.KernelIdeal.Value
public import proofs.«01_k».proof.Proof.Slots
public import proofs.«01_k».proof.Proof.Gating

@[expose] public section

set_option maxRecDepth 16384

noncomputable section

namespace Cert.KernelIdeal.Sgu

open Cert.KernelIdeal Cert.KernelIdeal.Gen Idealize.ShloMosaic Idealize.ShloMosaic.TcCoe Idealize.SL.Sem Idealize.ShloMosaic.StableHlo
open Idealize.ShloMosaic.Pipeline (Dat)
open Cert.Products Cert.Gating

section Tiles
variable (d u v : FVec Ideal S128x128 .f32)

/-- One group's product of the output's gradient and the left half. -/
def dfTile : FVec Ideal S128x128 .bf16 := truncf .bf16 (mulf d u) bitsLt_bf16_f32

/-- One group's gradient of the left half. -/
def duTile (w : FVec Ideal S1x128x128 .bf16) (b : FVec Ideal S1x128x128 .f32) : FVec Ideal S128x128 .f32 :=
  shapeCast S128x128 (mulf d (addf (matmul dot_S128x128_S128x128_S128x128_1_0_0_1_n_n none (shapeCast S128x128 w shapeCasts_S1x128x128_S128x128)
    (truncf .bf16 v bitsLt_bf16_f32) (constant S128x128 .f32 0x00000000#32)) (shapeCast S128x128 b shapeCasts_S1x128x128_S128x128))) shapeCasts_S128x128_S128x128

/-- One group's gradient of the normalised right half. -/
def dvTile (w : FVec Ideal S1x128x128 .bf16) : FVec Ideal S128x128 .f32 :=
  shapeCast S128x128 (matmul dot_S128x128_S128x128_S128x128_1_0_0_1_n_n none (shapeCast S128x128 w shapeCasts_S1x128x128_S128x128) (dfTile d u)
    (constant S128x128 .f32 0x00000000#32)) shapeCasts_S128x128_S128x128

/-- One group's share of the mixing weight's gradient, added to what stood there. -/
def dwsTile (acc : FVec Ideal S1x128x128 .f32) : FVec Ideal S1x128x128 .f32 :=
  shapeCast S1x128x128 (addf (shapeCast S128x128 acc shapeCasts_S1x128x128_S128x128)
    (select (k0_pay12) (matmul dot_S128x128_S128x128_S128x128_1_1_0_0_n_n none (dfTile d u) (truncf .bf16 v bitsLt_bf16_f32) (constant S128x128 .f32 0x00000000#32))
      (broadcast S128x128 (Scalar.ofBits .f32 0x00000000#32)))) shapeCasts_S128x128_S1x128x128

/-- One group's share of the mixing bias's gradient, added to what stood there. -/
def dbsTile (acc : FVec Ideal S1x128x128 .f32) : FVec Ideal S1x128x128 .f32 :=
  shapeCast S1x128x128 (addf (shapeCast S128x128 acc shapeCasts_S1x128x128_S128x128)
    (broadcastTo S128x128 (shapeCast S128x1 (shapeCast S128x1 (multiReduction .add [1] S128 (mulf d u) 0x00000000#32 reduces_S128x128_S128 (.inl rfl) rfl) shapeCasts_S128_S128x1)
      shapeCasts_S128x1_S128x1) broadcasts_S128x1_S128x128)) shapeCasts_S128x128_S1x128x128

theorem duTile_apply (w : FVec Ideal S1x128x128 .bf16) (b : FVec Ideal S1x128x128 .f32) (t l : Fin 128) :
    duTile d v w b (ix2 t l) = d (ix2 t l) * ((∑ s : Fin 128, w (ix3 0 t s) * v (ix2 s l)) + b (ix3 0 t l)) := by
  pointwise [duTile]

theorem dvTile_apply (w : FVec Ideal S1x128x128 .bf16) (s l : Fin 128) :
    dvTile d u w (ix2 s l) = ∑ t : Fin 128, w (ix3 0 s t) * (d (ix2 t l) * u (ix2 t l)) := by
  pointwise [dvTile, dfTile]

/-- The mask keeps the entries on and below the diagonal. -/
theorem mask_apply (t s : Fin 128) (a b : EReal) : Scalar.select (k0_pay12 (ix2 t s)) a b = if s.val ≤ t.val then a else b := by
  have h : ∀ t s : Fin 128, IntOp.cmpi CmpIPredicate.sge (BitVec.ofNat 32 (0 * 128 + t.val)) (BitVec.ofNat 32 (0 * 128 + s.val)) = if s.val ≤ t.val then 1#1 else 0#1 := by
    decide +kernel
  show Scalar.select (IntOp.cmpi CmpIPredicate.sge (BitVec.ofNat 32 (0 * 128 + t.val)) (BitVec.ofNat 32 (0 * 128 + s.val))) a b = _
  rw [h]
  by_cases e : s.val ≤ t.val <;> simp [e, Scalar.select]

theorem dwsTile_apply (acc : FVec Ideal S1x128x128 .f32) (t s : Fin 128) :
    dwsTile d u v acc (ix3 0 t s) = acc (ix3 0 t s) + if s.val ≤ t.val then ∑ l : Fin 128, (d (ix2 t l) * u (ix2 t l)) * v (ix2 s l) else 0 := by
  rw [← mask_apply]
  pointwise [dwsTile, dfTile]

theorem dbsTile_apply (acc : FVec Ideal S1x128x128 .f32) (t s : Fin 128) :
    dbsTile d u acc (ix3 0 t s) = acc (ix3 0 t s) + ∑ l : Fin 128, d (ix2 t l) * u (ix2 t l) := by
  pointwise [dbsTile]

end Tiles

/-- A group's columns cut out of a block. -/
abbrev cut (x : FVec Ideal S128x2048 .f32) (n : ℕ) (hs : S128x2048.Slices ![0, n] S128x128) : FVec Ideal S128x128 .f32 := extractStridedSlice S128x128 ![0, n] x hs

theorem cut_apply (x : FVec Ideal S128x2048 .f32) {m : ℕ} (hm : m < 16) {n : ℕ} (hn : n = 128 * m) (hs : S128x2048.Slices ![0, n] S128x128) (r l : Fin 128) :
    cut x n hs (ix2 r l) = x (ix2 r (col ⟨m, hm⟩ l)) := by
  subst hn
  exact congrArg x (at_eq _ _ _ (Nat.zero_add r.val) rfl)

section Slabs
/-- The groups below `n` of a buffer hold `G`. -/
def Below (G : S16x128x128.Idx → EReal) (n : ℕ) (L : List (View.Piece (Elt Ideal) S16x128x128 .f32)) : Prop := ∀ y, (y 0).val < n → View.canon L y = G y

/-- The groups from `n` on hold zero. -/
def Blank (n : ℕ) (L : List (View.Piece (Elt Ideal) S16x128x128 .f32)) : Prop := ∀ y, n ≤ (y 0).val → View.canon L y = (0 : EReal)

variable {m : ℕ} (inb : ∀ a, (![m, 0, 0] : Fin 3 → ℕ) a + S1x128x128.size a ≤ S16x128x128.size a)

theorem slab_emb (hm : m < 16) (t s : Fin 128) : (Rect.unit (s := S16x128x128) ![m, 0, 0] S1x128x128.size inb).emb (ix3 0 t s) = ix3 ⟨m, hm⟩ t s :=
  at_eq3 _ _ _ _ (by show m + 1 * 0 = m; omega) (by show 0 + 1 * t.val = t.val; omega) (by show 0 + 1 * s.val = s.val; omega)

theorem slab_off {y : S16x128x128.Idx} (h : (y 0).val ≠ m) : y ∉ (Rect.unit (s := S16x128x128) ![m, 0, 0] S1x128x128.size inb).set := by
  rw [Rect.mem_set_unit]
  intro hy
  have h0 := hy 0
  change m ≤ (y 0).val ∧ (y 0).val < m + 1 at h0
  omega

variable (G : S16x128x128.Idx → EReal) (L : List (View.Piece (Elt Ideal) S16x128x128 .f32)) (w : FVec Ideal S1x128x128 .f32)

/-- A store of the next group's values. -/
theorem below_succ (hm : m < 16) (h : Below G m L) (hw : ∀ t s, w (ix3 0 t s) = G (ix3 ⟨m, hm⟩ t s)) :
    Below G (m + 1) (⟨Rect.unit (s := S16x128x128) ![m, 0, 0] S1x128x128.size inb, w⟩ :: L) := by
  intro y hy
  by_cases e : (y 0).val = m
  · obtain ⟨t, s, rfl⟩ : ∃ t s : Fin 128, y = ix3 ⟨m, hm⟩ t s := ⟨y 1, y 2, at_eq3 _ _ _ _ e rfl rfl⟩
    have e' := View.canon_cons_emb (Val := Elt Ideal) (e := .f32) (Rect.unit (s := S16x128x128) ![m, 0, 0] S1x128x128.size inb) w L (ix3 0 t s)
    rw [slab_emb inb hm t s] at e'
    exact e'.trans (hw t s)
  · exact (View.canon_cons_of_not_mem (⟨Rect.unit (s := S16x128x128) ![m, 0, 0] S1x128x128.size inb, w⟩ : View.Piece (Elt Ideal) S16x128x128 .f32) L (slab_off inb e)).trans (h y (by omega))

theorem blank_succ (h : Blank m L) : Blank (m + 1) (⟨Rect.unit (s := S16x128x128) ![m, 0, 0] S1x128x128.size inb, w⟩ :: L) := by
  intro y hy
  exact (View.canon_cons_of_not_mem (⟨Rect.unit (s := S16x128x128) ![m, 0, 0] S1x128x128.size inb, w⟩ : View.Piece (Elt Ideal) S16x128x128 .f32) L (slab_off inb (by omega))).trans (h y (by omega))

end Slabs

section Columns
/-- The groups of columns below `n` of a buffer hold `G`. -/
def Left (G : S128x2048.Idx → EReal) (n : ℕ) (L : List (View.Piece (Elt Ideal) S128x2048 .f32)) : Prop := ∀ y, (y 1).val < 128 * n → View.canon L y = G y

variable {m n : ℕ} (inb : ∀ a, (![0, n] : Fin 2 → ℕ) a + S128x128.size a ≤ S128x2048.size a)

theorem cols_emb (hm : m < 16) (hn : n = 128 * m) (r l : Fin 128) : (Rect.unit (s := S128x2048) ![0, n] S128x128.size inb).emb (ix2 r l) = ix2 r (col ⟨m, hm⟩ l) :=
  at_eq _ _ _ (by show 0 + 1 * r.val = r.val; omega) (by show n + 1 * l.val = 128 * m + l.val; omega)

theorem cols_off {y : S128x2048.Idx} (h : (y 1).val < n) : y ∉ (Rect.unit (s := S128x2048) ![0, n] S128x128.size inb).set := by
  rw [Rect.mem_set_unit]
  intro hy
  have h1 := hy 1
  change n ≤ (y 1).val ∧ (y 1).val < n + 128 at h1
  omega

theorem left_succ (G : S128x2048.Idx → EReal) (L : List (View.Piece (Elt Ideal) S128x2048 .f32)) (w : FVec Ideal S128x128 .f32) (hm : m < 16) (hn : n = 128 * m) (h : Left G m L)
    (hw : ∀ r l, w (ix2 r l) = G (ix2 r (col ⟨m, hm⟩ l))) : Left G (m + 1) (⟨Rect.unit (s := S128x2048) ![0, n] S128x128.size inb, w⟩ :: L) := by
  intro y hy
  by_cases e : (y 1).val < 128 * m
  · exact (View.canon_cons_of_not_mem (⟨Rect.unit (s := S128x2048) ![0, n] S128x128.size inb, w⟩ : View.Piece (Elt Ideal) S128x2048 .f32) L (cols_off inb (by omega))).trans (h y e)
  · obtain ⟨r, l, rfl⟩ : ∃ r l : Fin 128, y = ix2 r (col ⟨m, hm⟩ l) :=
      ⟨y 0, ⟨(y 1).val - 128 * m, by omega⟩, at_eq _ _ _ rfl (by show (y 1).val = 128 * m + ((y 1).val - 128 * m); omega)⟩
    have e' := View.canon_cons_emb (Val := Elt Ideal) (e := .f32) (Rect.unit (s := S128x2048) ![0, n] S128x128.size inb) w L (ix2 r l)
    rw [cols_emb inb hm hn r l] at e'
    exact e'.trans (hw r l)

theorem left_nil (G : S128x2048.Idx → EReal) : Left G 0 [] := fun y h => absurd h (by omega)

theorem left_all (G : S128x2048.Idx → EReal) (L : List (View.Piece (Elt Ideal) S128x2048 .f32)) (h : Left G 16 L) : View.canon L = G :=
  funext fun y => h y (lt_of_lt_of_le (y 1).isLt (by decide))

/-- Reading the filled buffer whole. -/
theorem left_read {sig' : RefSig} {κ : Kind} {sp : Space} (v : View sig' κ sp S128x2048 .f32) (G : S128x2048.Idx → EReal) (L : List (View.Piece (Elt Ideal) S128x2048 .f32))
    (h : Left G 16 L) (inb : ∀ a, (![0, 0] : Fin 2 → ℕ) a + S128x2048.size a ≤ S128x2048.size a) :
    v.readCov L (Rect.unit (s := S128x2048) ![0, 0] S128x2048.size inb).toLoadRect = G := by
  rw [View.readCov_eq_canon', left_all G L h]
  exact View.ld_unit_zero (S := S128x2048) (Val := Elt Ideal) (e := .f32) (funext fun a => by fin_cases a <;> rfl) inb G

end Columns

end Cert.KernelIdeal.Sgu
end
-- ==== Proof.SguRow.lean ====
/- The gating unit's backward kernel at one point of its grid: the values read off a block's two halves row by row. -/
module

public import proofs.«01_k».proof.Proof.Gen.KernelIdeal.Value
public import proofs.«01_k».proof.Proof.Slots
public import proofs.«01_k».proof.Proof.Gating

@[expose] public section

set_option maxRecDepth 16384

noncomputable section

namespace Cert.KernelIdeal.Sgu

open Cert.KernelIdeal Cert.KernelIdeal.Gen Idealize.ShloMosaic Idealize.ShloMosaic.TcCoe Idealize.SL.Sem Idealize.ShloMosaic.StableHlo
open Cert.Products Cert.Gating Cert.Reals

theorem cub_eq : Named.named (F := Ideal) (φ := .f32) κ "gelu_c" 0x3D372713#32 = cub := IdealRules.named_const.ideal_named_scalar κ "gelu_c" _ cub rfl
theorem cub3_eq : Named.named (F := Ideal) (φ := .f32) κ "gelu_3c" 0x3E095D4F#32 = cub3 := IdealRules.named_const.ideal_named_scalar κ "gelu_3c" _ cub3 rfl
theorem unit_eq : Ideal.ofBits .f32 0x3F800000#32 = (1 : EReal) := one_eq.trans EReal.coe_one

/-- The right half of a block's row after `gelu`. -/
def act (v : FVec Ideal S128x2048 .f32) (r : Fin 128) (k : Fin 2048) : EReal := gelu (v (ix2 r k))

abbrev cstW : EReal := Scalar.ofBits (F := Ideal) .f32 0x45000000#32

variable (z v d : FVec Ideal S128x2048 .f32) (g b : FVec Ideal S1x2048 .f32) (r : Fin 128) (k : Fin 2048)

theorem pay6_apply : k0_pay6 (F := Ideal) z (ix2 r k) = gelu (z (ix2 r k)) := by
  unfold gelu th
  rw [← cub_eq, ← unit_eq]
  pointwise [k0_pay6]

theorem pay7_apply : k0_pay7 (F := Ideal) v (ix2 r k) = cen (act v r) k := by
  unfold cen mean act gelu th
  rw [← cub_eq, ← unit_eq]
  pointwise [k0_pay7]

theorem pay8_apply : k0_pay8 (F := Ideal) v (ix2 r 0) = ∑ k, cen (act v r) k * cen (act v r) k := by
  simp only [← pay7_apply]
  pointwise [k0_pay8]

theorem pay9_apply : k0_pay9 (F := Ideal) (k0_pay8 (F := Ideal) v) cstW (ix2 r 0) = rstd (act v r) := by
  unfold rstd mean
  rw [← pay8_apply]
  pointwise [k0_pay9]

theorem pay10_apply : k0_pay10 (F := Ideal) (k0_pay7 (F := Ideal) v) (k0_pay8 (F := Ideal) v) cstW (ix2 r k) = hat (act v r) k := by
  unfold hat
  rw [← pay7_apply, ← pay9_apply]
  pointwise [k0_pay10]

theorem pay11_apply : k0_pay11 (F := Ideal) (k0_pay7 (F := Ideal) v) (k0_pay8 (F := Ideal) v) cstW g b (ix2 r k) = hat (act v r) k * g (ix2 0 k) + b (ix2 0 k) := by
  rw [← pay10_apply]
  pointwise [k0_pay11]

theorem pay163_apply : k0_pay163 (F := Ideal) d g (ix2 r k) = d (ix2 r k) * g (ix2 0 k) := by
  pointwise [k0_pay163]

theorem pay164_apply : k0_pay164 (F := Ideal) d g (ix2 r 0) = ∑ k, d (ix2 r k) * g (ix2 0 k) := by
  simp only [← pay163_apply]
  pointwise [k0_pay164]

theorem pay165_apply : k0_pay165 (F := Ideal) (k0_pay9 (F := Ideal) (k0_pay8 (F := Ideal) v) cstW) (k0_pay10 (F := Ideal) (k0_pay7 (F := Ideal) v) (k0_pay8 (F := Ideal) v) cstW) (k0_pay163 (F := Ideal) d g) (k0_pay164 (F := Ideal) d g) (ix2 r k) = normGrad (act v r) (fun k => d (ix2 r k) * g (ix2 0 k)) k := by
  unfold normGrad mean
  simp only []
  rw [← pay164_apply d g r]
  simp only [← pay9_apply, ← pay10_apply, ← pay163_apply]
  pointwise [k0_pay165]

theorem pay1_apply : k0_pay1 (F := Ideal) d (k0_pay168 (F := Ideal) v) (k0_pay169 (F := Ideal) v) (ix2 r k) = d (ix2 r k) * dgelu (v (ix2 r k)) := by
  unfold dgelu th
  rw [← cub_eq, ← cub3_eq, ← unit_eq]
  pointwise [k0_pay1, k0_pay168, k0_pay169, k0_pay167]

theorem pay166_apply : k0_pay166 (F := Ideal) z d (ix2 r k) = d (ix2 r k) * dgelu (z (ix2 r k)) := by
  unfold dgelu th
  rw [← cub_eq, ← cub3_eq, ← unit_eq]
  pointwise [k0_pay166]

theorem pay161_apply (h : FVec Ideal S128x2048 .f32) (acc : FVec Ideal S1x2048 .f32) :
    k0_pay161 h d acc (ix2 0 k) = acc (ix2 0 k) + ∑ s : Fin 128, d (ix2 s k) * h (ix2 s k) := by
  pointwise [k0_pay161]

theorem pay162_apply (acc : FVec Ideal S1x2048 .f32) : k0_pay162 (F := Ideal) d acc (ix2 0 k) = acc (ix2 0 k) + ∑ s : Fin 128, d (ix2 s k) := by
  pointwise [k0_pay162]

end Cert.KernelIdeal.Sgu
end
-- ==== Proof.Sgu.lean ====
/- The gating unit's backward pass: what the kernel leaves in its five result arrays, and what the reference does. -/
module

public import proofs.«01_k».proof.Defs
public import proofs.«01_k».proof.Proof.SguTile
public import proofs.«01_k».proof.Proof.SguRow

@[expose] public section

set_option maxRecDepth 16384

noncomputable section

namespace Cert.KernelIdeal.Sgu

open Cert.KernelIdeal Cert.KernelIdeal.Gen Idealize.ShloMosaic Idealize.ShloMosaic.TcCoe Idealize.SL.Sem Idealize.ShloMosaic.StableHlo
open Idealize.ShloMosaic.Pipeline (Dat)
open Cert.Products Cert.Gating

theorem hz : (![0, 0] : Fin 2 → Nat) = fun _ => 0 := funext fun a => by fin_cases a <;> rfl

section Block
variable (x0 : Vec Ideal S128x2048 .f32) (x1 : Vec Ideal S128x4096 .f32) (x2 x3 : Vec Ideal S1x2048 .f32) (x4 x5 : Vec Ideal S16x128x128 .bf16) (x6 : Vec Ideal S16x128x128 .f32)

/-- The two halves of a block's columns. -/
abbrev zl : FVec Ideal S128x2048 .f32 := View.ld x1 (Rect.unit (s := S128x4096) ![0, 0] S128x2048.size inb_S128x4096_S128x2048_0_0)
abbrev zr : FVec Ideal S128x2048 .f32 := View.ld x1 (Rect.unit (s := S128x4096) ![0, 2048] S128x2048.size inb_S128x4096_S128x2048_0_2048)

theorem zl_apply (r : Fin 128) (k : Fin 2048) : zl x1 (ix2 r k) = x1 (ix2 r (lft k)) :=
  congrArg x1 (at_eq _ _ _ (by show 0 + 1 * r.val = r.val; omega) (by show 0 + 1 * k.val = k.val; omega))

theorem zr_apply (r : Fin 128) (k : Fin 2048) : zr x1 (ix2 r k) = x1 (ix2 r (rgt k)) :=
  congrArg x1 (at_eq _ _ _ (by show 0 + 1 * r.val = r.val; omega) (by show 2048 + 1 * k.val = 2048 + k.val; omega))

theorem act_eq (r : Fin 128) : act (zr x1) r = vrow x1 r := funext fun k => by
  unfold act vrow
  rw [zr_apply]

/-- The left half after `gelu`, and the normalised right half. -/
abbrev ug : FVec Ideal S128x2048 .f32 := k0_pay6 (zl x1)
abbrev vg : FVec Ideal S128x2048 .f32 := k0_pay11 (k0_pay7 (zr x1)) (k0_pay8 (zr x1)) (Scalar.ofBits .f32 0x45000000#32) x2 x3

theorem ug_apply (r : Fin 128) (k : Fin 2048) : ug x1 (ix2 r k) = gelu (x1 (ix2 r (lft k))) := by
  exact (pay6_apply (zl x1) r k).trans (by rw [zl_apply])

theorem vg_apply (r : Fin 128) (k : Fin 2048) : vg x1 x2 x3 (ix2 r k) = vln x1 x2 x3 r k :=
  (pay11_apply (zr x1) x2 x3 r k).trans (by rw [act_eq]; rfl)

/-- What a point adds to the gradients of the mixing weight and of its bias. -/
def wsSum (acc : S16x128x128.Idx → EReal) : S16x128x128.Idx → EReal := fun i => acc i + dws x0 x1 x2 x3 (i 0) (i 1) (i 2)
def bsSum (acc : S16x128x128.Idx → EReal) : S16x128x128.Idx → EReal := fun i => acc i + dbs x0 x1 (i 0) (i 1)

variable {m n : ℕ} (inb : ∀ a, (![m, 0, 0] : Fin 3 → ℕ) a + S1x128x128.size a ≤ S16x128x128.size a) (hs : S128x2048.Slices ![0, n] S128x128)
  (A : S16x128x128.Idx → EReal) (acc : FVec Ideal S1x128x128 .f32)

theorem ws_tile (hm : m < 16) (hn : n = 128 * m) (hacc : ∀ t s, acc (ix3 0 t s) = A (ix3 ⟨m, hm⟩ t s)) (t s : Fin 128) :
    dwsTile (cut x0 n hs) (cut (ug x1) n hs) (cut (vg x1 x2 x3) n hs) acc (ix3 0 t s) = wsSum x0 x1 x2 x3 A (ix3 ⟨m, hm⟩ t s) := by
  rw [dwsTile_apply, hacc]
  show A _ + _ = A _ + dws x0 x1 x2 x3 ⟨m, hm⟩ t s
  unfold dws dmix
  simp only [cut_apply _ hm hn, ug_apply, vg_apply]

theorem bs_tile (hm : m < 16) (hn : n = 128 * m) (hacc : ∀ t s, acc (ix3 0 t s) = A (ix3 ⟨m, hm⟩ t s)) (t s : Fin 128) :
    dbsTile (cut x0 n hs) (cut (ug x1) n hs) acc (ix3 0 t s) = bsSum x0 x1 A (ix3 ⟨m, hm⟩ t s) := by
  rw [dbsTile_apply, hacc]
  show A _ + _ = A _ + dbs x0 x1 ⟨m, hm⟩ t
  unfold dbs dmix
  simp only [cut_apply _ hm hn, ug_apply]

/-- A group's matrix cut out of a stack. -/
theorem slab_ld {e : EltTy} (x : Vec Ideal S16x128x128 e) (hm : m < 16) (t s : Fin 128) :
    View.ld (Val := Elt Ideal) x (Rect.unit (s := S16x128x128) ![m, 0, 0] S1x128x128.size inb) (ix3 0 t s) = x (ix3 ⟨m, hm⟩ t s) :=
  congrArg x (slab_emb inb hm t s)

theorem du_tile (hm : m < 16) (hn : n = 128 * m) (w : FVec Ideal S1x128x128 .bf16) (b : FVec Ideal S1x128x128 .f32) (hw : ∀ t s, w (ix3 0 t s) = x4 (ix3 ⟨m, hm⟩ t s))
    (hb : ∀ t s, b (ix3 0 t s) = x6 (ix3 ⟨m, hm⟩ t s)) (r l : Fin 128) :
    duTile (cut x0 n hs) (cut (vg x1 x2 x3) n hs) w b (ix2 r l) = x0 (ix2 r (col ⟨m, hm⟩ l)) * mix x1 x2 x3 x4 x6 r (col ⟨m, hm⟩ l) := by
  rw [duTile_apply]
  unfold mix
  simp only [cut_apply _ hm hn, vg_apply, hw, hb, grp_col, off_col]

theorem dv_tile (hm : m < 16) (hn : n = 128 * m) (w : FVec Ideal S1x128x128 .bf16) (hw : ∀ t s, w (ix3 0 t s) = x5 (ix3 ⟨m, hm⟩ t s)) (r l : Fin 128) :
    dvTile (cut x0 n hs) (cut (ug x1) n hs) w (ix2 r l) = dvln x0 x1 x5 r (col ⟨m, hm⟩ l) := by
  rw [dvTile_apply]
  unfold dvln dmix
  simp only [cut_apply _ hm hn, ug_apply, hw, grp_col]

/-- The gradients of the left half and of the normalised right half, as the kernel's two scratch buffers hold them. -/
def duAll : S128x2048.Idx → EReal := fun i => x0 (ix2 (i 0) (i 1)) * mix x1 x2 x3 x4 x6 (i 0) (i 1)
def dvAll : S128x2048.Idx → EReal := fun i => dvln x0 x1 x5 (i 0) (i 1)

section Stores
variable (lw : List (View.Piece (Elt Ideal) S16x128x128 .f32)) (lc : List (View.Piece (Elt Ideal) S128x2048 .f32))
  (inc : ∀ a, (![0, n] : Fin 2 → ℕ) a + S128x128.size a ≤ S128x2048.size a)

theorem ws_succ (hm : m < 16) (hn : n = 128 * m) (hacc : ∀ t s, acc (ix3 0 t s) = A (ix3 ⟨m, hm⟩ t s)) (h : Below (wsSum x0 x1 x2 x3 A) m lw) :
    Below (wsSum x0 x1 x2 x3 A) (m + 1)
      (⟨Rect.unit (s := S16x128x128) ![m, 0, 0] S1x128x128.size inb, dwsTile (cut x0 n hs) (cut (ug x1) n hs) (cut (vg x1 x2 x3) n hs) acc⟩ :: lw) :=
  below_succ inb _ lw _ hm h (ws_tile x0 x1 x2 x3 hs A acc hm hn hacc)

theorem bs_succ (hm : m < 16) (hn : n = 128 * m) (hacc : ∀ t s, acc (ix3 0 t s) = A (ix3 ⟨m, hm⟩ t s)) (h : Below (bsSum x0 x1 A) m lw) :
    Below (bsSum x0 x1 A) (m + 1) (⟨Rect.unit (s := S16x128x128) ![m, 0, 0] S1x128x128.size inb, dbsTile (cut x0 n hs) (cut (ug x1) n hs) acc⟩ :: lw) :=
  below_succ inb _ lw _ hm h (bs_tile x0 x1 hs A acc hm hn hacc)

theorem du_succ (inb : ∀ a, (![m, 0, 0] : Fin 3 → ℕ) a + S1x128x128.size a ≤ S16x128x128.size a) (hm : m < 16) (hn : n = 128 * m) (h : Left (duAll x0 x1 x2 x3 x4 x6) m lc) :
    Left (duAll x0 x1 x2 x3 x4 x6) (m + 1) (⟨Rect.unit (s := S128x2048) ![0, n] S128x128.size inc, duTile (cut x0 n hs) (cut (vg x1 x2 x3) n hs)
      (View.ld (Val := Elt Ideal) (e' := .bf16) x4 (Rect.unit (s := S16x128x128) ![m, 0, 0] S1x128x128.size inb))
      (View.ld (Val := Elt Ideal) (e' := .f32) x6 (Rect.unit (s := S16x128x128) ![m, 0, 0] S1x128x128.size inb))⟩ :: lc) :=
  left_succ inc _ lc _ hm hn h (du_tile x0 x1 x2 x3 x4 x6 hs hm hn _ _ (slab_ld inb x4 hm) (slab_ld inb x6 hm))

theorem dv_succ (inb : ∀ a, (![m, 0, 0] : Fin 3 → ℕ) a + S1x128x128.size a ≤ S16x128x128.size a) (hm : m < 16) (hn : n = 128 * m) (h : Left (dvAll x0 x1 x5) m lc) :
    Left (dvAll x0 x1 x5) (m + 1) (⟨Rect.unit (s := S128x2048) ![0, n] S128x128.size inc, dvTile (cut x0 n hs) (cut (ug x1) n hs)
      (View.ld (Val := Elt Ideal) (e' := .bf16) x5 (Rect.unit (s := S16x128x128) ![m, 0, 0] S1x128x128.size inb))⟩ :: lc) :=
  left_succ inc _ lc _ hm hn h (dv_tile x0 x1 x5 hs hm hn _ (slab_ld inb x5 hm))

/-- A buffer whose first `m` groups are done and whose others hold zero. -/
def Begun (G : S16x128x128.Idx → EReal) (m : ℕ) (L : List (View.Piece (Elt Ideal) S16x128x128 .f32)) : Prop := Below G m L ∧ Blank m L

theorem begun_zero (G : S16x128x128.Idx → EReal) (inz : ∀ a, (![0, 0, 0] : Fin 3 → ℕ) a + S16x128x128.size a ≤ S16x128x128.size a) (w : S16x128x128.Idx → EReal) (hw : ∀ y, w y = 0) :
    Begun G 0 [(⟨Rect.unit (s := S16x128x128) ![0, 0, 0] S16x128x128.size inz, w⟩ : View.Piece (Elt Ideal) S16x128x128 .f32)] :=
  ⟨fun y h => absurd h (Nat.not_lt_zero _), fun y _ => (congrFun (View.canon_unit_zero (S := S16x128x128) (Val := Elt Ideal) (e := .f32) hz3 inz w) y).trans (hw y)⟩

theorem read_blank (v : View sig .tc .vmem S16x128x128 .f32) (hm : m < 16) (h : Blank m lw) (t s : Fin 128) :
    v.readCov lw (Rect.unit (s := S16x128x128) ![m, 0, 0] S1x128x128.size inb).toLoadRect (ix3 0 t s) = (0 : EReal) := by
  rw [View.readCov_eq_canon']
  exact (congrArg (View.canon lw) (slab_emb inb hm t s)).trans (h _ (le_refl m))

variable {D U V : FVec Ideal S128x2048 .f32}

theorem ws_begun (v : View sig .tc .vmem S16x128x128 .f32) (hD : D = x0) (hU : U = ug x1) (hV : V = vg x1 x2 x3) (hm : m < 16) (hn : n = 128 * m)
    (h : Begun (wsSum x0 x1 x2 x3 fun _ => 0) m lw) :
    Begun (wsSum x0 x1 x2 x3 fun _ => 0) (m + 1) (⟨Rect.unit (s := S16x128x128) ![m, 0, 0] S1x128x128.size inb, dwsTile (cut D n hs) (cut U n hs) (cut V n hs)
      (v.readCov lw (Rect.unit (s := S16x128x128) ![m, 0, 0] S1x128x128.size inb).toLoadRect)⟩ :: lw) := by
  subst hD hU hV
  exact ⟨ws_succ _ x1 x2 x3 inb hs _ _ lw hm hn (read_blank inb lw v hm h.2) h.1, blank_succ inb lw _ h.2⟩

theorem bs_begun (v : View sig .tc .vmem S16x128x128 .f32) (hD : D = x0) (hU : U = ug x1) (hm : m < 16) (hn : n = 128 * m) (h : Begun (bsSum x0 x1 fun _ => 0) m lw) :
    Begun (bsSum x0 x1 fun _ => 0) (m + 1) (⟨Rect.unit (s := S16x128x128) ![m, 0, 0] S1x128x128.size inb, dbsTile (cut D n hs) (cut U n hs)
      (v.readCov lw (Rect.unit (s := S16x128x128) ![m, 0, 0] S1x128x128.size inb).toLoadRect)⟩ :: lw) := by
  subst hD hU
  exact ⟨bs_succ _ x1 inb hs _ _ lw hm hn (read_blank inb lw v hm h.2) h.1, blank_succ inb lw _ h.2⟩

end Stores

/-- The two halves of the pre-activation's gradient, as one point stores them. -/
theorem halves (wl wr : FVec Ideal S128x2048 .bf16) (inl : ∀ a, (![0, 0] : Fin 2 → ℕ) a + S128x2048.size a ≤ S128x4096.size a)
    (inr : ∀ a, (![0, 2048] : Fin 2 → ℕ) a + S128x2048.size a ≤ S128x4096.size a) (r : Fin 128) (k : Fin 2048) :
    View.canon [(⟨Rect.unit (s := S128x4096) ![0, 2048] S128x2048.size inr, wr⟩ : View.Piece (Elt Ideal) S128x4096 .bf16),
      ⟨Rect.unit (s := S128x4096) ![0, 0] S128x2048.size inl, wl⟩] (ix2 r (lft k)) = wl (ix2 r k) ∧
    View.canon [(⟨Rect.unit (s := S128x4096) ![0, 2048] S128x2048.size inr, wr⟩ : View.Piece (Elt Ideal) S128x4096 .bf16),
      ⟨Rect.unit (s := S128x4096) ![0, 0] S128x2048.size inl, wl⟩] (ix2 r (rgt k)) = wr (ix2 r k) := by
  have el : (Rect.unit (s := S128x4096) ![0, 0] S128x2048.size inl).emb (ix2 r k) = ix2 r (lft k) :=
    at_eq _ _ _ (by show 0 + 1 * r.val = r.val; omega) (by show 0 + 1 * k.val = k.val; omega)
  have er : (Rect.unit (s := S128x4096) ![0, 2048] S128x2048.size inr).emb (ix2 r k) = ix2 r (rgt k) :=
    at_eq _ _ _ (by show 0 + 1 * r.val = r.val; omega) (by show 2048 + 1 * k.val = 2048 + k.val; omega)
  have hl := View.canon_cons_emb (Val := Elt Ideal) (e := .bf16) (Rect.unit (s := S128x4096) ![0, 0] S128x2048.size inl) wl [] (ix2 r k)
  have hr := View.canon_cons_emb (Val := Elt Ideal) (e := .bf16) (Rect.unit (s := S128x4096) ![0, 2048] S128x2048.size inr) wr
    [⟨Rect.unit (s := S128x4096) ![0, 0] S128x2048.size inl, wl⟩] (ix2 r k)
  rw [el] at hl
  rw [er] at hr
  refine ⟨(View.canon_cons_of_not_mem (⟨Rect.unit (s := S128x4096) ![0, 2048] S128x2048.size inr, wr⟩ : View.Piece (Elt Ideal) S128x4096 .bf16) _ ?_).trans hl, hr⟩
  rw [Rect.mem_set_unit]
  intro hy
  have h1 := hy 1
  change 2048 ≤ k.val ∧ k.val < 2048 + 2048 at h1
  omega

/-- What one point writes of the pre-activation's gradient. -/
theorem zu_value (r : Fin 128) (k : Fin 2048) : k0_pay166 (F := Ideal) (zl x1) (duAll x0 x1 x2 x3 x4 x6) (ix2 r k) = dzu x0 x1 x2 x3 x4 x6 r k :=
  (pay166_apply (zl x1) (duAll x0 x1 x2 x3 x4 x6) r k).trans (by rw [zl_apply]; rfl)

theorem zv_value (r : Fin 128) (k : Fin 2048) : k0_pay1 (F := Ideal)
    (k0_pay165 (F := Ideal) (k0_pay9 (F := Ideal) (k0_pay8 (F := Ideal) (zr x1)) cstW) (k0_pay10 (F := Ideal) (k0_pay7 (F := Ideal) (zr x1)) (k0_pay8 (F := Ideal) (zr x1)) cstW)
      (k0_pay163 (F := Ideal) (dvAll x0 x1 x5) x2) (k0_pay164 (F := Ideal) (dvAll x0 x1 x5) x2))
    (k0_pay168 (F := Ideal) (zr x1)) (k0_pay169 (F := Ideal) (zr x1)) (ix2 r k) = dzv x0 x1 x2 x5 r k :=
  (pay1_apply (zr x1) _ r k).trans (by rw [pay165_apply, act_eq, zr_apply]; rfl)

theorem lg_value (acc : FVec Ideal S1x2048 .f32) (k : Fin 2048) :
    k0_pay161 (F := Ideal) (k0_pay10 (F := Ideal) (k0_pay7 (F := Ideal) (zr x1)) (k0_pay8 (F := Ideal) (zr x1)) cstW) (dvAll x0 x1 x5) acc (ix2 0 k)
      = acc (ix2 0 k) + dlg x0 x1 x5 k := by
  rw [pay161_apply]
  refine congrArg (acc (ix2 0 k) + ·) (Finset.sum_congr rfl fun s _ => ?_)
  rw [pay10_apply, act_eq]
  rfl

theorem lb_value (acc : FVec Ideal S1x2048 .f32) (k : Fin 2048) : k0_pay162 (F := Ideal) (dvAll x0 x1 x5) acc (ix2 0 k) = acc (ix2 0 k) + dlb x0 x1 x5 k :=
  pay162_apply (dvAll x0 x1 x5) k acc

end Block

section Point
variable (c : Dev nD) (i : grid0.Coords) (arg1 : Memref sig .tc .vmem S128x2048 .f32) (harg1 : arg1.IsWhole) (arg2 : Memref sig .tc .vmem S128x4096 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .bf16) (harg5 : arg5.IsWhole) (arg6 : Memref sig .tc .vmem S16x128x128 .bf16) (harg6 : arg6.IsWhole) (arg7 : Memref sig .tc .vmem S16x128x128 .f32) (harg7 : arg7.IsWhole) (arg8 : Memref sig .tc .vmem S128x4096 .bf16) (harg8 : arg8.IsWhole) (arg9 : Memref sig .tc .vmem S16x128x128 .f32) (harg9 : arg9.IsWhole) (arg10 : Memref sig .tc .vmem S16x128x128 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S128x2048 .f32) (harg13 : arg13.IsWhole) (arg14 : Memref sig .tc .vmem S128x2048 .f32) (harg14 : arg14.IsWhole)
    (x0 : Vec Ideal S128x2048 .f32) (x1 : Vec Ideal S128x4096 .f32) (x2 : Vec Ideal S1x2048 .f32) (x3 : Vec Ideal S1x2048 .f32) (x4 : Vec Ideal S16x128x128 .bf16) (x5 : Vec Ideal S16x128x128 .bf16) (x6 : Vec Ideal S16x128x128 .f32)

section Later
variable (hc0 : ¬cond0_0 i) (xo8 : Vec Ideal S16x128x128 .f32) (xo9 : Vec Ideal S16x128x128 .f32) (xo10 : Vec Ideal S1x2048 .f32) (xo11 : Vec Ideal S1x2048 .f32)

theorem out_B_7 (r : Fin 128) (k : Fin 2048) :
    out0_B_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xo10 xo11 (ix2 r (lft k)) = dzu x0 x1 x2 x3 x4 x6 r k ∧
    out0_B_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xo10 xo11 (ix2 r (rgt k)) = dzv x0 x1 x2 x5 r k := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xo10 xo11)]
  unfold kernelRun0_B
  dsimp only
  sl_unfold_words
  simp only [View.readAt_eq_ld, harg1.read_unread, harg2.read_unread, harg3.read_unread, harg4.read_unread, harg5.read_unread, harg6.read_unread, harg7.read_unread, harg9.read_unread, harg10.read_unread, harg11.read_unread, harg12.read_unread, View.ld_unit_zero (S := S128x2048) hz, View.ld_unit_zero (S := S1x2048) hz]
  have h14 : ∀ L inb, Left (dvAll x0 x1 x5) 16 L → arg14.view.readCov L (Rect.unit (s := S128x2048) ![0, 0] S128x2048.size inb).toLoadRect = dvAll x0 x1 x5 :=
    fun L inb h => left_read arg14.view _ L h inb
  have h13 : ∀ L inb, Left (duAll x0 x1 x2 x3 x4 x6) 16 L → arg13.view.readCov L (Rect.unit (s := S128x2048) ![0, 0] S128x2048.size inb).toLoadRect = duAll x0 x1 x2 x3 x4 x6 :=
    fun L inb h => left_read arg13.view _ L h inb
  rw [h14, h13]
  · exact ⟨(halves _ _ _ _ r k).1.trans (zu_value x0 x1 x2 x3 x4 x6 r k), (halves _ _ _ _ r k).2.trans (zv_value x0 x1 x2 x5 r k)⟩
  · iterate 16 refine du_succ x0 x1 x2 x3 x4 x6 _ _ _ _ (by decide) rfl ?_
    exact left_nil _
  · iterate 16 refine dv_succ x0 x1 x5 _ _ _ _ (by decide) rfl ?_
    exact left_nil _

theorem out_B_8 : out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xo10 xo11 = wsSum x0 x1 x2 x3 xo8 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xo10 xo11)]
  unfold kernelRun0_B
  dsimp only
  sl_unfold_words
  simp only [View.readAt_eq_ld, harg1.read_unread, harg2.read_unread, harg3.read_unread, harg4.read_unread, harg5.read_unread, harg6.read_unread, harg7.read_unread, harg9.read_unread, harg10.read_unread, harg11.read_unread, harg12.read_unread, View.ld_unit_zero (S := S128x2048) hz, View.ld_unit_zero (S := S1x2048) hz]
  funext y
  refine (?_ : Below (wsSum x0 x1 x2 x3 xo8) 16 _) y (y 0).isLt
  iterate 16 refine ws_succ x0 x1 x2 x3 _ _ xo8 _ _ (by decide) rfl (slab_ld _ xo8 _) ?_
  exact fun y h => absurd h (Nat.not_lt_zero _)

theorem out_B_9 : out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xo10 xo11 = bsSum x0 x1 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xo10 xo11)]
  unfold kernelRun0_B
  dsimp only
  sl_unfold_words
  simp only [View.readAt_eq_ld, harg1.read_unread, harg2.read_unread, harg3.read_unread, harg4.read_unread, harg5.read_unread, harg6.read_unread, harg7.read_unread, harg9.read_unread, harg10.read_unread, harg11.read_unread, harg12.read_unread, View.ld_unit_zero (S := S128x2048) hz, View.ld_unit_zero (S := S1x2048) hz]
  funext y
  refine (?_ : Below (bsSum x0 x1 xo9) 16 _) y (y 0).isLt
  iterate 16 refine bs_succ x0 x1 _ _ xo9 _ _ (by decide) rfl (slab_ld _ xo9 _) ?_
  exact fun y h => absurd h (Nat.not_lt_zero _)

theorem out_B_10 (k : Fin 2048) : out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xo10 xo11 (ix2 0 k) = xo10 (ix2 0 k) + dlg x0 x1 x5 k := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xo10 xo11)]
  unfold kernelRun0_B
  dsimp only
  sl_unfold_words
  rw [View.canon_unit_zero (S := S1x2048) hz]
  simp only [View.readAt_eq_ld, harg1.read_unread, harg2.read_unread, harg3.read_unread, harg4.read_unread, harg5.read_unread, harg6.read_unread, harg7.read_unread, harg9.read_unread, harg10.read_unread, harg11.read_unread, harg12.read_unread, View.ld_unit_zero (S := S128x2048) hz, View.ld_unit_zero (S := S1x2048) hz]
  have h14 : ∀ L inb, Left (dvAll x0 x1 x5) 16 L → arg14.view.readCov L (Rect.unit (s := S128x2048) ![0, 0] S128x2048.size inb).toLoadRect = dvAll x0 x1 x5 :=
    fun L inb h => left_read arg14.view _ L h inb
  rw [h14]
  · exact (lg_value x0 x1 x5 xo10 k)
  · iterate 16 refine dv_succ x0 x1 x5 _ _ _ _ (by decide) rfl ?_
    exact left_nil _

theorem out_B_11 (k : Fin 2048) : out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xo10 xo11 (ix2 0 k) = xo11 (ix2 0 k) + dlb x0 x1 x5 k := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xo10 xo11)]
  unfold kernelRun0_B
  dsimp only
  sl_unfold_words
  rw [View.canon_unit_zero (S := S1x2048) hz]
  simp only [View.readAt_eq_ld, harg1.read_unread, harg2.read_unread, harg3.read_unread, harg4.read_unread, harg5.read_unread, harg6.read_unread, harg7.read_unread, harg9.read_unread, harg10.read_unread, harg11.read_unread, harg12.read_unread, View.ld_unit_zero (S := S128x2048) hz, View.ld_unit_zero (S := S1x2048) hz]
  have h14 : ∀ L inb, Left (dvAll x0 x1 x5) 16 L → arg14.view.readCov L (Rect.unit (s := S128x2048) ![0, 0] S128x2048.size inb).toLoadRect = dvAll x0 x1 x5 :=
    fun L inb h => left_read arg14.view _ L h inb
  rw [h14]
  · exact (lb_value x0 x1 x5 xo11 k)
  · iterate 16 refine dv_succ x0 x1 x5 _ _ _ _ (by decide) rfl ?_
    exact left_nil _

end Later

section First
variable (hc0 : cond0_0 i)

theorem out_A_7 (r : Fin 128) (k : Fin 2048) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 (ix2 r (lft k)) = dzu x0 x1 x2 x3 x4 x6 r k ∧
    out0_A_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 (ix2 r (rgt k)) = dzv x0 x1 x2 x5 r k := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, harg9.read_unread, harg10.read_unread, harg11.read_unread, harg12.read_unread, View.ld_unit_zero (S := S128x2048) hz, View.ld_unit_zero (S := S1x2048) hz]
  have h14 : ∀ L inb, Left (dvAll x0 x1 x5) 16 L → arg14.view.readCov L (Rect.unit (s := S128x2048) ![0, 0] S128x2048.size inb).toLoadRect = dvAll x0 x1 x5 :=
    fun L inb h => left_read arg14.view _ L h inb
  have h13 : ∀ L inb, Left (duAll x0 x1 x2 x3 x4 x6) 16 L → arg13.view.readCov L (Rect.unit (s := S128x2048) ![0, 0] S128x2048.size inb).toLoadRect = duAll x0 x1 x2 x3 x4 x6 :=
    fun L inb h => left_read arg13.view _ L h inb
  rw [h14, h13]
  · exact ⟨(halves _ _ _ _ r k).1.trans (zu_value x0 x1 x2 x3 x4 x6 r k), (halves _ _ _ _ r k).2.trans (zv_value x0 x1 x2 x5 r k)⟩
  · iterate 16 refine du_succ x0 x1 x2 x3 x4 x6 _ _ _ _ (by decide) rfl ?_
    exact left_nil _
  · iterate 16 refine dv_succ x0 x1 x5 _ _ _ _ (by decide) rfl ?_
    exact left_nil _

theorem out_A_8 : out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = wsSum x0 x1 x2 x3 fun _ => 0 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  have hD : View.readAt (Elt Ideal) arg1.view (Rect.unit (s := S128x2048) ![0, 0] S128x2048.size inb_S128x2048_S128x2048_0_0).toLoadRect (harg1.unread x0) = x0 := by
    rw [View.readAt_eq_ld, harg1.read_unread, View.ld_unit_zero (S := S128x2048) hz]
  have hU : k0_pay6 (View.readAt (Elt Ideal) arg2.view (Rect.unit (s := S128x4096) ![0, 0] S128x2048.size inb_S128x4096_S128x2048_0_0).toLoadRect (harg2.unread x1)) = ug x1 := by
    rw [View.readAt_eq_ld, harg2.read_unread]
  have hV : k0_pay11 (k0_pay7 (View.readAt (Elt Ideal) arg2.view (Rect.unit (s := S128x4096) ![0, 2048] S128x2048.size inb_S128x4096_S128x2048_0_2048).toLoadRect (harg2.unread x1)))
      (k0_pay8 (View.readAt (Elt Ideal) arg2.view (Rect.unit (s := S128x4096) ![0, 2048] S128x2048.size inb_S128x4096_S128x2048_0_2048).toLoadRect (harg2.unread x1))) (Scalar.ofBits .f32 0x45000000#32)
      (View.readAt (Elt Ideal) arg3.view (Rect.unit (s := S1x2048) ![0, 0] S1x2048.size inb_S1x2048_S1x2048_0_0).toLoadRect (harg3.unread x2))
      (View.readAt (Elt Ideal) arg4.view (Rect.unit (s := S1x2048) ![0, 0] S1x2048.size inb_S1x2048_S1x2048_0_0).toLoadRect (harg4.unread x3)) = vg x1 x2 x3 := by
    rw [View.readAt_eq_ld, View.readAt_eq_ld, View.readAt_eq_ld, harg2.read_unread, harg3.read_unread, harg4.read_unread, View.ld_unit_zero (S := S1x2048) hz, View.ld_unit_zero (S := S1x2048) hz]
  funext y
  refine (?_ : Begun (wsSum x0 x1 x2 x3 fun _ => 0) 16 _).1 y (y 0).isLt
  iterate 16 refine ws_begun x0 x1 x2 x3 _ _ _ arg9.view hD hU hV (by decide) rfl ?_
  refine begun_zero _ _ _ ?_
  exact fun _ => Ideal.ofBits_zero .f32

theorem out_A_9 : out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = bsSum x0 x1 fun _ => 0 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  have hD : View.readAt (Elt Ideal) arg1.view (Rect.unit (s := S128x2048) ![0, 0] S128x2048.size inb_S128x2048_S128x2048_0_0).toLoadRect (harg1.unread x0) = x0 := by
    rw [View.readAt_eq_ld, harg1.read_unread, View.ld_unit_zero (S := S128x2048) hz]
  have hU : k0_pay6 (View.readAt (Elt Ideal) arg2.view (Rect.unit (s := S128x4096) ![0, 0] S128x2048.size inb_S128x4096_S128x2048_0_0).toLoadRect (harg2.unread x1)) = ug x1 := by
    rw [View.readAt_eq_ld, harg2.read_unread]
  funext y
  refine (?_ : Begun (bsSum x0 x1 fun _ => 0) 16 _).1 y (y 0).isLt
  iterate 16 refine bs_begun x0 x1 _ _ _ arg10.view hD hU (by decide) rfl ?_
  refine begun_zero _ _ _ ?_
  exact fun _ => Ideal.ofBits_zero .f32

theorem out_A_10 (k : Fin 2048) : out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 (ix2 0 k) = dlg x0 x1 x5 k := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  sl_unfold_words
  rw [View.canon_cons_unit_zero (S := S1x2048) hz]
  simp only [View.readCov_unit_zero (S := S1x2048) _ hz, View.readAt_eq_ld, harg1.read_unread, harg2.read_unread, harg3.read_unread, harg4.read_unread, harg5.read_unread, harg6.read_unread, harg7.read_unread, harg9.read_unread, harg10.read_unread, harg11.read_unread, harg12.read_unread, View.ld_unit_zero (S := S128x2048) hz, View.ld_unit_zero (S := S1x2048) hz]
  have h14 : ∀ L inb, Left (dvAll x0 x1 x5) 16 L → arg14.view.readCov L (Rect.unit (s := S128x2048) ![0, 0] S128x2048.size inb).toLoadRect = dvAll x0 x1 x5 :=
    fun L inb h => left_read arg14.view _ L h inb
  rw [h14]
  · exact ((lg_value x0 x1 x5 k0_pay4 k).trans (by rw [show (k0_pay4 (F := Ideal)) (ix2 0 k) = (0 : EReal) from Ideal.ofBits_zero .f32, zero_add]))
  · iterate 16 refine dv_succ x0 x1 x5 _ _ _ _ (by decide) rfl ?_
    exact left_nil _

theorem out_A_11 (k : Fin 2048) : out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 (ix2 0 k) = dlb x0 x1 x5 k := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  sl_unfold_words
  rw [View.canon_cons_unit_zero (S := S1x2048) hz]
  simp only [View.readCov_unit_zero (S := S1x2048) _ hz, View.readAt_eq_ld, harg1.read_unread, harg2.read_unread, harg3.read_unread, harg4.read_unread, harg5.read_unread, harg6.read_unread, harg7.read_unread, harg9.read_unread, harg10.read_unread, harg11.read_unread, harg12.read_unread, View.ld_unit_zero (S := S128x2048) hz, View.ld_unit_zero (S := S1x2048) hz]
  have h14 : ∀ L inb, Left (dvAll x0 x1 x5) 16 L → arg14.view.readCov L (Rect.unit (s := S128x2048) ![0, 0] S128x2048.size inb).toLoadRect = dvAll x0 x1 x5 :=
    fun L inb h => left_read arg14.view _ L h inb
  rw [h14]
  · exact ((lb_value x0 x1 x5 k0_pay5 k).trans (by rw [show (k0_pay5 (F := Ideal)) (ix2 0 k) = (0 : EReal) from Ideal.ofBits_zero .f32, zero_add]))
  · iterate 16 refine dv_succ x0 x1 x5 _ _ _ _ (by decide) rfl ?_
    exact left_nil _

end First
end Point
end Cert.KernelIdeal.Sgu
end
-- ==== Proof.SguRun.lean ====
/- The gating unit's backward pass over the whole sequence: the kernel's 64 points leave the five gradients of `Gating` in the
   five result arrays. -/
module

public import proofs.«01_k».proof.Proof.Sgu
public import proofs.«01_k».proof.Proof.GatingRef
public import proofs.«01_k».proof.Proof.Gen.KernelIdeal.Value
public import proofs.«01_k».proof.Proof.Gen.Pre_finite

@[expose] public section

set_option maxRecDepth 16384

noncomputable section

namespace Cert.KernelIdeal.Sgu

open Cert.KernelIdeal Cert.KernelIdeal.Gen Idealize.ShloMosaic Idealize.ShloMosaic.TcCoe Idealize.SL.Sem Idealize.ShloMosaic.StableHlo
open Idealize.ShloMosaic.Pipeline (Dat)
open Cert.Products Cert.Gating

variable (m : (l : Loc nD τ sig) → Buf (Elt Ideal) l)

/-- The arguments, and the three arrays the host makes of the last two. -/
abbrev d (c : Dev nD) : Mat 8192 2048 := m ((c : Thread nD τ).loc main_arg0)
abbrev z (c : Dev nD) : Mat 8192 4096 := m ((c : Thread nD τ).loc main_arg1)
abbrev g (c : Dev nD) : Mat 1 2048 := m ((c : Thread nD τ).loc main_arg2)
abbrev b (c : Dev nD) : Mat 1 2048 := m ((c : Thread nD τ).loc main_arg3)
abbrev w (c : Dev nD) : Stack := m ((c : Thread nD τ).loc main_arg4)
abbrev bs (c : Dev nD) : Mat 16 128 := m ((c : Thread nD τ).loc main_arg5)

theorem V_causal (c : Dev nD) : V m c main_v4 = causal (w m c) := by
  unfold_abbrev_sides
  unfold hostOps0 hostOps0_1 hostOps0_2 hostOps0_3 hostOps0_4
  simp only [List.flatten_cons, List.flatten_nil, List.cons_append, List.nil_append, List.append_nil]
  after_results
  funext i
  obtain ⟨q, t, s, rfl⟩ : ∃ (q : Fin 16) (t s : Fin 128), i = ix3 q t s := ⟨i 0, i 1, i 2, at_eq3 i _ _ _ rfl rfl rfl⟩
  refine Eq.trans ?_ ((Cert.ReferenceIdeal.Read.mask_eq t s (w m c (ix3 q t s)) _).trans (congrArg (fun e => if s.val ≤ t.val then w m c (ix3 q t s) else e) (Ideal.ofBits_zero .f32)))
  rfl

theorem transposed (x : FVec Ideal S16x128x128 .bf16) (q : Fin 16) (s t : Fin 128) :
    transpose S16x128x128 [0, 2, 1] x transposes_S16x128x128_S16x128x128_0_2_1 (ix3 q s t) = x (ix3 q t s) := by
  pointwise []

theorem V_causalT (c : Dev nD) : V m c main_v7 = causalT (w m c) := by
  unfold_abbrev_sides
  unfold hostOps0 hostOps0_1 hostOps0_2 hostOps0_3 hostOps0_4
  simp only [List.flatten_cons, List.flatten_nil, List.cons_append, List.nil_append, List.append_nil]
  after_results
  funext i
  obtain ⟨q, s, t, rfl⟩ : ∃ (q : Fin 16) (s t : Fin 128), i = ix3 q s t := ⟨i 0, i 1, i 2, at_eq3 i _ _ _ rfl rfl rfl⟩
  refine Eq.trans ?_ ((Cert.ReferenceIdeal.Read.mask_eq t s (w m c (ix3 q t s)) _).trans (congrArg (fun e => if s.val ≤ t.val then w m c (ix3 q t s) else e) (Ideal.ofBits_zero .f32)))
  exact (transposed _ q s t).trans rfl

theorem V_bias (c : Dev nD) : V m c main_v6 = spreadBias (bs m c) := by
  unfold_abbrev_sides
  unfold hostOps0 hostOps0_1 hostOps0_2 hostOps0_3 hostOps0_4
  simp only [List.flatten_cons, List.flatten_nil, List.cons_append, List.nil_append, List.append_nil]
  after_results
  funext i
  obtain ⟨q, t, s, rfl⟩ : ∃ (q : Fin 16) (t s : Fin 128), i = ix3 q t s := ⟨i 0, i 1, i 2, at_eq3 i _ _ _ rfl rfl rfl⟩
  pointwise [spreadBias]

/-- Which block each window takes at a point: the point's 128 rows of the first two arguments and of the first result, the
    whole of the others. -/
theorem idx_rows : ∀ t : Fin cfg0.N, (win0_0.index t 0 = t.val ∧ win0_0.index t 1 = 0) ∧ (win0_1.index t 0 = t.val ∧ win0_1.index t 1 = 0)
    ∧ win0_7.index t 0 = t.val ∧ win0_7.index t 1 = 0 :=
  (by decide +kernel : ∀ t : Fin grid0.N, (win0_0.index t 0 = t.val ∧ win0_0.index t 1 = 0) ∧ (win0_1.index t 0 = t.val ∧ win0_1.index t 1 = 0)
    ∧ win0_7.index t 0 = t.val ∧ win0_7.index t 1 = 0)

theorem idx_flat : ∀ t : Fin cfg0.N, (win0_2.index t 0 = 0 ∧ win0_2.index t 1 = 0) ∧ (win0_3.index t 0 = 0 ∧ win0_3.index t 1 = 0)
    ∧ (win0_10.index t 0 = 0 ∧ win0_10.index t 1 = 0) ∧ win0_11.index t 0 = 0 ∧ win0_11.index t 1 = 0 :=
  (by decide +kernel : ∀ t : Fin grid0.N, (win0_2.index t 0 = 0 ∧ win0_2.index t 1 = 0) ∧ (win0_3.index t 0 = 0 ∧ win0_3.index t 1 = 0)
    ∧ (win0_10.index t 0 = 0 ∧ win0_10.index t 1 = 0) ∧ win0_11.index t 0 = 0 ∧ win0_11.index t 1 = 0)

theorem idx_stack : ∀ (t : Fin cfg0.N) (a : Fin 3), win0_4.index t a = 0 ∧ win0_5.index t a = 0 ∧ win0_6.index t a = 0 ∧ win0_8.index t a = 0 ∧ win0_9.index t a = 0 :=
  (by decide +kernel : ∀ (t : Fin grid0.N) (a : Fin 3), win0_4.index t a = 0 ∧ win0_5.index t a = 0 ∧ win0_6.index t a = 0 ∧ win0_8.index t a = 0 ∧ win0_9.index t a = 0)

/-- A point is a block of the sequence. -/
abbrev pt (t : Fin cfg0.N) : Fin 64 := ⟨t.val, lt_of_lt_of_eq t.isLt (by decide)⟩

theorem d_blk (c : Dev nD) (t : Fin cfg0.N) : iblk m c 0 t = rows (d m c) (pt t) := by
  funext j
  obtain ⟨r, k, rfl⟩ : ∃ (r : Fin 128) (k : Fin 2048), j = ix2 r k := ⟨j 0, j 1, eq_ix2 j⟩
  unfold iblk
  rw [View.read_apply]
  refine (congrFun (V_main_arg0 m c) _).trans (congrArg (d m c) (at_eq _ (pos (pt t) r) k ?_ ?_))
  · show win0_0.index t 0 * 128 + 1 * r.val = 128 * t.val + r.val
    rw [(idx_rows t).1.1]; omega
  · show win0_0.index t 1 * 2048 + 1 * k.val = k.val
    rw [(idx_rows t).1.2]; omega

theorem z_blk (c : Dev nD) (t : Fin cfg0.N) : iblk m c 1 t = rows (z m c) (pt t) := by
  funext j
  obtain ⟨r, k, rfl⟩ : ∃ (r : Fin 128) (k : Fin 4096), j = ix2 r k := ⟨j 0, j 1, eq_ix2 j⟩
  unfold iblk
  rw [View.read_apply]
  refine (congrFun (V_main_arg1 m c) _).trans (congrArg (z m c) (at_eq _ (pos (pt t) r) k ?_ ?_))
  · show win0_1.index t 0 * 128 + 1 * r.val = 128 * t.val + r.val
    rw [(idx_rows t).2.1.1]; omega
  · show win0_1.index t 1 * 4096 + 1 * k.val = k.val
    rw [(idx_rows t).2.1.2]; omega

theorem g_blk (c : Dev nD) (t : Fin cfg0.N) : iblk m c 2 t = g m c := by
  funext j
  obtain ⟨r, k, rfl⟩ : ∃ (r : Fin 1) (k : Fin 2048), j = ix2 r k := ⟨j 0, j 1, eq_ix2 j⟩
  unfold iblk
  rw [View.read_apply]
  refine (congrFun (V_main_arg2 m c) _).trans (congrArg (g m c) (at_eq _ r k ?_ ?_))
  · show win0_2.index t 0 * 1 + 1 * r.val = r.val
    rw [(idx_flat t).1.1]; omega
  · show win0_2.index t 1 * 2048 + 1 * k.val = k.val
    rw [(idx_flat t).1.2]; omega

theorem b_blk (c : Dev nD) (t : Fin cfg0.N) : iblk m c 3 t = b m c := by
  funext j
  obtain ⟨r, k, rfl⟩ : ∃ (r : Fin 1) (k : Fin 2048), j = ix2 r k := ⟨j 0, j 1, eq_ix2 j⟩
  unfold iblk
  rw [View.read_apply]
  refine (congrFun (V_main_arg3 m c) _).trans (congrArg (b m c) (at_eq _ r k ?_ ?_))
  · show win0_3.index t 0 * 1 + 1 * r.val = r.val
    rw [(idx_flat t).2.1.1]; omega
  · show win0_3.index t 1 * 2048 + 1 * k.val = k.val
    rw [(idx_flat t).2.1.2]; omega

/-- The place in its array of a place in a block that starts at the array's own. -/
theorem same_at (i : S16x128x128.Idx) (x : Fin 3 → ℕ) (hx : ∀ a, x a = 0) (q : Fin 16) (t s : Fin 128)
    (h0 : (i 0).val = x 0 * 16 + 1 * q.val) (h1 : (i 1).val = x 1 * 128 + 1 * t.val) (h2 : (i 2).val = x 2 * 128 + 1 * s.val) : i = ix3 q t s := by
  rw [hx] at h0 h1 h2
  exact at_eq3 _ _ _ _ (by omega) (by omega) (by omega)

theorem w_blk (c : Dev nD) (t : Fin cfg0.N) : iblk m c 4 t = causal (w m c) := by
  funext j
  obtain ⟨q, r, s, rfl⟩ : ∃ (q : Fin 16) (r s : Fin 128), j = ix3 q r s := ⟨j 0, j 1, j 2, at_eq3 j _ _ _ rfl rfl rfl⟩
  unfold iblk
  rw [View.read_apply]
  exact (congrFun (V_causal m c) _).trans (congrArg (causal (w m c)) (same_at _ (win0_4.index t) (fun a => (idx_stack t a).1) q r s rfl rfl rfl))

theorem wt_blk (c : Dev nD) (t : Fin cfg0.N) : iblk m c 5 t = causalT (w m c) := by
  funext j
  obtain ⟨q, r, s, rfl⟩ : ∃ (q : Fin 16) (r s : Fin 128), j = ix3 q r s := ⟨j 0, j 1, j 2, at_eq3 j _ _ _ rfl rfl rfl⟩
  unfold iblk
  rw [View.read_apply]
  exact (congrFun (V_causalT m c) _).trans (congrArg (causalT (w m c)) (same_at _ (win0_5.index t) (fun a => (idx_stack t a).2.1) q r s rfl rfl rfl))

theorem bs_blk (c : Dev nD) (t : Fin cfg0.N) : iblk m c 6 t = spreadBias (bs m c) := by
  funext j
  obtain ⟨q, r, s, rfl⟩ : ∃ (q : Fin 16) (r s : Fin 128), j = ix3 q r s := ⟨j 0, j 1, j 2, at_eq3 j _ _ _ rfl rfl rfl⟩
  unfold iblk
  rw [View.read_apply]
  exact (congrFun (V_bias m c) _).trans (congrArg (spreadBias (bs m c)) (same_at _ (win0_6.index t) (fun a => (idx_stack t a).2.2.1) q r s rfl rfl rfl))

/-! ## The gradient of `z`, a block a point -/

theorem z_point (c : Dev nD) (t : Fin cfg0.N) (r : Fin 128) (k : Fin 4096) :
    (outsAt0 m c t.val t.isLt).1 (ix2 r k) = gradZ (d m c) (z m c) (g m c) (b m c) (w m c) (bs m c) (ix2 (pos (pt t) r) k) := by
  have key : ∀ y : FVec Ideal S128x4096 .bf16,
      (∀ l : Fin 2048, y (ix2 r (lft l)) = dzu (iblk m c 0 t) (iblk m c 1 t) (iblk m c 2 t) (iblk m c 3 t) (iblk m c 4 t) (iblk m c 6 t) r l
        ∧ y (ix2 r (rgt l)) = dzv (iblk m c 0 t) (iblk m c 1 t) (iblk m c 2 t) (iblk m c 5 t) r l) →
      y (ix2 r k) = gradZ (d m c) (z m c) (g m c) (b m c) (w m c) (bs m c) (ix2 (pos (pt t) r) k) := fun y hy => by
    rw [d_blk, z_blk, g_blk, b_blk, w_blk, wt_blk, bs_blk] at hy
    by_cases h : k.val < 2048
    · obtain ⟨l, rfl⟩ : ∃ l : Fin 2048, k = lft l := ⟨⟨k.val, h⟩, rfl⟩
      exact (hy l).1.trans (gradZ_left _ _ _ _ _ _ _ _ _).symm
    · obtain ⟨l, rfl⟩ : ∃ l : Fin 2048, k = rgt l := ⟨⟨k.val - 2048, by omega⟩, Fin.ext (by show k.val = 2048 + (k.val - 2048); omega)⟩
      exact (hy l).2.trans (gradZ_right _ _ _ _ _ _ _ _ _).symm
  by_cases h0 : t.val % 64 = 0
  · rw [outsAt0_A m c t h0]
    dsimp only
    exact key _ fun l => out_A_7 _ _ _ _ _ _ _ _ _ _ _ _ _ _ _ _ _ _ _ _ _ _ _ _ _ _ _ _ _ _ _ _ _ _ _ _ _ _ r l
  · rw [outsAt0_B m c t h0]
    dsimp only
    exact key _ fun l => out_B_7 _ _ _ _ _ _ _ _ _ _ _ _ _ _ _ _ _ _ _ _ _ _ _ _ _ _ _ _ _ _ _ _ _ _ _ _ _ _ _ _ _ _ r l

abbrev dz (c : Dev nD) : Buf (Elt Ideal) ((c : Thread nD τ).loc main_v8_0) := gradZ (d m c) (z m c) (g m c) (b m c) (w m c) (bs m c)
abbrev dw (c : Dev nD) : Buf (Elt Ideal) ((c : Thread nD τ).loc main_v8_1) := gradW (d m c) (z m c) (g m c) (b m c)
abbrev db (c : Dev nD) : Buf (Elt Ideal) ((c : Thread nD τ).loc main_v8_2) := gradB (d m c) (z m c)
abbrev dg (c : Dev nD) : Buf (Elt Ideal) ((c : Thread nD τ).loc main_v8_3) := gradG (d m c) (z m c) (w m c)
abbrev ds (c : Dev nD) : Buf (Elt Ideal) ((c : Thread nD τ).loc main_v8_4) := gradS (d m c) (z m c) (w m c)

theorem z_flushed (c : Dev nD) (t : Fin cfg0.N) : (dats m 0 c).flushed 7 t = ((cfg0.win 7).blk t).view.read (Elt Ideal) (dz m c) := by
  rw [Value.flushed7]
  funext j
  rw [View.read_apply]
  obtain ⟨r, k, rfl⟩ : ∃ (r : Fin 128) (k : Fin 4096), j = ix2 r k := ⟨j 0, j 1, eq_ix2 j⟩
  have hemb : ((cfg0.win 7).blk t).view.emb (ix2 r k) = (ix2 (pos (pt t) r) k : S8192x4096.Idx) := by
    refine at_eq _ _ _ ?_ ?_
    · show win0_7.index t 0 * 128 + 1 * r.val = 128 * t.val + r.val
      rw [(idx_rows t).2.2.1]; omega
    · show win0_7.index t 1 * 4096 + 1 * k.val = k.val
      rw [(idx_rows t).2.2.2]; omega
  show (outsAt0 m c t.val t.isLt).1 (ix2 r k) = dz m c (((cfg0.win 7).blk t).view.emb (ix2 r k))
  rw [hemb]
  exact z_point m c t r k

theorem z_covered (i : S8192x4096.Idx) : ∃ t : Fin cfg0.N, (cfg0.win 7).flush t = true ∧ i ∈ ((cfg0.win 7).blk t).view.set := by
  have h0 : (i 0).val < 8192 := (i 0).isLt
  have h1 : (i 1).val < 4096 := (i 1).isLt
  let t : Fin cfg0.N := ⟨(i 0).val / 128, lt_of_lt_of_eq (b := 64) (by omega) (by decide)⟩
  have ht : t.val = (i 0).val / 128 := rfl
  refine ⟨t, flush0_7 _, ?_⟩
  show (show S8192x4096.Idx from i) ∈ ((View.whole main_v8_0).slice (win0_7.rect t)).set
  rw [View.set_slice_whole, Rect.mem_set_unit]
  intro a
  match a with
  | ⟨0, _⟩ =>
    show win0_7.index t 0 * 128 ≤ (i 0).val ∧ (i 0).val < win0_7.index t 0 * 128 + 128
    rw [(idx_rows t).2.2.1]; omega
  | ⟨1, _⟩ =>
    show win0_7.index t 1 * 4096 ≤ (i 1).val ∧ (i 1).val < win0_7.index t 1 * 4096 + 4096
    rw [(idx_rows t).2.2.2]; omega

theorem final_z (c : Dev nD) : (dats m 0 c).arrAt 7 cfg0.N = dz m c :=
  (dats m 0 c).arrAt_eq_of_cover 7 (dz m c) (fun t _ => z_flushed m c t) z_covered

/-! ## The four sums over the blocks -/

/-- What is begun at the first point and added to at each later one is, at the last, the sum over the points. -/
theorem run_total {α : Type} (f : (n : ℕ) → n < cfg0.N → α) (v : α → EReal) (s : Fin 64 → EReal)
    (h0 : ∀ t : Fin cfg0.N, t.val % 64 = 0 → v (f t.val t.isLt) = s (pt t))
    (hs : ∀ t : Fin cfg0.N, ¬t.val % 64 = 0 → v (f t.val t.isLt) = v (f (t.val - 1) (Nat.lt_of_le_of_lt (Nat.sub_le _ _) t.isLt)) + s (pt t))
    (t : Fin cfg0.N) (ht : t.val % 64 = 63) : v (f t.val t.isLt) = ∑ q, s q := by
  have key : ∀ (n : ℕ) (h : n < 64) (h' : n < cfg0.N), v (f n h') = ∑ q : Fin (n + 1), s ⟨q.val, by omega⟩ := by
    intro n
    induction n with
    | zero => exact fun h h' => (h0 ⟨0, h'⟩ rfl).trans (Fin.sum_univ_one fun q : Fin 1 => s ⟨q.val, by omega⟩).symm
    | succ n ih =>
      intro h h'
      refine (hs ⟨n + 1, h'⟩ (by show ¬(n + 1) % 64 = 0; omega)).trans ?_
      refine Eq.trans ?_ (Fin.sum_univ_castSucc fun q : Fin (n + 1 + 1) => s ⟨q.val, by omega⟩).symm
      exact congrArg (· + s ⟨n + 1, h⟩) (ih (by omega) (Nat.lt_of_succ_lt h'))
  have hlt := lt_of_lt_of_eq t.isLt (show cfg0.N = 64 from by decide)
  have h63 : t.val = 63 := by omega
  obtain ⟨n, hn⟩ := t
  obtain rfl : n = 63 := h63
  exact key 63 (by omega) hn

theorem w_total (c : Dev nD) (t : Fin cfg0.N) (ht : t.val % 64 = 63) : (outsAt0 m c t.val t.isLt).2.1 = gradW (d m c) (z m c) (g m c) (b m c) := by
  funext i
  refine run_total (outsAt0 m c) (fun x => x.2.1 i) (fun q => dws (rows (d m c) q) (rows (z m c) q) (g m c) (b m c) (i 0) (i 1) (i 2)) (fun t h0 => ?_) (fun t h0 => ?_) t ht
  · show (outsAt0 m c t.val t.isLt).2.1 i = _
    rw [outsAt0_A m c t h0]
    dsimp only
    rw [out_A_8, d_blk, z_blk, g_blk, b_blk]
    exact zero_add _
  · show (outsAt0 m c t.val t.isLt).2.1 i = _
    rw [outsAt0_B m c t h0]
    dsimp only
    rw [out_B_8, d_blk, z_blk, g_blk, b_blk]
    exact rfl

theorem b_total (c : Dev nD) (t : Fin cfg0.N) (ht : t.val % 64 = 63) : (outsAt0 m c t.val t.isLt).2.2.1 = gradB (d m c) (z m c) := by
  funext i
  refine run_total (outsAt0 m c) (fun x => x.2.2.1 i) (fun q => dbs (rows (d m c) q) (rows (z m c) q) (i 0) (i 1)) (fun t h0 => ?_) (fun t h0 => ?_) t ht
  · show (outsAt0 m c t.val t.isLt).2.2.1 i = _
    rw [outsAt0_A m c t h0]
    dsimp only
    rw [out_A_9, d_blk, z_blk]
    exact zero_add _
  · show (outsAt0 m c t.val t.isLt).2.2.1 i = _
    rw [outsAt0_B m c t h0]
    dsimp only
    rw [out_B_9, d_blk, z_blk]
    rfl

theorem g_total (c : Dev nD) (t : Fin cfg0.N) (ht : t.val % 64 = 63) (k : Fin 2048) : (outsAt0 m c t.val t.isLt).2.2.2.1 (ix2 0 k) = gradG (d m c) (z m c) (w m c) (ix2 0 k) := by
  refine run_total (outsAt0 m c) (fun x => x.2.2.2.1 (ix2 0 k)) (fun q => dlg (rows (d m c) q) (rows (z m c) q) (causalT (w m c)) k) (fun t h0 => ?_) (fun t h0 => ?_) t ht
  · show (outsAt0 m c t.val t.isLt).2.2.2.1 (ix2 0 k) = _
    rw [outsAt0_A m c t h0]
    dsimp only
    rw [out_A_10, d_blk, z_blk, wt_blk]
  · show (outsAt0 m c t.val t.isLt).2.2.2.1 (ix2 0 k) = _
    rw [outsAt0_B m c t h0]
    dsimp only
    rw [out_B_10, d_blk, z_blk, wt_blk]

theorem s_total (c : Dev nD) (t : Fin cfg0.N) (ht : t.val % 64 = 63) (k : Fin 2048) : (outsAt0 m c t.val t.isLt).2.2.2.2 (ix2 0 k) = gradS (d m c) (z m c) (w m c) (ix2 0 k) := by
  refine run_total (outsAt0 m c) (fun x => x.2.2.2.2 (ix2 0 k)) (fun q => dlb (rows (d m c) q) (rows (z m c) q) (causalT (w m c)) k) (fun t h0 => ?_) (fun t h0 => ?_) t ht
  · show (outsAt0 m c t.val t.isLt).2.2.2.2 (ix2 0 k) = _
    rw [outsAt0_A m c t h0]
    dsimp only
    rw [out_A_11, d_blk, z_blk, wt_blk]
  · show (outsAt0 m c t.val t.isLt).2.2.2.2 (ix2 0 k) = _
    rw [outsAt0_B m c t h0]
    dsimp only
    rw [out_B_11, d_blk, z_blk, wt_blk]

abbrev lastPt : Fin cfg0.N := ⟨63, by decide⟩

theorem w_flushed (c : Dev nD) (t : Fin cfg0.N) (ht : (cfg0.win 8).flush t = true) :
    (dats m 0 c).flushed 8 t = ((cfg0.win 8).blk t).view.read (Elt Ideal) (dw m c) := by
  rw [Value.flushed8, w_total m c t ((flush0_8 t).mp ht)]
  funext j
  rw [View.read_apply]
  obtain ⟨q, r, s, rfl⟩ : ∃ (q : Fin 16) (r s : Fin 128), j = ix3 q r s := ⟨j 0, j 1, j 2, at_eq3 j _ _ _ rfl rfl rfl⟩
  exact congrArg (dw m c) (same_at (((cfg0.win 8).blk t).view.emb (ix3 q r s)) (win0_8.index t) (fun a => (idx_stack t a).2.2.2.1) q r s rfl rfl rfl).symm

theorem final_w (c : Dev nD) : (dats m 0 c).arrAt 8 cfg0.N = dw m c :=
  (dats m 0 c).arrAt_eq_of_cover 8 (dw m c) (w_flushed m c) fun i => by
    refine ⟨lastPt, (flush0_8 lastPt).mpr rfl, ?_⟩
    show (show S16x128x128.Idx from i) ∈ ((View.whole main_v8_1).slice (win0_8.rect lastPt)).set
    rw [View.set_slice_whole, Rect.mem_set_unit]
    intro a
    have hx : win0_8.index lastPt a = 0 := (idx_stack lastPt a).2.2.2.1
    exact ⟨by show win0_8.index lastPt a * _ ≤ _; rw [hx]; omega, by
      show ((show S16x128x128.Idx from i) a).val < win0_8.index lastPt a * _ + S16x128x128.size a
      rw [hx, zero_mul, zero_add]
      exact ((show S16x128x128.Idx from i) a).isLt⟩

theorem b_flushed (c : Dev nD) (t : Fin cfg0.N) (ht : (cfg0.win 9).flush t = true) :
    (dats m 0 c).flushed 9 t = ((cfg0.win 9).blk t).view.read (Elt Ideal) (db m c) := by
  rw [Value.flushed9, b_total m c t ((flush0_9 t).mp ht)]
  funext j
  rw [View.read_apply]
  obtain ⟨q, r, s, rfl⟩ : ∃ (q : Fin 16) (r s : Fin 128), j = ix3 q r s := ⟨j 0, j 1, j 2, at_eq3 j _ _ _ rfl rfl rfl⟩
  exact congrArg (db m c) (same_at (((cfg0.win 9).blk t).view.emb (ix3 q r s)) (win0_9.index t) (fun a => (idx_stack t a).2.2.2.2) q r s rfl rfl rfl).symm

theorem final_b (c : Dev nD) : (dats m 0 c).arrAt 9 cfg0.N = db m c :=
  (dats m 0 c).arrAt_eq_of_cover 9 (db m c) (b_flushed m c) fun i => by
    refine ⟨lastPt, (flush0_9 lastPt).mpr rfl, ?_⟩
    show (show S16x128x128.Idx from i) ∈ ((View.whole main_v8_2).slice (win0_9.rect lastPt)).set
    rw [View.set_slice_whole, Rect.mem_set_unit]
    intro a
    have hx : win0_9.index lastPt a = 0 := (idx_stack lastPt a).2.2.2.2
    exact ⟨by show win0_9.index lastPt a * _ ≤ _; rw [hx]; omega, by
      show ((show S16x128x128.Idx from i) a).val < win0_9.index lastPt a * _ + S16x128x128.size a
      rw [hx, zero_mul, zero_add]
      exact ((show S16x128x128.Idx from i) a).isLt⟩

theorem g_flushed (c : Dev nD) (t : Fin cfg0.N) (ht : (cfg0.win 10).flush t = true) :
    (dats m 0 c).flushed 10 t = ((cfg0.win 10).blk t).view.read (Elt Ideal) (dg m c) := by
  rw [Value.flushed10]
  funext j
  rw [View.read_apply]
  obtain ⟨r, k, rfl⟩ : ∃ (r : Fin 1) (k : Fin 2048), j = ix2 r k := ⟨j 0, j 1, eq_ix2 j⟩
  obtain rfl : r = 0 := Subsingleton.elim _ _
  have hemb : ((cfg0.win 10).blk t).view.emb (ix2 0 k) = (ix2 0 k : S1x2048.Idx) := by
    refine at_eq _ _ _ ?_ ?_
    · show win0_10.index t 0 * 1 + 1 * 0 = 0
      rw [(idx_flat t).2.2.1.1]
    · show win0_10.index t 1 * 2048 + 1 * k.val = k.val
      rw [(idx_flat t).2.2.1.2]; omega
  show (outsAt0 m c t.val t.isLt).2.2.2.1 (ix2 0 k) = dg m c (((cfg0.win 10).blk t).view.emb (ix2 0 k))
  rw [hemb]
  exact g_total m c t ((flush0_10 t).mp ht) k

theorem final_g (c : Dev nD) : (dats m 0 c).arrAt 10 cfg0.N = dg m c :=
  (dats m 0 c).arrAt_eq_of_cover 10 (dg m c) (g_flushed m c) fun i => by
    refine ⟨lastPt, (flush0_10 lastPt).mpr rfl, ?_⟩
    show (show S1x2048.Idx from i) ∈ ((View.whole main_v8_3).slice (win0_10.rect lastPt)).set
    rw [View.set_slice_whole, Rect.mem_set_unit]
    have h0 : ((show S1x2048.Idx from i) 0).val < 1 := ((show S1x2048.Idx from i) 0).isLt
    have h1 : ((show S1x2048.Idx from i) 1).val < 2048 := ((show S1x2048.Idx from i) 1).isLt
    intro a
    match a with
    | ⟨0, _⟩ =>
      show win0_10.index lastPt 0 * 1 ≤ ((show S1x2048.Idx from i) 0).val ∧ ((show S1x2048.Idx from i) 0).val < win0_10.index lastPt 0 * 1 + 1
      rw [(idx_flat lastPt).2.2.1.1]; omega
    | ⟨1, _⟩ =>
      show win0_10.index lastPt 1 * 2048 ≤ ((show S1x2048.Idx from i) 1).val ∧ ((show S1x2048.Idx from i) 1).val < win0_10.index lastPt 1 * 2048 + 2048
      rw [(idx_flat lastPt).2.2.1.2]; omega

theorem s_flushed (c : Dev nD) (t : Fin cfg0.N) (ht : (cfg0.win 11).flush t = true) :
    (dats m 0 c).flushed 11 t = ((cfg0.win 11).blk t).view.read (Elt Ideal) (ds m c) := by
  rw [Value.flushed11]
  funext j
  rw [View.read_apply]
  obtain ⟨r, k, rfl⟩ : ∃ (r : Fin 1) (k : Fin 2048), j = ix2 r k := ⟨j 0, j 1, eq_ix2 j⟩
  obtain rfl : r = 0 := Subsingleton.elim _ _
  have hemb : ((cfg0.win 11).blk t).view.emb (ix2 0 k) = (ix2 0 k : S1x2048.Idx) := by
    refine at_eq _ _ _ ?_ ?_
    · show win0_11.index t 0 * 1 + 1 * 0 = 0
      rw [(idx_flat t).2.2.2.1]
    · show win0_11.index t 1 * 2048 + 1 * k.val = k.val
      rw [(idx_flat t).2.2.2.2]; omega
  show (outsAt0 m c t.val t.isLt).2.2.2.2 (ix2 0 k) = ds m c (((cfg0.win 11).blk t).view.emb (ix2 0 k))
  rw [hemb]
  exact s_total m c t ((flush0_11 t).mp ht) k

theorem final_s (c : Dev nD) : (dats m 0 c).arrAt 11 cfg0.N = ds m c :=
  (dats m 0 c).arrAt_eq_of_cover 11 (ds m c) (s_flushed m c) fun i => by
    refine ⟨lastPt, (flush0_11 lastPt).mpr rfl, ?_⟩
    show (show S1x2048.Idx from i) ∈ ((View.whole main_v8_4).slice (win0_11.rect lastPt)).set
    rw [View.set_slice_whole, Rect.mem_set_unit]
    have h0 : ((show S1x2048.Idx from i) 0).val < 1 := ((show S1x2048.Idx from i) 0).isLt
    have h1 : ((show S1x2048.Idx from i) 1).val < 2048 := ((show S1x2048.Idx from i) 1).isLt
    intro a
    match a with
    | ⟨0, _⟩ =>
      show win0_11.index lastPt 0 * 1 ≤ ((show S1x2048.Idx from i) 0).val ∧ ((show S1x2048.Idx from i) 0).val < win0_11.index lastPt 0 * 1 + 1
      rw [(idx_flat lastPt).2.2.2.1]; omega
    | ⟨1, _⟩ =>
      show win0_11.index lastPt 1 * 2048 ≤ ((show S1x2048.Idx from i) 1).val ∧ ((show S1x2048.Idx from i) 1).val < win0_11.index lastPt 1 * 2048 + 2048
      rw [(idx_flat lastPt).2.2.2.2]; omega

end Cert.KernelIdeal.Sgu

namespace Cert.ReferenceIdeal.Read

open Cert.ReferenceIdeal Cert.ReferenceIdeal.Gen Idealize.ShloMosaic Idealize.ShloMosaic.TcCoe Idealize.SL.Sem Idealize.ShloMosaic.StableHlo

/-- The reference's run, its results as functions of the arguments. -/
theorem run_vals (m : (l : Loc nD τ sig) → Buf (Elt Ideal) l) (ρ : Dev nD → PrngReg) :
    θ_run defs (onTc (τ := τ) (main (F := Ideal))) ⟨m, fun _ => 0, ρ⟩ fun r => ∀ c : Dev nD,
      r.2.mem ((c.tc : Thread nD τ).loc main_v125) = val_main_v125 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v77) = val_main_v77 (F := Ideal) (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v127) = val_main_v127 (F := Ideal) (m ((c.tc : Thread nD τ).loc main_arg0)) (m ((c.tc : Thread nD τ).loc main_arg1))
      ∧ r.2.mem ((c.tc : Thread nD τ).loc main_v83) = val_main_v83 (F := Ideal) (m ((c.tc : Thread nD τ).loc main_arg0)) (m ((c.tc : Thread nD τ).loc main_arg1)) (m ((c.tc : Thread nD τ).loc main_arg4))
      ∧ r.2.mem ((c.tc : Thread nD τ).loc main_v80) = val_main_v80 (F := Ideal) (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v125_eq (launchContents m c)), (h c).2.1.trans (val_main_v77_eq (launchContents m c)),
    (h c).2.2.1.trans (val_main_v127_eq (launchContents m c)), (h c).2.2.2.1.trans (val_main_v83_eq (launchContents m c)),
    (h c).2.2.2.2.1.trans (val_main_v80_eq (launchContents m c)), (h c).2.2.2.2.2⟩) (Cert.ReferenceIdeal.Value.run m ρ)

end Cert.ReferenceIdeal.Read

namespace Cert.Pre_finite

open Cert.Pre_finite Cert.Pre_finite.Gen Idealize.ShloMosaic Cert.Products Cert.Reals Cert.Gating

/-- The precondition says that every element of the six arguments is real. -/
theorem reals (x0 : Mat 8192 2048) (x1 : Mat 8192 4096) (x2 x3 : Mat 1 2048) (x4 : Stack) (x5 : Mat 16 128) (h : fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i)) ∧ ∀ i, IsReal (x5 i) := by
  haveI : Subsingleton S_.Idx := ⟨fun a b => funext fun k => k.elim0⟩
  have e := congrFun h (fun a => a.elim0)
  unfold fn fn_part1 at e
  dsimp only at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨isReal_of_all x0 _ _ _ _ _ _ e0, isReal_of_all x1 _ _ _ _ _ _ e1, isReal_of_all x2 _ _ _ _ _ _ e2, isReal_of_all x3 _ _ _ _ _ _ e3,
    isReal_of_all x4 _ _ _ _ _ _ e4, isReal_of_all x5 _ _ _ _ _ _ e5⟩

end Cert.Pre_finite

end
-- ==== Proof.Forget.lean ====
/- The forget gates' gradient: the sum of a column from a row on, over bands of rows and as a window sum; the logistic function as the
   logarithm's gradient gives it; and the kernel at one point of its grid. -/
module

public import proofs.«01_k».proof.Proof.Norms
public import Idealize.ShloMosaic.Lib.Routing.OpsOne

@[expose] public section

noncomputable section

namespace Cert.Forget

open Idealize.ShloMosaic Cert.Products Cert.Reals Cert.Norms

/-- The sum of a column from row `t` on. -/
def onward {T n : ℕ} (x : Mat T n) (t : Fin T) (k : Fin n) : EReal := ∑ u : Fin T, if t.val ≤ u.val then x (ix2 u k) else 0

/-- The gates' gradient before the logistic function's argument, from that of the running sum of their logarithms. -/
def gateGrad {T n : ℕ} (d f : Mat T n) (b : Mat 1 n) : Mat T n := fun i => onward d (i 0) (i 1) * sigm (-(f (ix2 (i 0) (i 1)) + b (ix2 0 (i 1))))

/-! ## Bands -/

section Bands

variable {T N R n : ℕ} (hT : T = N * R) (x : Mat T n)
include hT

/-- What the bands after band `p` hold of a column. -/
def beyond (p : Fin N) (k : Fin n) : EReal := ∑ q : Fin N, if p.val < q.val then sumRows (band hT x q) (ix2 0 k) else 0

/-- The sum from a row on is the row's band's own, and the bands after it. -/
theorem onward_band (p : Fin N) (r : Fin R) (k : Fin n) : onward x (at_band hT p r) k = onward (band hT x p) r k + beyond hT x p k := by
  unfold onward beyond
  rw [sum_bands hT]
  have own : onward (band hT x p) r k = ∑ q : Fin N, if q = p then onward (band hT x q) r k else 0 := by
    rw [Finset.sum_ite_eq' Finset.univ p fun q => onward (band hT x q) r k, if_pos (Finset.mem_univ p)]
  unfold onward at own
  rw [own, ← Finset.sum_add_distrib]
  refine Finset.sum_congr rfl fun q _ => ?_
  have hr := r.isLt
  rcases lt_trichotomy q.val p.val with h | h | h
  · rw [if_neg (fun e => by rw [e] at h; exact lt_irrefl _ h), if_neg (by omega), add_zero]
    refine Finset.sum_eq_zero fun u _ => if_neg ?_
    have hu := u.isLt
    have := Nat.mul_le_mul_left R (show q.val + 1 ≤ p.val from h)
    rw [Nat.mul_add, Nat.mul_one] at this
    show ¬R * p.val + r.val ≤ R * q.val + u.val
    omega
  · obtain rfl : q = p := Fin.ext h
    rw [if_pos rfl, if_neg (lt_irrefl _), add_zero]
    refine Finset.sum_congr rfl fun u _ => ?_
    exact if_congr (show R * q.val + r.val ≤ R * q.val + u.val ↔ r.val ≤ u.val by omega) rfl rfl
  · rw [if_neg (fun e => by rw [e] at h; exact lt_irrefl _ h), if_pos h, zero_add]
    refine Finset.sum_congr rfl fun u _ => if_pos ?_
    have := Nat.mul_le_mul_left R (show p.val + 1 ≤ q.val from h)
    rw [Nat.mul_add, Nat.mul_one] at this
    show R * p.val + r.val ≤ R * q.val + u.val
    omega

end Bands

/-! ## The bands taken from the last to the first -/

section Run

variable {α : Type} {P K : ℕ} (hP : P = K) (f : (n : ℕ) → n < P → α) (v : α → EReal) (s : Fin K → EReal)
  (h0 : ∀ t : Fin P, t.val % K = 0 → v (f t.val t.isLt) = s ⟨t.val, lt_of_lt_of_eq t.isLt hP⟩)
  (hs : ∀ t : Fin P, ¬t.val % K = 0 → v (f t.val t.isLt)
    = v (f (t.val - 1) (Nat.lt_of_le_of_lt (Nat.sub_le _ _) t.isLt)) + s ⟨t.val, lt_of_lt_of_eq t.isLt hP⟩)
include h0 hs

/-- What is begun at the first point and added to at each later one is, at a point, the sum over the points up to it. -/
theorem up_to (n : ℕ) (h : n < K) (h' : n < P) : v (f n h') = ∑ q : Fin K, if q.val ≤ n then s q else 0 := by
  have one (a : Fin K) : ∑ q : Fin K, (if q = a then s q else 0) = s a := by
    rw [Finset.sum_ite_eq' Finset.univ a s, if_pos (Finset.mem_univ a)]
  induction n with
  | zero =>
    rw [h0 ⟨0, h'⟩ (Nat.zero_mod _), ← one]
    exact Finset.sum_congr rfl fun q _ => if_congr (by rw [Fin.ext_iff]; exact Nat.le_zero.symm) rfl rfl
  | succ n ih =>
    rw [hs ⟨n + 1, h'⟩ (by show ¬(n + 1) % K = 0; rw [Nat.mod_eq_of_lt h]; omega)]
    show v (f n (Nat.lt_of_succ_lt h')) + s ⟨n + 1, h⟩ = _
    rw [ih (by omega) (Nat.lt_of_succ_lt h'), ← one, ← Finset.sum_add_distrib]
    refine Finset.sum_congr rfl fun q _ => ?_
    rcases lt_trichotomy q.val (n + 1) with hq | hq | hq
    · rw [if_pos (by omega), if_neg (by rw [Fin.ext_iff]; exact hq.ne), if_pos (by omega), add_zero]
    · rw [if_neg (by omega), if_pos (Fin.ext hq), if_pos (by omega), zero_add]
    · rw [if_neg (by omega), if_neg (by rw [Fin.ext_iff]; exact hq.ne'), if_neg (by omega), add_zero]

end Run

/-- Before the point that takes band `p`, the points have taken the bands after `p`. -/
theorem taken {T N R n : ℕ} (hT : T = N * R) (x : Mat T n) (t : Fin N) (k : Fin n) (ht : t.val ≠ 0) :
    (∑ q : Fin N, if q.val ≤ t.val - 1 then sumRows (band hT x q.rev) (ix2 0 k) else 0) = beyond hT x t.rev k := by
  unfold beyond
  rw [← Equiv.sum_comp Fin.revPerm]
  refine Finset.sum_congr rfl fun q _ => ?_
  have hq := q.isLt
  have htl := t.isLt
  rw [Fin.revPerm_apply, Fin.rev_rev]
  exact if_congr (by rw [Fin.val_rev, Fin.val_rev]; omega) rfl rfl

theorem none_taken {T N R n : ℕ} (hT : T = N * R) (x : Mat T n) (t : Fin N) (k : Fin n) (ht : t.val = 0) : beyond hT x t.rev k = 0 := by
  refine Finset.sum_eq_zero fun q _ => if_neg ?_
  have hq := q.isLt
  rw [Fin.val_rev]
  omega

/-! ## The window sum -/

theorem foldl_add {ι : Type} (g : ι → EReal) (l : List ι) (v : EReal) : l.foldl (fun r n => r + g n) v = v + (l.map g).sum := by
  induction l generalizing v with
  | nil => exact (add_zero v).symm
  | cons a l ih => rw [List.foldl_cons, ih, List.map_cons, List.sum_cons, add_assoc]

/-- The terms `t` places on, where there are such, are the terms from `t` on. -/
theorem sum_shift {T : ℕ} (X : ℕ → EReal) (t : Fin T) :
    (∑ n : Fin T, if t.val + n.val < T then X (t.val + n.val) else 0) = ∑ u : Fin T, if t.val ≤ u.val then X u.val else 0 := by
  rw [← Finset.sum_filter, ← Finset.sum_filter]
  refine Finset.sum_bij' (fun n hn => ⟨t.val + n.val, (Finset.mem_filter.mp hn).2⟩)
    (fun u _ => ⟨u.val - t.val, Nat.lt_of_le_of_lt (Nat.sub_le _ _) u.isLt⟩) ?_ ?_ ?_ ?_ ?_
  · intro n hn
    exact Finset.mem_filter.mpr ⟨Finset.mem_univ _, Nat.le_add_right _ _⟩
  · intro u hu
    have hu := (Finset.mem_filter.mp hu).2
    refine Finset.mem_filter.mpr ⟨Finset.mem_univ _, ?_⟩
    show t.val + (u.val - t.val) < T
    have := u.isLt
    omega
  · intro n hn
    exact Fin.ext (by show t.val + n.val - t.val = n.val; omega)
  · intro u hu
    have hu := (Finset.mem_filter.mp hu).2
    exact Fin.ext (by show t.val + (u.val - t.val) = u.val; omega)
  · intro n hn
    rfl

/-- A column's element, zero past its end. -/
def colAt {T n : ℕ} (x : Mat T n) (k : Fin n) (u : ℕ) : EReal := if h : u < T then x (ix2 ⟨u, h⟩ k) else 0

theorem colAt_val {T n : ℕ} (x : Mat T n) (k : Fin n) (u : Fin T) : colAt x k u.val = x (ix2 u k) := dif_pos u.isLt

/-- The window sum over a column, the window as tall as the column and padded at its end, from zero. -/
theorem window_onward {T H c : ℕ} (x : Mat T c) (h : (M T c).ReduceWindows (![T, 1] : Fin 2 → Nat) ![1, 1] ![0, 0] ![H, 0] (M T c)) (t : Fin T) (k : Fin c) :
    Ideal.hostReduceWindowAdd ![T, 1] ![1, 1] ![0, 0] ![H, 0] h x 0 (ix2 t k) = onward x t k := by
  unfold Ideal.hostReduceWindowAdd Host.reduceWindow
  dsimp only
  rw [foldl_add, zero_add, ← Fin.sum_univ_def]
  have e : onward x t k = ∑ n : Fin T, if t.val + n.val < T then colAt x k (t.val + n.val) else 0 := by
    rw [sum_shift]
    exact Finset.sum_congr rfl fun u _ => if_congr Iff.rfl (colAt_val x k u).symm rfl
  rw [e]
  refine Fintype.sum_equiv (finCongr (Routing.numel_col T)) _ _ fun n => ?_
  have hw0 : ((M T 1).rowMajor.symm n 0).val = n.val := by rw [Routing.symm_col]; rfl
  have hw1 : ((M T 1).rowMajor.symm n 1).val = 0 := by rw [Routing.symm_col]; rfl
  have hk := k.isLt
  show _ = if t.val + n.val < T then colAt x k (t.val + n.val) else 0
  split
  · next hin =>
    have h0 := hin 0
    change 0 ≤ t.val * 1 + ((M T 1).rowMajor.symm n 0).val ∧ t.val * 1 + ((M T 1).rowMajor.symm n 0).val - 0 < T at h0
    rw [hw0] at h0
    have hlt : t.val + n.val < T := by omega
    rw [if_pos hlt]
    refine Eq.trans (congrArg x ?_) (colAt_val x k ⟨t.val + n.val, hlt⟩).symm
    refine at_eq _ _ _ ?_ ?_
    · show t.val * 1 + ((M T 1).rowMajor.symm n 0).val - 0 = t.val + n.val
      rw [hw0]
      omega
    · show k.val * 1 + ((M T 1).rowMajor.symm n 1).val - 0 = k.val
      rw [hw1]
      omega
  · next hin =>
    rw [if_neg fun hlt => hin fun a => by
      match a with
      | ⟨0, _⟩ =>
        show 0 ≤ t.val * 1 + ((M T 1).rowMajor.symm n 0).val ∧ t.val * 1 + ((M T 1).rowMajor.symm n 0).val - 0 < T
        rw [hw0]
        omega
      | ⟨1, _⟩ =>
        show 0 ≤ k.val * 1 + ((M T 1).rowMajor.symm n 1).val ∧ k.val * 1 + ((M T 1).rowMajor.symm n 1).val - 0 < c
        rw [hw1]
        omega]

/-! ## The logistic function -/

theorem real_max (a b : ℝ) : ((max a b : ℝ) : EReal) = max (a : EReal) (b : EReal) := EReal.coe_strictMono.monotone.map_max

/-- The reference's `log(exp x + 1)`. -/
def soft (x : EReal) : EReal := max x 0 + Ideal.log1p (Ideal.exp (-max x (-x)))

/-- The exponential of `x` less that is the logistic function of `x`. -/
theorem soft_eq (r : ℝ) : Ideal.exp ((r : EReal) - soft (r : EReal)) = sigm (r : EReal) ∧ IsReal (soft (r : EReal)) := by
  unfold soft
  have hp : 0 < 1 + Real.exp (-max r (-r)) := by positivity
  have hl : max (r : EReal) 0 + Ideal.log1p (Ideal.exp (-max (r : EReal) (-(r : EReal)))) = ((max r 0 + Real.log (1 + Real.exp (-max r (-r))) : ℝ) : EReal) := by
    rw [← EReal.coe_neg r, ← real_max, ← EReal.coe_neg, Ideal.exp_coe]
    unfold Ideal.log1p
    rw [← EReal.coe_one, ← EReal.coe_add, Ideal.log_coe, if_neg (not_le.mpr hp), ← EReal.coe_zero, ← real_max, ← EReal.coe_add]
  rw [hl]
  refine ⟨?_, isReal_coe _⟩
  rw [← EReal.coe_sub, Ideal.exp_coe, sigm_coe]
  refine congrArg _ ?_
  rw [Real.exp_sub, Real.exp_add, Real.exp_log hp, div_eq_div_iff (by positivity) (by positivity)]
  rcases le_total 0 r with h | h
  · rw [max_eq_left h, max_eq_left (by linarith)]
    ring
  · rw [max_eq_right h, max_eq_right (by linarith), neg_neg, Real.exp_zero, mul_add, ← Real.exp_add]
    simp [add_comm]

theorem exp_bot : Ideal.exp ⊥ = 0 := rfl

theorem exp_top : Ideal.exp ⊤ = ⊤ := rfl

theorem log1p_zero : Ideal.log1p 0 = 0 := by
  unfold Ideal.log1p
  rw [add_zero, ← EReal.coe_one, Ideal.log_coe, if_neg (by norm_num), Real.log_one, EReal.coe_zero]

theorem soft_bot : soft ⊥ = 0 := by
  unfold soft
  rw [EReal.neg_bot, max_eq_right bot_le, max_eq_right bot_le, EReal.neg_top, exp_bot, log1p_zero, add_zero]

theorem soft_top : soft ⊤ = ⊤ := by
  unfold soft
  rw [EReal.neg_top, max_eq_left le_top, max_eq_left le_top, EReal.neg_top, exp_bot, log1p_zero, add_zero]

theorem sigm_bot : sigm ⊥ = Ideal.exp ⊥ := by
  unfold sigm
  rw [EReal.neg_bot, exp_top, exp_bot, ← EReal.coe_one, EReal.coe_add_top]
  unfold Ideal.div
  simp

theorem sigm_top : sigm ⊤ = Ideal.exp 0 := by
  unfold sigm
  rw [EReal.neg_top, exp_bot, add_zero, ← EReal.coe_one, Ideal.div_coe, ← EReal.coe_zero, Ideal.exp_coe, Real.exp_zero, div_one, ← EReal.coe_mul, one_mul]
  exact one_ne_zero

end Cert.Forget

end
-- ==== Proof.ForgetTile.lean ====
/- The forget gates' backward kernel at one point of its grid: from a band of 512 rows and what the bands after it sum to, the band's
   rows of the gates' gradient and the sums over its rows. -/
module

public import proofs.«01_k».proof.Proof.Gen.Kernel18Ideal.Value
public import proofs.«01_k».proof.Proof.Tiles
public import proofs.«01_k».proof.Proof.Forget

@[expose] public section

set_option maxRecDepth 16384

noncomputable section

namespace Cert.Kernel18Ideal.Forget

open Cert.Kernel18Ideal Cert.Kernel18Ideal.Gen Idealize.ShloMosaic Idealize.ShloMosaic.TcCoe Idealize.SL.Sem Idealize.ShloMosaic.StableHlo
open Cert.Products Cert.Reals Cert.Gating Cert.Norms Cert.Forget

section Values

/-- Ones on and above the diagonal. -/
def upper : FVec Ideal S512x512 .bf16 :=
  truncf .bf16 (sitofp .f32 (extui 32 (cmpi .sle (iota .tc S512x512 32 [0] iota_S512x512_d0_w32) (iota .tc S512x512 32 [1] iota_S512x512_d1_w32)) natLt_1_32) : FVec Ideal S512x512 .f32) bitsLt_bf16_f32

theorem word_val : ∀ r : Fin 512, (BitVec.ofNat 32 (0 * 512 + r.val)).toInt = r.val := by
  decide +kernel

theorem upper_apply (r u : Fin 512) : upper (ix2 r u) = if r.val ≤ u.val then 1 else 0 := by
  have e : IntOp.cmpi CmpIPredicate.sle (BitVec.ofNat 32 (0 * 512 + r.val)) (BitVec.ofNat 32 (0 * 512 + u.val)) = BitVec.ofBool (decide (r.val ≤ u.val)) := by
    show BitVec.ofBool (BitVec.sle _ _) = _
    refine congrArg _ ?_
    unfold BitVec.sle
    rw [word_val, word_val]
    exact decide_eq_decide.mpr Int.ofNat_le
  show (((IntOp.cmpi CmpIPredicate.sle (BitVec.ofNat 32 (0 * 512 + r.val)) (BitVec.ofNat 32 (0 * 512 + u.val))).setWidth 32).toInt : ℝ) = (_ : EReal)
  rw [e]
  by_cases h : r.val ≤ u.val <;> simp [h]

variable (d f : FVec Ideal S512x128 .f32) (carry b acc : FVec Ideal S1x128 .f32) (r : Fin 512) (k : Fin 128)

theorem upper_sum (x : FVec Ideal S512x128 .f32) : (∑ u : Fin 512, upper (ix2 r u) * x (ix2 u k)) = onward x r k := by
  unfold onward
  refine Finset.sum_congr rfl fun u _ => ?_
  rw [upper_apply, ite_mul, one_mul, zero_mul]

theorem pay2_apply : k0_pay2 (F := Ideal) d carry (ix2 0 k) = carry (ix2 0 k) + sumRows d (ix2 0 k) := by
  show _ = _ + ∑ t : Fin 512, d (ix2 t k)
  pointwise [k0_pay2]

theorem pay1_apply : k0_pay1 (F := Ideal) d acc (ix2 0 k) = acc (ix2 0 k) + sumRows d (ix2 0 k) := by
  show _ = _ + ∑ t : Fin 512, d (ix2 t k)
  pointwise [k0_pay1]

/-- The gradient the kernel computes from a band: what of the column is in the band from the row on and what is beyond it, by the logistic function. -/
def tile : Mat 512 128 := fun i => (onward d (i 0) (i 1) + carry (ix2 0 (i 1))) * sigm (-(f (ix2 (i 0) (i 1)) + b (ix2 0 (i 1))))

/-- The product with the triangle is taken of the band and of what rounding took from it, which over the reals is nothing. -/
theorem pay5_apply (hd : ∀ i, IsReal (d i)) : k0_pay5 (F := Ideal) d carry f b (ix2 r k) = tile d f carry b (ix2 r k) := by
  have s0 (u : Fin 512) : d (ix2 u k) - d (ix2 u k) = 0 := by
    obtain ⟨a, ha⟩ := hd (ix2 u k)
    rw [ha]
    exact EReal.sub_self (EReal.coe_ne_top _) (EReal.coe_ne_bot _)
  have full : k0_pay5 (F := Ideal) d carry f b (ix2 r k)
      = ((∑ u : Fin 512, upper (ix2 r u) * d (ix2 u k)) + (∑ u : Fin 512, upper (ix2 r u) * (d (ix2 u k) - d (ix2 u k)))
          + (∑ u : Fin 512, upper (ix2 r u) * ((d (ix2 u k) - d (ix2 u k)) - (d (ix2 u k) - d (ix2 u k)))) + carry (ix2 0 k))
        * Ideal.div (Ideal.ofBits .f32 0x3F800000#32) (Ideal.ofBits .f32 0x3F800000#32 + Ideal.exp (0 - (0 - (f (ix2 r k) + b (ix2 0 k))))) := by
    unfold upper
    pointwise [k0_pay5]
  rw [full, upper_sum]
  simp only [s0, sub_zero, mul_zero, Finset.sum_const_zero, add_zero, zero_sub]
  show _ = (onward d r k + carry (ix2 0 k)) * sigm (-(f (ix2 r k) + b (ix2 0 k)))
  unfold sigm
  rw [one_eq]
  rfl

end Values

section Point

variable (c : Dev nD) (i : grid0.Coords) (arg1 : Memref sig .tc .vmem S512x128 .f32) (harg1 : arg1.IsWhole) (arg2 : Memref sig .tc .vmem S512x128 .f32) (harg2 : arg2.IsWhole)
  (arg3 : Memref sig .tc .vmem S1x128 .f32) (harg3 : arg3.IsWhole) (arg4 : Memref sig .tc .vmem S512x128 .f32) (harg4 : arg4.IsWhole)
  (arg5 : Memref sig .tc .vmem S1x128 .f32) (harg5 : arg5.IsWhole) (arg6 : Memref sig .tc .vmem S1x128 .f32) (harg6 : arg6.IsWhole)
  (x0 x1 : Vec Ideal S512x128 .f32) (x2 xo4 xs0 : Vec Ideal S1x128 .f32) (hx : ∀ i, IsReal (x0 i)) (k : Fin 128)

theorem zero_row : (k0_pay3 (F := Ideal)) = fun _ => (0 : EReal) := by
  funext j
  obtain ⟨k, rfl⟩ : ∃ k : Fin 128, j = ix2 0 k := ⟨j 1, eq_row j⟩
  pointwise [k0_pay3]

section First
variable (hc0 : cond0_0 i)

include hx in
theorem out_A_3 : out0_A_3 c i arg1 harg1 arg2 harg2 arg3 harg3 arg4 harg4 arg5 harg5 arg6 harg6 hc0 x0 x1 x2 = tile x0 x1 (fun _ => (0 : EReal)) x2 := by
  unfold out0_A_3
  rw [View.read_writes_eq_canon _ _ _ (cover0_A_3 c i arg1 harg1 arg2 harg2 arg3 harg3 arg4 harg4 arg5 harg5 arg6 harg6 hc0 x0 x1 x2)]
  unfold kernelRun0_A
  dsimp only
  sl_unfold_words
  rw [View.canon_unit_zero (S := S512x128) hz]
  simp only [View.readCov_unit_zero (S := S1x128) _ hz, View.readAt_eq_ld, harg1.read_unread, harg2.read_unread, harg3.read_unread, View.ld_unit_zero (S := S512x128) hz, View.ld_unit_zero (S := S1x128) hz]
  funext j
  obtain ⟨r, k, rfl⟩ : ∃ (r : Fin 512) (k : Fin 128), j = ix2 r k := ⟨j 0, j 1, eq_ix2 j⟩
  rw [zero_row]
  exact pay5_apply x0 x1 _ x2 r k hx

include hx in
theorem out_A_4 : out0_A_4 c i arg1 harg1 arg2 harg2 arg3 harg3 arg4 harg4 arg5 harg5 arg6 harg6 hc0 x0 x1 x2 (ix2 0 k) = sumRows (tile x0 x1 (fun _ => (0 : EReal)) x2) (ix2 0 k) := by
  unfold out0_A_4
  rw [View.read_writes_eq_canon _ _ _ (cover0_A_4 c i arg1 harg1 arg2 harg2 arg3 harg3 arg4 harg4 arg5 harg5 arg6 harg6 hc0 x0 x1 x2)]
  unfold kernelRun0_A
  dsimp only
  sl_unfold_words
  rw [View.canon_cons_unit_zero (S := S1x128) hz]
  simp only [View.readCov_unit_zero (S := S1x128) _ hz, View.readAt_eq_ld, harg1.read_unread, harg2.read_unread, harg3.read_unread, View.ld_unit_zero (S := S512x128) hz, View.ld_unit_zero (S := S1x128) hz]
  rw [zero_row]
  refine (pay1_apply _ k0_pay4 k).trans ?_
  rw [show (k0_pay4 (F := Ideal)) (ix2 0 k) = (0 : EReal) from Ideal.ofBits_zero .f32, zero_add]
  exact Finset.sum_congr rfl fun r _ => pay5_apply x0 x1 _ x2 r k hx

theorem out_A_s : sout0_A_0 c i arg1 harg1 arg2 harg2 arg3 harg3 arg4 harg4 arg5 harg5 arg6 harg6 hc0 x0 x1 x2 (ix2 0 k) = sumRows x0 (ix2 0 k) := by
  unfold sout0_A_0
  rw [View.read_writes_eq_canon _ _ _ (scover0_A_0 c i arg1 harg1 arg2 harg2 arg3 harg3 arg4 harg4 arg5 harg5 arg6 harg6 hc0 x0 x1 x2)]
  unfold kernelRun0_A
  dsimp only
  sl_unfold_words
  rw [View.canon_cons_unit_zero (S := S1x128) hz]
  simp only [View.readCov_unit_zero (S := S1x128) _ hz, View.readAt_eq_ld, harg1.read_unread, harg2.read_unread, harg3.read_unread, View.ld_unit_zero (S := S512x128) hz, View.ld_unit_zero (S := S1x128) hz]
  rw [zero_row]
  exact (pay2_apply x0 _ k).trans (zero_add _)

end First

section Later
variable (hc0 : ¬cond0_0 i)

include hx in
theorem out_B_3 : out0_B_3 c i arg1 harg1 arg2 harg2 arg3 harg3 arg4 harg4 arg5 harg5 arg6 harg6 hc0 x0 x1 x2 xo4 xs0 = tile x0 x1 xs0 x2 := by
  unfold out0_B_3
  rw [View.read_writes_eq_canon _ _ _ (cover0_B_3 c i arg1 harg1 arg2 harg2 arg3 harg3 arg4 harg4 arg5 harg5 arg6 harg6 hc0 x0 x1 x2 xo4 xs0)]
  unfold kernelRun0_B
  dsimp only
  sl_unfold_words
  rw [View.canon_unit_zero (S := S512x128) hz]
  simp only [View.readAt_eq_ld, harg1.read_unread, harg2.read_unread, harg3.read_unread, harg6.read_unread, View.ld_unit_zero (S := S512x128) hz, View.ld_unit_zero (S := S1x128) hz]
  funext j
  obtain ⟨r, k, rfl⟩ : ∃ (r : Fin 512) (k : Fin 128), j = ix2 r k := ⟨j 0, j 1, eq_ix2 j⟩
  exact pay5_apply x0 x1 _ x2 r k hx

include hx in
theorem out_B_4 : out0_B_4 c i arg1 harg1 arg2 harg2 arg3 harg3 arg4 harg4 arg5 harg5 arg6 harg6 hc0 x0 x1 x2 xo4 xs0 (ix2 0 k) = xo4 (ix2 0 k) + sumRows (tile x0 x1 xs0 x2) (ix2 0 k) := by
  unfold out0_B_4
  rw [View.read_writes_eq_canon _ _ _ (cover0_B_4 c i arg1 harg1 arg2 harg2 arg3 harg3 arg4 harg4 arg5 harg5 arg6 harg6 hc0 x0 x1 x2 xo4 xs0)]
  unfold kernelRun0_B
  dsimp only
  sl_unfold_words
  rw [View.canon_unit_zero (S := S1x128) hz]
  simp only [View.readAt_eq_ld, harg1.read_unread, harg2.read_unread, harg3.read_unread, harg5.read_unread, harg6.read_unread, View.ld_unit_zero (S := S512x128) hz, View.ld_unit_zero (S := S1x128) hz]
  refine (pay1_apply _ xo4 k).trans (congrArg (xo4 (ix2 0 k) + ·) ?_)
  exact Finset.sum_congr rfl fun r _ => pay5_apply x0 x1 _ x2 r k hx

theorem out_B_s : sout0_B_0 c i arg1 harg1 arg2 harg2 arg3 harg3 arg4 harg4 arg5 harg5 arg6 harg6 hc0 x0 x1 x2 xo4 xs0 (ix2 0 k) = xs0 (ix2 0 k) + sumRows x0 (ix2 0 k) := by
  unfold sout0_B_0
  rw [View.read_writes_eq_canon _ _ _ (scover0_B_0 c i arg1 harg1 arg2 harg2 arg3 harg3 arg4 harg4 arg5 harg5 arg6 harg6 hc0 x0 x1 x2 xo4 xs0)]
  unfold kernelRun0_B
  dsimp only
  sl_unfold_words
  rw [View.canon_unit_zero (S := S1x128) hz]
  simp only [View.readAt_eq_ld, harg1.read_unread, harg6.read_unread, View.ld_unit_zero (S := S512x128) hz, View.ld_unit_zero (S := S1x128) hz]
  exact pay2_apply x0 xs0 k

end Later

end Point

end Cert.Kernel18Ideal.Forget

end
-- ==== Proof.ForgetRun.lean ====
/- The forget gates' gradient over the whole sequence: the kernel's 16 points, which take the bands from the last to the first, leave
   the gradient and its column sums in the two result arrays, and the reference's results are those. -/
module

public import proofs.«01_k».proof.Proof.ForgetTile
public import proofs.«01_k».proof.Proof.Gen.Reference18Ideal.Read
public import proofs.«01_k».proof.Proof.Gen.Pre_finite18

@[expose] public section

set_option maxRecDepth 16384

noncomputable section

namespace Cert.Kernel18Ideal.Forget

open Cert.Kernel18Ideal Cert.Kernel18Ideal.Gen Idealize.ShloMosaic Idealize.ShloMosaic.TcCoe Idealize.SL.Sem Idealize.ShloMosaic.StableHlo
open Idealize.ShloMosaic.Pipeline (Dat)
open Cert.Products Cert.Reals Cert.Norms Cert.Forget

variable (m : (l : Loc nD τ sig) → Buf (Elt Ideal) l)

abbrev d (c : Dev nD) : Mat 8192 128 := m ((c : Thread nD τ).loc main_arg0)
abbrev f (c : Dev nD) : Mat 8192 128 := m ((c : Thread nD τ).loc main_arg1)

/-- The bias with the zeros the host puts after it. -/
abbrev b (c : Dev nD) : Mat 1 128 := Cert.Reference18Ideal.Read.val_main_v0 (F := Ideal) (m ((c : Thread nD τ).loc main_arg2))

theorem V_b (c : Dev nD) : V m c main_v0 = b m c := by
  unfold_abbrev_sides
  unfold hostOps0 hostOps0_1
  simp only [List.flatten_cons, List.flatten_nil, List.cons_append, List.nil_append, List.append_nil]
  after_results
  rfl

/-- Which block each window takes at a point: the point's 512 rows of the matrices, counted from the end, and the whole of a row. -/
theorem idx_rows : ∀ t : Fin cfg0.N, (win0_0.index t 0 = 15 - t.val ∧ win0_0.index t 1 = 0) ∧ (win0_1.index t 0 = 15 - t.val ∧ win0_1.index t 1 = 0) ∧ (win0_3.index t 0 = 15 - t.val ∧ win0_3.index t 1 = 0) :=
  (by decide +kernel : ∀ t : Fin grid0.N, (win0_0.index t 0 = 15 - t.val ∧ win0_0.index t 1 = 0) ∧ (win0_1.index t 0 = 15 - t.val ∧ win0_1.index t 1 = 0) ∧ (win0_3.index t 0 = 15 - t.val ∧ win0_3.index t 1 = 0))

theorem idx_flat : ∀ t : Fin cfg0.N, (win0_2.index t 0 = 0 ∧ win0_2.index t 1 = 0) ∧ (win0_4.index t 0 = 0 ∧ win0_4.index t 1 = 0) :=
  (by decide +kernel : ∀ t : Fin grid0.N, (win0_2.index t 0 = 0 ∧ win0_2.index t 1 = 0) ∧ (win0_4.index t 0 = 0 ∧ win0_4.index t 1 = 0))

theorem rows_eq : 8192 = 16 * 512 := rfl

theorem points : cfg0.N = 16 := by decide

abbrev pt (t : Fin cfg0.N) : Fin 16 := ⟨t.val, lt_of_lt_of_eq t.isLt points⟩

/-- The band a point takes. -/
abbrev bd (t : Fin cfg0.N) : Fin 16 := (pt t).rev

theorem bd_val (t : Fin cfg0.N) : 15 - t.val = (bd t).val := by
  rw [Fin.val_rev]
  show 15 - t.val = 16 - (t.val + 1)
  omega

theorem d_blk (c : Dev nD) (t : Fin cfg0.N) : iblk m c 0 t = band rows_eq (d m c) (bd t) := by
  funext j
  obtain ⟨r, k, rfl⟩ : ∃ (r : Fin 512) (k : Fin 128), j = ix2 r k := ⟨j 0, j 1, eq_ix2 j⟩
  unfold iblk
  rw [View.read_apply]
  exact (congrFun (V_main_arg0 m c) _).trans (congrArg (d m c) (band_at rows_eq _ (win0_0.index t) (bd t) ((idx_rows t).1.1.trans (bd_val t)) (idx_rows t).1.2 r k rfl rfl))

theorem f_blk (c : Dev nD) (t : Fin cfg0.N) : iblk m c 1 t = band rows_eq (f m c) (bd t) := by
  funext j
  obtain ⟨r, k, rfl⟩ : ∃ (r : Fin 512) (k : Fin 128), j = ix2 r k := ⟨j 0, j 1, eq_ix2 j⟩
  unfold iblk
  rw [View.read_apply]
  exact (congrFun (V_main_arg1 m c) _).trans (congrArg (f m c) (band_at rows_eq _ (win0_1.index t) (bd t) ((idx_rows t).2.1.1.trans (bd_val t)) (idx_rows t).2.1.2 r k rfl rfl))

theorem b_blk (c : Dev nD) (t : Fin cfg0.N) : iblk m c 2 t = b m c := by
  funext j
  unfold iblk
  rw [View.read_apply]
  exact (congrFun (V_b m c) _).trans (congrArg (b m c) (row_at _ (win0_2.index t) (idx_flat t).1.2 j rfl))

abbrev df (c : Dev nD) : Buf (Elt Ideal) ((c : Thread nD τ).loc main_v1_0) := gateGrad (d m c) (f m c) (b m c)
abbrev db (c : Dev nD) : Buf (Elt Ideal) ((c : Thread nD τ).loc main_v1_1) := sumRows (gateGrad (d m c) (f m c) (b m c))

/-- What a point leaves for the next: the sums of the bands taken so far. -/
theorem carried (c : Dev nD) (n : ℕ) (h : n < 16) (h' : n < cfg0.N) (k : Fin 128) :
    (outsAt0 m c n h').2.2 (ix2 0 k) = ∑ q : Fin 16, if q.val ≤ n then sumRows (band rows_eq (d m c) q.rev) (ix2 0 k) else 0 := by
  refine up_to points (outsAt0 m c) (fun x => x.2.2 (ix2 0 k)) (fun q => sumRows (band rows_eq (d m c) q.rev) (ix2 0 k)) (fun t h0 => ?_) (fun t h0 => ?_) n h h'
  · show (outsAt0 m c t.val t.isLt).2.2 (ix2 0 k) = _
    rw [outsAt0_A m c t h0]
    dsimp only
    rw [out_A_s, d_blk]
  · show (outsAt0 m c t.val t.isLt).2.2 (ix2 0 k) = _
    rw [outsAt0_B m c t h0]
    dsimp only
    rw [out_B_s, d_blk]

/-- A band's rows of the gradient, from the band and the sums of the bands after it. -/
theorem tile_band (x y : Mat 8192 128) (z carry : Mat 1 128) (p : Fin 16) (h : ∀ k, carry (ix2 0 k) = beyond rows_eq x p k) :
    tile (band rows_eq x p) (band rows_eq y p) carry z = band rows_eq (gateGrad x y z) p := by
  funext j
  obtain ⟨r, k, rfl⟩ : ∃ (r : Fin 512) (k : Fin 128), j = ix2 r k := ⟨j 0, j 1, eq_ix2 j⟩
  show (onward (band rows_eq x p) r k + carry (ix2 0 k)) * sigm (-(y (ix2 (at_band rows_eq p r) k) + z (ix2 0 k)))
    = onward x (at_band rows_eq p r) k * sigm (-(y (ix2 (at_band rows_eq p r) k) + z (ix2 0 k)))
  rw [onward_band, h]

theorem tile_first (c : Dev nD) (t : Fin cfg0.N) (h0 : t.val % 16 = 0) :
    tile (band rows_eq (d m c) (bd t)) (band rows_eq (f m c) (bd t)) (fun _ => (0 : EReal)) (b m c) = band rows_eq (gateGrad (d m c) (f m c) (b m c)) (bd t) :=
  tile_band _ _ _ _ _ fun k => (none_taken rows_eq (d m c) (pt t) k ((Nat.mod_eq_of_lt (pt t).isLt).symm.trans h0)).symm

theorem tile_later (c : Dev nD) (t : Fin cfg0.N) (h0 : ¬t.val % 16 = 0) (h' : t.val - 1 < cfg0.N) :
    tile (band rows_eq (d m c) (bd t)) (band rows_eq (f m c) (bd t)) (outsAt0 m c (t.val - 1) h').2.2 (b m c)
      = band rows_eq (gateGrad (d m c) (f m c) (b m c)) (bd t) :=
  tile_band _ _ _ _ _ fun k => (carried m c (t.val - 1) (lt_of_lt_of_eq h' points) h' k).trans
    (taken rows_eq (d m c) (pt t) k fun e => h0 ((Nat.mod_eq_of_lt (pt t).isLt).trans e))

section Finite

variable (c : Dev nD) (hd : ∀ i, IsReal (d m c i))
include hd

theorem blk_real (t : Fin cfg0.N) (i : S512x128.Idx) : IsReal ((iblk m c 0 t : Mat 512 128) i) := by
  rw [d_blk]
  exact hd _

theorem f_point (t : Fin cfg0.N) : (outsAt0 m c t.val t.isLt).1 = band rows_eq (gateGrad (d m c) (f m c) (b m c)) (bd t) := by
  by_cases h0 : t.val % 16 = 0
  · rw [outsAt0_A m c t h0]
    dsimp only
    rw [out_A_3 _ _ _ _ _ _ _ _ _ _ _ _ _ _ _ _ _ (blk_real m c hd t), d_blk, f_blk, b_blk, tile_first m c t h0]
  · rw [outsAt0_B m c t h0]
    dsimp only
    rw [out_B_3 _ _ _ _ _ _ _ _ _ _ _ _ _ _ _ _ _ _ _ (blk_real m c hd t), d_blk, f_blk, b_blk, tile_later m c t h0]

theorem f_flushed (t : Fin cfg0.N) : (dats m 0 c).flushed 3 t = ((cfg0.win 3).blk t).view.read (Elt Ideal) (df m c) := by
  rw [Value.flushed3, f_point m c hd]
  funext j
  rw [View.read_apply]
  obtain ⟨r, k, rfl⟩ : ∃ (r : Fin 512) (k : Fin 128), j = ix2 r k := ⟨j 0, j 1, eq_ix2 j⟩
  have hemb : ((cfg0.win 3).blk t).view.emb (ix2 r k) = (ix2 (at_band rows_eq (bd t) r) k : S8192x128.Idx) :=
    band_at rows_eq _ (win0_3.index t) (bd t) ((idx_rows t).2.2.1.trans (bd_val t)) (idx_rows t).2.2.2 r k rfl rfl
  show band rows_eq (df m c) (bd t) (ix2 r k) = df m c (((cfg0.win 3).blk t).view.emb (ix2 r k))
  rw [hemb]
  rfl

theorem final_f : (dats m 0 c).arrAt 3 cfg0.N = df m c :=
  (dats m 0 c).arrAt_eq_of_cover 3 (df m c) (fun t _ => f_flushed m c hd t) fun i => by
    obtain ⟨q, hq⟩ := band_covers rows_eq (show S8192x128.Idx from i)
    let t : Fin cfg0.N := ⟨q.rev.val, lt_of_lt_of_eq q.rev.isLt points.symm⟩
    have e : bd t = q := Fin.rev_rev q
    refine ⟨t, flush0_3 _, ?_⟩
    show (show S8192x128.Idx from i) ∈ ((View.whole main_v1_0).slice (win0_3.rect t)).set
    rw [View.set_slice_whole, Rect.mem_set_unit]
    exact hq (win0_3.index t) (((idx_rows t).2.2.1.trans (bd_val t)).trans (congrArg Fin.val e)) (idx_rows t).2.2.2

theorem b_total (t : Fin cfg0.N) (ht : t.val % 16 = 15) (k : Fin 128) : (outsAt0 m c t.val t.isLt).2.1 (ix2 0 k) = db m c (ix2 0 k) := by
  refine (in_all points (outsAt0 m c) (fun x => x.2.1 (ix2 0 k)) (fun q => sumRows (band rows_eq (gateGrad (d m c) (f m c) (b m c)) q.rev) (ix2 0 k))
    (fun t h0 => ?_) (fun t h0 => ?_) t ht).trans
    ((Equiv.sum_comp Fin.revPerm fun q => sumRows (band rows_eq (gateGrad (d m c) (f m c) (b m c)) q) (ix2 0 k)).trans (sumRows_bands rows_eq _ (ix2 0 k)))
  · show (outsAt0 m c t.val t.isLt).2.1 (ix2 0 k) = _
    rw [outsAt0_A m c t h0]
    dsimp only
    rw [out_A_4 _ _ _ _ _ _ _ _ _ _ _ _ _ _ _ _ _ (blk_real m c hd t), d_blk, f_blk, b_blk, tile_first m c t h0]
  · show (outsAt0 m c t.val t.isLt).2.1 (ix2 0 k) = _
    rw [outsAt0_B m c t h0]
    dsimp only
    rw [out_B_4 _ _ _ _ _ _ _ _ _ _ _ _ _ _ _ _ _ _ _ (blk_real m c hd t), d_blk, f_blk, b_blk, tile_later m c t h0]

abbrev lastPt : Fin cfg0.N := ⟨15, by decide⟩

theorem final_b : (dats m 0 c).arrAt 4 cfg0.N = db m c :=
  (dats m 0 c).arrAt_eq_of_cover 4 (db m c) (fun t ht => by
    rw [Value.flushed4]
    funext j
    rw [View.read_apply]
    obtain ⟨k, rfl⟩ : ∃ k : Fin 128, j = ix2 0 k := ⟨j 1, eq_row j⟩
    exact (b_total m c hd t ((flush0_4 t).mp ht) k).trans
      (congrArg (db m c) (row_at (((cfg0.win 4).blk t).view.emb (ix2 0 k)) (win0_4.index t) (idx_flat t).2.2 (ix2 0 k) rfl).symm)) fun i => by
    refine ⟨lastPt, (flush0_4 lastPt).mpr rfl, ?_⟩
    show (show S1x128.Idx from i) ∈ ((View.whole main_v1_1).slice (win0_4.rect lastPt)).set
    rw [View.set_slice_whole, Rect.mem_set_unit]
    exact row_covers (win0_4.index lastPt) (idx_flat lastPt).2.1 (idx_flat lastPt).2.2 (show S1x128.Idx from i)

end Finite

end Cert.Kernel18Ideal.Forget

namespace Cert.Reference18Ideal.Read

open Cert.Reference18Ideal Cert.Reference18Ideal.Gen Idealize.ShloMosaic Idealize.ShloMosaic.TcCoe Idealize.SL.Sem Idealize.ShloMosaic.StableHlo
open Cert.Products Cert.Reals Cert.Norms Cert.Forget

variable (x0 x1 : Mat 8192 128) (x2 : Mat 1 16) (r : Fin 8192) (k : Fin 128)

theorem onward_eq : val_main_v5 (F := Ideal) x0 (ix2 r k) = onward x0 r k := by
  have z : (val_main_call3_v0 (F := Ideal)) (Shape.Idx.first h_S_) = (0 : EReal) := Ideal.ofBits_zero .f32
  unfold val_main_v5 Host.reduceWindowAdd
  rw [z]
  exact window_onward x0 reduceWindows_S8192x128_S8192x128_w8192s1p0_8191_w1s1p0_0 r k

theorem arg_eq : val_main_call1_v0 (F := Ideal) x1 x2 (ix2 r k) = -(x1 (ix2 r k) + val_main_v0 (F := Ideal) x2 (ix2 0 k)) := by
  pointwise [val_main_call1_v0, val_main_v2, val_main_v1]

theorem zero_eq (i : S8192x128.Idx) : val_main_call1_call0_v2 (F := Ideal) i = (0 : EReal) := Ideal.ofBits_zero .f32

theorem select_ne {α : Type} (x : EReal) (a b : α) : Scalar.select (Ideal.cmp .une x x) a b = b :=
  if_neg (by show ¬BitVec.ofBool (decide (x ≠ x)) = 1; simp)

theorem select_top {α : Type} (a b : α) : Scalar.select (Ideal.cmp .oeq ⊤ ⊤) a b = a :=
  if_pos (by show BitVec.ofBool (decide ((⊤ : EReal) = ⊤)) = 1; simp)

theorem select_not_top {α : Type} {x : EReal} (h : x ≠ ⊤) (a b : α) : Scalar.select (Ideal.cmp .oeq x ⊤) a b = b :=
  if_neg (by show ¬BitVec.ofBool (decide (x = ⊤)) = 1; simp [h])

/-- The gradient that the reference takes of `log(exp x + 1)`, with its own values at infinity, is the logistic function. -/
theorem soft_grad (x : EReal) : Ideal.exp (Scalar.select (Ideal.cmp .oeq x ⊤) 0 x - Scalar.select (Ideal.cmp .oeq (soft x) ⊤) 0 (soft x)) = sigm x := by
  induction x using EReal.rec with
  | bot =>
    rw [soft_bot, select_not_top bot_ne_top, select_not_top EReal.zero_ne_top, sub_zero]
    exact sigm_bot.symm
  | coe r =>
    obtain ⟨e, s, hs⟩ := soft_eq r
    rw [select_not_top (EReal.coe_ne_top r), select_not_top (by rw [hs]; exact EReal.coe_ne_top s)]
    exact e
  | top =>
    rw [soft_top, select_top, sub_zero]
    exact sigm_top.symm

theorem soft_val (i : S8192x128.Idx) : val_main_call1_v1_0 (F := Ideal) x1 x2 i = soft (val_main_call1_v0 (F := Ideal) x1 x2 i) := by
  unfold soft
  show Scalar.select (Ideal.cmp .une (val_main_call1_call0_v3 (F := Ideal) x1 x2 i) (val_main_call1_call0_v3 (F := Ideal) x1 x2 i)) _ _ = _
  rw [select_ne]
  have e3 : val_main_call1_call0_v3 (F := Ideal) x1 x2 i = val_main_call1_v0 (F := Ideal) x1 x2 i := by
    show val_main_call1_v0 (F := Ideal) x1 x2 i - val_main_call1_call0_v2 (F := Ideal) i = _
    rw [zero_eq, sub_zero]
  show max (val_main_call1_v0 (F := Ideal) x1 x2 i) (val_main_call1_call0_v2 (F := Ideal) i)
    + Ideal.log1p (Ideal.exp (-max (val_main_call1_call0_v3 (F := Ideal) x1 x2 i) (-(val_main_call1_call0_v3 (F := Ideal) x1 x2 i)))) = _
  rw [zero_eq, e3]

theorem sigm_eq : val_main_v3_1 (F := Ideal) x1 x2 (ix2 r k) = sigm (-(x1 (ix2 r k) + val_main_v0 (F := Ideal) x2 (ix2 0 k))) := by
  rw [← arg_eq, ← soft_grad]
  have top : (val_main_call1_call0_v13 (F := Ideal)) (ix2 r k) = ⊤ := inf_eq
  have top' : (val_main_call1_call0_v17 (F := Ideal)) (ix2 r k) = ⊤ := inf_eq
  have zero : (val_main_call1_call0_v15 (F := Ideal)) (ix2 r k) = (0 : EReal) := Ideal.ofBits_zero .f32
  have zero' : (val_main_call1_call0_v19 (F := Ideal)) (ix2 r k) = (0 : EReal) := Ideal.ofBits_zero .f32
  show Ideal.exp (Scalar.select (Ideal.cmp .oeq (val_main_call1_v0 (F := Ideal) x1 x2 (ix2 r k)) (val_main_call1_call0_v13 (F := Ideal) (ix2 r k)))
      (val_main_call1_call0_v15 (F := Ideal) (ix2 r k)) (val_main_call1_v0 (F := Ideal) x1 x2 (ix2 r k))
    - Scalar.select (Ideal.cmp .oeq (val_main_call1_v1_0 (F := Ideal) x1 x2 (ix2 r k)) (val_main_call1_call0_v17 (F := Ideal) (ix2 r k)))
      (val_main_call1_call0_v19 (F := Ideal) (ix2 r k)) (val_main_call1_v1_0 (F := Ideal) x1 x2 (ix2 r k))) = _
  rw [top, top', zero, zero', soft_val]

theorem gate_eq : val_main_v6 (F := Ideal) x0 x1 x2 = gateGrad x0 x1 (val_main_v0 (F := Ideal) x2) := by
  funext i
  obtain ⟨r, k, rfl⟩ : ∃ (r : Fin 8192) (k : Fin 128), i = ix2 r k := ⟨i 0, i 1, eq_ix2 i⟩
  show -(-(val_main_v5 (F := Ideal) x0 (ix2 r k)) * val_main_v3_1 (F := Ideal) x1 x2 (ix2 r k)) = onward x0 r k * sigm (-(x1 (ix2 r k) + val_main_v0 (F := Ideal) x2 (ix2 0 k)))
  rw [onward_eq, sigm_eq, EReal.neg_mul, neg_neg]

theorem sums_eq : val_main_v8 (F := Ideal) x0 x1 x2 = sumRows (gateGrad x0 x1 (val_main_v0 (F := Ideal) x2)) := by
  rw [← gate_eq x0 x1 x2]
  funext i
  obtain ⟨k, rfl⟩ : ∃ k : Fin 128, i = ix2 0 k := ⟨i 1, eq_row i⟩
  show _ = ∑ s : Fin 8192, val_main_v6 (F := Ideal) x0 x1 x2 (ix2 s k)
  pointwise [val_main_v8, val_main_v7, val_main_cst]

/-- The reference's run, its results as functions of the arguments. -/
theorem run_vals (m : (l : Loc nD τ sig) → Buf (Elt Ideal) l) (ρ : Dev nD → PrngReg) :
    θ_run defs (onTc (τ := τ) (main (F := Ideal))) ⟨m, fun _ => 0, ρ⟩ fun r => ∀ c : Dev nD,
      r.2.mem ((c.tc : Thread nD τ).loc main_v6) = val_main_v6 (F := Ideal) (m ((c.tc : Thread nD τ).loc main_arg0)) (m ((c.tc : Thread nD τ).loc main_arg1)) (m ((c.tc : Thread nD τ).loc main_arg2))
      ∧ r.2.mem ((c.tc : Thread nD τ).loc main_v8) = val_main_v8 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v6_eq m c), (h c).2.1.trans (val_main_v8_eq m c), (h c).2.2⟩)
    (Cert.Reference18Ideal.Value.run m ρ)

end Cert.Reference18Ideal.Read

namespace Cert.Pre_finite18

open Cert.Pre_finite18 Cert.Pre_finite18.Gen Idealize.ShloMosaic Cert.Products Cert.Reals

/-- The precondition says that every element of the first argument is real. -/
theorem reals (x0 x1 : Mat 8192 128) (x2 : Mat 1 16) (h : fn (F := Ideal) x0 x1 x2 = fun _ => 1#1) (i : S8192x128.Idx) : IsReal (x0 i) := by
  haveI : Subsingleton S_.Idx := ⟨fun a b => funext fun k => k.elim0⟩
  have e := congrFun h (fun a => a.elim0)
  unfold fn at e
  exact isReal_of_all x0 _ _ _ _ _ _ e i

end Cert.Pre_finite18

end
-- ==== Proof.ForgetSum.lean ====
/- The running sum of the forget gates' logarithms: the sum of a column up to a row, over bands of rows and as a window sum; and the
   logarithm of the logistic function. -/
module

public import proofs.«01_k».proof.Proof.Forget

@[expose] public section

noncomputable section

namespace Cert.Forget

open Idealize.ShloMosaic Cert.Products Cert.Reals Cert.Norms

/-- The sum of a column's first `n` rows. -/
def headSum {T c : ℕ} (x : Mat T c) (n : ℕ) (k : Fin c) : EReal := ∑ u : Fin T, if u.val < n then x (ix2 u k) else 0

/-- The sum of a column up to row `t`, that row's element among its terms. -/
def upto {T c : ℕ} (x : Mat T c) (t : Fin T) (k : Fin c) : EReal := headSum x (t.val + 1) k

theorem headSum_zero {T c : ℕ} (x : Mat T c) (k : Fin c) : headSum x 0 k = 0 :=
  Finset.sum_eq_zero fun u _ => if_neg (Nat.not_lt_zero _)

/-- The sum up to a row is the row's band's own, and that of the bands before it. -/
theorem upto_band {T N R c : ℕ} (hT : T = N * R) (x : Mat T c) (p : Fin N) (r : Fin R) (k : Fin c) :
    upto x (at_band hT p r) k = upto (band hT x p) r k + headSum x (R * p.val) k := by
  unfold upto headSum
  rw [sum_bands hT, sum_bands hT (fun u => if u.val < R * p.val then x (ix2 u k) else 0)]
  have own : (∑ u : Fin R, if u.val < r.val + 1 then band hT x p (ix2 u k) else 0)
      = ∑ q : Fin N, if q = p then ∑ u : Fin R, (if u.val < r.val + 1 then band hT x q (ix2 u k) else 0) else 0 := by
    rw [Finset.sum_ite_eq' Finset.univ p fun q => ∑ u : Fin R, (if u.val < r.val + 1 then band hT x q (ix2 u k) else 0), if_pos (Finset.mem_univ p)]
  rw [own, ← Finset.sum_add_distrib]
  refine Finset.sum_congr rfl fun q _ => ?_
  have hr := r.isLt
  rcases lt_trichotomy q.val p.val with h | h | h
  · rw [if_neg (fun e => by rw [e] at h; exact lt_irrefl _ h), zero_add]
    refine Finset.sum_congr rfl fun u _ => ?_
    have hu := u.isLt
    have := Nat.mul_le_mul_left R (show q.val + 1 ≤ p.val from h)
    rw [Nat.mul_add, Nat.mul_one] at this
    have a : (at_band hT q u).val < R * p.val := by show R * q.val + u.val < R * p.val; omega
    rw [if_pos a, if_pos (by show (at_band hT q u).val < R * p.val + r.val + 1; omega)]
  · obtain rfl : q = p := Fin.ext h
    have none : (∑ u : Fin R, if (at_band hT q u).val < R * q.val then x (ix2 (at_band hT q u) k) else 0) = 0 :=
      Finset.sum_eq_zero fun u _ => if_neg (by show ¬R * q.val + u.val < R * q.val; omega)
    rw [if_pos rfl, none, add_zero]
    refine Finset.sum_congr rfl fun u _ => ?_
    exact if_congr (show R * q.val + u.val < R * q.val + r.val + 1 ↔ u.val < r.val + 1 by omega) rfl rfl
  · have := Nat.mul_le_mul_left R (show p.val + 1 ≤ q.val from h)
    rw [Nat.mul_add, Nat.mul_one] at this
    rw [if_neg (fun e => by rw [e] at h; exact lt_irrefl _ h), zero_add]
    refine Finset.sum_congr rfl fun u _ => ?_
    rw [if_neg (by show ¬R * q.val + u.val < R * p.val + r.val + 1; omega), if_neg (by show ¬R * q.val + u.val < R * p.val; omega)]

/-- The terms `L - t` places on, counted from `L`, are the terms up to `t`. -/
theorem sum_unshift {T L : ℕ} (hL : L + 1 = T) (X : ℕ → EReal) (t : Fin T) :
    (∑ n : Fin T, if L ≤ t.val + n.val then X (t.val + n.val - L) else 0) = ∑ u : Fin T, if u.val < t.val + 1 then X u.val else 0 := by
  rw [← Finset.sum_filter, ← Finset.sum_filter]
  have ht := t.isLt
  refine Finset.sum_bij' (i := fun (n : Fin T) _ => (⟨t.val + n.val - L, by have := n.isLt; omega⟩ : Fin T))
    (j := fun (u : Fin T) (hu : u ∈ Finset.univ.filter fun u : Fin T => u.val < t.val + 1) => (⟨u.val + L - t.val, by have := (Finset.mem_filter.mp hu).2; omega⟩ : Fin T)) ?_ ?_ ?_ ?_ ?_
  · intro n hn
    have := n.isLt
    refine Finset.mem_filter.mpr ⟨Finset.mem_univ _, ?_⟩
    show t.val + n.val - L < t.val + 1
    omega
  · intro u hu
    refine Finset.mem_filter.mpr ⟨Finset.mem_univ _, ?_⟩
    show L ≤ t.val + (u.val + L - t.val)
    omega
  · intro n hn
    have hn := (Finset.mem_filter.mp hn).2
    exact Fin.ext (by show t.val + n.val - L + L - t.val = n.val; omega)
  · intro u hu
    exact Fin.ext (by show t.val + (u.val + L - t.val) - L = u.val; omega)
  · intro n hn
    rfl

/-- The window sum over a column, the window as tall as the column and padded at its start, from zero. -/
theorem window_upto {T L c : ℕ} (hL : L + 1 = T) (x : Mat T c) (h : (M T c).ReduceWindows (![T, 1] : Fin 2 → Nat) ![1, 1] ![L, 0] ![0, 0] (M T c)) (t : Fin T) (k : Fin c) :
    Ideal.hostReduceWindowAdd ![T, 1] ![1, 1] ![L, 0] ![0, 0] h x 0 (ix2 t k) = upto x t k := by
  unfold Ideal.hostReduceWindowAdd Host.reduceWindow
  dsimp only
  rw [foldl_add, zero_add, ← Fin.sum_univ_def]
  have e : upto x t k = ∑ n : Fin T, if L ≤ t.val + n.val then colAt x k (t.val + n.val - L) else 0 := by
    rw [sum_unshift hL (colAt x k)]
    unfold upto headSum
    simp only [colAt_val]
  rw [e]
  refine Fintype.sum_equiv (finCongr (Routing.numel_col T)) _ _ fun n => ?_
  have hw0 : ((M T 1).rowMajor.symm n 0).val = n.val := by rw [Routing.symm_col]; rfl
  have hw1 : ((M T 1).rowMajor.symm n 1).val = 0 := by rw [Routing.symm_col]; rfl
  have hk := k.isLt
  have ht := t.isLt
  have hn : n.val < T := lt_of_lt_of_eq n.isLt (Routing.numel_col T)
  show _ = if L ≤ t.val + n.val then colAt x k (t.val + n.val - L) else 0
  split
  · next hin =>
    have h0 := hin 0
    change L ≤ t.val * 1 + ((M T 1).rowMajor.symm n 0).val ∧ t.val * 1 + ((M T 1).rowMajor.symm n 0).val - L < T at h0
    rw [hw0] at h0
    have hlt : t.val + n.val - L < T := by omega
    rw [if_pos (by omega)]
    refine Eq.trans (congrArg x ?_) (colAt_val x k ⟨t.val + n.val - L, hlt⟩).symm
    refine at_eq _ _ _ ?_ ?_
    · show t.val * 1 + ((M T 1).rowMajor.symm n 0).val - L = t.val + n.val - L
      rw [hw0]
      omega
    · show k.val * 1 + ((M T 1).rowMajor.symm n 1).val - 0 = k.val
      rw [hw1]
      omega
  · next hin =>
    rw [if_neg fun hlt => hin fun a => by
      match a with
      | ⟨0, _⟩ =>
        show L ≤ t.val * 1 + ((M T 1).rowMajor.symm n 0).val ∧ t.val * 1 + ((M T 1).rowMajor.symm n 0).val - L < T
        rw [hw0]
        omega
      | ⟨1, _⟩ =>
        show 0 ≤ k.val * 1 + ((M T 1).rowMajor.symm n 1).val ∧ k.val * 1 + ((M T 1).rowMajor.symm n 1).val - 0 < c
        rw [hw1]
        omega]

/-- The logarithm of the logistic function, as the reference has it. -/
def logSigm (x : EReal) : EReal := -soft (-x)

/-- And as the kernel has it. -/
theorem logSigm_eq (x : EReal) : min x 0 - Ideal.log (1 + Ideal.exp (0 - max x (-x))) = logSigm x := by
  unfold logSigm
  induction x using EReal.rec with
  | bot =>
    rw [EReal.neg_bot, soft_top, min_eq_left bot_le, EReal.neg_top, sub_eq_add_neg, EReal.bot_add]
  | coe r =>
    have hp : 0 < 1 + Real.exp (-max (-r) (- -r)) := by positivity
    have hl : soft (-(r : EReal)) = ((max (-r) 0 + Real.log (1 + Real.exp (-max (-r) (- -r))) : ℝ) : EReal) := by
      unfold soft
      rw [← EReal.coe_neg r, ← EReal.coe_neg (-r), ← real_max, ← EReal.coe_neg, Ideal.exp_coe]
      unfold Ideal.log1p
      rw [← EReal.coe_one, ← EReal.coe_add, Ideal.log_coe, if_neg (not_le.mpr hp), ← EReal.coe_zero, ← real_max, ← EReal.coe_add]
    have real_min : min (r : EReal) ((0 : ℝ) : EReal) = ((min r 0 : ℝ) : EReal) := (EReal.coe_strictMono.monotone.map_min).symm
    rw [hl, zero_sub, ← EReal.coe_zero, real_min, max_comm (r : EReal), ← EReal.coe_neg r]
    rw [neg_neg] at hp
    rw [neg_neg, ← real_max, ← EReal.coe_neg, Ideal.exp_coe, ← EReal.coe_one, ← EReal.coe_add, Ideal.log_coe, if_neg (not_le.mpr hp), ← EReal.coe_sub, ← EReal.coe_neg]
    refine congrArg _ ?_
    rcases le_total r 0 with h | h
    · rw [min_eq_left h, max_eq_left (by linarith : (0:ℝ) ≤ -r)]; ring
    · rw [min_eq_right h, max_eq_right (by linarith : -r ≤ (0:ℝ))]; ring
  | top =>
    have e : (1 : EReal) + 0 = ((1 : ℝ) : EReal) := by rw [add_zero, EReal.coe_one]
    rw [EReal.neg_top, soft_bot, min_eq_right le_top, max_eq_left bot_le, zero_sub, zero_sub, EReal.neg_top, exp_bot, e, Ideal.log_coe, if_neg (by norm_num), Real.log_one, EReal.coe_zero]

theorem soft_ne_bot (x : EReal) : soft x ≠ ⊥ := by
  induction x using EReal.rec with
  | bot => rw [soft_bot]; exact EReal.zero_ne_bot
  | coe r =>
    obtain ⟨s, hs⟩ := (soft_eq r).2
    rw [hs]
    exact EReal.coe_ne_bot s
  | top => rw [soft_top]; exact top_ne_bot

theorem logSigm_ne_top (x : EReal) : logSigm x ≠ ⊤ := fun h => soft_ne_bot (-x) (by
  unfold logSigm at h
  rw [← neg_neg (soft (-x)), h, EReal.neg_top])

/-- What rounding took from a number, and what rounding took from that, are over the extended reals nothing, or minus infinity where the number is. -/
theorem split3 {x : EReal} (h : x ≠ ⊤) : x + (x - x) + ((x - x) - (x - x)) = x := by
  induction x using EReal.rec with
  | bot => simp only [sub_eq_add_neg, EReal.bot_add]
  | coe r => rw [EReal.sub_self (EReal.coe_ne_top _) (EReal.coe_ne_bot _), sub_zero, add_zero, add_zero]
  | top => exact absurd rfl h

/-- The gates' logarithms: of the logistic function of the features and a bias row. -/
def gates {T c : ℕ} (x : Mat T c) (b : Mat 1 c) : Mat T c := fun i => logSigm (x i + b (ix2 0 (i 1)))

/-- Their running sums. -/
def cumul {T c : ℕ} (x : Mat T c) : Mat T c := fun i => upto x (i 0) (i 1)

/-- The first 16 columns of a matrix, each spread over the last axis. -/
def spreadCols {T : ℕ} (x : Mat T 128) : (⟨3, ![16, T, 128]⟩ : Shape).Idx → EReal := fun i =>
  x (ix2 (i 1) ⟨(i 0).val, by have h : (i 0).val < 16 := (i 0).isLt; omega⟩)

end Cert.Forget

end
-- ==== Proof.ForgetFwd.lean ====
/- The forget gates' forward kernel: from a band of 512 rows and what the bands before it sum to, the running sums in the band and
   their columns spread over 128 lanes; the kernel's 16 points together; and the reference's results. -/
module

public import proofs.«01_k».proof.Proof.Gen.Kernel30Ideal.Value
public import proofs.«01_k».proof.Proof.Gen.Reference30Ideal.Read
public import proofs.«01_k».proof.Proof.Tiles
public import proofs.«01_k».proof.Proof.Slots
public import proofs.«01_k».proof.Proof.ForgetSum

@[expose] public section

set_option maxRecDepth 16384

noncomputable section

namespace Cert.Kernel30Ideal.ForgetFwd

open Cert.Kernel30Ideal Cert.Kernel30Ideal.Gen Idealize.ShloMosaic Idealize.ShloMosaic.TcCoe Idealize.SL.Sem Idealize.ShloMosaic.StableHlo
open Idealize.ShloMosaic.Pipeline (Dat)
open Cert.Products Cert.Reals Cert.Gating Cert.Norms Cert.Forget

section Values

/-- Ones on and below the diagonal. -/
def lower : FVec Ideal S512x512 .bf16 :=
  truncf .bf16 (sitofp .f32 (extui 32 (cmpi .sge (iota .tc S512x512 32 [0] iota_S512x512_d0_w32) (iota .tc S512x512 32 [1] iota_S512x512_d1_w32)) natLt_1_32) : FVec Ideal S512x512 .f32) bitsLt_bf16_f32

theorem word_val : ∀ r : Fin 512, (BitVec.ofNat 32 (0 * 512 + r.val)).toInt = r.val := by
  decide +kernel

theorem lower_apply (r u : Fin 512) : lower (ix2 r u) = if u.val < r.val + 1 then 1 else 0 := by
  have e : IntOp.cmpi CmpIPredicate.sge (BitVec.ofNat 32 (0 * 512 + r.val)) (BitVec.ofNat 32 (0 * 512 + u.val)) = BitVec.ofBool (decide (u.val < r.val + 1)) := by
    show BitVec.ofBool (BitVec.sle _ _) = _
    refine congrArg _ ?_
    unfold BitVec.sle
    rw [word_val, word_val]
    exact decide_eq_decide.mpr (Int.ofNat_le.trans Nat.lt_succ_iff.symm)
  show (((IntOp.cmpi CmpIPredicate.sge (BitVec.ofNat 32 (0 * 512 + r.val)) (BitVec.ofNat 32 (0 * 512 + u.val))).setWidth 32).toInt : ℝ) = (_ : EReal)
  rw [e]
  by_cases h : u.val < r.val + 1 <;> simp [h]

variable (x : FVec Ideal S512x128 .f32) (b carry : FVec Ideal S1x128 .f32) (r : Fin 512) (k : Fin 128)

/-- The running sums the kernel computes from a band: what of the column is in the band up to the row and what is before it. -/
def tile : Mat 512 128 := fun i => upto (gates (T := 512) (c := 128) x b) (i 0) (i 1) + carry (ix2 0 (i 1))

/-- The product with the triangle is taken of the band and of what rounding took from it. -/
theorem pay3_apply : k0_pay3 (F := Ideal) x b carry (ix2 r k) = tile x b carry (ix2 r k) := by
  have full : k0_pay3 (F := Ideal) x b carry (ix2 r k)
      = (∑ u : Fin 512, lower (ix2 r u) * gates (T := 512) (c := 128) x b (ix2 u k))
          + (∑ u : Fin 512, lower (ix2 r u) * (gates (T := 512) (c := 128) x b (ix2 u k) - gates (T := 512) (c := 128) x b (ix2 u k)))
          + (∑ u : Fin 512, lower (ix2 r u) * ((gates (T := 512) (c := 128) x b (ix2 u k) - gates (T := 512) (c := 128) x b (ix2 u k))
            - (gates (T := 512) (c := 128) x b (ix2 u k) - gates (T := 512) (c := 128) x b (ix2 u k)))) + carry (ix2 0 k) := by
    have g (u : Fin 512) : gates (T := 512) (c := 128) x b (ix2 u k)
        = min (x (ix2 u k) + b (ix2 0 k)) 0 - Ideal.log (Ideal.ofBits .f32 0x3F800000#32 + Ideal.exp (0 - FloatOps.absf (F := Ideal) (φ := .f32) (x (ix2 u k) + b (ix2 0 k)))) := by
      rw [one_eq, EReal.coe_one]
      exact (logSigm_eq _).symm
    simp only [g]
    unfold lower
    pointwise [k0_pay3]
  rw [full, ← Finset.sum_add_distrib, ← Finset.sum_add_distrib]
  refine congrArg (· + carry (ix2 0 k)) (?_ : _ = upto (gates (T := 512) (c := 128) x b) r k)
  unfold upto headSum
  refine Finset.sum_congr rfl fun u _ => ?_
  rw [lower_apply]
  split
  · rw [one_mul, one_mul, one_mul]
    exact split3 (logSigm_ne_top _)
  · rw [zero_mul, zero_mul, zero_mul, add_zero, add_zero]

theorem pay3_eq : k0_pay3 (F := Ideal) x b carry = tile x b carry := by
  funext j
  obtain ⟨r, k, rfl⟩ : ∃ (r : Fin 512) (k : Fin 128), j = ix2 r k := ⟨j 0, j 1, eq_ix2 j⟩
  exact pay3_apply x b carry r k

theorem pay4_apply : k0_pay4 (F := Ideal) carry (ix2 0 k) = carry (ix2 0 k) := by
  pointwise [k0_pay4]

theorem zero_row : (k0_pay2 (F := Ideal)) = fun _ => (0 : EReal) := by
  funext j
  obtain ⟨k, rfl⟩ : ∃ k : Fin 128, j = ix2 0 k := ⟨j 1, eq_row j⟩
  pointwise [k0_pay2]

/-- A column spread over the lanes, as the kernel does it: every other column made zero, and the rows summed. -/
def slab (h : ℕ) : FVec Ideal S1x512x128 .f32 :=
  shapeCast S1x512x128 (broadcastTo S512x128 (shapeCast S512x1 (shapeCast S512x1 (multiReduction .add [1] S512
    (select (cmpi .eq (iota .tc S512x128 32 [1] iota_S512x128_d1_w32) (broadcast S512x128 (BitVec.ofNat 32 h))) x (broadcast S512x128 (Scalar.ofBits .f32 0x00000000#32)))
    0x00000000#32 reduces_S512x128_S512 (.inl rfl) rfl) shapeCasts_S512_S512x1) shapeCasts_S512x1_S512x1) broadcasts_S512x1_S512x128) shapeCasts_S512x128_S1x512x128

theorem own_column : ∀ (h : Fin 16) (c : Fin 128), IntOp.cmpi CmpIPredicate.eq (BitVec.ofNat 32 (0 * 128 + c.val)) (BitVec.ofNat 32 h.val) = BitVec.ofBool (decide (c.val = h.val)) := by
  decide +kernel

theorem slab_apply (h : Fin 16) (l : Fin 128) : slab x h.val (ix3 0 r l) = x (ix2 r ⟨h.val, by omega⟩) := by
  have full : slab x h.val (ix3 0 r l)
      = ∑ c : Fin 128, Scalar.select (IntOp.cmpi CmpIPredicate.eq (BitVec.ofNat 32 (0 * 128 + c.val)) (BitVec.ofNat 32 h.val)) (x (ix2 r c)) (0 : EReal) := by
    pointwise [slab]
  rw [full, ← Finset.sum_ite_eq' Finset.univ (⟨h.val, by omega⟩ : Fin 128) (fun c => x (ix2 r c)) |>.trans (if_pos (Finset.mem_univ _))]
  refine Finset.sum_congr rfl fun c _ => ?_
  rw [own_column]
  by_cases e : c.val = h.val
  · rw [if_pos (Fin.ext e)]
    exact if_pos (by simp [e])
  · rw [if_neg fun q => e (congrArg Fin.val q)]
    exact if_neg (by simp [e])

section Stores
variable (L : List (View.Piece (Elt Ideal) S16x512x128 .f32))

/-- Where the stores so far have written, they have written the columns spread over the lanes. -/
def Agrees (L : List (View.Piece (Elt Ideal) S16x512x128 .f32)) : Prop := ∀ y, (∃ p ∈ L, y ∈ p.1.set) → View.canon L y = spreadCols x y

theorem agrees_nil : Agrees x [] := fun y h => by obtain ⟨p, hp, _⟩ := h; exact absurd hp List.not_mem_nil

/-- One more column's store. -/
theorem store {h : ℕ} (hh : h < 16) (inb : ∀ a, (![h, 0, 0] : Fin 3 → ℕ) a + S1x512x128.size a ≤ S16x512x128.size a) (hL : Agrees x L) :
    Agrees x (⟨Rect.unit (s := S16x512x128) ![h, 0, 0] S1x512x128.size inb, slab x h⟩ :: L) := by
  intro y hy
  by_cases e : y ∈ (Rect.unit (s := S16x512x128) ![h, 0, 0] S1x512x128.size inb).set
  · have b0 := Rect.mem_set_unit.mp e 0
    change h ≤ (y 0).val ∧ (y 0).val < h + 1 at b0
    obtain ⟨r, l, rfl⟩ : ∃ (r : Fin 512) (l : Fin 128), y = (Rect.unit (s := S16x512x128) ![h, 0, 0] S1x512x128.size inb).emb (ix3 0 r l) :=
      ⟨y 1, y 2, (at_eq3 y (⟨h, hh⟩ : Fin 16) (y 1) (y 2) (by show (y 0).val = h; omega) rfl rfl).trans (at_eq3 _ _ _ _
        (by show h + 1 * 0 = h; omega) (by show 0 + 1 * (y 1).val = (y 1).val; omega) (by show 0 + 1 * (y 2).val = (y 2).val; omega)).symm⟩
    refine (View.canon_cons_emb (Val := Elt Ideal) (e := .f32) (Rect.unit (s := S16x512x128) ![h, 0, 0] S1x512x128.size inb) (slab x h) L (ix3 0 r l)).trans ?_
    refine (slab_apply x r ⟨h, hh⟩ l).trans (congrArg x (at_eq _ _ _ ?_ ?_)).symm
    · show 0 + 1 * r.val = r.val; omega
    · show h + 1 * 0 = h; omega
  · refine (View.canon_cons_of_not_mem (⟨Rect.unit (s := S16x512x128) ![h, 0, 0] S1x512x128.size inb, slab x h⟩ : View.Piece (Elt Ideal) S16x512x128 .f32) L e).trans (hL y ?_)
    obtain ⟨q, hq, hy⟩ := hy
    rcases List.mem_cons.mp hq with rfl | hq
    · exact absurd hy e
    · exact ⟨q, hq, hy⟩

end Stores

/-- The last row of what was just stored. -/
theorem last_row (arg3 : Memref sig .tc .vmem S512x128 .f32) :
    k0_pay4 (F := Ideal) (arg3.view.readCov [⟨Rect.unit (s := S512x128) ![0, 0] S512x128.size inb_S512x128_S512x128_0_0, x⟩] (Rect.unit (s := S512x128) ![511, 0] S1x128.size inb_S512x128_S1x128_511_0).toLoadRect) (ix2 0 k)
      = x (ix2 511 k) := by
  rw [pay4_apply, View.readCov_eq_canon', View.canon_unit_zero (S := S512x128) hz]
  refine congrArg x (at_eq _ _ _ ?_ ?_)
  · show 511 + 1 * 0 = 511; omega
  · show 0 + 1 * k.val = k.val; omega

end Values

section Point

variable (c : Dev nD) (i : grid0.Coords) (arg1 : Memref sig .tc .vmem S512x128 .f32) (harg1 : arg1.IsWhole) (arg2 : Memref sig .tc .vmem S1x128 .f32) (harg2 : arg2.IsWhole)
  (arg3 : Memref sig .tc .vmem S512x128 .f32) (harg3 : arg3.IsWhole) (arg4 : Memref sig .tc .vmem S16x512x128 .f32) (harg4 : arg4.IsWhole)
  (arg5 : Memref sig .tc .vmem S1x128 .f32) (harg5 : arg5.IsWhole)
  (x0 : Vec Ideal S512x128 .f32) (x1 xs0 : Vec Ideal S1x128 .f32) (k : Fin 128)

section First
variable (hc0 : cond0_0 i)

theorem out_A_2 : out0_A_2 c i arg1 harg1 arg2 harg2 arg3 harg3 arg4 harg4 arg5 harg5 hc0 x0 x1 = tile x0 x1 (fun _ => (0 : EReal)) := by
  unfold out0_A_2
  rw [View.read_writes_eq_canon _ _ _ (cover0_A_2 c i arg1 harg1 arg2 harg2 arg3 harg3 arg4 harg4 arg5 harg5 hc0 x0 x1)]
  unfold kernelRun0_A
  dsimp only
  sl_unfold_words
  rw [View.canon_unit_zero (S := S512x128) hz]
  simp only [View.readCov_unit_zero (S := S1x128) _ hz, View.readAt_eq_ld, harg1.read_unread, harg2.read_unread, View.ld_unit_zero (S := S512x128) hz, View.ld_unit_zero (S := S1x128) hz]
  rw [zero_row, pay3_eq]

theorem out_A_3 : out0_A_3 c i arg1 harg1 arg2 harg2 arg3 harg3 arg4 harg4 arg5 harg5 hc0 x0 x1 = spreadCols (tile x0 x1 (fun _ => (0 : EReal))) := by
  have cover := cover0_A_3 c i arg1 harg1 arg2 harg2 arg3 harg3 arg4 harg4 arg5 harg5 hc0 x0 x1
  unfold out0_A_3
  rw [View.read_writes_eq_canon _ _ _ cover]
  revert cover
  unfold kernelRun0_A
  dsimp only
  sl_unfold_words
  simp only [View.readCov_unit_zero (S := S1x128) _ hz, View.readAt_eq_ld, harg1.read_unread, harg2.read_unread, View.ld_unit_zero (S := S512x128) hz, View.ld_unit_zero (S := S1x128) hz]
  rw [zero_row, pay3_eq]
  intro cover
  funext y
  refine (?_ : Agrees (tile x0 x1 (fun _ => (0 : EReal))) _) y (cover y)
  refine store _ _ (h := 15) (by decide) _ ?_
  refine store _ _ (h := 14) (by decide) _ ?_
  refine store _ _ (h := 13) (by decide) _ ?_
  refine store _ _ (h := 12) (by decide) _ ?_
  refine store _ _ (h := 11) (by decide) _ ?_
  refine store _ _ (h := 10) (by decide) _ ?_
  refine store _ _ (h := 9) (by decide) _ ?_
  refine store _ _ (h := 8) (by decide) _ ?_
  refine store _ _ (h := 7) (by decide) _ ?_
  refine store _ _ (h := 6) (by decide) _ ?_
  refine store _ _ (h := 5) (by decide) _ ?_
  refine store _ _ (h := 4) (by decide) _ ?_
  refine store _ _ (h := 3) (by decide) _ ?_
  refine store _ _ (h := 2) (by decide) _ ?_
  refine store _ _ (h := 1) (by decide) _ ?_
  refine store _ _ (h := 0) (by decide) _ ?_
  exact agrees_nil _

theorem out_A_s : sout0_A_0 c i arg1 harg1 arg2 harg2 arg3 harg3 arg4 harg4 arg5 harg5 hc0 x0 x1 (ix2 0 k) = tile x0 x1 (fun _ => (0 : EReal)) (ix2 511 k) := by
  unfold sout0_A_0
  rw [View.read_writes_eq_canon _ _ _ (scover0_A_0 c i arg1 harg1 arg2 harg2 arg3 harg3 arg4 harg4 arg5 harg5 hc0 x0 x1)]
  unfold kernelRun0_A
  dsimp only
  sl_unfold_words
  rw [View.canon_cons_unit_zero (S := S1x128) hz]
  simp only [View.readCov_unit_zero (S := S1x128) _ hz, View.readAt_eq_ld, harg1.read_unread, harg2.read_unread, View.ld_unit_zero (S := S512x128) hz, View.ld_unit_zero (S := S1x128) hz]
  rw [zero_row, pay3_eq]
  exact last_row _ k arg3

end First

section Later
variable (hc0 : ¬cond0_0 i)

theorem out_B_2 : out0_B_2 c i arg1 harg1 arg2 harg2 arg3 harg3 arg4 harg4 arg5 harg5 hc0 x0 x1 xs0 = tile x0 x1 xs0 := by
  unfold out0_B_2
  rw [View.read_writes_eq_canon _ _ _ (cover0_B_2 c i arg1 harg1 arg2 harg2 arg3 harg3 arg4 harg4 arg5 harg5 hc0 x0 x1 xs0)]
  unfold kernelRun0_B
  dsimp only
  sl_unfold_words
  rw [View.canon_unit_zero (S := S512x128) hz]
  simp only [View.readAt_eq_ld, harg1.read_unread, harg2.read_unread, harg5.read_unread, View.ld_unit_zero (S := S512x128) hz, View.ld_unit_zero (S := S1x128) hz]
  rw [pay3_eq]

theorem out_B_3 : out0_B_3 c i arg1 harg1 arg2 harg2 arg3 harg3 arg4 harg4 arg5 harg5 hc0 x0 x1 xs0 = spreadCols (tile x0 x1 xs0) := by
  have cover := cover0_B_3 c i arg1 harg1 arg2 harg2 arg3 harg3 arg4 harg4 arg5 harg5 hc0 x0 x1 xs0
  unfold out0_B_3
  rw [View.read_writes_eq_canon _ _ _ cover]
  revert cover
  unfold kernelRun0_B
  dsimp only
  sl_unfold_words
  simp only [View.readAt_eq_ld, harg1.read_unread, harg2.read_unread, harg5.read_unread, View.ld_unit_zero (S := S512x128) hz, View.ld_unit_zero (S := S1x128) hz]
  rw [pay3_eq]
  intro cover
  funext y
  refine (?_ : Agrees (tile x0 x1 xs0) _) y (cover y)
  refine store _ _ (h := 15) (by decide) _ ?_
  refine store _ _ (h := 14) (by decide) _ ?_
  refine store _ _ (h := 13) (by decide) _ ?_
  refine store _ _ (h := 12) (by decide) _ ?_
  refine store _ _ (h := 11) (by decide) _ ?_
  refine store _ _ (h := 10) (by decide) _ ?_
  refine store _ _ (h := 9) (by decide) _ ?_
  refine store _ _ (h := 8) (by decide) _ ?_
  refine store _ _ (h := 7) (by decide) _ ?_
  refine store _ _ (h := 6) (by decide) _ ?_
  refine store _ _ (h := 5) (by decide) _ ?_
  refine store _ _ (h := 4) (by decide) _ ?_
  refine store _ _ (h := 3) (by decide) _ ?_
  refine store _ _ (h := 2) (by decide) _ ?_
  refine store _ _ (h := 1) (by decide) _ ?_
  refine store _ _ (h := 0) (by decide) _ ?_
  exact agrees_nil _

theorem out_B_s : sout0_B_0 c i arg1 harg1 arg2 harg2 arg3 harg3 arg4 harg4 arg5 harg5 hc0 x0 x1 xs0 (ix2 0 k) = tile x0 x1 xs0 (ix2 511 k) := by
  unfold sout0_B_0
  rw [View.read_writes_eq_canon _ _ _ (scover0_B_0 c i arg1 harg1 arg2 harg2 arg3 harg3 arg4 harg4 arg5 harg5 hc0 x0 x1 xs0)]
  unfold kernelRun0_B
  dsimp only
  sl_unfold_words
  rw [View.canon_unit_zero (S := S1x128) hz]
  simp only [View.readAt_eq_ld, harg1.read_unread, harg2.read_unread, harg5.read_unread, View.ld_unit_zero (S := S512x128) hz, View.ld_unit_zero (S := S1x128) hz]
  rw [pay3_eq]
  exact last_row _ k arg3

end Later

end Point

section Run
variable (m : (l : Loc nD τ sig) → Buf (Elt Ideal) l)

abbrev f (c : Dev nD) : Mat 8192 128 := m ((c : Thread nD τ).loc main_arg0)

/-- The bias with the zeros the host puts after it. -/
abbrev b (c : Dev nD) : Mat 1 128 := Cert.Reference30Ideal.Read.val_main_v0 (F := Ideal) (m ((c : Thread nD τ).loc main_arg1))

theorem V_b (c : Dev nD) : V m c main_v0 = b m c := by
  unfold_abbrev_sides
  unfold hostOps0 hostOps0_1
  simp only [List.flatten_cons, List.flatten_nil, List.cons_append, List.nil_append, List.append_nil]
  after_results
  rfl

/-- Which block each window takes at a point: the point's 512 rows, and the whole of the bias. -/
theorem idx_rows : ∀ t : Fin cfg0.N, (win0_0.index t 0 = t.val ∧ win0_0.index t 1 = 0) ∧ (win0_1.index t 0 = 0 ∧ win0_1.index t 1 = 0) ∧ (win0_2.index t 0 = t.val ∧ win0_2.index t 1 = 0) :=
  (by decide +kernel : ∀ t : Fin grid0.N, (win0_0.index t 0 = t.val ∧ win0_0.index t 1 = 0) ∧ (win0_1.index t 0 = 0 ∧ win0_1.index t 1 = 0) ∧ (win0_2.index t 0 = t.val ∧ win0_2.index t 1 = 0))

theorem idx_stack : ∀ t : Fin cfg0.N, win0_3.index t 0 = 0 ∧ win0_3.index t 1 = t.val ∧ win0_3.index t 2 = 0 :=
  (by decide +kernel : ∀ t : Fin grid0.N, win0_3.index t 0 = 0 ∧ win0_3.index t 1 = t.val ∧ win0_3.index t 2 = 0)

theorem rows_eq : 8192 = 16 * 512 := rfl

theorem points : cfg0.N = 16 := by decide

abbrev pt (t : Fin cfg0.N) : Fin 16 := ⟨t.val, lt_of_lt_of_eq t.isLt points⟩

theorem f_blk (c : Dev nD) (t : Fin cfg0.N) : iblk m c 0 t = band rows_eq (f m c) (pt t) := by
  funext j
  obtain ⟨r, k, rfl⟩ : ∃ (r : Fin 512) (k : Fin 128), j = ix2 r k := ⟨j 0, j 1, eq_ix2 j⟩
  unfold iblk
  rw [View.read_apply]
  exact (congrFun (V_main_arg0 m c) _).trans (congrArg (f m c) (band_at rows_eq _ (win0_0.index t) (pt t) (idx_rows t).1.1 (idx_rows t).1.2 r k rfl rfl))

theorem b_blk (c : Dev nD) (t : Fin cfg0.N) : iblk m c 1 t = b m c := by
  funext j
  unfold iblk
  rw [View.read_apply]
  exact (congrFun (V_b m c) _).trans (congrArg (b m c) (row_at _ (win0_1.index t) (idx_rows t).2.1.2 j rfl))

/-- The running sums over the whole sequence. -/
abbrev cum (c : Dev nD) : Mat 8192 128 := cumul (gates (f m c) (b m c))

/-- A band's rows of the running sums, from the band and the sum of the bands before it. -/
theorem tile_band (x : Mat 8192 128) (z carry : Mat 1 128) (p : Fin 16) (h : ∀ k, carry (ix2 0 k) = headSum (gates x z) (512 * p.val) k) :
    tile (band rows_eq x p) z carry = band rows_eq (cumul (gates x z)) p := by
  funext j
  obtain ⟨r, k, rfl⟩ : ∃ (r : Fin 512) (k : Fin 128), j = ix2 r k := ⟨j 0, j 1, eq_ix2 j⟩
  refine Eq.trans ?_ (upto_band rows_eq (gates x z) p r k).symm
  rw [← h]
  rfl

theorem tile_first (c : Dev nD) (t : Fin cfg0.N) (h0 : t.val % 16 = 0) :
    tile (band rows_eq (f m c) (pt t)) (b m c) (fun _ => (0 : EReal)) = band rows_eq (cum m c) (pt t) :=
  tile_band _ _ _ _ fun k => by
    have e : (pt t).val = 0 := (Nat.mod_eq_of_lt (pt t).isLt).symm.trans h0
    rw [e, Nat.mul_zero, headSum_zero]

/-- The sum up to a band's last row is that of the rows before the next band. -/
theorem last_of_band (x : Mat 8192 128) (p : Fin 16) (k : Fin 128) : band rows_eq (cumul x) p (ix2 511 k) = headSum x (512 * (p.val + 1)) k := by
  show headSum x (512 * p.val + 511 + 1) k = _
  rw [show 512 * p.val + 511 + 1 = 512 * (p.val + 1) by ring]

/-- What a point leaves for the next: the sums of the rows taken so far. -/
theorem carried (c : Dev nD) (n : ℕ) (h : n < cfg0.N) (k : Fin 128) : (outsAt0 m c n h).2.2 (ix2 0 k) = headSum (gates (f m c) (b m c)) (512 * (n + 1)) k := by
  induction n generalizing k with
  | zero =>
    have e := outsAt0_A m c ⟨0, h⟩ (Nat.zero_mod _)
    dsimp only at e
    rw [e]
    dsimp only
    rw [out_A_s, f_blk, b_blk, tile_first m c ⟨0, h⟩ (Nat.zero_mod _)]
    exact last_of_band _ _ k
  | succ n ih =>
    have hn : n + 1 < 16 := lt_of_lt_of_eq h points
    have h0 : ¬(n + 1) % 16 = 0 := by omega
    have e := outsAt0_B m c ⟨n + 1, h⟩ h0
    dsimp only at e
    rw [e]
    dsimp only
    rw [out_B_s, f_blk, b_blk]
    exact (congrFun (tile_band _ _ _ (pt ⟨n + 1, h⟩) fun k => ih (Nat.lt_of_succ_lt h) k) (ix2 511 k)).trans (last_of_band _ _ k)

theorem tile_later (c : Dev nD) (t : Fin cfg0.N) (h0 : ¬t.val % 16 = 0) (h' : t.val - 1 < cfg0.N) :
    tile (band rows_eq (f m c) (pt t)) (b m c) (outsAt0 m c (t.val - 1) h').2.2 = band rows_eq (cum m c) (pt t) :=
  tile_band _ _ _ _ fun k => (carried m c (t.val - 1) h' k).trans (by
    have e : t.val - 1 + 1 = (pt t).val := by
      show t.val - 1 + 1 = t.val
      have : t.val ≠ 0 := fun e => h0 (by rw [e])
      omega
    rw [e])

theorem cum_point (c : Dev nD) (t : Fin cfg0.N) : (outsAt0 m c t.val t.isLt).1 = band rows_eq (cum m c) (pt t) := by
  by_cases h0 : t.val % 16 = 0
  · rw [outsAt0_A m c t h0]
    dsimp only
    rw [out_A_2, f_blk, b_blk, tile_first m c t h0]
  · rw [outsAt0_B m c t h0]
    dsimp only
    rw [out_B_2, f_blk, b_blk, tile_later m c t h0]

theorem rep_point (c : Dev nD) (t : Fin cfg0.N) : (outsAt0 m c t.val t.isLt).2.1 = spreadCols (band rows_eq (cum m c) (pt t)) := by
  by_cases h0 : t.val % 16 = 0
  · rw [outsAt0_A m c t h0]
    dsimp only
    rw [out_A_3, f_blk, b_blk, tile_first m c t h0]
  · rw [outsAt0_B m c t h0]
    dsimp only
    rw [out_B_3, f_blk, b_blk, tile_later m c t h0]

/-- The two results. -/
abbrev sums (c : Dev nD) : Buf (Elt Ideal) ((c : Thread nD τ).loc main_v1_0) := cum m c
abbrev rep (c : Dev nD) : Buf (Elt Ideal) ((c : Thread nD τ).loc main_v1_1) := spreadCols (cum m c)

theorem cum_flushed (c : Dev nD) (t : Fin cfg0.N) : (dats m 0 c).flushed 2 t = ((cfg0.win 2).blk t).view.read (Elt Ideal) (sums m c) := by
  rw [Value.flushed2, cum_point m c]
  funext j
  rw [View.read_apply]
  obtain ⟨r, k, rfl⟩ : ∃ (r : Fin 512) (k : Fin 128), j = ix2 r k := ⟨j 0, j 1, eq_ix2 j⟩
  have hemb : ((cfg0.win 2).blk t).view.emb (ix2 r k) = (ix2 (at_band rows_eq (pt t) r) k : S8192x128.Idx) :=
    band_at rows_eq _ (win0_2.index t) (pt t) (idx_rows t).2.2.1 (idx_rows t).2.2.2 r k rfl rfl
  show band rows_eq (sums m c) (pt t) (ix2 r k) = sums m c (((cfg0.win 2).blk t).view.emb (ix2 r k))
  rw [hemb]
  rfl

theorem final_cum (c : Dev nD) : (dats m 0 c).arrAt 2 cfg0.N = sums m c :=
  (dats m 0 c).arrAt_eq_of_cover 2 (sums m c) (fun t _ => cum_flushed m c t) fun i => by
    obtain ⟨q, hq⟩ := band_covers rows_eq (show S8192x128.Idx from i)
    let t : Fin cfg0.N := ⟨q.val, lt_of_lt_of_eq q.isLt points.symm⟩
    refine ⟨t, flush0_2 _, ?_⟩
    show (show S8192x128.Idx from i) ∈ ((View.whole main_v1_0).slice (win0_2.rect t)).set
    rw [View.set_slice_whole, Rect.mem_set_unit]
    exact hq (win0_2.index t) (idx_rows t).2.2.1 (idx_rows t).2.2.2

theorem rep_flushed (c : Dev nD) (t : Fin cfg0.N) : (dats m 0 c).flushed 3 t = ((cfg0.win 3).blk t).view.read (Elt Ideal) (rep m c) := by
  rw [Value.flushed3, rep_point m c]
  funext j
  rw [View.read_apply]
  obtain ⟨h, r, l, rfl⟩ : ∃ (h : Fin 16) (r : Fin 512) (l : Fin 128), j = ix3 h r l := ⟨j 0, j 1, j 2, at_eq3 j _ _ _ rfl rfl rfl⟩
  have hemb : ((cfg0.win 3).blk t).view.emb (ix3 h r l) = (ix3 h (at_band rows_eq (pt t) r) l : S16x8192x128.Idx) := by
    refine at_eq3 _ _ _ _ ?_ ?_ ?_
    · show win0_3.index t 0 * 16 + 1 * h.val = h.val
      rw [(idx_stack t).1]; omega
    · show win0_3.index t 1 * 512 + 1 * r.val = 512 * t.val + r.val
      rw [(idx_stack t).2.1]; omega
    · show win0_3.index t 2 * 128 + 1 * l.val = l.val
      rw [(idx_stack t).2.2]; omega
  show spreadCols (band rows_eq (cum m c) (pt t)) (ix3 h r l) = rep m c (((cfg0.win 3).blk t).view.emb (ix3 h r l))
  rw [hemb]
  rfl

theorem final_rep (c : Dev nD) : (dats m 0 c).arrAt 3 cfg0.N = rep m c :=
  (dats m 0 c).arrAt_eq_of_cover 3 (rep m c) (fun t _ => rep_flushed m c t) fun i => by
    have i0 : ((show S16x8192x128.Idx from i) 0).val < 16 := ((show S16x8192x128.Idx from i) 0).isLt
    have i1 : ((show S16x8192x128.Idx from i) 1).val < 8192 := ((show S16x8192x128.Idx from i) 1).isLt
    have i2 : ((show S16x8192x128.Idx from i) 2).val < 128 := ((show S16x8192x128.Idx from i) 2).isLt
    let t : Fin cfg0.N := ⟨((show S16x8192x128.Idx from i) 1).val / 512, lt_of_lt_of_eq (by omega) points.symm⟩
    refine ⟨t, flush0_3 _, ?_⟩
    show (show S16x8192x128.Idx from i) ∈ ((View.whole main_v1_1).slice (win0_3.rect t)).set
    rw [View.set_slice_whole, Rect.mem_set_unit]
    intro a
    match a with
    | ⟨0, _⟩ =>
      show win0_3.index t 0 * 16 ≤ ((show S16x8192x128.Idx from i) 0).val ∧ ((show S16x8192x128.Idx from i) 0).val < win0_3.index t 0 * 16 + 16
      rw [(idx_stack t).1]; omega
    | ⟨1, _⟩ =>
      show win0_3.index t 1 * 512 ≤ ((show S16x8192x128.Idx from i) 1).val ∧ ((show S16x8192x128.Idx from i) 1).val < win0_3.index t 1 * 512 + 512
      rw [(idx_stack t).2.1]
      show ((show S16x8192x128.Idx from i) 1).val / 512 * 512 ≤ _ ∧ _ < ((show S16x8192x128.Idx from i) 1).val / 512 * 512 + 512
      omega
    | ⟨2, _⟩ =>
      show win0_3.index t 2 * 128 ≤ ((show S16x8192x128.Idx from i) 2).val ∧ ((show S16x8192x128.Idx from i) 2).val < win0_3.index t 2 * 128 + 128
      rw [(idx_stack t).2.2]; omega

end Run

end Cert.Kernel30Ideal.ForgetFwd

namespace Cert.Reference30Ideal.Read

open Cert.Reference30Ideal Cert.Reference30Ideal.Gen Idealize.ShloMosaic Idealize.ShloMosaic.TcCoe Idealize.SL.Sem Idealize.ShloMosaic.StableHlo
open Cert.Products Cert.Reals Cert.Norms Cert.Forget

variable (x0 : Mat 8192 128) (x1 : Mat 1 16)

theorem zero_eq (i : S8192x128.Idx) : val_main_call1_call0_v2 (F := Ideal) i = (0 : EReal) := Ideal.ofBits_zero .f32

theorem select_ne {α : Type} (x : EReal) (a b : α) : Scalar.select (Ideal.cmp .une x x) a b = b :=
  if_neg (by show ¬BitVec.ofBool (decide (x ≠ x)) = 1; simp)

theorem soft_val (i : S8192x128.Idx) : val_main_call1_v1 (F := Ideal) x0 x1 i = soft (val_main_call1_v0 (F := Ideal) x0 x1 i) := by
  unfold soft
  show Scalar.select (Ideal.cmp .une (val_main_call1_call0_v3 (F := Ideal) x0 x1 i) (val_main_call1_call0_v3 (F := Ideal) x0 x1 i)) _ _ = _
  rw [select_ne]
  have e3 : val_main_call1_call0_v3 (F := Ideal) x0 x1 i = val_main_call1_v0 (F := Ideal) x0 x1 i := by
    show val_main_call1_v0 (F := Ideal) x0 x1 i - val_main_call1_call0_v2 (F := Ideal) i = _
    rw [zero_eq, sub_zero]
  show max (val_main_call1_v0 (F := Ideal) x0 x1 i) (val_main_call1_call0_v2 (F := Ideal) i)
    + Ideal.log1p (Ideal.exp (-max (val_main_call1_call0_v3 (F := Ideal) x0 x1 i) (-(val_main_call1_call0_v3 (F := Ideal) x0 x1 i)))) = _
  rw [zero_eq, e3]

theorem gates_eq : val_main_v3 (F := Ideal) x0 x1 = gates x0 (val_main_v0 (F := Ideal) x1) := by
  funext i
  obtain ⟨r, k, rfl⟩ : ∃ (r : Fin 8192) (k : Fin 128), i = ix2 r k := ⟨i 0, i 1, eq_ix2 i⟩
  have e : val_main_call1_v0 (F := Ideal) x0 x1 (ix2 r k) = -(x0 (ix2 r k) + val_main_v0 (F := Ideal) x1 (ix2 0 k)) := by
    pointwise [val_main_call1_v0, val_main_v2, val_main_v1]
  show -(val_main_call1_v1 (F := Ideal) x0 x1 (ix2 r k)) = -(soft (-(x0 (ix2 r k) + val_main_v0 (F := Ideal) x1 (ix2 0 k))))
  rw [soft_val, e]

theorem cum_eq : val_main_v4 (F := Ideal) x0 x1 = cumul (gates x0 (val_main_v0 (F := Ideal) x1)) := by
  funext i
  obtain ⟨r, k, rfl⟩ : ∃ (r : Fin 8192) (k : Fin 128), i = ix2 r k := ⟨i 0, i 1, eq_ix2 i⟩
  have z : (val_main_call2_v0 (F := Ideal)) (Shape.Idx.first h_S_) = (0 : EReal) := Ideal.ofBits_zero .f32
  unfold val_main_v4 Host.reduceWindowAdd
  rw [z, gates_eq]
  exact window_upto rfl (gates x0 (val_main_v0 (F := Ideal) x1)) reduceWindows_S8192x128_S8192x128_w8192s1p8191_0_w1s1p0_0 r k

theorem rep_eq : val_main_v8 (F := Ideal) x0 x1 = spreadCols (cumul (gates x0 (val_main_v0 (F := Ideal) x1))) := by
  funext i
  rw [val_main_v8_apply, val_main_v7_apply, val_main_v6_apply, val_main_v5_apply, cum_eq]
  exact congrArg (cumul (gates x0 (val_main_v0 (F := Ideal) x1))) (at_eq _ _ _ rfl rfl)

/-- The reference's run, its results as functions of the arguments. -/
theorem run_vals (m : (l : Loc nD τ sig) → Buf (Elt Ideal) l) (ρ : Dev nD → PrngReg) :
    θ_run defs (onTc (τ := τ) (main (F := Ideal))) ⟨m, fun _ => 0, ρ⟩ fun r => ∀ c : Dev nD,
      r.2.mem ((c.tc : Thread nD τ).loc main_v4) = val_main_v4 (F := Ideal) (m ((c.tc : Thread nD τ).loc main_arg0)) (m ((c.tc : Thread nD τ).loc main_arg1))
      ∧ r.2.mem ((c.tc : Thread nD τ).loc main_v8) = val_main_v8 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v4_eq _ _), (h c).2.1.trans (val_main_v8_eq _ _), (h c).2.2⟩)
    (Cert.Reference30Ideal.Value.run m ρ)

end Cert.Reference30Ideal.Read

end
-- ==== Proof.Post.lean ====
/- The output norm's backward kernel at one point of its grid: from a band of 256 rows, the gradients of `Norms`. -/
module

public import proofs.«01_k».proof.Proof.Gen.Kernel19Ideal.Value
public import proofs.«01_k».proof.Proof.Tiles
public import proofs.«01_k».proof.Proof.Norms

@[expose] public section

set_option maxRecDepth 16384

noncomputable section

namespace Cert.Kernel19Ideal.Post

open Cert.Kernel19Ideal Cert.Kernel19Ideal.Gen Idealize.ShloMosaic Idealize.ShloMosaic.TcCoe Idealize.SL.Sem Idealize.ShloMosaic.StableHlo
open Cert.Products Cert.Gating Cert.Norms

section Values

variable (y d : FVec Ideal S256x2048 .f32) (g a acc : FVec Ideal S1x2048 .f32) (r : Fin 256) (k : Fin 2048)

theorem pay4_apply : k0_pay4 (F := Ideal) y (ix2 r 0) = rrms (row y r) := by
  unfold rrms mean row
  pointwise [k0_pay4]

theorem pay5_apply : k0_pay5 (F := Ideal) y (ix2 r k) = over (row y r) k := by
  unfold over
  rw [← pay4_apply]
  unfold row
  pointwise [k0_pay5]

theorem pay7_apply : k0_pay7 (F := Ideal) d a (ix2 r k) = scaled d a (ix2 r k) := by
  unfold scaled
  pointwise [k0_pay7]

theorem pay6_apply : k0_pay6 (F := Ideal) y d acc g (ix2 0 k) = acc (ix2 0 k) + outGrad d y g (ix2 0 k) := by
  unfold outGrad
  show _ = _ + ∑ s : Fin 256, d (ix2 s k) * (over (row y s) k * g (ix2 0 k))
  simp only [← pay5_apply]
  pointwise [k0_pay6]

theorem pay8_apply : k0_pay8 (F := Ideal) y d a acc (ix2 0 k) = acc (ix2 0 k) + scaleGrad (scaled d a) y (ix2 0 k) := by
  unfold scaleGrad
  show _ = _ + ∑ s : Fin 256, scaled d a (ix2 s k) * over (row y s) k
  simp only [← pay5_apply, ← pay7_apply]
  pointwise [k0_pay8]

theorem pay1_apply : k0_pay1 (F := Ideal) (k0_pay4 y) (k0_pay5 y) (k0_pay7 d a) g (ix2 r k) = inGrad (scaled d a) y g (ix2 r k) := by
  unfold inGrad rmsGrad mean
  show _ = rrms (row y r) * (scaled d a (ix2 r k) * g (ix2 0 k)
    - over (row y r) k * Ideal.div (∑ k, scaled d a (ix2 r k) * g (ix2 0 k) * over (row y r) k) width)
  simp only [← pay4_apply, ← pay5_apply, ← pay7_apply]
  pointwise [k0_pay1]

end Values

section Point

variable (c : Dev nD) (i : grid0.Coords) (arg1 : Memref sig .tc .vmem S256x2048 .f32) (harg1 : arg1.IsWhole) (arg2 : Memref sig .tc .vmem S256x2048 .f32) (harg2 : arg2.IsWhole)
  (arg3 : Memref sig .tc .vmem S1x2048 .f32) (harg3 : arg3.IsWhole) (arg4 : Memref sig .tc .vmem S1x2048 .f32) (harg4 : arg4.IsWhole)
  (arg5 : Memref sig .tc .vmem S256x2048 .bf16) (harg5 : arg5.IsWhole) (arg6 : Memref sig .tc .vmem S1x2048 .f32) (harg6 : arg6.IsWhole)
  (arg7 : Memref sig .tc .vmem S1x2048 .f32) (harg7 : arg7.IsWhole)
  (x0 x1 : Vec Ideal S256x2048 .f32) (x2 x3 xo5 xo6 : Vec Ideal S1x2048 .f32)

section First
variable (hc0 : cond0_0 i)

theorem out_A_4 : out0_A_4 c i arg1 harg1 arg2 harg2 arg3 harg3 arg4 harg4 arg5 harg5 arg6 harg6 arg7 harg7 hc0 x0 x1 x2 x3 = inGrad (scaled x0 x3) x1 x2 := by
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  sl_unfold_words
  rw [View.canon_unit_zero (S := S256x2048) hz]
  simp only [View.readAt_eq_ld, harg1.read_unread, harg2.read_unread, harg3.read_unread, harg4.read_unread, View.ld_unit_zero (S := S256x2048) hz, View.ld_unit_zero (S := S1x2048) hz]
  funext j
  obtain ⟨r, k, rfl⟩ : ∃ (r : Fin 256) (k : Fin 2048), j = ix2 r k := ⟨j 0, j 1, eq_ix2 j⟩
  exact pay1_apply x1 x0 x2 x3 r k

theorem out_A_5 (k : Fin 2048) : out0_A_5 c i arg1 harg1 arg2 harg2 arg3 harg3 arg4 harg4 arg5 harg5 arg6 harg6 arg7 harg7 hc0 x0 x1 x2 x3 (ix2 0 k) = outGrad x0 x1 x2 (ix2 0 k) := by
  unfold out0_A_5
  rw [View.read_writes_eq_canon _ _ _ (cover0_A_5 c i arg1 harg1 arg2 harg2 arg3 harg3 arg4 harg4 arg5 harg5 arg6 harg6 arg7 harg7 hc0 x0 x1 x2 x3)]
  unfold kernelRun0_A
  dsimp only
  sl_unfold_words
  rw [View.canon_cons_unit_zero (S := S1x2048) hz]
  simp only [View.readCov_unit_zero (S := S1x2048) _ hz, View.readAt_eq_ld, harg1.read_unread, harg2.read_unread, harg3.read_unread, harg4.read_unread, View.ld_unit_zero (S := S256x2048) hz, View.ld_unit_zero (S := S1x2048) hz]
  exact (pay6_apply x1 x0 x2 k0_pay2 k).trans (by rw [show (k0_pay2 (F := Ideal)) (ix2 0 k) = (0 : EReal) from Ideal.ofBits_zero .f32, zero_add])

theorem out_A_6 (k : Fin 2048) : out0_A_6 c i arg1 harg1 arg2 harg2 arg3 harg3 arg4 harg4 arg5 harg5 arg6 harg6 arg7 harg7 hc0 x0 x1 x2 x3 (ix2 0 k) = scaleGrad (scaled x0 x3) x1 (ix2 0 k) := by
  unfold out0_A_6
  rw [View.read_writes_eq_canon _ _ _ (cover0_A_6 c i arg1 harg1 arg2 harg2 arg3 harg3 arg4 harg4 arg5 harg5 arg6 harg6 arg7 harg7 hc0 x0 x1 x2 x3)]
  unfold kernelRun0_A
  dsimp only
  sl_unfold_words
  rw [View.canon_cons_unit_zero (S := S1x2048) hz]
  simp only [View.readCov_unit_zero (S := S1x2048) _ hz, View.readAt_eq_ld, harg1.read_unread, harg2.read_unread, harg3.read_unread, harg4.read_unread, View.ld_unit_zero (S := S256x2048) hz, View.ld_unit_zero (S := S1x2048) hz]
  exact (pay8_apply x1 x0 x3 k0_pay3 k).trans (by rw [show (k0_pay3 (F := Ideal)) (ix2 0 k) = (0 : EReal) from Ideal.ofBits_zero .f32, zero_add])

end First

section Later
variable (hc0 : ¬cond0_0 i)

theorem out_B_4 : out0_B_4 c i arg1 harg1 arg2 harg2 arg3 harg3 arg4 harg4 arg5 harg5 arg6 harg6 arg7 harg7 hc0 x0 x1 x2 x3 xo5 xo6 = inGrad (scaled x0 x3) x1 x2 := by
  unfold out0_B_4
  rw [View.read_writes_eq_canon _ _ _ (cover0_B_4 c i arg1 harg1 arg2 harg2 arg3 harg3 arg4 harg4 arg5 harg5 arg6 harg6 arg7 harg7 hc0 x0 x1 x2 x3 xo5 xo6)]
  unfold kernelRun0_B
  dsimp only
  sl_unfold_words
  rw [View.canon_unit_zero (S := S256x2048) hz]
  simp only [View.readAt_eq_ld, harg1.read_unread, harg2.read_unread, harg3.read_unread, harg4.read_unread, View.ld_unit_zero (S := S256x2048) hz, View.ld_unit_zero (S := S1x2048) hz]
  funext j
  obtain ⟨r, k, rfl⟩ : ∃ (r : Fin 256) (k : Fin 2048), j = ix2 r k := ⟨j 0, j 1, eq_ix2 j⟩
  exact pay1_apply x1 x0 x2 x3 r k

theorem out_B_5 (k : Fin 2048) : out0_B_5 c i arg1 harg1 arg2 harg2 arg3 harg3 arg4 harg4 arg5 harg5 arg6 harg6 arg7 harg7 hc0 x0 x1 x2 x3 xo5 xo6 (ix2 0 k) = xo5 (ix2 0 k) + outGrad x0 x1 x2 (ix2 0 k) := by
  unfold out0_B_5
  rw [View.read_writes_eq_canon _ _ _ (cover0_B_5 c i arg1 harg1 arg2 harg2 arg3 harg3 arg4 harg4 arg5 harg5 arg6 harg6 arg7 harg7 hc0 x0 x1 x2 x3 xo5 xo6)]
  unfold kernelRun0_B
  dsimp only
  sl_unfold_words
  rw [View.canon_unit_zero (S := S1x2048) hz]
  simp only [View.readAt_eq_ld, harg1.read_unread, harg2.read_unread, harg3.read_unread, harg4.read_unread, harg6.read_unread, View.ld_unit_zero (S := S256x2048) hz, View.ld_unit_zero (S := S1x2048) hz]
  exact pay6_apply x1 x0 x2 xo5 k

theorem out_B_6 (k : Fin 2048) : out0_B_6 c i arg1 harg1 arg2 harg2 arg3 harg3 arg4 harg4 arg5 harg5 arg6 harg6 arg7 harg7 hc0 x0 x1 x2 x3 xo5 xo6 (ix2 0 k) = xo6 (ix2 0 k) + scaleGrad (scaled x0 x3) x1 (ix2 0 k) := by
  unfold out0_B_6
  rw [View.read_writes_eq_canon _ _ _ (cover0_B_6 c i arg1 harg1 arg2 harg2 arg3 harg3 arg4 harg4 arg5 harg5 arg6 harg6 arg7 harg7 hc0 x0 x1 x2 x3 xo5 xo6)]
  unfold kernelRun0_B
  dsimp only
  sl_unfold_words
  rw [View.canon_unit_zero (S := S1x2048) hz]
  simp only [View.readAt_eq_ld, harg1.read_unread, harg2.read_unread, harg3.read_unread, harg4.read_unread, harg7.read_unread, View.ld_unit_zero (S := S256x2048) hz, View.ld_unit_zero (S := S1x2048) hz]
  exact pay8_apply x1 x0 x3 xo6 k

end Later
end Point

end Cert.Kernel19Ideal.Post

end
-- ==== Proof.PostRun.lean ====
/- The output norm's backward pass over the whole sequence: the kernel's 32 points leave the three gradients of `Norms` in the
   three result arrays, and the reference's results are those gradients. -/
module

public import proofs.«01_k».proof.Proof.Post
public import proofs.«01_k».proof.Proof.Gen.Reference19Ideal.Read
public import proofs.«01_k».proof.Proof.Gen.Pre_finite19

@[expose] public section

set_option maxRecDepth 16384

noncomputable section

namespace Cert.Kernel19Ideal.Post

open Cert.Kernel19Ideal Cert.Kernel19Ideal.Gen Idealize.ShloMosaic Idealize.ShloMosaic.TcCoe Idealize.SL.Sem Idealize.ShloMosaic.StableHlo
open Idealize.ShloMosaic.Pipeline (Dat)
open Cert.Products Cert.Norms

variable (m : (l : Loc nD τ sig) → Buf (Elt Ideal) l)

abbrev d (c : Dev nD) : Mat 8192 2048 := m ((c : Thread nD τ).loc main_arg0)
abbrev y (c : Dev nD) : Mat 8192 2048 := m ((c : Thread nD τ).loc main_arg1)
abbrev g (c : Dev nD) : Mat 1 2048 := m ((c : Thread nD τ).loc main_arg2)
abbrev a (c : Dev nD) : Mat 1 2048 := m ((c : Thread nD τ).loc main_arg3)

/-- Which block each window takes at a point: the point's 256 rows of the first two arguments and of the first result, the
    whole of the others. -/
theorem idx_rows : ∀ t : Fin cfg0.N, (win0_0.index t 0 = t.val ∧ win0_0.index t 1 = 0) ∧ (win0_1.index t 0 = t.val ∧ win0_1.index t 1 = 0)
    ∧ win0_4.index t 0 = t.val ∧ win0_4.index t 1 = 0 :=
  (by decide +kernel : ∀ t : Fin grid0.N, (win0_0.index t 0 = t.val ∧ win0_0.index t 1 = 0) ∧ (win0_1.index t 0 = t.val ∧ win0_1.index t 1 = 0)
    ∧ win0_4.index t 0 = t.val ∧ win0_4.index t 1 = 0)

theorem idx_flat : ∀ t : Fin cfg0.N, (win0_2.index t 0 = 0 ∧ win0_2.index t 1 = 0) ∧ (win0_3.index t 0 = 0 ∧ win0_3.index t 1 = 0)
    ∧ (win0_5.index t 0 = 0 ∧ win0_5.index t 1 = 0) ∧ win0_6.index t 0 = 0 ∧ win0_6.index t 1 = 0 :=
  (by decide +kernel : ∀ t : Fin grid0.N, (win0_2.index t 0 = 0 ∧ win0_2.index t 1 = 0) ∧ (win0_3.index t 0 = 0 ∧ win0_3.index t 1 = 0)
    ∧ (win0_5.index t 0 = 0 ∧ win0_5.index t 1 = 0) ∧ win0_6.index t 0 = 0 ∧ win0_6.index t 1 = 0)

theorem rows_eq : 8192 = 32 * 256 := rfl

theorem points : cfg0.N = 32 := by decide

/-- A point is a band of the rows. -/
abbrev pt (t : Fin cfg0.N) : Fin 32 := ⟨t.val, lt_of_lt_of_eq t.isLt points⟩

theorem d_blk (c : Dev nD) (t : Fin cfg0.N) : iblk m c 0 t = band rows_eq (d m c) (pt t) := by
  funext j
  obtain ⟨r, k, rfl⟩ : ∃ (r : Fin 256) (k : Fin 2048), j = ix2 r k := ⟨j 0, j 1, eq_ix2 j⟩
  unfold iblk
  rw [View.read_apply]
  exact (congrFun (V_main_arg0 m c) _).trans (congrArg (d m c) (band_at rows_eq _ (win0_0.index t) (pt t) (idx_rows t).1.1 (idx_rows t).1.2 r k rfl rfl))

theorem y_blk (c : Dev nD) (t : Fin cfg0.N) : iblk m c 1 t = band rows_eq (y m c) (pt t) := by
  funext j
  obtain ⟨r, k, rfl⟩ : ∃ (r : Fin 256) (k : Fin 2048), j = ix2 r k := ⟨j 0, j 1, eq_ix2 j⟩
  unfold iblk
  rw [View.read_apply]
  exact (congrFun (V_main_arg1 m c) _).trans (congrArg (y m c) (band_at rows_eq _ (win0_1.index t) (pt t) (idx_rows t).2.1.1 (idx_rows t).2.1.2 r k rfl rfl))

theorem g_blk (c : Dev nD) (t : Fin cfg0.N) : iblk m c 2 t = g m c := by
  funext j
  unfold iblk
  rw [View.read_apply]
  exact (congrFun (V_main_arg2 m c) _).trans (congrArg (g m c) (row_at _ (win0_2.index t) (idx_flat t).1.2 j rfl))

theorem a_blk (c : Dev nD) (t : Fin cfg0.N) : iblk m c 3 t = a m c := by
  funext j
  unfold iblk
  rw [View.read_apply]
  exact (congrFun (V_main_arg3 m c) _).trans (congrArg (a m c) (row_at _ (win0_3.index t) (idx_flat t).2.1.2 j rfl))

abbrev dy (c : Dev nD) : Buf (Elt Ideal) ((c : Thread nD τ).loc main_v0_0) := inGrad (scaled (d m c) (a m c)) (y m c) (g m c)
abbrev da (c : Dev nD) : Buf (Elt Ideal) ((c : Thread nD τ).loc main_v0_1) := outGrad (d m c) (y m c) (g m c)
abbrev dg (c : Dev nD) : Buf (Elt Ideal) ((c : Thread nD τ).loc main_v0_2) := scaleGrad (scaled (d m c) (a m c)) (y m c)

theorem y_point (c : Dev nD) (t : Fin cfg0.N) :
    (outsAt0 m c t.val t.isLt).1 = band rows_eq (inGrad (scaled (d m c) (a m c)) (y m c) (g m c)) (pt t) := by
  by_cases h0 : t.val % 32 = 0
  · rw [outsAt0_A m c t h0]
    dsimp only
    rw [out_A_4, d_blk, y_blk, g_blk, a_blk, scaled_band, inGrad_band]
  · rw [outsAt0_B m c t h0]
    dsimp only
    rw [out_B_4, d_blk, y_blk, g_blk, a_blk, scaled_band, inGrad_band]

theorem y_flushed (c : Dev nD) (t : Fin cfg0.N) : (dats m 0 c).flushed 4 t = ((cfg0.win 4).blk t).view.read (Elt Ideal) (dy m c) := by
  rw [Value.flushed4, y_point]
  funext j
  rw [View.read_apply]
  obtain ⟨r, k, rfl⟩ : ∃ (r : Fin 256) (k : Fin 2048), j = ix2 r k := ⟨j 0, j 1, eq_ix2 j⟩
  have hemb : ((cfg0.win 4).blk t).view.emb (ix2 r k) = (ix2 (at_band rows_eq (pt t) r) k : S8192x2048.Idx) :=
    band_at rows_eq _ (win0_4.index t) (pt t) (idx_rows t).2.2.1 (idx_rows t).2.2.2 r k rfl rfl
  show band rows_eq (dy m c) (pt t) (ix2 r k) = dy m c (((cfg0.win 4).blk t).view.emb (ix2 r k))
  rw [hemb]
  rfl

theorem final_y (c : Dev nD) : (dats m 0 c).arrAt 4 cfg0.N = dy m c :=
  (dats m 0 c).arrAt_eq_of_cover 4 (dy m c) (fun t _ => y_flushed m c t) fun i => by
    obtain ⟨q, hq⟩ := band_covers rows_eq (show S8192x2048.Idx from i)
    let t : Fin cfg0.N := ⟨q.val, lt_of_lt_of_eq q.isLt points.symm⟩
    refine ⟨t, flush0_4 _, ?_⟩
    show (show S8192x2048.Idx from i) ∈ ((View.whole main_v0_0).slice (win0_4.rect t)).set
    rw [View.set_slice_whole, Rect.mem_set_unit]
    exact hq (win0_4.index t) (idx_rows t).2.2.1 (idx_rows t).2.2.2

theorem a_total (c : Dev nD) (t : Fin cfg0.N) (ht : t.val % 32 = 31) (k : Fin 2048) : (outsAt0 m c t.val t.isLt).2.1 (ix2 0 k) = da m c (ix2 0 k) := by
  refine (in_all points (outsAt0 m c) (fun x => x.2.1 (ix2 0 k)) (fun q => outGrad (band rows_eq (d m c) q) (band rows_eq (y m c) q) (g m c) (ix2 0 k))
    (fun t h0 => ?_) (fun t h0 => ?_) t ht).trans (outGrad_bands rows_eq (d m c) (y m c) (g m c) (ix2 0 k))
  · show (outsAt0 m c t.val t.isLt).2.1 (ix2 0 k) = _
    rw [outsAt0_A m c t h0]
    dsimp only
    rw [out_A_5, d_blk, y_blk, g_blk]
  · show (outsAt0 m c t.val t.isLt).2.1 (ix2 0 k) = _
    rw [outsAt0_B m c t h0]
    dsimp only
    rw [out_B_5, d_blk, y_blk, g_blk]

theorem g_total (c : Dev nD) (t : Fin cfg0.N) (ht : t.val % 32 = 31) (k : Fin 2048) : (outsAt0 m c t.val t.isLt).2.2 (ix2 0 k) = dg m c (ix2 0 k) := by
  refine (in_all points (outsAt0 m c) (fun x => x.2.2 (ix2 0 k)) (fun q => scaleGrad (band rows_eq (scaled (d m c) (a m c)) q) (band rows_eq (y m c) q) (ix2 0 k))
    (fun t h0 => ?_) (fun t h0 => ?_) t ht).trans (scaleGrad_bands rows_eq (scaled (d m c) (a m c)) (y m c) (ix2 0 k))
  · show (outsAt0 m c t.val t.isLt).2.2 (ix2 0 k) = _
    rw [outsAt0_A m c t h0]
    dsimp only
    rw [out_A_6, d_blk, y_blk, a_blk, scaled_band]
  · show (outsAt0 m c t.val t.isLt).2.2 (ix2 0 k) = _
    rw [outsAt0_B m c t h0]
    dsimp only
    rw [out_B_6, d_blk, y_blk, a_blk, scaled_band]

abbrev lastPt : Fin cfg0.N := ⟨31, by decide⟩

theorem final_a (c : Dev nD) : (dats m 0 c).arrAt 5 cfg0.N = da m c :=
  (dats m 0 c).arrAt_eq_of_cover 5 (da m c) (fun t ht => by
    rw [Value.flushed5]
    funext j
    rw [View.read_apply]
    obtain ⟨k, rfl⟩ : ∃ k : Fin 2048, j = ix2 0 k := ⟨j 1, eq_row j⟩
    exact (a_total m c t ((flush0_5 t).mp ht) k).trans
      (congrArg (da m c) (row_at (((cfg0.win 5).blk t).view.emb (ix2 0 k)) (win0_5.index t) (idx_flat t).2.2.1.2 (ix2 0 k) rfl).symm)) fun i => by
    refine ⟨lastPt, (flush0_5 lastPt).mpr rfl, ?_⟩
    show (show S1x2048.Idx from i) ∈ ((View.whole main_v0_1).slice (win0_5.rect lastPt)).set
    rw [View.set_slice_whole, Rect.mem_set_unit]
    exact row_covers (win0_5.index lastPt) (idx_flat lastPt).2.2.1.1 (idx_flat lastPt).2.2.1.2 (show S1x2048.Idx from i)

theorem final_g (c : Dev nD) : (dats m 0 c).arrAt 6 cfg0.N = dg m c :=
  (dats m 0 c).arrAt_eq_of_cover 6 (dg m c) (fun t ht => by
    rw [Value.flushed6]
    funext j
    rw [View.read_apply]
    obtain ⟨k, rfl⟩ : ∃ k : Fin 2048, j = ix2 0 k := ⟨j 1, eq_row j⟩
    exact (g_total m c t ((flush0_6 t).mp ht) k).trans
      (congrArg (dg m c) (row_at (((cfg0.win 6).blk t).view.emb (ix2 0 k)) (win0_6.index t) (idx_flat t).2.2.2.2 (ix2 0 k) rfl).symm)) fun i => by
    refine ⟨lastPt, (flush0_6 lastPt).mpr rfl, ?_⟩
    show (show S1x2048.Idx from i) ∈ ((View.whole main_v0_2).slice (win0_6.rect lastPt)).set
    rw [View.set_slice_whole, Rect.mem_set_unit]
    exact row_covers (win0_6.index lastPt) (idx_flat lastPt).2.2.2.1 (idx_flat lastPt).2.2.2.2 (show S1x2048.Idx from i)

end Cert.Kernel19Ideal.Post

namespace Cert.Reference19Ideal.Read

open Cert.Reference19Ideal Cert.Reference19Ideal.Gen Idealize.ShloMosaic Idealize.ShloMosaic.TcCoe Idealize.SL.Sem Idealize.ShloMosaic.StableHlo
open Cert.Products Cert.Reals Cert.Gating Cert.Norms

variable (x0 x1 : Mat 8192 2048) (x2 x3 : Mat 1 2048) (r : Fin 8192) (k : Fin 2048)

theorem msq_eq : val_main_v6 (F := Ideal) x1 (ix2 r 0) = mean (fun k => row x1 r k * row x1 r k) + eps := by
  unfold mean row
  pointwise [val_main_v6, val_main_v5, val_main_v4, val_main_v3, val_main_v2, val_main_v1, val_main_v0, val_main_cst, val_main_cst_0, val_main_cst_1]

theorem rrms_eq : val_main_v7 (F := Ideal) x1 (ix2 r 0) = rrms (row x1 r) := by
  unfold rrms
  rw [← msq_eq]
  pointwise [val_main_v7]

theorem over_eq : val_main_v12 (F := Ideal) x1 (ix2 r k) = over (row x1 r) k := by
  unfold over
  rw [← rrms_eq]
  unfold row
  pointwise [val_main_v12, val_main_v11]

theorem scaled_eq : val_main_v18 (F := Ideal) x0 x3 (ix2 r k) = scaled x0 x3 (ix2 r k) := by
  refine Eq.trans ?_ (mul_comm (x3 (ix2 0 k)) (x0 (ix2 r k)))
  pointwise [val_main_v18, val_main_v17]

theorem outGrad_eq : val_main_v21 (F := Ideal) x0 x1 x2 = outGrad x0 x1 x2 := by
  funext i
  obtain ⟨k, rfl⟩ : ∃ k : Fin 2048, i = ix2 0 k := ⟨i 1, eq_row i⟩
  show _ = ∑ s : Fin 8192, x0 (ix2 s k) * (over (row x1 s) k * x2 (ix2 0 k))
  simp only [← over_eq]
  pointwise [val_main_v21, val_main_v20, val_main_v19, val_main_v14, val_main_v13, val_main_cst_3]

theorem scaleGrad_eq : val_main_v24 (F := Ideal) x0 x1 x3 = scaleGrad (scaled x0 x3) x1 := by
  funext i
  obtain ⟨k, rfl⟩ : ∃ k : Fin 2048, i = ix2 0 k := ⟨i 1, eq_row i⟩
  refine Eq.trans ?_ (Finset.sum_congr rfl fun s _ => mul_comm (over (row x1 s) k) (scaled x0 x3 (ix2 s k)))
  simp only [← over_eq, ← scaled_eq]
  pointwise [val_main_v24, val_main_v23, val_main_v22, val_main_cst_4]

theorem grad_eq : val_main_v26 (F := Ideal) x0 x2 x3 (ix2 r k) = row (scaled (scaled x0 x3) x2) r k := by
  show _ = scaled x0 x3 (ix2 r k) * x2 (ix2 0 k)
  rw [← scaled_eq]
  pointwise [val_main_v26, val_main_v25]

theorem inner_eq : val_main_v36 (F := Ideal) x0 x1 x2 x3 (ix2 r k)
    = Ideal.div ((∑ k, row x1 r k * row (scaled (scaled x0 x3) x2) r k)
        * (Ideal.ofBits .f32 0xBF000000#32 * Ideal.div (rrms (row x1 r)) (mean (fun k => row x1 r k * row x1 r k) + eps))) width := by
  simp only [← grad_eq]
  rw [← rrms_eq, ← msq_eq]
  unfold row
  pointwise [val_main_v36, val_main_v35, val_main_v34, val_main_v33, val_main_v32, val_main_v29, val_main_v28, val_main_v27, val_main_v10, val_main_v9, val_main_v8,
    val_main_cst_2, val_main_cst_5, val_main_cst_6, val_main_cst_7]
  exact Fin.sum_univ_one _

theorem inGrad_eq (h0 : ∀ i, IsReal (x0 i)) (h1 : ∀ i, IsReal (x1 i)) (h2 : ∀ i, IsReal (x2 i)) (h3 : ∀ i, IsReal (x3 i)) :
    val_main_v41 (F := Ideal) x0 x1 x2 x3 = inGrad (scaled x0 x3) x1 x2 := by
  funext i
  obtain ⟨r, k, rfl⟩ : ∃ (r : Fin 8192) (k : Fin 2048), i = ix2 r k := ⟨i 0, i 1, eq_ix2 i⟩
  refine Eq.trans ?_ (rms_forms (w := row x1 r) (d := row (scaled (scaled x0 x3) x2) r) (fun _ => h1 _) (fun _ => ((h0 _).mul (h3 _)).mul (h2 _)) k _ (inner_eq x0 x1 x2 x3 r k))
  rw [← grad_eq, ← rrms_eq]
  unfold row
  pointwise [val_main_v41, val_main_v40, val_main_v39, val_main_v38, val_main_v37, val_main_v31, val_main_v30]

/-- The reference's run, its results as functions of the arguments. -/
theorem run_vals (m : (l : Loc nD τ sig) → Buf (Elt Ideal) l) (ρ : Dev nD → PrngReg) :
    θ_run defs (onTc (τ := τ) (main (F := Ideal))) ⟨m, fun _ => 0, ρ⟩ fun r => ∀ c : Dev nD,
      r.2.mem ((c.tc : Thread nD τ).loc main_v41) = val_main_v41 (F := Ideal) (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v21) = val_main_v21 (F := Ideal) (m ((c.tc : Thread nD τ).loc main_arg0)) (m ((c.tc : Thread nD τ).loc main_arg1))
        (m ((c.tc : Thread nD τ).loc main_arg2))
      ∧ r.2.mem ((c.tc : Thread nD τ).loc main_v24) = val_main_v24 (F := Ideal) (m ((c.tc : Thread nD τ).loc main_arg0)) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v41_eq m c), (h c).2.1.trans (val_main_v21_eq _ _ _), (h c).2.2.1.trans (val_main_v24_eq _ _ _), (h c).2.2.2⟩)
    (Cert.Reference19Ideal.Value.run m ρ)

end Cert.Reference19Ideal.Read

namespace Cert.Pre_finite19

open Cert.Pre_finite19 Cert.Pre_finite19.Gen Idealize.ShloMosaic Cert.Products Cert.Reals

/-- The precondition says that every element of the four arguments is real. -/
theorem reals (x0 x1 : Mat 8192 2048) (x2 x3 : Mat 1 2048) (h : fn (F := Ideal) x0 x1 x2 x3 = fun _ => 1#1) :
    (∀ i, IsReal (x0 i)) ∧ (∀ i, IsReal (x1 i)) ∧ (∀ i, IsReal (x2 i)) ∧ ∀ i, IsReal (x3 i) := by
  haveI : Subsingleton S_.Idx := ⟨fun a b => funext fun k => k.elim0⟩
  have e := congrFun h (fun a => a.elim0)
  unfold fn fn_part1 at e
  dsimp only at e
  obtain ⟨e, e3⟩ := IntOp.andi_eq_one.1 e
  obtain ⟨e, e2⟩ := IntOp.andi_eq_one.1 e
  obtain ⟨e0, e1⟩ := IntOp.andi_eq_one.1 e
  exact ⟨isReal_of_all x0 _ _ _ _ _ _ e0, isReal_of_all x1 _ _ _ _ _ _ e1, isReal_of_all x2 _ _ _ _ _ _ e2, isReal_of_all x3 _ _ _ _ _ _ e3⟩

end Cert.Pre_finite19

end
-- ==== Proof.Pre.lean ====
/- The input norm's backward kernel at one point of its grid: from a band of 256 rows, the gradients of `Norms`. -/
module

public import proofs.«01_k».proof.Proof.Gen.Kernel20Ideal.Value
public import proofs.«01_k».proof.Proof.Tiles
public import proofs.«01_k».proof.Proof.Norms

@[expose] public section

set_option maxRecDepth 16384

noncomputable section

namespace Cert.Kernel20Ideal.Pre

open Cert.Kernel20Ideal Cert.Kernel20Ideal.Gen Idealize.ShloMosaic Idealize.ShloMosaic.TcCoe Idealize.SL.Sem Idealize.ShloMosaic.StableHlo
open Cert.Products Cert.Gating Cert.Norms

section Values

abbrev one : EReal := Scalar.ofBits (F := Ideal) .f32 0x3F800000#32

variable (x d e : FVec Ideal S256x2048 .f32) (g s acc : FVec Ideal S1x2048 .f32) (r : Fin 256) (k : Fin 2048)

theorem pay7_apply : k0_pay7 (F := Ideal) x (ix2 r 0) = rrms (row x r) := by
  unfold rrms mean row
  pointwise [k0_pay7]

theorem pay8_apply : k0_pay8 (F := Ideal) x (ix2 r k) = over (row x r) k := by
  unfold over
  rw [← pay7_apply]
  unfold row
  pointwise [k0_pay8]

theorem pay1_apply : k0_pay1 (F := Ideal) d s one (ix2 r k) = scaled d (plusOne s) (ix2 r k) := by
  show _ = d (ix2 r k) * (Ideal.ofBits .f32 0x3F800000#32 + s (ix2 0 k))
  pointwise [k0_pay1]

theorem pay9_apply : k0_pay9 (F := Ideal) d acc (ix2 0 k) = acc (ix2 0 k) + sumRows d (ix2 0 k) := by
  show _ = _ + ∑ t : Fin 256, d (ix2 t k)
  pointwise [k0_pay9]

theorem pay10_apply : k0_pay10 (F := Ideal) x d acc g (ix2 0 k) = acc (ix2 0 k) + outGrad d x g (ix2 0 k) := by
  show _ = _ + ∑ t : Fin 256, d (ix2 t k) * (over (row x t) k * g (ix2 0 k))
  simp only [← pay8_apply]
  pointwise [k0_pay10]

theorem pay2_apply : k0_pay2 (F := Ideal) d (k0_pay8 x) s one acc (ix2 0 k) = acc (ix2 0 k) + scaleGrad (scaled d (plusOne s)) x (ix2 0 k) := by
  show _ = _ + ∑ t : Fin 256, scaled d (plusOne s) (ix2 t k) * over (row x t) k
  simp only [← pay8_apply, ← pay1_apply]
  pointwise [k0_pay2]

theorem pay3_apply : k0_pay3 (F := Ideal) d (k0_pay7 x) (k0_pay8 x) s one g e (ix2 r k) = plus e (inGrad (scaled d (plusOne s)) x g) (ix2 r k) := by
  show _ = e (ix2 r k) + rrms (row x r) * (scaled d (plusOne s) (ix2 r k) * g (ix2 0 k)
    - over (row x r) k * Ideal.div (∑ k, scaled d (plusOne s) (ix2 r k) * g (ix2 0 k) * over (row x r) k) width)
  simp only [← pay7_apply, ← pay8_apply, ← pay1_apply]
  pointwise [k0_pay3]

end Values

section Point

variable (c : Dev nD) (i : grid0.Coords) (arg1 : Memref sig .tc .vmem S256x2048 .f32) (harg1 : arg1.IsWhole) (arg2 : Memref sig .tc .vmem S256x2048 .f32) (harg2 : arg2.IsWhole)
  (arg3 : Memref sig .tc .vmem S1x2048 .f32) (harg3 : arg3.IsWhole) (arg4 : Memref sig .tc .vmem S1x2048 .f32) (harg4 : arg4.IsWhole)
  (arg5 : Memref sig .tc .vmem S256x2048 .f32) (harg5 : arg5.IsWhole) (arg6 : Memref sig .tc .vmem S256x2048 .f32) (harg6 : arg6.IsWhole)
  (arg7 : Memref sig .tc .vmem S1x2048 .f32) (harg7 : arg7.IsWhole) (arg8 : Memref sig .tc .vmem S1x2048 .f32) (harg8 : arg8.IsWhole)
  (arg9 : Memref sig .tc .vmem S1x2048 .f32) (harg9 : arg9.IsWhole)
  (x0 x1 : Vec Ideal S256x2048 .f32) (x2 x3 : Vec Ideal S1x2048 .f32) (x4 : Vec Ideal S256x2048 .f32) (xo6 xo7 xo8 : Vec Ideal S1x2048 .f32)

section First
variable (hc0 : cond0_0 i)

theorem out_A_5 : out0_A_5 c i arg1 harg1 arg2 harg2 arg3 harg3 arg4 harg4 arg5 harg5 arg6 harg6 arg7 harg7 arg8 harg8 arg9 harg9 hc0 x0 x1 x2 x3 x4 = plus x4 (inGrad (scaled x0 (plusOne x3)) x1 x2) := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero (S := S256x2048) hz]
  simp only [View.readAt_eq_ld, harg1.read_unread, harg2.read_unread, harg3.read_unread, harg4.read_unread, harg5.read_unread, View.ld_unit_zero (S := S256x2048) hz, View.ld_unit_zero (S := S1x2048) hz]
  funext j
  obtain ⟨r, k, rfl⟩ : ∃ (r : Fin 256) (k : Fin 2048), j = ix2 r k := ⟨j 0, j 1, eq_ix2 j⟩
  exact pay3_apply x1 x0 x4 x2 x3 r k

theorem out_A_6 (k : Fin 2048) : out0_A_6 c i arg1 harg1 arg2 harg2 arg3 harg3 arg4 harg4 arg5 harg5 arg6 harg6 arg7 harg7 arg8 harg8 arg9 harg9 hc0 x0 x1 x2 x3 x4 (ix2 0 k) = sumRows x0 (ix2 0 k) := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x2048) hz]
  simp only [View.readCov_unit_zero (S := S1x2048) _ hz, View.readAt_eq_ld, harg1.read_unread, harg2.read_unread, harg3.read_unread, harg4.read_unread, harg5.read_unread, View.ld_unit_zero (S := S256x2048) hz, View.ld_unit_zero (S := S1x2048) hz]
  exact (pay9_apply x0 k0_pay4 k).trans (by rw [show (k0_pay4 (F := Ideal)) (ix2 0 k) = (0 : EReal) from Ideal.ofBits_zero .f32, zero_add])

theorem out_A_7 (k : Fin 2048) : out0_A_7 c i arg1 harg1 arg2 harg2 arg3 harg3 arg4 harg4 arg5 harg5 arg6 harg6 arg7 harg7 arg8 harg8 arg9 harg9 hc0 x0 x1 x2 x3 x4 (ix2 0 k) = outGrad x0 x1 x2 (ix2 0 k) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x2048) hz]
  simp only [View.readCov_unit_zero (S := S1x2048) _ hz, View.readAt_eq_ld, harg1.read_unread, harg2.read_unread, harg3.read_unread, harg4.read_unread, harg5.read_unread, View.ld_unit_zero (S := S256x2048) hz, View.ld_unit_zero (S := S1x2048) hz]
  exact (pay10_apply x1 x0 x2 k0_pay5 k).trans (by rw [show (k0_pay5 (F := Ideal)) (ix2 0 k) = (0 : EReal) from Ideal.ofBits_zero .f32, zero_add])

theorem out_A_8 (k : Fin 2048) : out0_A_8 c i arg1 harg1 arg2 harg2 arg3 harg3 arg4 harg4 arg5 harg5 arg6 harg6 arg7 harg7 arg8 harg8 arg9 harg9 hc0 x0 x1 x2 x3 x4 (ix2 0 k) = scaleGrad (scaled x0 (plusOne x3)) x1 (ix2 0 k) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S1x2048) hz]
  simp only [View.readCov_unit_zero (S := S1x2048) _ hz, View.readAt_eq_ld, harg1.read_unread, harg2.read_unread, harg3.read_unread, harg4.read_unread, harg5.read_unread, View.ld_unit_zero (S := S256x2048) hz, View.ld_unit_zero (S := S1x2048) hz]
  exact (pay2_apply x1 x0 x3 k0_pay6 k).trans (by rw [show (k0_pay6 (F := Ideal)) (ix2 0 k) = (0 : EReal) from Ideal.ofBits_zero .f32, zero_add])

end First

section Later
variable (hc0 : ¬cond0_0 i)

theorem out_B_5 : out0_B_5 c i arg1 harg1 arg2 harg2 arg3 harg3 arg4 harg4 arg5 harg5 arg6 harg6 arg7 harg7 arg8 harg8 arg9 harg9 hc0 x0 x1 x2 x3 x4 xo6 xo7 xo8 = plus x4 (inGrad (scaled x0 (plusOne x3)) x1 x2) := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 x1 x2 x3 x4 xo6 xo7 xo8)]
  unfold kernelRun0_B
  dsimp only
  sl_unfold_words
  rw [View.canon_unit_zero (S := S256x2048) hz]
  simp only [View.readAt_eq_ld, harg1.read_unread, harg2.read_unread, harg3.read_unread, harg4.read_unread, harg5.read_unread, View.ld_unit_zero (S := S256x2048) hz, View.ld_unit_zero (S := S1x2048) hz]
  funext j
  obtain ⟨r, k, rfl⟩ : ∃ (r : Fin 256) (k : Fin 2048), j = ix2 r k := ⟨j 0, j 1, eq_ix2 j⟩
  exact pay3_apply x1 x0 x4 x2 x3 r k

theorem out_B_6 (k : Fin 2048) : out0_B_6 c i arg1 harg1 arg2 harg2 arg3 harg3 arg4 harg4 arg5 harg5 arg6 harg6 arg7 harg7 arg8 harg8 arg9 harg9 hc0 x0 x1 x2 x3 x4 xo6 xo7 xo8 (ix2 0 k) = xo6 (ix2 0 k) + sumRows x0 (ix2 0 k) := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 xo6 xo7 xo8)]
  unfold kernelRun0_B
  dsimp only
  sl_unfold_words
  rw [View.canon_unit_zero (S := S1x2048) hz]
  simp only [View.readAt_eq_ld, harg1.read_unread, harg2.read_unread, harg3.read_unread, harg4.read_unread, harg5.read_unread, harg7.read_unread, View.ld_unit_zero (S := S256x2048) hz, View.ld_unit_zero (S := S1x2048) hz]
  exact pay9_apply x0 xo6 k

theorem out_B_7 (k : Fin 2048) : out0_B_7 c i arg1 harg1 arg2 harg2 arg3 harg3 arg4 harg4 arg5 harg5 arg6 harg6 arg7 harg7 arg8 harg8 arg9 harg9 hc0 x0 x1 x2 x3 x4 xo6 xo7 xo8 (ix2 0 k) = xo7 (ix2 0 k) + outGrad x0 x1 x2 (ix2 0 k) := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 xo6 xo7 xo8)]
  unfold kernelRun0_B
  dsimp only
  sl_unfold_words
  rw [View.canon_unit_zero (S := S1x2048) hz]
  simp only [View.readAt_eq_ld, harg1.read_unread, harg2.read_unread, harg3.read_unread, harg4.read_unread, harg5.read_unread, harg8.read_unread, View.ld_unit_zero (S := S256x2048) hz, View.ld_unit_zero (S := S1x2048) hz]
  exact pay10_apply x1 x0 x2 xo7 k

theorem out_B_8 (k : Fin 2048) : out0_B_8 c i arg1 harg1 arg2 harg2 arg3 harg3 arg4 harg4 arg5 harg5 arg6 harg6 arg7 harg7 arg8 harg8 arg9 harg9 hc0 x0 x1 x2 x3 x4 xo6 xo7 xo8 (ix2 0 k) = xo8 (ix2 0 k) + scaleGrad (scaled x0 (plusOne x3)) x1 (ix2 0 k) := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 xo6 xo7 xo8)]
  unfold kernelRun0_B
  dsimp only
  sl_unfold_words
  rw [View.canon_unit_zero (S := S1x2048) hz]
  simp only [View.readAt_eq_ld, harg1.read_unread, harg2.read_unread, harg3.read_unread, harg4.read_unread, harg5.read_unread, harg9.read_unread, View.ld_unit_zero (S := S256x2048) hz, View.ld_unit_zero (S := S1x2048) hz]
  exact pay2_apply x1 x0 x3 xo8 k

end Later

end Point

end Cert.Kernel20Ideal.Pre

end
-- ==== Proof.PreRun.lean ====
/- The input norm's backward pass over the whole sequence: the kernel's 32 points leave the four gradients of `Norms` in the
   four result arrays, and the reference's results are those gradients. -/
module

public import proofs.«01_k».proof.Proof.Pre
public import proofs.«01_k».proof.Proof.Gen.Reference20Ideal.Read
public import proofs.«01_k».proof.Proof.Gen.Pre_finite20

@[expose] public section

set_option maxRecDepth 16384

noncomputable section

namespace Cert.Kernel20Ideal.Pre

open Cert.Kernel20Ideal Cert.Kernel20Ideal.Gen Idealize.ShloMosaic Idealize.ShloMosaic.TcCoe Idealize.SL.Sem Idealize.ShloMosaic.StableHlo
open Idealize.ShloMosaic.Pipeline (Dat)
open Cert.Products Cert.Norms

variable (m : (l : Loc nD τ sig) → Buf (Elt Ideal) l)

abbrev d (c : Dev nD) : Mat 8192 2048 := m ((c : Thread nD τ).loc main_arg0)
abbrev x (c : Dev nD) : Mat 8192 2048 := m ((c : Thread nD τ).loc main_arg1)
abbrev g (c : Dev nD) : Mat 1 2048 := m ((c : Thread nD τ).loc main_arg2)
abbrev s (c : Dev nD) : Mat 1 2048 := m ((c : Thread nD τ).loc main_arg3)
abbrev e (c : Dev nD) : Mat 8192 2048 := m ((c : Thread nD τ).loc main_arg4)

/-- Which block each window takes at a point: the point's 256 rows of the matrices, the whole of a row. -/
theorem idx_rows : ∀ t : Fin cfg0.N, (win0_0.index t 0 = t.val ∧ win0_0.index t 1 = 0) ∧ (win0_1.index t 0 = t.val ∧ win0_1.index t 1 = 0) ∧ (win0_4.index t 0 = t.val ∧ win0_4.index t 1 = 0) ∧ (win0_5.index t 0 = t.val ∧ win0_5.index t 1 = 0) :=
  (by decide +kernel : ∀ t : Fin grid0.N, (win0_0.index t 0 = t.val ∧ win0_0.index t 1 = 0) ∧ (win0_1.index t 0 = t.val ∧ win0_1.index t 1 = 0) ∧ (win0_4.index t 0 = t.val ∧ win0_4.index t 1 = 0) ∧ (win0_5.index t 0 = t.val ∧ win0_5.index t 1 = 0))

theorem idx_flat : ∀ t : Fin cfg0.N, (win0_2.index t 0 = 0 ∧ win0_2.index t 1 = 0) ∧ (win0_3.index t 0 = 0 ∧ win0_3.index t 1 = 0) ∧ (win0_6.index t 0 = 0 ∧ win0_6.index t 1 = 0) ∧ (win0_7.index t 0 = 0 ∧ win0_7.index t 1 = 0) ∧ (win0_8.index t 0 = 0 ∧ win0_8.index t 1 = 0) :=
  (by decide +kernel : ∀ t : Fin grid0.N, (win0_2.index t 0 = 0 ∧ win0_2.index t 1 = 0) ∧ (win0_3.index t 0 = 0 ∧ win0_3.index t 1 = 0) ∧ (win0_6.index t 0 = 0 ∧ win0_6.index t 1 = 0) ∧ (win0_7.index t 0 = 0 ∧ win0_7.index t 1 = 0) ∧ (win0_8.index t 0 = 0 ∧ win0_8.index t 1 = 0))

theorem rows_eq : 8192 = 32 * 256 := rfl

theorem points : cfg0.N = 32 := by decide

/-- A point is a band of the rows. -/
abbrev pt (t : Fin cfg0.N) : Fin 32 := ⟨t.val, lt_of_lt_of_eq t.isLt points⟩

theorem d_blk (c : Dev nD) (t : Fin cfg0.N) : iblk m c 0 t = band rows_eq (d m c) (pt t) := by
  funext j
  obtain ⟨r, k, rfl⟩ : ∃ (r : Fin 256) (k : Fin 2048), j = ix2 r k := ⟨j 0, j 1, eq_ix2 j⟩
  unfold iblk
  rw [View.read_apply]
  exact (congrFun (V_main_arg0 m c) _).trans (congrArg (d m c) (band_at rows_eq _ (win0_0.index t) (pt t) (idx_rows t).1.1 (idx_rows t).1.2 r k rfl rfl))

theorem x_blk (c : Dev nD) (t : Fin cfg0.N) : iblk m c 1 t = band rows_eq (x m c) (pt t) := by
  funext j
  obtain ⟨r, k, rfl⟩ : ∃ (r : Fin 256) (k : Fin 2048), j = ix2 r k := ⟨j 0, j 1, eq_ix2 j⟩
  unfold iblk
  rw [View.read_apply]
  exact (congrFun (V_main_arg1 m c) _).trans (congrArg (x m c) (band_at rows_eq _ (win0_1.index t) (pt t) (idx_rows t).2.1.1 (idx_rows t).2.1.2 r k rfl rfl))

theorem e_blk (c : Dev nD) (t : Fin cfg0.N) : iblk m c 4 t = band rows_eq (e m c) (pt t) := by
  funext j
  obtain ⟨r, k, rfl⟩ : ∃ (r : Fin 256) (k : Fin 2048), j = ix2 r k := ⟨j 0, j 1, eq_ix2 j⟩
  unfold iblk
  rw [View.read_apply]
  exact (congrFun (V_main_arg4 m c) _).trans (congrArg (e m c) (band_at rows_eq _ (win0_4.index t) (pt t) (idx_rows t).2.2.1.1 (idx_rows t).2.2.1.2 r k rfl rfl))

theorem g_blk (c : Dev nD) (t : Fin cfg0.N) : iblk m c 2 t = g m c := by
  funext j
  unfold iblk
  rw [View.read_apply]
  exact (congrFun (V_main_arg2 m c) _).trans (congrArg (g m c) (row_at _ (win0_2.index t) (idx_flat t).1.2 j rfl))

theorem s_blk (c : Dev nD) (t : Fin cfg0.N) : iblk m c 3 t = s m c := by
  funext j
  unfold iblk
  rw [View.read_apply]
  exact (congrFun (V_main_arg3 m c) _).trans (congrArg (s m c) (row_at _ (win0_3.index t) (idx_flat t).2.1.2 j rfl))

abbrev dx (c : Dev nD) : Buf (Elt Ideal) ((c : Thread nD τ).loc main_v0_0) := plus (e m c) (inGrad (scaled (d m c) (plusOne (s m c))) (x m c) (g m c))
abbrev dh (c : Dev nD) : Buf (Elt Ideal) ((c : Thread nD τ).loc main_v0_1) := sumRows (d m c)
abbrev ds (c : Dev nD) : Buf (Elt Ideal) ((c : Thread nD τ).loc main_v0_2) := outGrad (d m c) (x m c) (g m c)
abbrev dg (c : Dev nD) : Buf (Elt Ideal) ((c : Thread nD τ).loc main_v0_3) := scaleGrad (scaled (d m c) (plusOne (s m c))) (x m c)

theorem x_point (c : Dev nD) (t : Fin cfg0.N) :
    (outsAt0 m c t.val t.isLt).1 = band rows_eq (plus (e m c) (inGrad (scaled (d m c) (plusOne (s m c))) (x m c) (g m c))) (pt t) := by
  by_cases h0 : t.val % 32 = 0
  · rw [outsAt0_A m c t h0]
    dsimp only
    rw [out_A_5, d_blk, x_blk, g_blk, s_blk, e_blk, scaled_band, inGrad_band, plus_band]
  · rw [outsAt0_B m c t h0]
    dsimp only
    rw [out_B_5, d_blk, x_blk, g_blk, s_blk, e_blk, scaled_band, inGrad_band, plus_band]

theorem x_flushed (c : Dev nD) (t : Fin cfg0.N) : (dats m 0 c).flushed 5 t = ((cfg0.win 5).blk t).view.read (Elt Ideal) (dx m c) := by
  rw [Value.flushed5, x_point]
  funext j
  rw [View.read_apply]
  obtain ⟨r, k, rfl⟩ : ∃ (r : Fin 256) (k : Fin 2048), j = ix2 r k := ⟨j 0, j 1, eq_ix2 j⟩
  have hemb : ((cfg0.win 5).blk t).view.emb (ix2 r k) = (ix2 (at_band rows_eq (pt t) r) k : S8192x2048.Idx) :=
    band_at rows_eq _ (win0_5.index t) (pt t) (idx_rows t).2.2.2.1 (idx_rows t).2.2.2.2 r k rfl rfl
  show band rows_eq (dx m c) (pt t) (ix2 r k) = dx m c (((cfg0.win 5).blk t).view.emb (ix2 r k))
  rw [hemb]
  rfl

theorem final_x (c : Dev nD) : (dats m 0 c).arrAt 5 cfg0.N = dx m c :=
  (dats m 0 c).arrAt_eq_of_cover 5 (dx m c) (fun t _ => x_flushed m c t) fun i => by
    obtain ⟨q, hq⟩ := band_covers rows_eq (show S8192x2048.Idx from i)
    let t : Fin cfg0.N := ⟨q.val, lt_of_lt_of_eq q.isLt points.symm⟩
    refine ⟨t, flush0_5 _, ?_⟩
    show (show S8192x2048.Idx from i) ∈ ((View.whole main_v0_0).slice (win0_5.rect t)).set
    rw [View.set_slice_whole, Rect.mem_set_unit]
    exact hq (win0_5.index t) (idx_rows t).2.2.2.1 (idx_rows t).2.2.2.2

theorem h_total (c : Dev nD) (t : Fin cfg0.N) (ht : t.val % 32 = 31) (k : Fin 2048) : (outsAt0 m c t.val t.isLt).2.1 (ix2 0 k) = dh m c (ix2 0 k) := by
  refine (in_all points (outsAt0 m c) (fun x => x.2.1 (ix2 0 k)) (fun q => sumRows (band rows_eq (d m c) q) (ix2 0 k))
    (fun t h0 => ?_) (fun t h0 => ?_) t ht).trans (sumRows_bands rows_eq (d m c) (ix2 0 k))
  · show (outsAt0 m c t.val t.isLt).2.1 (ix2 0 k) = _
    rw [outsAt0_A m c t h0]
    dsimp only
    rw [out_A_6, d_blk]
  · show (outsAt0 m c t.val t.isLt).2.1 (ix2 0 k) = _
    rw [outsAt0_B m c t h0]
    dsimp only
    rw [out_B_6, d_blk]

theorem s_total (c : Dev nD) (t : Fin cfg0.N) (ht : t.val % 32 = 31) (k : Fin 2048) : (outsAt0 m c t.val t.isLt).2.2.1 (ix2 0 k) = ds m c (ix2 0 k) := by
  refine (in_all points (outsAt0 m c) (fun x => x.2.2.1 (ix2 0 k)) (fun q => outGrad (band rows_eq (d m c) q) (band rows_eq (x m c) q) (g m c) (ix2 0 k))
    (fun t h0 => ?_) (fun t h0 => ?_) t ht).trans (outGrad_bands rows_eq (d m c) (x m c) (g m c) (ix2 0 k))
  · show (outsAt0 m c t.val t.isLt).2.2.1 (ix2 0 k) = _
    rw [outsAt0_A m c t h0]
    dsimp only
    rw [out_A_7, d_blk, x_blk, g_blk]
  · show (outsAt0 m c t.val t.isLt).2.2.1 (ix2 0 k) = _
    rw [outsAt0_B m c t h0]
    dsimp only
    rw [out_B_7, d_blk, x_blk, g_blk]

theorem g_total (c : Dev nD) (t : Fin cfg0.N) (ht : t.val % 32 = 31) (k : Fin 2048) : (outsAt0 m c t.val t.isLt).2.2.2 (ix2 0 k) = dg m c (ix2 0 k) := by
  refine (in_all points (outsAt0 m c) (fun x => x.2.2.2 (ix2 0 k)) (fun q => scaleGrad (band rows_eq (scaled (d m c) (plusOne (s m c))) q) (band rows_eq (x m c) q) (ix2 0 k))
    (fun t h0 => ?_) (fun t h0 => ?_) t ht).trans (scaleGrad_bands rows_eq (scaled (d m c) (plusOne (s m c))) (x m c) (ix2 0 k))
  · show (outsAt0 m c t.val t.isLt).2.2.2 (ix2 0 k) = _
    rw [outsAt0_A m c t h0]
    dsimp only
    rw [out_A_8, d_blk, x_blk, s_blk, scaled_band]
  · show (outsAt0 m c t.val t.isLt).2.2.2 (ix2 0 k) = _
    rw [outsAt0_B m c t h0]
    dsimp only
    rw [out_B_8, d_blk, x_blk, s_blk, scaled_band]

abbrev lastPt : Fin cfg0.N := ⟨31, by decide⟩

theorem final_h (c : Dev nD) : (dats m 0 c).arrAt 6 cfg0.N = dh m c :=
  (dats m 0 c).arrAt_eq_of_cover 6 (dh m c) (fun t ht => by
    rw [Value.flushed6]
    funext j
    rw [View.read_apply]
    obtain ⟨k, rfl⟩ : ∃ k : Fin 2048, j = ix2 0 k := ⟨j 1, eq_row j⟩
    exact (h_total m c t ((flush0_6 t).mp ht) k).trans
      (congrArg (dh m c) (row_at (((cfg0.win 6).blk t).view.emb (ix2 0 k)) (win0_6.index t) (idx_flat t).2.2.1.2 (ix2 0 k) rfl).symm)) fun i => by
    refine ⟨lastPt, (flush0_6 lastPt).mpr rfl, ?_⟩
    show (show S1x2048.Idx from i) ∈ ((View.whole main_v0_1).slice (win0_6.rect lastPt)).set
    rw [View.set_slice_whole, Rect.mem_set_unit]
    exact row_covers (win0_6.index lastPt) (idx_flat lastPt).2.2.1.1 (idx_flat lastPt).2.2.1.2 (show S1x2048.Idx from i)

theorem final_s (c : Dev nD) : (dats m 0 c).arrAt 7 cfg0.N = ds m c :=
  (dats m 0 c).arrAt_eq_of_cover 7 (ds m c) (fun t ht => by
    rw [Value.flushed7]
    funext j
    rw [View.read_apply]
    obtain ⟨k, rfl⟩ : ∃ k : Fin 2048, j = ix2 0 k := ⟨j 1, eq_row j⟩
    exact (s_total m c t ((flush0_7 t).mp ht) k).trans
      (congrArg (ds m c) (row_at (((cfg0.win 7).blk t).view.emb (ix2 0 k)) (win0_7.index t) (idx_flat t).2.2.2.1.2 (ix2 0 k) rfl).symm)) fun i => by
    refine ⟨lastPt, (flush0_7 lastPt).mpr rfl, ?_⟩
    show (show S1x2048.Idx from i) ∈ ((View.whole main_v0_2).slice (win0_7.rect lastPt)).set
    rw [View.set_slice_whole, Rect.mem_set_unit]
    exact row_covers (win0_7.index lastPt) (idx_flat lastPt).2.2.2.1.1 (idx_flat lastPt).2.2.2.1.2 (show S1x2048.Idx from i)

theorem final_g (c : Dev nD) : (dats m 0 c).arrAt 8 cfg0.N = dg m c :=
  (dats m 0 c).arrAt_eq_of_cover 8 (dg m c) (fun t ht => by
    rw [Value.flushed8]
    funext j
    rw [View.read_apply]
    obtain ⟨k, rfl⟩ : ∃ k : Fin 2048, j = ix2 0 k := ⟨j 1, eq_row j⟩
    exact (g_total m c t ((flush0_8 t).mp ht) k).trans
      (congrArg (dg m c) (row_at (((cfg0.win 8).blk t).view.emb (ix2 0 k)) (win0_8.index t) (idx_flat t).2.2.2.2.2 (ix2 0 k) rfl).symm)) fun i => by
    refine ⟨lastPt, (flush0_8 lastPt).mpr rfl, ?_⟩
    show (show S1x2048.Idx from i) ∈ ((View.whole main_v0_3).slice (win0_8.rect lastPt)).set
    rw [View.set_slice_whole, Rect.mem_set_unit]
    exact row_covers (win0_8.index lastPt) (idx_flat lastPt).2.2.2.2.1 (idx_flat lastPt).2.2.2.2.2 (show S1x2048.Idx from i)

end Cert.Kernel20Ideal.Pre

namespace Cert.Reference20Ideal.Read

open Cert.Reference20Ideal Cert.Reference20Ideal.Gen Idealize.ShloMosaic Idealize.ShloMosaic.TcCoe Idealize.SL.Sem Idealize.ShloMosaic.StableHlo
open Cert.Products Cert.Reals Cert.Gating Cert.Norms

variable (x0 x1 x4 : Mat 8192 2048) (x2 x3 : Mat 1 2048) (r : Fin 8192) (k : Fin 2048)

theorem msq_eq : val_main_v7 (F := Ideal) x1 (ix2 r 0) = mean (fun k => row x1 r k * row x1 r k) + eps := by
  unfold mean row
  pointwise [val_main_v7, val_main_v6, val_main_v5, val_main_v4, val_main_v3, val_main_v2, val_main_v1, val_main_cst_0, val_main_cst_1, val_main_cst_2]

theorem rrms_eq : val_main_v8 (F := Ideal) x1 (ix2 r 0) = rrms (row x1 r) := by
  unfold rrms
  rw [← msq_eq]
  pointwise [val_main_v8]

theorem over_eq : val_main_v13 (F := Ideal) x1 (ix2 r k) = over (row x1 r) k := by
  unfold over
  rw [← rrms_eq]
  unfold row
  pointwise [val_main_v13, val_main_v12]

theorem back_eq : val_main_v22 (F := Ideal) x0 (ix2 r k) = x0 (ix2 r k) := by
  pointwise [val_main_v22]

theorem scaled_eq : val_main_v29 (F := Ideal) x0 x3 (ix2 r k) = scaled x0 (plusOne x3) (ix2 r k) := by
  show _ = x0 (ix2 r k) * (Ideal.ofBits .f32 0x3F800000#32 + x3 (ix2 0 k))
  rw [← back_eq x0]
  pointwise [val_main_v29, val_main_v28, val_main_v17, val_main_v16, val_main_cst_4]

theorem sumRows_eq : val_main_v24 (F := Ideal) x0 = sumRows x0 := by
  funext i
  obtain ⟨k, rfl⟩ : ∃ k : Fin 2048, i = ix2 0 k := ⟨i 1, eq_row i⟩
  show _ = ∑ s : Fin 8192, x0 (ix2 s k)
  pointwise [val_main_v24, val_main_v23, val_main_cst_5]

theorem outGrad_eq : val_main_v27 (F := Ideal) x0 x1 x2 = outGrad x0 x1 x2 := by
  funext i
  obtain ⟨k, rfl⟩ : ∃ k : Fin 2048, i = ix2 0 k := ⟨i 1, eq_row i⟩
  refine Eq.trans ?_ (Finset.sum_congr rfl fun s _ => mul_comm (over (row x1 s) k * x2 (ix2 0 k)) (x0 (ix2 s k)))
  simp only [← over_eq, ← back_eq x0]
  pointwise [val_main_v27, val_main_v26, val_main_v25, val_main_v15, val_main_v14, val_main_cst_6]

theorem scaleGrad_eq : val_main_v32 (F := Ideal) x0 x1 x3 = scaleGrad (scaled x0 (plusOne x3)) x1 := by
  funext i
  obtain ⟨k, rfl⟩ : ∃ k : Fin 2048, i = ix2 0 k := ⟨i 1, eq_row i⟩
  refine Eq.trans ?_ (Finset.sum_congr rfl fun s _ => mul_comm (over (row x1 s) k) (scaled x0 (plusOne x3) (ix2 s k)))
  simp only [← over_eq, ← scaled_eq]
  pointwise [val_main_v32, val_main_v31, val_main_v30, val_main_cst_7]

theorem grad_eq : val_main_v34 (F := Ideal) x0 x2 x3 (ix2 r k) = row (scaled (scaled x0 (plusOne x3)) x2) r k := by
  show _ = scaled x0 (plusOne x3) (ix2 r k) * x2 (ix2 0 k)
  rw [← scaled_eq]
  pointwise [val_main_v34, val_main_v33]

theorem inner_eq : val_main_v45 (F := Ideal) x0 x1 x2 x3 (ix2 r k)
    = Ideal.div ((∑ k, row x1 r k * row (scaled (scaled x0 (plusOne x3)) x2) r k)
        * (Ideal.ofBits .f32 0xBF000000#32 * Ideal.div (rrms (row x1 r)) (mean (fun k => row x1 r k * row x1 r k) + eps))) width := by
  simp only [← grad_eq]
  rw [← rrms_eq, ← msq_eq]
  unfold row
  pointwise [val_main_v45, val_main_v44, val_main_v43, val_main_v42, val_main_v41, val_main_v37, val_main_v36, val_main_v35, val_main_v11, val_main_v10, val_main_v9,
    val_main_cst_3, val_main_cst_8, val_main_cst_9, val_main_cst_10]
  exact Fin.sum_univ_one _

theorem plusOne_real (h3 : ∀ i, IsReal (x3 i)) (i : S1x2048.Idx) : IsReal (plusOne x3 i) :=
  IsReal.add ⟨1, one_eq⟩ (h3 _)

theorem inGrad_eq (h0 : ∀ i, IsReal (x0 i)) (h1 : ∀ i, IsReal (x1 i)) (h2 : ∀ i, IsReal (x2 i)) (h3 : ∀ i, IsReal (x3 i)) :
    val_main_v49 (F := Ideal) x0 x1 x2 x3 x4 = plus x4 (inGrad (scaled x0 (plusOne x3)) x1 x2) := by
  funext i
  obtain ⟨r, k, rfl⟩ : ∃ (r : Fin 8192) (k : Fin 2048), i = ix2 r k := ⟨i 0, i 1, eq_ix2 i⟩
  refine Eq.trans ?_ (congrArg (x4 (ix2 r k) + ·) (rms_forms (w := row x1 r) (d := row (scaled (scaled x0 (plusOne x3)) x2) r) (fun _ => h1 _)
    (fun _ => ((h0 _).mul (plusOne_real x3 h3 _)).mul (h2 _)) k _ (inner_eq x0 x1 x2 x3 r k)))
  rw [← grad_eq, ← rrms_eq]
  unfold row
  dsimp only
  rw [← add_assoc, ← add_assoc]
  pointwise [val_main_v49, val_main_v48, val_main_v47, val_main_v46, val_main_v40, val_main_v39, val_main_v38]

/-- The reference's run, its results as functions of the arguments. -/
theorem run_vals (m : (l : Loc nD τ sig) → Buf (Elt Ideal) l) (ρ : Dev nD → PrngReg) :
    θ_run defs (onTc (τ := τ) (main (F := Ideal))) ⟨m, fun _ => 0, ρ⟩ fun r => ∀ c : Dev nD,
      r.2.mem ((c.tc : Thread nD τ).loc main_v49) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v24) = val_main_v24 (F := Ideal) (m ((c.tc : Thread nD τ).loc main_arg0))
      ∧ r.2.mem ((c.tc : Thread nD τ).loc main_v27) = val_main_v27 (F := Ideal) (m ((c.tc : Thread nD τ).loc main_arg0)) (m ((c.tc : Thread nD τ).loc main_arg1)) (m ((c.tc : Thread nD τ).loc main_arg2))
      ∧ r.2.mem ((c.tc : Thread nD τ).loc main_v32) = val_main_v32 (F := Ideal) (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v49_eq m c), (h c).2.1.trans (val_main_v24_eq _), (h c).2.2.1.trans (val_main_v27_eq _ _ _),
      (h c).2.2.2.1.trans (val_main_v32_eq _ _ _), (h c).2.2.2.2⟩)
    (Cert.Reference20Ideal.Value.run m ρ)

end Cert.Reference20Ideal.Read

namespace Cert.Pre_finite20

open Cert.Pre_finite20 Cert.Pre_finite20.Gen Idealize.ShloMosaic Cert.Products Cert.Reals

/-- The precondition says that every element of the arguments is real, but for the last, which is only added. -/
theorem reals (x0 x1 x4 : Mat 8192 2048) (x2 x3 : Mat 1 2048) (h : fn (F := Ideal) x0 x1 x2 x3 x4 = fun _ => 1#1) :
    (∀ i, IsReal (x0 i)) ∧ (∀ i, IsReal (x1 i)) ∧ (∀ i, IsReal (x2 i)) ∧ ∀ i, IsReal (x3 i) := by
  haveI : Subsingleton S_.Idx := ⟨fun a b => funext fun k => k.elim0⟩
  have e := congrFun h (fun a => a.elim0)
  unfold fn fn_part1 at e
  dsimp only at e
  obtain ⟨e, e3⟩ := IntOp.andi_eq_one.1 e
  obtain ⟨e, e2⟩ := IntOp.andi_eq_one.1 e
  obtain ⟨e0, e1⟩ := IntOp.andi_eq_one.1 e
  exact ⟨isReal_of_all x0 _ _ _ _ _ _ e0, isReal_of_all x1 _ _ _ _ _ _ e1, isReal_of_all x2 _ _ _ _ _ _ e2, isReal_of_all x3 _ _ _ _ _ _ e3⟩

end Cert.Pre_finite20

end
-- ==== Proof.Sliding.lean ====
/- The products around the attention with a sliding window, and the one that the forget gates are made of: what each kernel leaves
   in its result array, and what its reference does. -/
module

public import proofs.«01_k».proof.Defs
public import proofs.«01_k».proof.Proof.Tiles
public import proofs.«01_k».proof.Proof.Gen.Kernel21Ideal.Value
public import proofs.«01_k».proof.Proof.Gen.Reference21Ideal.Read
public import proofs.«01_k».proof.Proof.Gen.Kernel22Ideal.Value
public import proofs.«01_k».proof.Proof.Gen.Reference22Ideal.Read
public import proofs.«01_k».proof.Proof.Gen.Kernel23Ideal.Value
public import proofs.«01_k».proof.Proof.Gen.Reference23Ideal.Read
public import proofs.«01_k».proof.Proof.Gen.Kernel24Ideal.Value
public import proofs.«01_k».proof.Proof.Gen.Reference24Ideal.Read

@[expose] public section

set_option maxRecDepth 16384

noncomputable section

namespace Cert.Sliding

open Idealize.ShloMosaic Cert.Products

/-- The last sixteen of 6160 columns, followed by 112 columns of zeros. -/
def lastCols {n : ℕ} (W : Mat n 6160) : Mat n 128 := fun i => if hl : (i 1).val < 16 then W (ix2 (i 0) (⟨6144 + (i 1).val, by omega⟩ : Fin 6160)) else 0

theorem lastCols_own {n : ℕ} (W : Mat n 6160) (r : Fin n) (l : Fin 128) (hl : l.val < 16) :
    lastCols W (ix2 r l) = W (ix2 r (⟨6144 + l.val, by omega⟩ : Fin 6160)) := dif_pos hl

theorem lastCols_zero {n : ℕ} (W : Mat n 6160) (r : Fin n) (l : Fin 128) (hl : ¬l.val < 16) : lastCols W (ix2 r l) = 0 := dif_neg hl

end Cert.Sliding

namespace Cert.Kernel21Ideal.SwaIn

open Cert.Kernel21Ideal Cert.Kernel21Ideal.Gen Idealize.ShloMosaic Idealize.ShloMosaic.TcCoe Idealize.SL.Sem Idealize.ShloMosaic.StableHlo
open Idealize.ShloMosaic.Pipeline (Dat)
open Cert.Products

variable (m : (ℓ : Loc nD τ sig) → Buf (Elt Ideal) ℓ)

/-- One point's tile: the whole inner extent is contracted at once. -/
theorem tile_apply (x0 : Vec Ideal S1024x2048 .bf16) (x1 : Vec Ideal S2048x1536 .bf16) (r : Fin 1024) (l : Fin 1536) :
    out0_2 x0 x1 (ix2 r l) = ∑ k : Fin 2048, x0 (ix2 r k) * x1 (ix2 k l) := by
  unfold out0_2
  rw [View.canon_unit_zero hz]
  simp only [View.ld_unit_zero (S := S1024x2048) hz, View.ld_unit_zero (S := S2048x1536) hz]
  pointwise [k0_pay1]

/-- The two arguments as the program is given them; over the reals the casts change nothing. -/
abbrev h (c : Dev nD) : Mat 8192 2048 := m ((c : Thread nD τ).loc main_arg0)
abbrev w (c : Dev nD) : Mat 2048 3072 := m ((c : Thread nD τ).loc main_arg1)

theorem V_h (c : Dev nD) : V m c main_v0 = h m c := by
  unfold_abbrev_sides
  after_results
  rfl

theorem V_w (c : Dev nD) : V m c main_v1 = w m c := by
  unfold_abbrev_sides
  after_results
  rfl

theorem idx : ∀ t : Fin cfg0.N, (win0_0.index t 0 = t.val / 2 ∧ win0_0.index t 1 = 0) ∧ (win0_1.index t 0 = 0 ∧ win0_1.index t 1 = t.val % 2)
    ∧ win0_2.index t 0 = t.val / 2 ∧ win0_2.index t 1 = t.val % 2 :=
  (by decide +kernel : ∀ t : Fin grid0.N, (win0_0.index t 0 = t.val / 2 ∧ win0_0.index t 1 = 0) ∧ (win0_1.index t 0 = 0 ∧ win0_1.index t 1 = t.val % 2)
    ∧ win0_2.index t 0 = t.val / 2 ∧ win0_2.index t 1 = t.val % 2)

theorem read0 (c : Dev nD) (t : Fin cfg0.N) (r : Fin 1024) (k : Fin 2048) (p : Fin 8192) (hp : p.val = 1024 * (t.val / 2) + r.val) :
    iblk m c 0 t (ix2 r k) = h m c (ix2 p k) := by
  unfold iblk
  rw [View.read_apply]
  exact (congrFun (V_h m c) _).trans (congrArg (h m c) (block_at _ rfl rfl (idx t).1.1 (idx t).1.2 hp (first _ _)))

theorem read1 (c : Dev nD) (t : Fin cfg0.N) (k : Fin 2048) (l : Fin 1536) (q : Fin 3072) (hq : q.val = 1536 * (t.val % 2) + l.val) :
    iblk m c 1 t (ix2 k l) = w m c (ix2 k q) := by
  unfold iblk
  rw [View.read_apply]
  exact (congrFun (V_w m c) _).trans (congrArg (w m c) (block_at _ rfl rfl (idx t).2.1.1 (idx t).2.1.2 (first _ _) hq))

/-- The kernel's result is the product. -/
theorem final (c : Dev nD) : (dats m 0 c).arrAt 2 cfg0.N = nn (h m c) (w m c) := by
  refine eq_of_tiles (ni := 8) (nj := 2) (tm := 1024) (tl := 1536) rfl rfl fun t ht r l p q hp hq => ?_
  have hN : t < cfg0.N := lt_of_lt_of_eq ht (by decide)
  have hb := congrFun (Value.blocks2 m c ⟨t, hN⟩ (flush0_2 _)) (ix2 r l)
  rw [View.read_apply, Value.flushed2, show ((cfg0.win 2).blk ⟨t, hN⟩).view.emb (ix2 r l) = ix2 p q from block_at _ rfl rfl (idx ⟨t, hN⟩).2.2.1 (idx ⟨t, hN⟩).2.2.2 hp hq] at hb
  refine hb.trans ((tile_apply _ _ r l).trans (Finset.sum_congr rfl fun k _ => ?_))
  exact congrArg₂ (· * ·) (read0 m c ⟨t, hN⟩ r k p hp) (read1 m c ⟨t, hN⟩ k l q hq)

end Cert.Kernel21Ideal.SwaIn

namespace Cert.Reference21Ideal.Read

open Cert.Reference21Ideal Cert.Reference21Ideal.Gen Idealize.ShloMosaic Cert.Products

theorem product_eq (x0 : Mat 8192 2048) (x1 : Mat 2048 3072) : val_main_v0 (F := Ideal) x0 x1 = nn x0 x1 := by
  funext i
  rw [val_main_v0_apply]
  exact Finset.sum_congr rfl fun k _ => congrArg₂ (· * ·) (congrArg x0 (at_eq _ _ _ rfl rfl)) (congrArg x1 (at_eq _ _ _ rfl rfl))

end Cert.Reference21Ideal.Read

namespace Cert.Kernel22Ideal.SwaDwin

open Cert.Kernel22Ideal Cert.Kernel22Ideal.Gen Idealize.ShloMosaic Idealize.ShloMosaic.TcCoe Idealize.SL.Sem Idealize.ShloMosaic.StableHlo
open Idealize.ShloMosaic.Pipeline (Dat)
open Cert.Products

variable (m : (ℓ : Loc nD τ sig) → Buf (Elt Ideal) ℓ)

theorem pay_apply (x0 : Vec Ideal S2048x1024 .bf16) (x1 : Vec Ideal S2048x1024 .bf16) : k0_pay1 x0 x1 = tn (K := 2048) x0 x1 := by
  funext j
  obtain ⟨r, l, rfl⟩ : ∃ (r : Fin 1024) (l : Fin 1024), j = ix2 r l := ⟨j 0, j 1, eq_ix2 j⟩
  unfold tn
  pointwise [k0_pay1]

section
variable (c : Dev nD) (i : grid0.Coords) (arg3 : Memref sig .tc .vmem S2048x1024 .bf16) (harg3 : arg3.IsWhole) (arg4 : Memref sig .tc .vmem S2048x1024 .bf16) (harg4 : arg4.IsWhole)
  (arg5 : Memref sig .tc .vmem S1024x1024 .bf16) (harg5 : arg5.IsWhole) (arg6 : Memref sig .tc .vmem S1024x1024 .f32) (harg6 : arg6.IsWhole)

/-- The first point of a run stores its product; the later ones add theirs to what the scratch held. -/
theorem scratch_A (hc0 : cond0_0 i) (hc1 : ¬cond0_1 i) (hc2 : ¬cond0_2 i) (x0 : Vec Ideal S2048x1024 .bf16) (x1 : Vec Ideal S2048x1024 .bf16) :
    sout0_A_0 c i arg3 harg3 arg4 harg4 arg5 harg5 arg6 harg6 hc0 hc1 hc2 x0 x1 = tn (K := 2048) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  unfold k0_pay2
  simp only [View.readAt_eq_ld, harg3.read_unread, harg4.read_unread, View.ld_unit_zero (S := S2048x1024) hz, View.ld_unit_zero (S := S2048x1024) hz, shapeCast_self]
  exact pay_apply x0 x1

theorem scratch_B (hc0 : ¬cond0_0 i) (hc1 : cond0_1 i) (hc2 : ¬cond0_2 i) (x0 : Vec Ideal S2048x1024 .bf16) (x1 : Vec Ideal S2048x1024 .bf16) (acc : Vec Ideal S1024x1024 .f32) (j : S1024x1024.Idx) :
    sout0_B_0 c i arg3 harg3 arg4 harg4 arg5 harg5 arg6 harg6 hc0 hc1 hc2 x0 x1 acc j = acc j + tn (K := 2048) x0 x1 j := by
  unfold sout0_B_0
  rw [View.read_writes_eq_canon _ _ _ (scover0_B_0 c i arg3 harg3 arg4 harg4 arg5 harg5 arg6 harg6 hc0 hc1 hc2 x0 x1 acc)]
  unfold kernelRun0_B
  dsimp only
  sl_unfold_words
  rw [View.canon_unit_zero hz]
  unfold k0_pay3
  simp only [View.readAt_eq_ld, harg3.read_unread, harg4.read_unread, harg6.read_unread, View.ld_unit_zero (S := S2048x1024) hz, View.ld_unit_zero (S := S2048x1024) hz,
    View.ld_unit_zero (S := S1024x1024) hz, shapeCast_self, pay_apply]
  rfl

theorem scratch_C (hc0 : ¬cond0_0 i) (hc1 : cond0_1 i) (hc2 : cond0_2 i) (x0 : Vec Ideal S2048x1024 .bf16) (x1 : Vec Ideal S2048x1024 .bf16) (acc : Vec Ideal S1024x1024 .f32) (j : S1024x1024.Idx) :
    sout0_C_0 c i arg3 harg3 arg4 harg4 arg5 harg5 arg6 harg6 hc0 hc1 hc2 x0 x1 acc j = acc j + tn (K := 2048) x0 x1 j := by
  unfold sout0_C_0
  rw [View.read_writes_eq_canon _ _ _ (scover0_C_0 c i arg3 harg3 arg4 harg4 arg5 harg5 arg6 harg6 hc0 hc1 hc2 x0 x1 acc)]
  unfold kernelRun0_C
  dsimp only
  sl_unfold_words
  rw [View.canon_unit_zero hz]
  unfold k0_pay3
  simp only [View.readAt_eq_ld, harg3.read_unread, harg4.read_unread, harg6.read_unread, View.ld_unit_zero (S := S2048x1024) hz, View.ld_unit_zero (S := S2048x1024) hz,
    View.ld_unit_zero (S := S1024x1024) hz, shapeCast_self, pay_apply]
  rfl

/-- The last point of a run writes the scratch back. -/
theorem out_C (hc0 : ¬cond0_0 i) (hc1 : cond0_1 i) (hc2 : cond0_2 i) (x0 : Vec Ideal S2048x1024 .bf16) (x1 : Vec Ideal S2048x1024 .bf16) (acc : Vec Ideal S1024x1024 .f32) (j : S1024x1024.Idx) :
    out0_C_2 c i arg3 harg3 arg4 harg4 arg5 harg5 arg6 harg6 hc0 hc1 hc2 x0 x1 acc j = acc j + tn (K := 2048) x0 x1 j := by
  unfold out0_C_2
  rw [View.read_writes_eq_canon _ _ _ (cover0_C_2 c i arg3 harg3 arg4 harg4 arg5 harg5 arg6 harg6 hc0 hc1 hc2 x0 x1 acc)]
  unfold kernelRun0_C
  dsimp only
  sl_unfold_words
  rw [View.canon_unit_zero hz]
  unfold k0_pay4 k0_pay3
  simp only [View.readCov_unit_zero (S := S1024x1024) _ hz, View.readAt_eq_ld, harg3.read_unread, harg4.read_unread, harg6.read_unread, View.ld_unit_zero (S := S2048x1024) hz, View.ld_unit_zero (S := S2048x1024) hz,
    View.ld_unit_zero (S := S1024x1024) hz, shapeCast_self, pay_apply]
  rfl

end

theorem set (c : Dev nD) (n : ℕ) (h : n < cfg0.N) (j : S1024x1024.Idx) (hn : n % 4 = 0) :
    (outsAt0 m c n h).2 j = tn (K := 2048) (iblk m c 0 ⟨n, h⟩) (iblk m c 1 ⟨n, h⟩) j := by
  rw [outsAt0_A m c ⟨n, h⟩ hn (by show ¬1 ≤ n % 4; omega) (by show ¬n % 4 = 3; omega)]
  dsimp only
  rw [scratch_A]

theorem add (c : Dev nD) (n : ℕ) (h : n + 1 < cfg0.N) (j : S1024x1024.Idx) (hn : (n + 1) % 4 ≠ 0) :
    (outsAt0 m c (n + 1) h).2 j = (outsAt0 m c n (Nat.lt_of_succ_lt h)).2 j + tn (K := 2048) (iblk m c 0 ⟨n + 1, h⟩) (iblk m c 1 ⟨n + 1, h⟩) j := by
  by_cases h3 : (n + 1) % 4 = 3
  · rw [outsAt0_C m c ⟨n + 1, h⟩ hn (by show 1 ≤ (n + 1) % 4; omega) h3]
    dsimp only
    rw [scratch_C]
    rfl
  · rw [outsAt0_B m c ⟨n + 1, h⟩ hn (by show 1 ≤ (n + 1) % 4; omega) h3]
    dsimp only
    rw [scratch_B]
    rfl

theorem out (c : Dev nD) (t : Fin cfg0.N) (h : t.val % 4 = 3) (j : S1024x1024.Idx) :
    (outsAt0 m c t.val t.isLt).1 j = (outsAt0 m c t.val t.isLt).2 j := by
  rw [outsAt0_C m c t (by omega) (by omega) h]
  dsimp only
  rw [out_C, scratch_C]

/-- The two arguments as the program is given them; over the reals the casts change nothing. -/
abbrev x (c : Dev nD) : Mat 8192 2048 := m ((c : Thread nD τ).loc main_arg0)
abbrev dz (c : Dev nD) : Mat 8192 3072 := m ((c : Thread nD τ).loc main_arg1)

theorem V_x (c : Dev nD) : V m c main_v0 = x m c := by
  unfold_abbrev_sides
  after_results
  rfl

theorem V_dz (c : Dev nD) : V m c main_v1 = dz m c := by
  unfold_abbrev_sides
  after_results
  rfl

theorem idx : ∀ t : Fin cfg0.N, (win0_0.index t 0 = t.val % 4 ∧ win0_0.index t 1 = t.val / 12) ∧ win0_1.index t 0 = t.val % 4 ∧ win0_1.index t 1 = t.val / 4 % 3 :=
  (by decide +kernel : ∀ t : Fin grid0.N, (win0_0.index t 0 = t.val % 4 ∧ win0_0.index t 1 = t.val / 12) ∧ win0_1.index t 0 = t.val % 4 ∧ win0_1.index t 1 = t.val / 4 % 3)

theorem read0 (c : Dev nD) (t : Fin cfg0.N) (s : Fin 4) (k : Fin 2048) (r : Fin 1024) (p : Fin 2048) (hs : t.val % 4 = s.val) (hp : p.val = 1024 * (t.val / 12) + r.val) :
    iblk m c 0 t (ix2 k r) = x m c (ix2 (deep s k) p) := by
  unfold iblk
  rw [View.read_apply]
  exact (congrFun (V_x m c) _).trans (congrArg (x m c) (block_at _ rfl rfl ((idx t).1.1.trans hs) (idx t).1.2 rfl hp))

theorem read1 (c : Dev nD) (t : Fin cfg0.N) (s : Fin 4) (k : Fin 2048) (l : Fin 1024) (q : Fin 3072) (hs : t.val % 4 = s.val) (hq : q.val = 1024 * (t.val / 4 % 3) + l.val) :
    iblk m c 1 t (ix2 k l) = dz m c (ix2 (deep s k) q) := by
  unfold iblk
  rw [View.read_apply]
  exact (congrFun (V_dz m c) _).trans (congrArg (dz m c) (block_at _ rfl rfl ((idx t).2.1.trans hs) (idx t).2.2 rfl hq))

/-- The last point of run `u` holds tile `u` of the gradient. -/
theorem run_tile (c : Dev nD) (u : ℕ) (h : 4 * u + 3 < cfg0.N) (r : Fin 1024) (l : Fin 1024) (p : Fin 2048) (q : Fin 3072) (hp : p.val = 1024 * (u / 3) + r.val)
    (hq : q.val = 1024 * (u % 3) + l.val) : (outsAt0 m c (4 * u + 3) h).2 (ix2 r l) = tn (x m c) (dz m c) (ix2 p q) :=
  tn_of_runs (x m c) (dz m c) (fun n h => (outsAt0 m c n h).2) (fun n h => iblk m c 0 ⟨n, h⟩) (fun n h => iblk m c 1 ⟨n, h⟩) (set m c) (add m c) u h r l p q
    (fun s k hn => read0 m c ⟨_, hn⟩ s k r p (by show (4 * u + s.val) % 4 = s.val; omega) (by show p.val = 1024 * ((4 * u + s.val) / 12) + r.val; omega))
    (fun s k hn => read1 m c ⟨_, hn⟩ s k l q (by show (4 * u + s.val) % 4 = s.val; omega) (by show q.val = 1024 * ((4 * u + s.val) / 4 % 3) + l.val; omega))

theorem outs_congr (c : Dev nD) {n n' : ℕ} (hn : n = n') (h : n < cfg0.N) {j j' : S1024x1024.Idx} (hj : j = j') :
    (outsAt0 m c n h).1 j = (outsAt0 m c n' (hn ▸ h)).1 j' := by
  subst hn hj; rfl

/-- The kernel's result is the weight's gradient. -/
theorem final (c : Dev nD) : Value.G2 m c = tn (x m c) (dz m c) := by
  refine eq_of_tiles (ni := 2) (nj := 3) (tm := 1024) (tl := 1024) rfl rfl fun u hu r l p q hp hq => ?_
  have e : Value.pt2Of (ix2 p q) = 4 * u + 3 := by
    show 4 * (3 * (p.val / 1024 - 0) + 1 * (q.val / 1024 - 0)) + 3 = 4 * u + 3
    omega
  have h : 4 * u + 3 < cfg0.N := lt_of_lt_of_eq (b := 24) (by omega) (by decide)
  unfold Value.G2
  rw [dif_pos (e ▸ h), ← Value.outsAt0_sweep m c _ (e ▸ h)]
  refine (outs_congr m c e _ (at_eq _ r l ?_ ?_)).trans ((out m c ⟨4 * u + 3, h⟩ (by show (4 * u + 3) % 4 = 3; omega) (ix2 r l)).trans (run_tile m c u h r l p q hp hq))
  · show p.val % 1024 = r.val
    omega
  · show q.val % 1024 = l.val
    omega

end Cert.Kernel22Ideal.SwaDwin

namespace Cert.Reference22Ideal.Read

open Cert.Reference22Ideal Cert.Reference22Ideal.Gen Idealize.ShloMosaic Cert.Products

theorem weightGrad_eq (x0 : Mat 8192 2048) (x1 : Mat 8192 3072) : val_main_v4 (F := Ideal) x0 x1 = tn x0 x1 := by
  funext i
  rw [val_main_v4_apply, val_main_v3_apply, val_main_v2_apply]
  refine Finset.sum_congr rfl fun k _ => ?_
  rw [mul_comm]
  exact congrArg₂ (· * ·) (congrArg x0 (at_eq _ _ _ rfl rfl)) (congrArg x1 (at_eq _ _ _ rfl rfl))

end Cert.Reference22Ideal.Read

namespace Cert.Kernel23Ideal.SwaDh

open Cert.Kernel23Ideal Cert.Kernel23Ideal.Gen Idealize.ShloMosaic Idealize.ShloMosaic.TcCoe Idealize.SL.Sem Idealize.ShloMosaic.StableHlo
open Idealize.ShloMosaic.Pipeline (Dat)
open Cert.Products

variable (m : (ℓ : Loc nD τ sig) → Buf (Elt Ideal) ℓ)

/-- One point's tile: the whole inner extent is contracted at once. -/
theorem tile_apply (x0 : Vec Ideal S1024x3072 .bf16) (x1 : Vec Ideal S1024x3072 .bf16) (r : Fin 1024) (l : Fin 1024) :
    out0_2 x0 x1 (ix2 r l) = ∑ k : Fin 3072, x0 (ix2 r k) * x1 (ix2 l k) := by
  unfold out0_2
  rw [View.canon_unit_zero hz]
  simp only [View.ld_unit_zero (S := S1024x3072) hz, View.ld_unit_zero (S := S1024x3072) hz]
  pointwise [k0_pay1]

/-- The two arguments as the program is given them; over the reals the casts change nothing. -/
abbrev dz (c : Dev nD) : Mat 8192 3072 := m ((c : Thread nD τ).loc main_arg0)
abbrev w (c : Dev nD) : Mat 2048 3072 := m ((c : Thread nD τ).loc main_arg1)

theorem V_dz (c : Dev nD) : V m c main_v0 = dz m c := by
  unfold_abbrev_sides
  after_results
  rfl

theorem V_w (c : Dev nD) : V m c main_v1 = w m c := by
  unfold_abbrev_sides
  after_results
  rfl

theorem idx : ∀ t : Fin cfg0.N, (win0_0.index t 0 = t.val / 2 ∧ win0_0.index t 1 = 0) ∧ (win0_1.index t 0 = t.val % 2 ∧ win0_1.index t 1 = 0)
    ∧ win0_2.index t 0 = t.val / 2 ∧ win0_2.index t 1 = t.val % 2 :=
  (by decide +kernel : ∀ t : Fin grid0.N, (win0_0.index t 0 = t.val / 2 ∧ win0_0.index t 1 = 0) ∧ (win0_1.index t 0 = t.val % 2 ∧ win0_1.index t 1 = 0)
    ∧ win0_2.index t 0 = t.val / 2 ∧ win0_2.index t 1 = t.val % 2)

theorem read0 (c : Dev nD) (t : Fin cfg0.N) (r : Fin 1024) (k : Fin 3072) (p : Fin 8192) (hp : p.val = 1024 * (t.val / 2) + r.val) :
    iblk m c 0 t (ix2 r k) = dz m c (ix2 p k) := by
  unfold iblk
  rw [View.read_apply]
  exact (congrFun (V_dz m c) _).trans (congrArg (dz m c) (block_at _ rfl rfl (idx t).1.1 (idx t).1.2 hp (first _ _)))

theorem read1 (c : Dev nD) (t : Fin cfg0.N) (k : Fin 3072) (l : Fin 1024) (q : Fin 2048) (hq : q.val = 1024 * (t.val % 2) + l.val) :
    iblk m c 1 t (ix2 l k) = w m c (ix2 q k) := by
  unfold iblk
  rw [View.read_apply]
  exact (congrFun (V_w m c) _).trans (congrArg (w m c) (block_at _ rfl rfl (idx t).2.1.1 (idx t).2.1.2 hq (first _ _)))

/-- The kernel's result is the product. -/
theorem final (c : Dev nD) : (dats m 0 c).arrAt 2 cfg0.N = nt (dz m c) (w m c) := by
  refine eq_of_tiles (ni := 8) (nj := 2) (tm := 1024) (tl := 1024) rfl rfl fun t ht r l p q hp hq => ?_
  have hN : t < cfg0.N := lt_of_lt_of_eq ht (by decide)
  have hb := congrFun (Value.blocks2 m c ⟨t, hN⟩ (flush0_2 _)) (ix2 r l)
  rw [View.read_apply, Value.flushed2, show ((cfg0.win 2).blk ⟨t, hN⟩).view.emb (ix2 r l) = ix2 p q from block_at _ rfl rfl (idx ⟨t, hN⟩).2.2.1 (idx ⟨t, hN⟩).2.2.2 hp hq] at hb
  refine hb.trans ((tile_apply _ _ r l).trans (Finset.sum_congr rfl fun k _ => ?_))
  exact congrArg₂ (· * ·) (read0 m c ⟨t, hN⟩ r k p hp) (read1 m c ⟨t, hN⟩ k l q hq)

end Cert.Kernel23Ideal.SwaDh

namespace Cert.Reference23Ideal.Read

open Cert.Reference23Ideal Cert.Reference23Ideal.Gen Idealize.ShloMosaic Cert.Products

theorem inputGrad_eq (x0 : Mat 8192 3072) (x1 : Mat 2048 3072) : val_main_v2 (F := Ideal) x0 x1 = nt x0 x1 := by
  funext i
  rw [val_main_v2_apply]
  exact Finset.sum_congr rfl fun k _ => congrArg₂ (· * ·) (congrArg x0 (at_eq _ _ _ rfl rfl)) (congrArg x1 (at_eq _ _ _ rfl rfl))

end Cert.Reference23Ideal.Read

namespace Cert.Kernel24Ideal.FoxFg

open Cert.Kernel24Ideal Cert.Kernel24Ideal.Gen Idealize.ShloMosaic Idealize.ShloMosaic.TcCoe Idealize.SL.Sem Idealize.ShloMosaic.StableHlo
open Idealize.ShloMosaic.Pipeline (Dat)
open Cert.Products Cert.Sliding

variable (m : (ℓ : Loc nD τ sig) → Buf (Elt Ideal) ℓ)

/-- One point's tile: the whole inner extent is contracted at once. -/
theorem tile_apply (x0 : Vec Ideal S1024x2048 .bf16) (x1 : Vec Ideal S2048x128 .bf16) (r : Fin 1024) (l : Fin 128) :
    out0_2 x0 x1 (ix2 r l) = ∑ k : Fin 2048, x0 (ix2 r k) * x1 (ix2 k l) := by
  unfold out0_2
  rw [View.canon_unit_zero hz]
  simp only [View.ld_unit_zero (S := S1024x2048) hz, View.ld_unit_zero (S := S2048x128) hz]
  pointwise [k0_pay1]

/-- The two arguments as the program is given them; over the reals the casts change nothing. -/
abbrev h (c : Dev nD) : Mat 8192 2048 := m ((c : Thread nD τ).loc main_arg0)
abbrev win (c : Dev nD) : Mat 2048 6160 := m ((c : Thread nD τ).loc main_arg1)

/-- The last sixteen columns followed by 112 columns of zeros. -/
abbrev wf (c : Dev nD) : Mat 2048 128 := lastCols (win m c)

theorem pad_eq (W : Vec Ideal S2048x6160 .bf16) (r : Fin 2048) (l : Fin 128) :
    pad (α := EReal) S2048x128 ![0, 0] ![0, 112] ![0, 0] (extractStridedSlice S2048x16 ![0, 6144] W slices_S2048x6160_S2048x16_0_6144)
      (sitofp (F := Ideal) .bf16 (constantI S_ 32 0#32)) pads_S2048x16_S2048x128_000_01120 h_S_ (ix2 r l) = lastCols (n := 2048) W (ix2 r l) := by
  by_cases hl : l.val < 16
  · rw [lastCols_own _ _ _ hl, pad_apply_of_inside _ _ _ _ _ _ _ _ (ix2 r (⟨l.val, hl⟩ : Fin 16)) (fun a => by fin_cases a <;> simp)]
    pointwise []
  · rw [lastCols_zero _ _ _ hl, pad_apply_of_not_inside _ _ _ _ _ _ _ _ (1 : Fin 2) (fun hin => hl (by simpa using hin.2.2))]
    exact sitofp_zero (φ := .bf16)

theorem V_h (c : Dev nD) : V m c main_v3 = h m c := by
  unfold_abbrev_sides
  unfold hostOps0 hostOps0_1 hostOps0_2
  simp only [List.flatten_cons, List.flatten_nil, List.cons_append, List.nil_append, List.append_nil]
  after_results
  rfl

theorem V_wf (c : Dev nD) : V m c main_v2 = wf m c := by
  unfold_abbrev_sides
  unfold hostOps0 hostOps0_1 hostOps0_2
  simp only [List.flatten_cons, List.flatten_nil, List.cons_append, List.nil_append, List.append_nil]
  after_results
  funext i
  obtain ⟨r, l, rfl⟩ : ∃ (r : Fin 2048) (l : Fin 128), i = ix2 r l := ⟨i 0, i 1, eq_ix2 i⟩
  exact pad_eq (win m c) r l

theorem idx : ∀ t : Fin cfg0.N, (win0_0.index t 0 = t.val / 1 ∧ win0_0.index t 1 = 0) ∧ (win0_1.index t 0 = 0 ∧ win0_1.index t 1 = t.val % 1)
    ∧ win0_2.index t 0 = t.val / 1 ∧ win0_2.index t 1 = t.val % 1 :=
  (by decide +kernel : ∀ t : Fin grid0.N, (win0_0.index t 0 = t.val / 1 ∧ win0_0.index t 1 = 0) ∧ (win0_1.index t 0 = 0 ∧ win0_1.index t 1 = t.val % 1)
    ∧ win0_2.index t 0 = t.val / 1 ∧ win0_2.index t 1 = t.val % 1)

theorem read0 (c : Dev nD) (t : Fin cfg0.N) (r : Fin 1024) (k : Fin 2048) (p : Fin 8192) (hp : p.val = 1024 * (t.val / 1) + r.val) :
    iblk m c 0 t (ix2 r k) = h m c (ix2 p k) := by
  unfold iblk
  rw [View.read_apply]
  exact (congrFun (V_h m c) _).trans (congrArg (h m c) (block_at _ rfl rfl (idx t).1.1 (idx t).1.2 hp (first _ _)))

theorem read1 (c : Dev nD) (t : Fin cfg0.N) (k : Fin 2048) (l : Fin 128) (q : Fin 128) (hq : q.val = 128 * (t.val % 1) + l.val) :
    iblk m c 1 t (ix2 k l) = wf m c (ix2 k q) := by
  unfold iblk
  rw [View.read_apply]
  exact (congrFun (V_wf m c) _).trans (congrArg (wf m c) (block_at _ rfl rfl (idx t).2.1.1 (idx t).2.1.2 (first _ _) hq))

/-- The kernel's result is the product. -/
theorem final (c : Dev nD) : (dats m 0 c).arrAt 2 cfg0.N = nn (h m c) (wf m c) := by
  refine eq_of_tiles (ni := 8) (nj := 1) (tm := 1024) (tl := 128) rfl rfl fun t ht r l p q hp hq => ?_
  have hN : t < cfg0.N := lt_of_lt_of_eq ht (by decide)
  have hb := congrFun (Value.blocks2 m c ⟨t, hN⟩ (flush0_2 _)) (ix2 r l)
  rw [View.read_apply, Value.flushed2, show ((cfg0.win 2).blk ⟨t, hN⟩).view.emb (ix2 r l) = ix2 p q from block_at _ rfl rfl (idx ⟨t, hN⟩).2.2.1 (idx ⟨t, hN⟩).2.2.2 hp hq] at hb
  refine hb.trans ((tile_apply _ _ r l).trans (Finset.sum_congr rfl fun k _ => ?_))
  exact congrArg₂ (· * ·) (read0 m c ⟨t, hN⟩ r k p hp) (read1 m c ⟨t, hN⟩ k l q hq)

end Cert.Kernel24Ideal.FoxFg

namespace Cert.Reference24Ideal.Read

open Cert.Reference24Ideal Cert.Reference24Ideal.Gen Idealize.ShloMosaic Cert.Products Cert.Sliding

theorem product_eq (x0 : Mat 8192 2048) (x1 : Mat 2048 6160) : val_main_v2 (F := Ideal) x0 x1 = nn x0 (lastCols x1) := by
  funext i
  obtain ⟨r, l, rfl⟩ : ∃ (r : Fin 8192) (l : Fin 128), i = ix2 r l := ⟨i 0, i 1, eq_ix2 i⟩
  unfold val_main_v2 nn
  by_cases hl : l.val < 16
  · rw [pad_apply_of_inside _ _ _ _ _ _ _ _ (ix2 r (⟨l.val, hl⟩ : Fin 16)) (fun a => by fin_cases a <;> simp), val_main_v1_apply, val_main_v0_apply]
    refine Finset.sum_congr rfl fun k _ => congrArg₂ (· * ·) (congrArg x0 (at_eq _ _ _ rfl rfl)) ?_
    exact (congrArg x1 (at_eq _ _ _ rfl rfl)).trans (lastCols_own x1 k l hl).symm
  · rw [pad_apply_of_not_inside _ _ _ _ _ _ _ _ (1 : Fin 2) (fun hin => hl (by simpa using hin.2.2))]
    refine (sitofp_zero (φ := .f32)).trans (Finset.sum_eq_zero fun k _ => ?_).symm
    exact (congrArg (x0 (ix2 r k) * ·) (lastCols_zero x1 k l hl)).trans (mul_zero _)

end Cert.Reference24Ideal.Read

end
-- ==== Proof.Streams.lean ====
/- The norms of the residual stream, forward: the norm and modulation before a mixer or the feed-forward block, the norm and the
   gate on its output with the sum into the stream, and the one call that does both. -/
module

public import proofs.«01_k».proof.Proof.Gen.Kernel25Ideal.Value
public import proofs.«01_k».proof.Proof.Gen.Kernel26Ideal.Value
public import proofs.«01_k».proof.Proof.Gen.Kernel27Ideal.Value
public import proofs.«01_k».proof.Proof.Gen.Reference25Ideal.Read
public import proofs.«01_k».proof.Proof.Gen.Reference26Ideal.Read
public import proofs.«01_k».proof.Proof.Gen.Reference27Ideal.Read
public import proofs.«01_k».proof.Proof.Tiles
public import proofs.«01_k».proof.Proof.Norms

@[expose] public section

set_option maxRecDepth 16384

noncomputable section

namespace Cert.Norms

open Idealize.ShloMosaic Cert.Products

variable {R : ℕ}

/-- The rows of `x` normed, scaled by `g`, then by one more than `s`, and shifted by `t`. -/
def modulated (x : Mat R 2048) (g s t : Mat 1 2048) : Mat R 2048 := fun i =>
  over (row x (i 0)) (i 1) * g (ix2 0 (i 1)) * plusOne s (ix2 0 (i 1)) + t (ix2 0 (i 1))

/-- The stream `x` and the rows of `y`, normed, scaled by `g` and gated by `a`. -/
def joined (x y : Mat R 2048) (g a : Mat 1 2048) : Mat R 2048 := fun i =>
  x (ix2 (i 0) (i 1)) + a (ix2 0 (i 1)) * (over (row y (i 0)) (i 1) * g (ix2 0 (i 1)))

theorem modulated_band {T N : ℕ} (hT : T = N * R) (x : Mat T 2048) (g s t : Mat 1 2048) (q : Fin N) :
    modulated (band hT x q) g s t = band hT (modulated x g s t) q := rfl

theorem joined_band {T N : ℕ} (hT : T = N * R) (x y : Mat T 2048) (g a : Mat 1 2048) (q : Fin N) :
    joined (band hT x q) (band hT y q) g a = band hT (joined x y g a) q := rfl

theorem rows_eq : 8192 = 32 * 256 := rfl

end Cert.Norms

namespace Cert.Kernel25Ideal.PreFwd

open Cert.Kernel25Ideal Cert.Kernel25Ideal.Gen Idealize.ShloMosaic Idealize.ShloMosaic.TcCoe Idealize.SL.Sem Idealize.ShloMosaic.StableHlo
open Idealize.ShloMosaic.Pipeline (Dat)
open Cert.Products Cert.Gating Cert.Norms

theorem pay_apply (x : FVec Ideal S256x2048 .f32) (g s t : FVec Ideal S1x2048 .f32) (r : Fin 256) (k : Fin 2048) :
    k0_pay1 (F := Ideal) x g s t (ix2 r k) = modulated x g s t (ix2 r k) := by
  unfold modulated over rrms mean row plusOne
  pointwise [k0_pay1]

theorem out_4 (x0 : Vec Ideal S256x2048 .f32) (x1 x2 x3 : Vec Ideal S1x2048 .f32) : out0_4 x0 x1 x2 x3 = modulated x0 x1 x2 x3 := by
  unfold out0_4
  rw [View.canon_unit_zero hz]
  simp only [View.ld_unit_zero (S := S256x2048) hz, View.ld_unit_zero (S := S1x2048) hz]
  funext j
  obtain ⟨r, k, rfl⟩ : ∃ (r : Fin 256) (k : Fin 2048), j = ix2 r k := ⟨j 0, j 1, eq_ix2 j⟩
  exact pay_apply x0 x1 x2 x3 r k

variable (m : (l : Loc nD τ sig) → Buf (Elt Ideal) l)

abbrev a0 (c : Dev nD) : Mat 8192 2048 := m ((c : Thread nD τ).loc main_arg0)
abbrev a1 (c : Dev nD) : Mat 1 2048 := m ((c : Thread nD τ).loc main_arg1)
abbrev a2 (c : Dev nD) : Mat 1 2048 := m ((c : Thread nD τ).loc main_arg2)
abbrev a3 (c : Dev nD) : Mat 1 2048 := m ((c : Thread nD τ).loc main_arg3)

/-- Which block each window takes at a point: the point's 256 rows of the matrices, the whole of the others. -/
theorem idx_rows : ∀ t : Fin cfg0.N, (win0_0.index t 0 = t.val ∧ win0_0.index t 1 = 0) ∧ (win0_4.index t 0 = t.val ∧ win0_4.index t 1 = 0) :=
  (by decide +kernel : ∀ t : Fin grid0.N, (win0_0.index t 0 = t.val ∧ win0_0.index t 1 = 0) ∧ (win0_4.index t 0 = t.val ∧ win0_4.index t 1 = 0))

theorem idx_flat : ∀ t : Fin cfg0.N, win0_1.index t 1 = 0 ∧ win0_2.index t 1 = 0 ∧ win0_3.index t 1 = 0 :=
  (by decide +kernel : ∀ t : Fin grid0.N, win0_1.index t 1 = 0 ∧ win0_2.index t 1 = 0 ∧ win0_3.index t 1 = 0)

theorem points : cfg0.N = 32 := by decide

/-- A point is a band of the rows. -/
abbrev pt (t : Fin cfg0.N) : Fin 32 := ⟨t.val, lt_of_lt_of_eq t.isLt points⟩

theorem blk0 (c : Dev nD) (t : Fin cfg0.N) : iblk m c 0 t = band rows_eq (a0 m c) (pt t) := by
  funext j
  obtain ⟨r, k, rfl⟩ : ∃ (r : Fin 256) (k : Fin 2048), j = ix2 r k := ⟨j 0, j 1, eq_ix2 j⟩
  unfold iblk
  rw [View.read_apply]
  exact (congrFun (V_main_arg0 m c) _).trans (congrArg (a0 m c) (band_at rows_eq _ (win0_0.index t) (pt t) (idx_rows t).1.1 (idx_rows t).1.2 r k rfl rfl))

theorem blk1 (c : Dev nD) (t : Fin cfg0.N) : iblk m c 1 t = a1 m c := by
  funext j
  unfold iblk
  rw [View.read_apply]
  exact (congrFun (V_main_arg1 m c) _).trans (congrArg (a1 m c) (row_at _ (win0_1.index t) (idx_flat t).1 j rfl))

theorem blk2 (c : Dev nD) (t : Fin cfg0.N) : iblk m c 2 t = a2 m c := by
  funext j
  unfold iblk
  rw [View.read_apply]
  exact (congrFun (V_main_arg2 m c) _).trans (congrArg (a2 m c) (row_at _ (win0_2.index t) (idx_flat t).2.1 j rfl))

theorem blk3 (c : Dev nD) (t : Fin cfg0.N) : iblk m c 3 t = a3 m c := by
  funext j
  unfold iblk
  rw [View.read_apply]
  exact (congrFun (V_main_arg3 m c) _).trans (congrArg (a3 m c) (row_at _ (win0_3.index t) (idx_flat t).2.2 j rfl))

abbrev res (c : Dev nD) : Buf (Elt Ideal) ((c : Thread nD τ).loc main_v0) := modulated (a0 m c) (a1 m c) (a2 m c) (a3 m c)

theorem flushed (c : Dev nD) (t : Fin cfg0.N) : (dats m 0 c).flushed 4 t = ((cfg0.win 4).blk t).view.read (Elt Ideal) (res m c) := by
  rw [Value.flushed4, out_4, blk0, blk1, blk2, blk3, modulated_band]
  funext j
  rw [View.read_apply]
  obtain ⟨r, k, rfl⟩ : ∃ (r : Fin 256) (k : Fin 2048), j = ix2 r k := ⟨j 0, j 1, eq_ix2 j⟩
  have hemb : ((cfg0.win 4).blk t).view.emb (ix2 r k) = (ix2 (at_band rows_eq (pt t) r) k : S8192x2048.Idx) :=
    band_at rows_eq _ (win0_4.index t) (pt t) (idx_rows t).2.1 (idx_rows t).2.2 r k rfl rfl
  show band rows_eq (res m c) (pt t) (ix2 r k) = res m c (((cfg0.win 4).blk t).view.emb (ix2 r k))
  rw [hemb]
  rfl

theorem final (c : Dev nD) : (dats m 0 c).arrAt 4 cfg0.N = res m c :=
  (dats m 0 c).arrAt_eq_of_cover 4 (res m c) (fun t _ => flushed m c t) fun i => by
    obtain ⟨q, hq⟩ := band_covers rows_eq (show S8192x2048.Idx from i)
    let t : Fin cfg0.N := ⟨q.val, lt_of_lt_of_eq q.isLt points.symm⟩
    refine ⟨t, flush0_4 _, ?_⟩
    show (show S8192x2048.Idx from i) ∈ ((View.whole main_v0).slice (win0_4.rect t)).set
    rw [View.set_slice_whole, Rect.mem_set_unit]
    exact hq (win0_4.index t) (idx_rows t).2.1 (idx_rows t).2.2

end Cert.Kernel25Ideal.PreFwd

namespace Cert.Kernel26Ideal.PostFwd

open Cert.Kernel26Ideal Cert.Kernel26Ideal.Gen Idealize.ShloMosaic Idealize.ShloMosaic.TcCoe Idealize.SL.Sem Idealize.ShloMosaic.StableHlo
open Idealize.ShloMosaic.Pipeline (Dat)
open Cert.Products Cert.Gating Cert.Norms

theorem pay_apply (y x : FVec Ideal S256x2048 .f32) (a g : FVec Ideal S1x2048 .f32) (r : Fin 256) (k : Fin 2048) :
    k0_pay1 (F := Ideal) y x a g (ix2 r k) = joined x y g a (ix2 r k) := by
  unfold joined over rrms mean row
  pointwise [k0_pay1]

theorem out_4 (x0 x1 : Vec Ideal S256x2048 .f32) (x2 x3 : Vec Ideal S1x2048 .f32) : out0_4 x0 x1 x2 x3 = joined x0 x1 x2 x3 := by
  unfold out0_4
  rw [View.canon_unit_zero hz]
  simp only [View.ld_unit_zero (S := S256x2048) hz, View.ld_unit_zero (S := S1x2048) hz]
  funext j
  obtain ⟨r, k, rfl⟩ : ∃ (r : Fin 256) (k : Fin 2048), j = ix2 r k := ⟨j 0, j 1, eq_ix2 j⟩
  exact pay_apply x1 x0 x3 x2 r k

variable (m : (l : Loc nD τ sig) → Buf (Elt Ideal) l)

abbrev a0 (c : Dev nD) : Mat 8192 2048 := m ((c : Thread nD τ).loc main_arg0)
abbrev a1 (c : Dev nD) : Mat 8192 2048 := m ((c : Thread nD τ).loc main_arg1)
abbrev a2 (c : Dev nD) : Mat 1 2048 := m ((c : Thread nD τ).loc main_arg2)
abbrev a3 (c : Dev nD) : Mat 1 2048 := m ((c : Thread nD τ).loc main_arg3)

/-- Which block each window takes at a point: the point's 256 rows of the matrices, the whole of the others. -/
theorem idx_rows : ∀ t : Fin cfg0.N, (win0_0.index t 0 = t.val ∧ win0_0.index t 1 = 0) ∧ (win0_1.index t 0 = t.val ∧ win0_1.index t 1 = 0) ∧ (win0_4.index t 0 = t.val ∧ win0_4.index t 1 = 0) :=
  (by decide +kernel : ∀ t : Fin grid0.N, (win0_0.index t 0 = t.val ∧ win0_0.index t 1 = 0) ∧ (win0_1.index t 0 = t.val ∧ win0_1.index t 1 = 0) ∧ (win0_4.index t 0 = t.val ∧ win0_4.index t 1 = 0))

theorem idx_flat : ∀ t : Fin cfg0.N, win0_2.index t 1 = 0 ∧ win0_3.index t 1 = 0 :=
  (by decide +kernel : ∀ t : Fin grid0.N, win0_2.index t 1 = 0 ∧ win0_3.index t 1 = 0)

theorem points : cfg0.N = 32 := by decide

/-- A point is a band of the rows. -/
abbrev pt (t : Fin cfg0.N) : Fin 32 := ⟨t.val, lt_of_lt_of_eq t.isLt points⟩

theorem blk0 (c : Dev nD) (t : Fin cfg0.N) : iblk m c 0 t = band rows_eq (a0 m c) (pt t) := by
  funext j
  obtain ⟨r, k, rfl⟩ : ∃ (r : Fin 256) (k : Fin 2048), j = ix2 r k := ⟨j 0, j 1, eq_ix2 j⟩
  unfold iblk
  rw [View.read_apply]
  exact (congrFun (V_main_arg0 m c) _).trans (congrArg (a0 m c) (band_at rows_eq _ (win0_0.index t) (pt t) (idx_rows t).1.1 (idx_rows t).1.2 r k rfl rfl))

theorem blk1 (c : Dev nD) (t : Fin cfg0.N) : iblk m c 1 t = band rows_eq (a1 m c) (pt t) := by
  funext j
  obtain ⟨r, k, rfl⟩ : ∃ (r : Fin 256) (k : Fin 2048), j = ix2 r k := ⟨j 0, j 1, eq_ix2 j⟩
  unfold iblk
  rw [View.read_apply]
  exact (congrFun (V_main_arg1 m c) _).trans (congrArg (a1 m c) (band_at rows_eq _ (win0_1.index t) (pt t) (idx_rows t).2.1.1 (idx_rows t).2.1.2 r k rfl rfl))

theorem blk2 (c : Dev nD) (t : Fin cfg0.N) : iblk m c 2 t = a2 m c := by
  funext j
  unfold iblk
  rw [View.read_apply]
  exact (congrFun (V_main_arg2 m c) _).trans (congrArg (a2 m c) (row_at _ (win0_2.index t) (idx_flat t).1 j rfl))

theorem blk3 (c : Dev nD) (t : Fin cfg0.N) : iblk m c 3 t = a3 m c := by
  funext j
  unfold iblk
  rw [View.read_apply]
  exact (congrFun (V_main_arg3 m c) _).trans (congrArg (a3 m c) (row_at _ (win0_3.index t) (idx_flat t).2 j rfl))

abbrev res (c : Dev nD) : Buf (Elt Ideal) ((c : Thread nD τ).loc main_v0) := joined (a0 m c) (a1 m c) (a2 m c) (a3 m c)

theorem flushed (c : Dev nD) (t : Fin cfg0.N) : (dats m 0 c).flushed 4 t = ((cfg0.win 4).blk t).view.read (Elt Ideal) (res m c) := by
  rw [Value.flushed4, out_4, blk0, blk1, blk2, blk3, joined_band]
  funext j
  rw [View.read_apply]
  obtain ⟨r, k, rfl⟩ : ∃ (r : Fin 256) (k : Fin 2048), j = ix2 r k := ⟨j 0, j 1, eq_ix2 j⟩
  have hemb : ((cfg0.win 4).blk t).view.emb (ix2 r k) = (ix2 (at_band rows_eq (pt t) r) k : S8192x2048.Idx) :=
    band_at rows_eq _ (win0_4.index t) (pt t) (idx_rows t).2.2.1 (idx_rows t).2.2.2 r k rfl rfl
  show band rows_eq (res m c) (pt t) (ix2 r k) = res m c (((cfg0.win 4).blk t).view.emb (ix2 r k))
  rw [hemb]
  rfl

theorem final (c : Dev nD) : (dats m 0 c).arrAt 4 cfg0.N = res m c :=
  (dats m 0 c).arrAt_eq_of_cover 4 (res m c) (fun t _ => flushed m c t) fun i => by
    obtain ⟨q, hq⟩ := band_covers rows_eq (show S8192x2048.Idx from i)
    let t : Fin cfg0.N := ⟨q.val, lt_of_lt_of_eq q.isLt points.symm⟩
    refine ⟨t, flush0_4 _, ?_⟩
    show (show S8192x2048.Idx from i) ∈ ((View.whole main_v0).slice (win0_4.rect t)).set
    rw [View.set_slice_whole, Rect.mem_set_unit]
    exact hq (win0_4.index t) (idx_rows t).2.2.1 (idx_rows t).2.2.2

end Cert.Kernel26Ideal.PostFwd

namespace Cert.Kernel27Ideal.PostPreFwd

open Cert.Kernel27Ideal Cert.Kernel27Ideal.Gen Idealize.ShloMosaic Idealize.ShloMosaic.TcCoe Idealize.SL.Sem Idealize.ShloMosaic.StableHlo
open Idealize.ShloMosaic.Pipeline (Dat)
open Cert.Products Cert.Gating Cert.Norms

theorem pay2_apply (y x : FVec Ideal S256x2048 .f32) (a g : FVec Ideal S1x2048 .f32) (r : Fin 256) (k : Fin 2048) :
    k0_pay2 (F := Ideal) y x a g (ix2 r k) = joined x y g a (ix2 r k) := by
  unfold joined over rrms mean row
  pointwise [k0_pay2]

theorem pay3_apply (y x : FVec Ideal S256x2048 .f32) (a g g' : FVec Ideal S1x2048 .f32) (r : Fin 256) (k : Fin 2048) :
    k0_pay3 (F := Ideal) y x a g g' (ix2 r k) = over (row (joined x y g a) r) k * g' (ix2 0 k) := by
  unfold over rrms mean row
  simp only [← pay2_apply]
  pointwise [k0_pay3]

theorem pay1_apply (y x : FVec Ideal S256x2048 .f32) (a g g' s t : FVec Ideal S1x2048 .f32) (r : Fin 256) (k : Fin 2048) :
    k0_pay1 (F := Ideal) (k0_pay3 y x a g g') (k0_pay4 s) t (ix2 r k) = modulated (joined x y g a) g' s t (ix2 r k) := by
  show _ = over (row (joined x y g a) r) k * g' (ix2 0 k) * plusOne s (ix2 0 k) + t (ix2 0 k)
  rw [← pay3_apply]
  unfold plusOne
  pointwise [k0_pay1, k0_pay4]

theorem out_7 (x0 x1 : Vec Ideal S256x2048 .f32) (x2 x3 x4 x5 x6 : Vec Ideal S1x2048 .f32) : out0_7 x0 x1 x2 x3 x4 x5 x6 = joined x0 x1 x2 x3 := by
  unfold out0_7
  rw [View.canon_unit_zero hz]
  simp only [View.ld_unit_zero (S := S256x2048) hz, View.ld_unit_zero (S := S1x2048) hz]
  funext j
  obtain ⟨r, k, rfl⟩ : ∃ (r : Fin 256) (k : Fin 2048), j = ix2 r k := ⟨j 0, j 1, eq_ix2 j⟩
  exact pay2_apply x1 x0 x3 x2 r k

theorem out_8 (x0 x1 : Vec Ideal S256x2048 .f32) (x2 x3 x4 x5 x6 : Vec Ideal S1x2048 .f32) : out0_8 x0 x1 x2 x3 x4 x5 x6 = modulated (joined x0 x1 x2 x3) x4 x5 x6 := by
  unfold out0_8
  rw [View.canon_unit_zero hz]
  simp only [View.ld_unit_zero (S := S256x2048) hz, View.ld_unit_zero (S := S1x2048) hz]
  funext j
  obtain ⟨r, k, rfl⟩ : ∃ (r : Fin 256) (k : Fin 2048), j = ix2 r k := ⟨j 0, j 1, eq_ix2 j⟩
  exact pay1_apply x1 x0 x3 x2 x4 x5 x6 r k

variable (m : (l : Loc nD τ sig) → Buf (Elt Ideal) l)

abbrev a0 (c : Dev nD) : Mat 8192 2048 := m ((c : Thread nD τ).loc main_arg0)
abbrev a1 (c : Dev nD) : Mat 8192 2048 := m ((c : Thread nD τ).loc main_arg1)
abbrev a2 (c : Dev nD) : Mat 1 2048 := m ((c : Thread nD τ).loc main_arg2)
abbrev a3 (c : Dev nD) : Mat 1 2048 := m ((c : Thread nD τ).loc main_arg3)
abbrev a4 (c : Dev nD) : Mat 1 2048 := m ((c : Thread nD τ).loc main_arg4)
abbrev a5 (c : Dev nD) : Mat 1 2048 := m ((c : Thread nD τ).loc main_arg5)
abbrev a6 (c : Dev nD) : Mat 1 2048 := m ((c : Thread nD τ).loc main_arg6)

/-- Which block each window takes at a point: the point's 256 rows of the matrices, the whole of the others. -/
theorem idx_rows : ∀ t : Fin cfg0.N, (win0_0.index t 0 = t.val ∧ win0_0.index t 1 = 0) ∧ (win0_1.index t 0 = t.val ∧ win0_1.index t 1 = 0) ∧ (win0_7.index t 0 = t.val ∧ win0_7.index t 1 = 0) ∧ (win0_8.index t 0 = t.val ∧ win0_8.index t 1 = 0) :=
  (by decide +kernel : ∀ t : Fin grid0.N, (win0_0.index t 0 = t.val ∧ win0_0.index t 1 = 0) ∧ (win0_1.index t 0 = t.val ∧ win0_1.index t 1 = 0) ∧ (win0_7.index t 0 = t.val ∧ win0_7.index t 1 = 0) ∧ (win0_8.index t 0 = t.val ∧ win0_8.index t 1 = 0))

theorem idx_flat : ∀ t : Fin cfg0.N, win0_2.index t 1 = 0 ∧ win0_3.index t 1 = 0 ∧ win0_4.index t 1 = 0 ∧ win0_5.index t 1 = 0 ∧ win0_6.index t 1 = 0 :=
  (by decide +kernel : ∀ t : Fin grid0.N, win0_2.index t 1 = 0 ∧ win0_3.index t 1 = 0 ∧ win0_4.index t 1 = 0 ∧ win0_5.index t 1 = 0 ∧ win0_6.index t 1 = 0)

theorem points : cfg0.N = 32 := by decide

/-- A point is a band of the rows. -/
abbrev pt (t : Fin cfg0.N) : Fin 32 := ⟨t.val, lt_of_lt_of_eq t.isLt points⟩

theorem blk0 (c : Dev nD) (t : Fin cfg0.N) : iblk m c 0 t = band rows_eq (a0 m c) (pt t) := by
  funext j
  obtain ⟨r, k, rfl⟩ : ∃ (r : Fin 256) (k : Fin 2048), j = ix2 r k := ⟨j 0, j 1, eq_ix2 j⟩
  unfold iblk
  rw [View.read_apply]
  exact (congrFun (V_main_arg0 m c) _).trans (congrArg (a0 m c) (band_at rows_eq _ (win0_0.index t) (pt t) (idx_rows t).1.1 (idx_rows t).1.2 r k rfl rfl))

theorem blk1 (c : Dev nD) (t : Fin cfg0.N) : iblk m c 1 t = band rows_eq (a1 m c) (pt t) := by
  funext j
  obtain ⟨r, k, rfl⟩ : ∃ (r : Fin 256) (k : Fin 2048), j = ix2 r k := ⟨j 0, j 1, eq_ix2 j⟩
  unfold iblk
  rw [View.read_apply]
  exact (congrFun (V_main_arg1 m c) _).trans (congrArg (a1 m c) (band_at rows_eq _ (win0_1.index t) (pt t) (idx_rows t).2.1.1 (idx_rows t).2.1.2 r k rfl rfl))

theorem blk2 (c : Dev nD) (t : Fin cfg0.N) : iblk m c 2 t = a2 m c := by
  funext j
  unfold iblk
  rw [View.read_apply]
  exact (congrFun (V_main_arg2 m c) _).trans (congrArg (a2 m c) (row_at _ (win0_2.index t) (idx_flat t).1 j rfl))

theorem blk3 (c : Dev nD) (t : Fin cfg0.N) : iblk m c 3 t = a3 m c := by
  funext j
  unfold iblk
  rw [View.read_apply]
  exact (congrFun (V_main_arg3 m c) _).trans (congrArg (a3 m c) (row_at _ (win0_3.index t) (idx_flat t).2.1 j rfl))

theorem blk4 (c : Dev nD) (t : Fin cfg0.N) : iblk m c 4 t = a4 m c := by
  funext j
  unfold iblk
  rw [View.read_apply]
  exact (congrFun (V_main_arg4 m c) _).trans (congrArg (a4 m c) (row_at _ (win0_4.index t) (idx_flat t).2.2.1 j rfl))

theorem blk5 (c : Dev nD) (t : Fin cfg0.N) : iblk m c 5 t = a5 m c := by
  funext j
  unfold iblk
  rw [View.read_apply]
  exact (congrFun (V_main_arg5 m c) _).trans (congrArg (a5 m c) (row_at _ (win0_5.index t) (idx_flat t).2.2.2.1 j rfl))

theorem blk6 (c : Dev nD) (t : Fin cfg0.N) : iblk m c 6 t = a6 m c := by
  funext j
  unfold iblk
  rw [View.read_apply]
  exact (congrFun (V_main_arg6 m c) _).trans (congrArg (a6 m c) (row_at _ (win0_6.index t) (idx_flat t).2.2.2.2 j rfl))

abbrev res7 (c : Dev nD) : Buf (Elt Ideal) ((c : Thread nD τ).loc main_v0_0) := joined (a0 m c) (a1 m c) (a2 m c) (a3 m c)

theorem flushed7 (c : Dev nD) (t : Fin cfg0.N) : (dats m 0 c).flushed 7 t = ((cfg0.win 7).blk t).view.read (Elt Ideal) (res7 m c) := by
  rw [Value.flushed7, out_7, blk0, blk1, blk2, blk3, joined_band]
  funext j
  rw [View.read_apply]
  obtain ⟨r, k, rfl⟩ : ∃ (r : Fin 256) (k : Fin 2048), j = ix2 r k := ⟨j 0, j 1, eq_ix2 j⟩
  have hemb : ((cfg0.win 7).blk t).view.emb (ix2 r k) = (ix2 (at_band rows_eq (pt t) r) k : S8192x2048.Idx) :=
    band_at rows_eq _ (win0_7.index t) (pt t) (idx_rows t).2.2.1.1 (idx_rows t).2.2.1.2 r k rfl rfl
  show band rows_eq (res7 m c) (pt t) (ix2 r k) = res7 m c (((cfg0.win 7).blk t).view.emb (ix2 r k))
  rw [hemb]
  rfl

theorem final7 (c : Dev nD) : (dats m 0 c).arrAt 7 cfg0.N = res7 m c :=
  (dats m 0 c).arrAt_eq_of_cover 7 (res7 m c) (fun t _ => flushed7 m c t) fun i => by
    obtain ⟨q, hq⟩ := band_covers rows_eq (show S8192x2048.Idx from i)
    let t : Fin cfg0.N := ⟨q.val, lt_of_lt_of_eq q.isLt points.symm⟩
    refine ⟨t, flush0_7 _, ?_⟩
    show (show S8192x2048.Idx from i) ∈ ((View.whole main_v0_0).slice (win0_7.rect t)).set
    rw [View.set_slice_whole, Rect.mem_set_unit]
    exact hq (win0_7.index t) (idx_rows t).2.2.1.1 (idx_rows t).2.2.1.2

abbrev res8 (c : Dev nD) : Buf (Elt Ideal) ((c : Thread nD τ).loc main_v0_1) := modulated (joined (a0 m c) (a1 m c) (a2 m c) (a3 m c)) (a4 m c) (a5 m c) (a6 m c)

theorem flushed8 (c : Dev nD) (t : Fin cfg0.N) : (dats m 0 c).flushed 8 t = ((cfg0.win 8).blk t).view.read (Elt Ideal) (res8 m c) := by
  rw [Value.flushed8, out_8, blk0, blk1, blk2, blk3, blk4, blk5, blk6, joined_band, modulated_band]
  funext j
  rw [View.read_apply]
  obtain ⟨r, k, rfl⟩ : ∃ (r : Fin 256) (k : Fin 2048), j = ix2 r k := ⟨j 0, j 1, eq_ix2 j⟩
  have hemb : ((cfg0.win 8).blk t).view.emb (ix2 r k) = (ix2 (at_band rows_eq (pt t) r) k : S8192x2048.Idx) :=
    band_at rows_eq _ (win0_8.index t) (pt t) (idx_rows t).2.2.2.1 (idx_rows t).2.2.2.2 r k rfl rfl
  show band rows_eq (res8 m c) (pt t) (ix2 r k) = res8 m c (((cfg0.win 8).blk t).view.emb (ix2 r k))
  rw [hemb]
  rfl

theorem final8 (c : Dev nD) : (dats m 0 c).arrAt 8 cfg0.N = res8 m c :=
  (dats m 0 c).arrAt_eq_of_cover 8 (res8 m c) (fun t _ => flushed8 m c t) fun i => by
    obtain ⟨q, hq⟩ := band_covers rows_eq (show S8192x2048.Idx from i)
    let t : Fin cfg0.N := ⟨q.val, lt_of_lt_of_eq q.isLt points.symm⟩
    refine ⟨t, flush0_8 _, ?_⟩
    show (show S8192x2048.Idx from i) ∈ ((View.whole main_v0_1).slice (win0_8.rect t)).set
    rw [View.set_slice_whole, Rect.mem_set_unit]
    exact hq (win0_8.index t) (idx_rows t).2.2.2.1 (idx_rows t).2.2.2.2

end Cert.Kernel27Ideal.PostPreFwd

namespace Cert.Reference25Ideal.Read

open Cert.Reference25Ideal Cert.Reference25Ideal.Gen Idealize.ShloMosaic Idealize.ShloMosaic.TcCoe Idealize.SL.Sem Idealize.ShloMosaic.StableHlo
open Cert.Products Cert.Gating Cert.Norms

variable (x0 : Mat 8192 2048) (x1 x2 x3 : Mat 1 2048) (r : Fin 8192) (k : Fin 2048)

theorem rrms_eq : val_main_v7 (F := Ideal) x0 (ix2 r 0) = rrms (row x0 r) := by
  unfold rrms mean row
  pointwise [val_main_v7, val_main_v6, val_main_v5, val_main_v4, val_main_v3, val_main_v2, val_main_v1, val_main_v0, val_main_cst, val_main_cst_0, val_main_cst_1]

theorem result_eq : val_main_v18 (F := Ideal) x0 x1 x2 x3 = modulated x0 x1 x2 x3 := by
  funext i
  obtain ⟨r, k, rfl⟩ : ∃ (r : Fin 8192) (k : Fin 2048), i = ix2 r k := ⟨i 0, i 1, eq_ix2 i⟩
  show _ = row x0 r k * rrms (row x0 r) * x1 (ix2 0 k) * plusOne x2 (ix2 0 k) + x3 (ix2 0 k)
  rw [← rrms_eq]
  unfold row plusOne
  pointwise [val_main_v18, val_main_v17, val_main_v16, val_main_v15, val_main_v14, val_main_v13, val_main_v12, val_main_v11, val_main_v10, val_main_v9, val_main_v8,
    val_main_cst_2]

end Cert.Reference25Ideal.Read

namespace Cert.Reference26Ideal.Read

open Cert.Reference26Ideal Cert.Reference26Ideal.Gen Idealize.ShloMosaic Idealize.ShloMosaic.TcCoe Idealize.SL.Sem Idealize.ShloMosaic.StableHlo
open Cert.Products Cert.Gating Cert.Norms

variable (x0 x1 : Mat 8192 2048) (x2 x3 : Mat 1 2048) (r : Fin 8192) (k : Fin 2048)

theorem rrms_eq : val_main_v7 (F := Ideal) x1 (ix2 r 0) = rrms (row x1 r) := by
  unfold rrms mean row
  pointwise [val_main_v7, val_main_v6, val_main_v5, val_main_v4, val_main_v3, val_main_v2, val_main_v1, val_main_v0, val_main_cst, val_main_cst_0, val_main_cst_1]

theorem joined_eq : val_main_v14 (F := Ideal) x0 x1 x2 x3 = joined x0 x1 x2 x3 := by
  funext i
  obtain ⟨r, k, rfl⟩ : ∃ (r : Fin 8192) (k : Fin 2048), i = ix2 r k := ⟨i 0, i 1, eq_ix2 i⟩
  show _ = x0 (ix2 r k) + x3 (ix2 0 k) * (row x1 r k * rrms (row x1 r) * x2 (ix2 0 k))
  rw [← rrms_eq]
  unfold row
  pointwise [val_main_v14, val_main_v13, val_main_v12, val_main_v11, val_main_v10, val_main_v9, val_main_v8]

end Cert.Reference26Ideal.Read

namespace Cert.Reference27Ideal.Read

open Cert.Reference27Ideal Cert.Reference27Ideal.Gen Idealize.ShloMosaic Idealize.ShloMosaic.TcCoe Idealize.SL.Sem Idealize.ShloMosaic.StableHlo
open Cert.Products Cert.Gating Cert.Norms

variable (x0 x1 : Mat 8192 2048) (x2 x3 x4 x5 x6 : Mat 1 2048) (r : Fin 8192) (k : Fin 2048)

theorem rrms_eq : val_main_v7 (F := Ideal) x1 (ix2 r 0) = rrms (row x1 r) := by
  unfold rrms mean row
  pointwise [val_main_v7, val_main_v6, val_main_v5, val_main_v4, val_main_v3, val_main_v2, val_main_v1, val_main_v0, val_main_cst, val_main_cst_0, val_main_cst_1]

theorem joined_eq : val_main_v14 (F := Ideal) x0 x1 x2 x3 = joined x0 x1 x2 x3 := by
  funext i
  obtain ⟨r, k, rfl⟩ : ∃ (r : Fin 8192) (k : Fin 2048), i = ix2 r k := ⟨i 0, i 1, eq_ix2 i⟩
  show _ = x0 (ix2 r k) + x3 (ix2 0 k) * (row x1 r k * rrms (row x1 r) * x2 (ix2 0 k))
  rw [← rrms_eq]
  unfold row
  pointwise [val_main_v14, val_main_v13, val_main_v12, val_main_v11, val_main_v10, val_main_v9, val_main_v8]

theorem rrms_eq' : val_main_v22 (F := Ideal) x0 x1 x2 x3 (ix2 r 0) = rrms (row (val_main_v14 (F := Ideal) x0 x1 x2 x3) r) := by
  unfold rrms mean row
  pointwise [val_main_v22, val_main_v21, val_main_v20, val_main_v19, val_main_v18, val_main_v17, val_main_v16, val_main_v15, val_main_cst_2, val_main_cst_3, val_main_cst_4]

theorem modulated_eq : val_main_v33 (F := Ideal) x0 x1 x2 x3 x4 x5 x6 = modulated (joined x0 x1 x2 x3) x4 x5 x6 := by
  rw [← joined_eq]
  funext i
  obtain ⟨r, k, rfl⟩ : ∃ (r : Fin 8192) (k : Fin 2048), i = ix2 r k := ⟨i 0, i 1, eq_ix2 i⟩
  show _ = row (val_main_v14 (F := Ideal) x0 x1 x2 x3) r k * rrms (row (val_main_v14 (F := Ideal) x0 x1 x2 x3) r) * x4 (ix2 0 k) * plusOne x5 (ix2 0 k) + x6 (ix2 0 k)
  rw [← rrms_eq']
  unfold row plusOne
  pointwise [val_main_v33, val_main_v32, val_main_v31, val_main_v30, val_main_v29, val_main_v28, val_main_v27, val_main_v26, val_main_v25, val_main_v24, val_main_v23,
    val_main_cst_5]

end Cert.Reference27Ideal.Read

end
-- ==== Proof.lean ====
/- The certificate's claims, assembled. The mathematics is in the modules under Proof/: what each kernel's array
   holds, what each reference's array holds, and that the two are the same function of the arguments. Here each
   value claim joins the two runs, and the frames come from the generated launches and runs. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Pre_finite
public import proofs.«01_k».proof.Proof.Gen.Pre_finite2
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Dact
public import proofs.«01_k».proof.Proof.Dwd
public import proofs.«01_k».proof.Proof.Dh
public import proofs.«01_k».proof.Proof.Down
public import proofs.«01_k».proof.Proof.Up
public import proofs.«01_k».proof.Proof.Dwg
public import proofs.«01_k».proof.Proof.Dwu
public import proofs.«01_k».proof.Proof.SguFwd
public import proofs.«01_k».proof.Proof.Loss
public import proofs.«01_k».proof.Proof.Forward
public import proofs.«01_k».proof.Proof.Inputs
public import proofs.«01_k».proof.Proof.Weights
public import proofs.«01_k».proof.Proof.SguRun
public import Idealize.ShloMosaic.Adequacy
public import Idealize.ShloMosaic.Init
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Pre_finite18
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Pre_finite19
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Pre_finite20
public import proofs.«01_k».proof.Proof.ForgetRun
public import proofs.«01_k».proof.Proof.ForgetFwd
public import proofs.«01_k».proof.Proof.PostRun
public import proofs.«01_k».proof.Proof.PreRun
public import proofs.«01_k».proof.Proof.Sliding
public import proofs.«01_k».proof.Proof.Streams

@[expose] public section

noncomputable section

set_option maxRecDepth 16384

namespace Cert.Proof

open Idealize.ShloMosaic Idealize.SL.Sem Idealize.ShloMosaic.StableHlo

/-- The gradient of the gate: the two results of the kernel and of the reference. -/
theorem dact : Cert.algebraic_Kernel2Ideal_Reference2Ideal_pre_finite2 := by
  pair_intro
  · run_from Cert.Kernel2Ideal.Value.run_blocks m g
  · run_from Cert.Reference2Ideal.Value.run m' g'
    · obtain ⟨h0, h1, h2, h3⟩ := Cert.Pre_finite2.reals _ _ _ _ (hpre c)
      exact (Cert.Reference2Ideal.Read.val_main_v7_eq _ _ _ _).trans ((Cert.Reference2Ideal.Read.gateGrad_eq _ _ _ _ h0 h1 h2 h3).trans (Cert.Kernel2Ideal.Dact.final_gate m c).symm)
    · exact (Cert.Reference2Ideal.Read.val_main_v8_eq _ _ _).trans ((Cert.Reference2Ideal.Read.upGrad_eq _ _ _).trans (Cert.Kernel2Ideal.Dact.final_up m c).symm)

/-- The gradient of the down projection's weight. -/
theorem dwd : Cert.algebraic_Kernel3Ideal_Reference3Ideal := by
  pair_intro
  · run_from Cert.Kernel3Ideal.Value.run m g
  · run_from Cert.Reference3Ideal.Value.run m' g'
    exact (Cert.Reference3Ideal.Read.val_main_v4_eq _ _).trans ((Cert.Reference3Ideal.Read.weightGrad_eq _ _).trans (Cert.Kernel3Ideal.Dwd.final m c).symm)

/-- The gradient of the feed-forward block's input. -/
theorem dh : Cert.algebraic_Kernel4Ideal_Reference4Ideal := by
  pair_intro
  · run_from Cert.Kernel4Ideal.Value.run_blocks m g
  · run_from Cert.Reference4Ideal.Value.run m' g'
    exact (Cert.Reference4Ideal.Read.val_main_v5_eq _ _ _).trans ((Cert.Reference4Ideal.Read.inputGrad_eq _ _ _).trans (Cert.Kernel4Ideal.Dh.final m c).symm)

/-- The down projection. -/
theorem down : Cert.algebraic_Kernel6Ideal_Reference6Ideal := by
  pair_intro
  · run_from Cert.Kernel6Ideal.Value.run_blocks m g
  · run_from Cert.Reference6Ideal.Value.run m' g'
    exact (Cert.Reference6Ideal.Read.val_main_v0_eq _ _).trans ((Cert.Reference6Ideal.Read.product _ _).trans (Cert.Kernel6Ideal.Down.final m c).symm)

/-- The up projection. -/
theorem up : Cert.algebraic_Kernel7Ideal_Reference7Ideal := by
  pair_intro
  · run_from Cert.Kernel7Ideal.Value.run_blocks m g
  · run_from Cert.Reference7Ideal.Value.run m' g'
    · exact (Cert.Reference7Ideal.Read.val_main_v1_eq _ _).trans ((Cert.Reference7Ideal.Read.gate_eq _ _).trans (Cert.Kernel7Ideal.Up.final_gate m c).symm)
    · exact (Cert.Reference7Ideal.Read.val_main_v2_eq _ _).trans ((Cert.Reference7Ideal.Read.up_eq _ _).trans (Cert.Kernel7Ideal.Up.final_up m c).symm)
    · exact (Cert.Reference7Ideal.Read.val_main_v5_eq _ _).trans ((Cert.Reference7Ideal.Read.act_eq _ _).trans (Cert.Kernel7Ideal.Up.final_act m c).symm)

/-- The gradient of the gate's weight. -/
theorem dwg : Cert.algebraic_Kernel5Ideal_Reference5Ideal := by
  pair_intro
  · run_from Cert.Kernel5Ideal.Value.run_blocks m g
  · run_from Cert.Reference5Ideal.Value.run m' g'
    refine (Cert.Reference5Ideal.Read.val_main_v8_eq _ _ _).trans ((Cert.Reference5Ideal.Read.weightGrad_eq _ _ _).trans (Eq.trans ?_ (Cert.Kernel5Ideal.Dwg.final m c).symm))
    exact congrArg (Cert.Products.inSlots 0 _) (hagree c).2.2

/-- The mixer's output projection. -/
theorem mixout : Cert.algebraic_Kernel8Ideal_Reference8Ideal := by
  pair_intro
  · run_from Cert.Kernel8Ideal.Value.run_blocks m g
  · run_from Cert.Reference8Ideal.Value.run m' g'
    exact (Cert.Reference8Ideal.Read.val_main_v0_eq _ _).trans ((Cert.Reference8Ideal.Read.product_eq _ _).trans (Cert.Kernel8Ideal.MixOut.final m c).symm)

/-- The attention's query, key and value projection. -/
theorem foxqkv : Cert.algebraic_Kernel9Ideal_Reference9Ideal := by
  pair_intro
  · run_from Cert.Kernel9Ideal.Value.run_blocks m g
  · run_from Cert.Reference9Ideal.Value.run m' g'
    exact (Cert.Reference9Ideal.Read.val_main_v2_eq _ _).trans ((Cert.Reference9Ideal.Read.product_eq _ _).trans (Cert.Kernel9Ideal.FoxQkv.final m c).symm)

/-- The gating unit's input projection. -/
theorem sguin : Cert.algebraic_Kernel10Ideal_Reference10Ideal := by
  pair_intro
  · run_from Cert.Kernel10Ideal.Value.run_blocks m g
  · run_from Cert.Reference10Ideal.Value.run m' g'
    exact (Cert.Reference10Ideal.Read.val_main_v0_eq _ _).trans ((Cert.Reference10Ideal.Read.product_eq _ _).trans (Cert.Kernel10Ideal.SguIn.final m c).symm)

/-- The gradient of the up projection's weight. -/
theorem dwu : Cert.algebraic_Kernel11Ideal_Reference11Ideal := by
  pair_intro
  · run_from Cert.Kernel11Ideal.Value.run_blocks m g
  · run_from Cert.Reference11Ideal.Value.run m' g'
    refine (Cert.Reference11Ideal.Read.val_main_v8_eq _ _ _).trans ((Cert.Reference11Ideal.Read.weightGrad_eq _ _ _).trans (Eq.trans ?_ (Cert.Kernel11Ideal.Dwu.final m c).symm))
    exact congrArg (Cert.Products.inSlots 4 _) (hagree c).2.2

/-- The gradient of the mixer's output weight. -/
theorem dwout : Cert.algebraic_Kernel12Ideal_Reference12Ideal := by
  pair_intro
  · run_from Cert.Kernel12Ideal.Value.run m g
  · run_from Cert.Reference12Ideal.Value.run m' g'
    exact (Cert.Reference12Ideal.Read.val_main_v4_eq _ _).trans ((Cert.Reference12Ideal.Read.weightGrad_eq _ _).trans (Cert.Kernel12Ideal.MixDwout.final m c).symm)

/-- The gradient of the attention's input weight. -/
theorem foxdwin : Cert.algebraic_Kernel13Ideal_Reference13Ideal := by
  pair_intro
  · run_from Cert.Kernel13Ideal.Value.run m g
  · run_from Cert.Reference13Ideal.Value.run m' g'
    exact (Cert.Reference13Ideal.Read.val_main_v4_eq _ _).trans ((Cert.Reference13Ideal.Read.weightGrad_eq _ _).trans (Cert.Kernel13Ideal.FoxDwin.final m c).symm)

/-- The gradient of the gating unit's input weight. -/
theorem sgudwin : Cert.algebraic_Kernel14Ideal_Reference14Ideal := by
  pair_intro
  · run_from Cert.Kernel14Ideal.Value.run m g
  · run_from Cert.Reference14Ideal.Value.run m' g'
    exact (Cert.Reference14Ideal.Read.val_main_v4_eq _ _).trans ((Cert.Reference14Ideal.Read.weightGrad_eq _ _).trans (Cert.Kernel14Ideal.SguDwin.final m c).symm)

/-- The gradient of the mixer's output projection's input. -/
theorem mixdout : Cert.algebraic_Kernel15Ideal_Reference15Ideal := by
  pair_intro
  · run_from Cert.Kernel15Ideal.Value.run_blocks m g
  · run_from Cert.Reference15Ideal.Value.run m' g'
    exact (Cert.Reference15Ideal.Read.val_main_v2_eq _ _).trans ((Cert.Reference15Ideal.Read.inputGrad_eq _ _).trans (Cert.Kernel15Ideal.MixDout.final m c).symm)

/-- The gradient of the attention's input. -/
theorem foxdh : Cert.algebraic_Kernel16Ideal_Reference16Ideal := by
  pair_intro
  · run_from Cert.Kernel16Ideal.Value.run_blocks m g
  · run_from Cert.Reference16Ideal.Value.run m' g'
    exact (Cert.Reference16Ideal.Read.val_main_v3_eq _ _).trans ((Cert.Reference16Ideal.Read.inputGrad_eq _ _).trans (Cert.Kernel16Ideal.FoxDh.final m c).symm)

/-- The gradient of the gating unit's input. -/
theorem sgudh : Cert.algebraic_Kernel17Ideal_Reference17Ideal := by
  pair_intro
  · run_from Cert.Kernel17Ideal.Value.run_blocks m g
  · run_from Cert.Reference17Ideal.Value.run m' g'
    exact (Cert.Reference17Ideal.Read.val_main_v2_eq _ _).trans ((Cert.Reference17Ideal.Read.inputGrad_eq _ _).trans (Cert.Kernel17Ideal.SguDh.final m c).symm)

/-- The references run: they hold no semaphore, and no operation writes an argument. -/
theorem ref : Cert.quiescent_ReferenceIdeal := fun m g _ =>
  (θ_run _ _ _).mono (fun r h => ⟨fun c => (h c).2.2.2.2.2, sem_eq_zero_of_no_sems (by decide) r.2⟩) (Cert.ReferenceIdeal.Value.run m g)

/-- The references run: they hold no semaphore, and no operation writes an argument. -/
theorem ref2 : Cert.quiescent_Reference2Ideal := fun m g _ =>
  (θ_run _ _ _).mono (fun r h => ⟨fun c => (h c).2.2, sem_eq_zero_of_no_sems (by decide) r.2⟩) (Cert.Reference2Ideal.Value.run m g)

/-- The references run: they hold no semaphore, and no operation writes an argument. -/
theorem ref3 : Cert.quiescent_Reference3Ideal := fun m g _ =>
  (θ_run _ _ _).mono (fun r h => ⟨fun c => (h c).2, sem_eq_zero_of_no_sems (by decide) r.2⟩) (Cert.Reference3Ideal.Value.run m g)

/-- The references run: they hold no semaphore, and no operation writes an argument. -/
theorem ref4 : Cert.quiescent_Reference4Ideal := fun m g _ =>
  (θ_run _ _ _).mono (fun r h => ⟨fun c => (h c).2, sem_eq_zero_of_no_sems (by decide) r.2⟩) (Cert.Reference4Ideal.Value.run m g)

/-- The references run: they hold no semaphore, and no operation writes an argument. -/
theorem ref5 : Cert.quiescent_Reference5Ideal := fun m g _ =>
  (θ_run _ _ _).mono (fun r h => ⟨fun c => (h c).2, sem_eq_zero_of_no_sems (by decide) r.2⟩) (Cert.Reference5Ideal.Value.run m g)

/-- The references run: they hold no semaphore, and no operation writes an argument. -/
theorem ref6 : Cert.quiescent_Reference6Ideal := fun m g _ =>
  (θ_run _ _ _).mono (fun r h => ⟨fun c => (h c).2, sem_eq_zero_of_no_sems (by decide) r.2⟩) (Cert.Reference6Ideal.Value.run m g)

/-- The references run: they hold no semaphore, and no operation writes an argument. -/
theorem ref7 : Cert.quiescent_Reference7Ideal := fun m g _ =>
  (θ_run _ _ _).mono (fun r h => ⟨fun c => (h c).2.2.2, sem_eq_zero_of_no_sems (by decide) r.2⟩) (Cert.Reference7Ideal.Value.run m g)

/-- The references run: they hold no semaphore, and no operation writes an argument. -/
theorem ref8 : Cert.quiescent_Reference8Ideal := fun m g _ =>
  (θ_run _ _ _).mono (fun r h => ⟨fun c => (h c).2, sem_eq_zero_of_no_sems (by decide) r.2⟩) (Cert.Reference8Ideal.Value.run m g)

/-- The references run: they hold no semaphore, and no operation writes an argument. -/
theorem ref9 : Cert.quiescent_Reference9Ideal := fun m g _ =>
  (θ_run _ _ _).mono (fun r h => ⟨fun c => (h c).2, sem_eq_zero_of_no_sems (by decide) r.2⟩) (Cert.Reference9Ideal.Value.run m g)

/-- The references run: they hold no semaphore, and no operation writes an argument. -/
theorem ref10 : Cert.quiescent_Reference10Ideal := fun m g _ =>
  (θ_run _ _ _).mono (fun r h => ⟨fun c => (h c).2, sem_eq_zero_of_no_sems (by decide) r.2⟩) (Cert.Reference10Ideal.Value.run m g)

/-- The references run: they hold no semaphore, and no operation writes an argument. -/
theorem ref11 : Cert.quiescent_Reference11Ideal := fun m g _ =>
  (θ_run _ _ _).mono (fun r h => ⟨fun c => (h c).2, sem_eq_zero_of_no_sems (by decide) r.2⟩) (Cert.Reference11Ideal.Value.run m g)

/-- The references run: they hold no semaphore, and no operation writes an argument. -/
theorem ref12 : Cert.quiescent_Reference12Ideal := fun m g _ =>
  (θ_run _ _ _).mono (fun r h => ⟨fun c => (h c).2, sem_eq_zero_of_no_sems (by decide) r.2⟩) (Cert.Reference12Ideal.Value.run m g)

/-- The references run: they hold no semaphore, and no operation writes an argument. -/
theorem ref13 : Cert.quiescent_Reference13Ideal := fun m g _ =>
  (θ_run _ _ _).mono (fun r h => ⟨fun c => (h c).2, sem_eq_zero_of_no_sems (by decide) r.2⟩) (Cert.Reference13Ideal.Value.run m g)

/-- The references run: they hold no semaphore, and no operation writes an argument. -/
theorem ref14 : Cert.quiescent_Reference14Ideal := fun m g _ =>
  (θ_run _ _ _).mono (fun r h => ⟨fun c => (h c).2, sem_eq_zero_of_no_sems (by decide) r.2⟩) (Cert.Reference14Ideal.Value.run m g)

/-- The references run: they hold no semaphore, and no operation writes an argument. -/
theorem ref15 : Cert.quiescent_Reference15Ideal := fun m g _ =>
  (θ_run _ _ _).mono (fun r h => ⟨fun c => (h c).2, sem_eq_zero_of_no_sems (by decide) r.2⟩) (Cert.Reference15Ideal.Value.run m g)

/-- The references run: they hold no semaphore, and no operation writes an argument. -/
theorem ref16 : Cert.quiescent_Reference16Ideal := fun m g _ =>
  (θ_run _ _ _).mono (fun r h => ⟨fun c => (h c).2, sem_eq_zero_of_no_sems (by decide) r.2⟩) (Cert.Reference16Ideal.Value.run m g)

/-- The references run: they hold no semaphore, and no operation writes an argument. -/
theorem ref17 : Cert.quiescent_Reference17Ideal := fun m g _ =>
  (θ_run _ _ _).mono (fun r h => ⟨fun c => (h c).2, sem_eq_zero_of_no_sems (by decide) r.2⟩) (Cert.Reference17Ideal.Value.run m g)

/-- The gradient of the spatial gating unit. -/
theorem sgu : Cert.algebraic_KernelIdeal_ReferenceIdeal_pre_finite := by
  pair_intro
  · run_from Cert.KernelIdeal.Value.run_blocks m g
  · run_from Cert.ReferenceIdeal.Read.run_vals m' g'
    all_goals obtain ⟨h0, h1, h2, h3, h4, h5⟩ := Cert.Pre_finite.reals _ _ _ _ _ _ (hpre c)
    · exact (Cert.ReferenceIdeal.Read.gradZ_eq _ _ _ _ _ _ h1 h0 h2 h3 h4 h5).trans (Cert.KernelIdeal.Sgu.final_z m c).symm
    · exact (Cert.ReferenceIdeal.Read.gradW_eq _ _ _ _ h1).trans (Cert.KernelIdeal.Sgu.final_w m c).symm
    · exact (Cert.ReferenceIdeal.Read.gradB_eq _ _ h1).trans (Cert.KernelIdeal.Sgu.final_b m c).symm
    · exact (Cert.ReferenceIdeal.Read.gradG_eq _ _ _ h1).trans (Cert.KernelIdeal.Sgu.final_g m c).symm
    · exact (Cert.ReferenceIdeal.Read.gradS_eq _ _ _ h1).trans (Cert.KernelIdeal.Sgu.final_s m c).symm

/-- The references run: they hold no semaphore, and no operation writes an argument. -/
theorem ref18 : Cert.quiescent_Reference18Ideal := fun m g _ =>
  (θ_run _ _ _).mono (fun r h => ⟨fun c => (h c).2.2, sem_eq_zero_of_no_sems (by decide) r.2⟩) (Cert.Reference18Ideal.Value.run m g)

/-- The references run: they hold no semaphore, and no operation writes an argument. -/
theorem ref19 : Cert.quiescent_Reference19Ideal := fun m g _ =>
  (θ_run _ _ _).mono (fun r h => ⟨fun c => (h c).2.2.2, sem_eq_zero_of_no_sems (by decide) r.2⟩) (Cert.Reference19Ideal.Value.run m g)

/-- The references run: they hold no semaphore, and no operation writes an argument. -/
theorem ref20 : Cert.quiescent_Reference20Ideal := fun m g _ =>
  (θ_run _ _ _).mono (fun r h => ⟨fun c => (h c).2.2.2.2, sem_eq_zero_of_no_sems (by decide) r.2⟩) (Cert.Reference20Ideal.Value.run m g)

/-- The gradient of the forget gates. -/
theorem forget : Cert.algebraic_Kernel18Ideal_Reference18Ideal_pre_finite18 := by
  pair_intro
  · run_from Cert.Kernel18Ideal.Value.run_blocks m g
  · refine (θ_run _ _ _).mono (fun r h c => ?_) (Cert.Reference18Ideal.Read.run_vals m' g')
    have h0 := Cert.Pre_finite18.reals _ _ _ (hpre c)
    refine ⟨(h c).1.trans ?_, (h c).2.1.trans ?_, (h c).2.2⟩
    · rw [(hagree c).1, (hagree c).2.1, (hagree c).2.2]
      exact (Cert.Reference18Ideal.Read.gate_eq _ _ _).trans (Cert.Kernel18Ideal.Forget.final_f m c h0).symm
    · rw [(hagree c).1, (hagree c).2.1, (hagree c).2.2]
      exact (Cert.Reference18Ideal.Read.sums_eq _ _ _).trans (Cert.Kernel18Ideal.Forget.final_b m c h0).symm

/-- The gradient of a mixer's output norm and gate. -/
theorem post : Cert.algebraic_Kernel19Ideal_Reference19Ideal_pre_finite19 := by
  pair_intro
  · run_from Cert.Kernel19Ideal.Value.run_blocks m g
  · run_from Cert.Reference19Ideal.Read.run_vals m' g'
    all_goals obtain ⟨h0, h1, h2, h3⟩ := Cert.Pre_finite19.reals _ _ _ _ (hpre c)
    · exact (Cert.Reference19Ideal.Read.inGrad_eq _ _ _ _ h0 h1 h2 h3).trans (Cert.Kernel19Ideal.Post.final_y m c).symm
    · exact (Cert.Reference19Ideal.Read.outGrad_eq _ _ _).trans (Cert.Kernel19Ideal.Post.final_a m c).symm
    · exact (Cert.Reference19Ideal.Read.scaleGrad_eq _ _ _).trans (Cert.Kernel19Ideal.Post.final_g m c).symm

/-- The gradient of a mixer's input norm and modulation. -/
theorem pre : Cert.algebraic_Kernel20Ideal_Reference20Ideal_pre_finite20 := by
  pair_intro
  · run_from Cert.Kernel20Ideal.Value.run_blocks m g
  · run_from Cert.Reference20Ideal.Read.run_vals m' g'
    all_goals obtain ⟨h0, h1, h2, h3⟩ := Cert.Pre_finite20.reals _ _ _ _ _ (hpre c)
    · exact (Cert.Reference20Ideal.Read.inGrad_eq _ _ _ _ _ h0 h1 h2 h3).trans (Cert.Kernel20Ideal.Pre.final_x m c).symm
    · exact (Cert.Reference20Ideal.Read.sumRows_eq _).trans (Cert.Kernel20Ideal.Pre.final_h m c).symm
    · exact (Cert.Reference20Ideal.Read.outGrad_eq _ _ _).trans (Cert.Kernel20Ideal.Pre.final_s m c).symm
    · exact (Cert.Reference20Ideal.Read.scaleGrad_eq _ _ _).trans (Cert.Kernel20Ideal.Pre.final_g m c).symm

/-- The references run: they hold no semaphore, and no operation writes an argument. -/
theorem ref21 : Cert.quiescent_Reference21Ideal := fun m g _ =>
  (θ_run _ _ _).mono (fun r h => ⟨fun c => (h c).2, sem_eq_zero_of_no_sems (by decide) r.2⟩) (Cert.Reference21Ideal.Value.run m g)

/-- The references run: they hold no semaphore, and no operation writes an argument. -/
theorem ref22 : Cert.quiescent_Reference22Ideal := fun m g _ =>
  (θ_run _ _ _).mono (fun r h => ⟨fun c => (h c).2, sem_eq_zero_of_no_sems (by decide) r.2⟩) (Cert.Reference22Ideal.Value.run m g)

/-- The references run: they hold no semaphore, and no operation writes an argument. -/
theorem ref23 : Cert.quiescent_Reference23Ideal := fun m g _ =>
  (θ_run _ _ _).mono (fun r h => ⟨fun c => (h c).2, sem_eq_zero_of_no_sems (by decide) r.2⟩) (Cert.Reference23Ideal.Value.run m g)

/-- The references run: they hold no semaphore, and no operation writes an argument. -/
theorem ref24 : Cert.quiescent_Reference24Ideal := fun m g _ =>
  (θ_run _ _ _).mono (fun r h => ⟨fun c => (h c).2, sem_eq_zero_of_no_sems (by decide) r.2⟩) (Cert.Reference24Ideal.Value.run m g)

/-- The sliding-window attention's input projection. -/
theorem swain : Cert.algebraic_Kernel21Ideal_Reference21Ideal := by
  pair_intro
  · run_from Cert.Kernel21Ideal.Value.run_blocks m g
  · run_from Cert.Reference21Ideal.Value.run m' g'
    exact (Cert.Reference21Ideal.Read.val_main_v0_eq _ _).trans ((Cert.Reference21Ideal.Read.product_eq _ _).trans (Cert.Kernel21Ideal.SwaIn.final m c).symm)

/-- The gradient of the sliding-window attention's input weight. -/
theorem swadwin : Cert.algebraic_Kernel22Ideal_Reference22Ideal := by
  pair_intro
  · run_from Cert.Kernel22Ideal.Value.run m g
  · run_from Cert.Reference22Ideal.Value.run m' g'
    exact (Cert.Reference22Ideal.Read.val_main_v4_eq _ _).trans ((Cert.Reference22Ideal.Read.weightGrad_eq _ _).trans (Cert.Kernel22Ideal.SwaDwin.final m c).symm)

/-- The gradient of the sliding-window attention's input. -/
theorem swadh : Cert.algebraic_Kernel23Ideal_Reference23Ideal := by
  pair_intro
  · run_from Cert.Kernel23Ideal.Value.run_blocks m g
  · run_from Cert.Reference23Ideal.Value.run m' g'
    exact (Cert.Reference23Ideal.Read.val_main_v2_eq _ _).trans ((Cert.Reference23Ideal.Read.inputGrad_eq _ _).trans (Cert.Kernel23Ideal.SwaDh.final m c).symm)

/-- The projection that the forget gates are made of. -/
theorem foxfg : Cert.algebraic_Kernel24Ideal_Reference24Ideal := by
  pair_intro
  · run_from Cert.Kernel24Ideal.Value.run_blocks m g
  · run_from Cert.Reference24Ideal.Value.run m' g'
    exact (Cert.Reference24Ideal.Read.val_main_v2_eq _ _).trans ((Cert.Reference24Ideal.Read.product_eq _ _).trans (Cert.Kernel24Ideal.FoxFg.final m c).symm)

/-- The references run: they hold no semaphore, and no operation writes an argument. -/
theorem ref25 : Cert.quiescent_Reference25Ideal := fun m g _ =>
  (θ_run _ _ _).mono (fun r h => ⟨fun c => (h c).2, sem_eq_zero_of_no_sems (by decide) r.2⟩) (Cert.Reference25Ideal.Value.run m g)

/-- The references run: they hold no semaphore, and no operation writes an argument. -/
theorem ref26 : Cert.quiescent_Reference26Ideal := fun m g _ =>
  (θ_run _ _ _).mono (fun r h => ⟨fun c => (h c).2, sem_eq_zero_of_no_sems (by decide) r.2⟩) (Cert.Reference26Ideal.Value.run m g)

/-- The references run: they hold no semaphore, and no operation writes an argument. -/
theorem ref27 : Cert.quiescent_Reference27Ideal := fun m g _ =>
  (θ_run _ _ _).mono (fun r h => ⟨fun c => (h c).2.2, sem_eq_zero_of_no_sems (by decide) r.2⟩) (Cert.Reference27Ideal.Value.run m g)

/-- The norm and modulation before a mixer. -/
theorem prefwd : Cert.algebraic_Kernel25Ideal_Reference25Ideal := by
  pair_intro
  · run_from Cert.Kernel25Ideal.Value.run_blocks m g
  · run_from Cert.Reference25Ideal.Value.run m' g'
    exact (Cert.Reference25Ideal.Read.val_main_v18_eq _ _ _ _).trans ((Cert.Reference25Ideal.Read.result_eq _ _ _ _).trans (Cert.Kernel25Ideal.PreFwd.final m c).symm)

/-- The norm and the gate on a mixer's output, with the sum into the stream. -/
theorem postfwd : Cert.algebraic_Kernel26Ideal_Reference26Ideal := by
  pair_intro
  · run_from Cert.Kernel26Ideal.Value.run_blocks m g
  · run_from Cert.Reference26Ideal.Value.run m' g'
    exact (Cert.Reference26Ideal.Read.val_main_v14_eq _ _ _ _).trans ((Cert.Reference26Ideal.Read.joined_eq _ _ _ _).trans (Cert.Kernel26Ideal.PostFwd.final m c).symm)

/-- Both in one. -/
theorem postprefwd : Cert.algebraic_Kernel27Ideal_Reference27Ideal := by
  pair_intro
  · run_from Cert.Kernel27Ideal.Value.run_blocks m g
  · run_from Cert.Reference27Ideal.Value.run m' g'
    · exact (Cert.Reference27Ideal.Read.val_main_v14_eq _ _ _ _).trans ((Cert.Reference27Ideal.Read.joined_eq _ _ _ _).trans (Cert.Kernel27Ideal.PostPreFwd.final7 m c).symm)
    · exact (Cert.Reference27Ideal.Read.val_main_v33_eq _ _ _ _ _ _ _).trans ((Cert.Reference27Ideal.Read.modulated_eq _ _ _ _ _ _ _).trans (Cert.Kernel27Ideal.PostPreFwd.final8 m c).symm)

/-- The references run: they hold no semaphore, and no operation writes an argument. -/
theorem ref28 : Cert.quiescent_Reference28Ideal := fun m g _ =>
  (θ_run _ _ _).mono (fun r h => ⟨fun c => (h c).2, sem_eq_zero_of_no_sems (by decide) r.2⟩) (Cert.Reference28Ideal.Value.run m g)

/-- The references run: they hold no semaphore, and no operation writes an argument. -/
theorem ref29 : Cert.quiescent_Reference29Ideal := fun m g _ =>
  (θ_run _ _ _).mono (fun r h => ⟨fun c => (h c).2.2, sem_eq_zero_of_no_sems (by decide) r.2⟩) (Cert.Reference29Ideal.Value.run m g)

/-- The spatial gating unit. -/
theorem sgufwd : Cert.algebraic_Kernel28Ideal_Reference28Ideal := by
  pair_intro
  · run_from Cert.Kernel28Ideal.Value.run_blocks m g
  · run_from Cert.Reference28Ideal.Read.run_vals m' g'
    exact (Cert.Reference28Ideal.Read.gated_eq _ _ _ _ _).trans (Cert.Kernel28Ideal.SguFwd.final m c).symm

/-- The loss: its gradient and the sum of the squares. -/
theorem loss : Cert.algebraic_Kernel29Ideal_Reference29Ideal := by
  pair_intro
  · run_from Cert.Kernel29Ideal.Value.run_blocks m g
  · run_from Cert.Reference29Ideal.Read.run_vals m' g'
    · exact (Cert.Reference29Ideal.Read.grad_eq _ _).trans (Cert.Kernel29Ideal.Loss.final_x m c).symm
    · exact (Cert.Reference29Ideal.Read.sum_eq _ _).trans (Cert.Kernel29Ideal.Loss.final_sum m c).symm

/-- The references run: they hold no semaphore, and no operation writes an argument. -/
theorem ref30 : Cert.quiescent_Reference30Ideal := fun m g _ =>
  (θ_run _ _ _).mono (fun r h => ⟨fun c => (h c).2.2, sem_eq_zero_of_no_sems (by decide) r.2⟩) (Cert.Reference30Ideal.Value.run m g)

/-- The forget gates' running sums, and their columns spread over the lanes. -/
theorem forgetfwd : Cert.algebraic_Kernel30Ideal_Reference30Ideal := by
  pair_intro
  · run_from Cert.Kernel30Ideal.Value.run_blocks m g
  · refine (θ_run _ _ _).mono (fun r h c => ?_) (Cert.Reference30Ideal.Read.run_vals m' g')
    refine ⟨(h c).1.trans ?_, (h c).2.1.trans ?_, (h c).2.2⟩
    · rw [(hagree c).1, (hagree c).2]
      exact (Cert.Reference30Ideal.Read.cum_eq _ _).trans (Cert.Kernel30Ideal.ForgetFwd.final_cum m c).symm
    · rw [(hagree c).1, (hagree c).2]
      exact (Cert.Reference30Ideal.Read.rep_eq _ _).trans (Cert.Kernel30Ideal.ForgetFwd.final_rep m c).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Pre_finite.Gen.facts, Cert.Pre_finite2.Gen.facts, Cert.Pre_finite18.Gen.facts, Cert.Pre_finite19.Gen.facts, Cert.Pre_finite20.Gen.facts,
    fun m g _ => Cert.Kernel.Gen.frame m g,
    fun m g _ => Cert.KernelIdeal.Gen.frame m g,
    fun m g _ => Cert.KernelIdeal.Gen.frame m g,
    ref,
    fun m g _ => ref m g trivial,
    fun m g _ => Cert.Kernel2.Gen.frame m g,
    fun m g _ => Cert.Kernel2Ideal.Gen.frame m g,
    fun m g _ => Cert.Kernel2Ideal.Gen.frame m g,
    ref2,
    fun m g _ => ref2 m g trivial,
    fun m g _ => Cert.Kernel3.Gen.frame m g,
    fun m g _ => Cert.Kernel3Ideal.Gen.frame m g,
    ref3,
    fun m g _ => Cert.Kernel4.Gen.frame m g,
    fun m g _ => Cert.Kernel4Ideal.Gen.frame m g,
    ref4,
    fun m g _ => Cert.Kernel5.Gen.frame m g,
    fun m g _ => Cert.Kernel5Ideal.Gen.frame m g,
    ref5,
    fun m g _ => Cert.Kernel6.Gen.frame m g,
    fun m g _ => Cert.Kernel6Ideal.Gen.frame m g,
    ref6,
    fun m g _ => Cert.Kernel7.Gen.frame m g,
    fun m g _ => Cert.Kernel7Ideal.Gen.frame m g,
    ref7,
    fun m g _ => Cert.Kernel8.Gen.frame m g,
    fun m g _ => Cert.Kernel8Ideal.Gen.frame m g,
    ref8,
    fun m g _ => Cert.Kernel9.Gen.frame m g,
    fun m g _ => Cert.Kernel9Ideal.Gen.frame m g,
    ref9,
    fun m g _ => Cert.Kernel10.Gen.frame m g,
    fun m g _ => Cert.Kernel10Ideal.Gen.frame m g,
    ref10,
    fun m g _ => Cert.Kernel11.Gen.frame m g,
    fun m g _ => Cert.Kernel11Ideal.Gen.frame m g,
    ref11,
    fun m g _ => Cert.Kernel12.Gen.frame m g,
    fun m g _ => Cert.Kernel12Ideal.Gen.frame m g,
    ref12,
    fun m g _ => Cert.Kernel13.Gen.frame m g,
    fun m g _ => Cert.Kernel13Ideal.Gen.frame m g,
    ref13,
    fun m g _ => Cert.Kernel14.Gen.frame m g,
    fun m g _ => Cert.Kernel14Ideal.Gen.frame m g,
    ref14,
    fun m g _ => Cert.Kernel15.Gen.frame m g,
    fun m g _ => Cert.Kernel15Ideal.Gen.frame m g,
    ref15,
    fun m g _ => Cert.Kernel16.Gen.frame m g,
    fun m g _ => Cert.Kernel16Ideal.Gen.frame m g,
    ref16,
    fun m g _ => Cert.Kernel17.Gen.frame m g,
    fun m g _ => Cert.Kernel17Ideal.Gen.frame m g,
    ref17,
    fun m g _ => Cert.Kernel18.Gen.frame m g,
    fun m g _ => Cert.Kernel18Ideal.Gen.frame m g,
    fun m g _ => Cert.Kernel18Ideal.Gen.frame m g,
    ref18,
    fun m g _ => ref18 m g trivial,
    fun m g _ => Cert.Kernel19.Gen.frame m g,
    fun m g _ => Cert.Kernel19Ideal.Gen.frame m g,
    fun m g _ => Cert.Kernel19Ideal.Gen.frame m g,
    ref19,
    fun m g _ => ref19 m g trivial,
    fun m g _ => Cert.Kernel20.Gen.frame m g,
    fun m g _ => Cert.Kernel20Ideal.Gen.frame m g,
    fun m g _ => Cert.Kernel20Ideal.Gen.frame m g,
    ref20,
    fun m g _ => ref20 m g trivial,
    fun m g _ => Cert.Kernel21.Gen.frame m g,
    fun m g _ => Cert.Kernel21Ideal.Gen.frame m g,
    ref21,
    fun m g _ => Cert.Kernel22.Gen.frame m g,
    fun m g _ => Cert.Kernel22Ideal.Gen.frame m g,
    ref22,
    fun m g _ => Cert.Kernel23.Gen.frame m g,
    fun m g _ => Cert.Kernel23Ideal.Gen.frame m g,
    ref23,
    fun m g _ => Cert.Kernel24.Gen.frame m g,
    fun m g _ => Cert.Kernel24Ideal.Gen.frame m g,
    ref24,
    fun m g _ => Cert.Kernel25.Gen.frame m g,
    fun m g _ => Cert.Kernel25Ideal.Gen.frame m g,
    ref25,
    fun m g _ => Cert.Kernel26.Gen.frame m g,
    fun m g _ => Cert.Kernel26Ideal.Gen.frame m g,
    ref26,
    fun m g _ => Cert.Kernel27.Gen.frame m g,
    fun m g _ => Cert.Kernel27Ideal.Gen.frame m g,
    ref27,
    fun m g _ => Cert.Kernel28.Gen.frame m g,
    fun m g _ => Cert.Kernel28Ideal.Gen.frame m g,
    ref28,
    fun m g _ => Cert.Kernel29.Gen.frame m g,
    fun m g _ => Cert.Kernel29Ideal.Gen.frame m g,
    ref29,
    fun m g _ => Cert.Kernel30.Gen.frame m g,
    fun m g _ => Cert.Kernel30Ideal.Gen.frame m g,
    ref30,
    ⟨IdealRules.named_const.statement Cert.KernelIdeal.κ "gelu_c" .f32 0x3D372713#32 _ rfl, IdealRules.named_const.statement Cert.KernelIdeal.κ "gelu_3c" .f32 0x3E095D4F#32 _ rfl⟩,
    sgu,
    trivial,
    dact,
    trivial,
    dwd,
    trivial,
    dh,
    trivial,
    dwg,
    trivial,
    down,
    trivial,
    up,
    trivial,
    mixout,
    trivial,
    foxqkv,
    trivial,
    sguin,
    trivial,
    dwu,
    trivial,
    dwout,
    trivial,
    foxdwin,
    trivial,
    sgudwin,
    trivial,
    mixdout,
    trivial,
    foxdh,
    trivial,
    sgudh,
    trivial,
    forget,
    trivial,
    post,
    trivial,
    pre,
    trivial,
    swain,
    trivial,
    swadwin,
    trivial,
    swadh,
    trivial,
    foxfg,
    trivial,
    prefwd,
    trivial,
    postfwd,
    trivial,
    postprefwd,
    IdealRules.named_const.statement Cert.Kernel28Ideal.κ "gelu_c" .f32 0x3D372713#32 _ rfl,
    sgufwd,
    trivial,
    loss,
    trivial,
    forgetfwd⟩

end Cert.Proof

end
